-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MaximaBig (m : (ℓ : Loc Cert.MaximaBig.nD Cert.MaximaBig.τ Cert.MaximaBig.sig) → Buf (Elt Bits) ℓ) : Prop :=
  True

def Pre_MaximaBigRef (m : (ℓ : Loc Cert.MaximaBigRef.nD Cert.MaximaBigRef.τ Cert.MaximaBigRef.sig) → Buf (Elt Bits) ℓ) : Prop :=
  True

def Pre_MaximaSmall (m : (ℓ : Loc Cert.MaximaSmall.nD Cert.MaximaSmall.τ Cert.MaximaSmall.sig) → Buf (Elt Bits) ℓ) : Prop :=
  True

def Pre_MaximaSmallRef (m : (ℓ : Loc Cert.MaximaSmallRef.nD Cert.MaximaSmallRef.τ Cert.MaximaSmallRef.sig) → Buf (Elt Bits) ℓ) : Prop :=
  True

def Pre_SelectBig (m : (ℓ : Loc Cert.SelectBig.nD Cert.SelectBig.τ Cert.SelectBig.sig) → Buf (Elt Bits) ℓ) : Prop :=
  True

def Pre_SelectBigRef (m : (ℓ : Loc Cert.SelectBigRef.nD Cert.SelectBigRef.τ Cert.SelectBigRef.sig) → Buf (Elt Bits) ℓ) : Prop :=
  True

def Pre_SelectSmall (m : (ℓ : Loc Cert.SelectSmall.nD Cert.SelectSmall.τ Cert.SelectSmall.sig) → Buf (Elt Bits) ℓ) : Prop :=
  True

def Pre_SelectSmallRef (m : (ℓ : Loc Cert.SelectSmallRef.nD Cert.SelectSmallRef.τ Cert.SelectSmallRef.sig) → Buf (Elt Bits) ℓ) : Prop :=
  True

def Pre_ChooseSmallIdeal (m : (ℓ : Loc Cert.ChooseSmallIdeal.nD Cert.ChooseSmallIdeal.τ Cert.ChooseSmallIdeal.sig) → Buf (Elt Ideal) ℓ) : Prop :=
  True

def Pre_ChooseSmallIdeal_selected_small [hPre_selected_small : Cert.Pre_selected_small.Facts] (m : (ℓ : Loc Cert.ChooseSmallIdeal.nD Cert.ChooseSmallIdeal.τ Cert.ChooseSmallIdeal.sig) → Buf (Elt Ideal) ℓ) : Prop :=
  ∀ c : Dev Cert.ChooseSmallIdeal.nD,
    (Cert.Pre_selected_small.fn (F := Ideal) (m ((c.tc : Thread Cert.ChooseSmallIdeal.nD Cert.ChooseSmallIdeal.τ).loc Cert.ChooseSmallIdeal.main_arg0)) (m ((c.tc : Thread Cert.ChooseSmallIdeal.nD Cert.ChooseSmallIdeal.τ).loc Cert.ChooseSmallIdeal.main_arg1)) (m ((c.tc : Thread Cert.ChooseSmallIdeal.nD Cert.ChooseSmallIdeal.τ).loc Cert.ChooseSmallIdeal.main_arg2)) (m ((c.tc : Thread Cert.ChooseSmallIdeal.nD Cert.ChooseSmallIdeal.τ).loc Cert.ChooseSmallIdeal.main_arg3)) (m ((c.tc : Thread Cert.ChooseSmallIdeal.nD Cert.ChooseSmallIdeal.τ).loc Cert.ChooseSmallIdeal.main_arg4)) (m ((c.tc : Thread Cert.ChooseSmallIdeal.nD Cert.ChooseSmallIdeal.τ).loc Cert.ChooseSmallIdeal.main_arg5)) (m ((c.tc : Thread Cert.ChooseSmallIdeal.nD Cert.ChooseSmallIdeal.τ).loc Cert.ChooseSmallIdeal.main_arg6)) (m ((c.tc : Thread Cert.ChooseSmallIdeal.nD Cert.ChooseSmallIdeal.τ).loc Cert.ChooseSmallIdeal.main_arg7)) (m ((c.tc : Thread Cert.ChooseSmallIdeal.nD Cert.ChooseSmallIdeal.τ).loc Cert.ChooseSmallIdeal.main_arg8))) = (fun _ => 1#1)

def Pre_ChooseSmallRefIdeal (m : (ℓ : Loc Cert.ChooseSmallRefIdeal.nD Cert.ChooseSmallRefIdeal.τ Cert.ChooseSmallRefIdeal.sig) → Buf (Elt Ideal) ℓ) : Prop :=
  True

def Pre_ChooseSmallRefIdeal_selected_small [hPre_selected_small : Cert.Pre_selected_small.Facts] (m : (ℓ : Loc Cert.ChooseSmallRefIdeal.nD Cert.ChooseSmallRefIdeal.τ Cert.ChooseSmallRefIdeal.sig) → Buf (Elt Ideal) ℓ) : Prop :=
  ∀ c : Dev Cert.ChooseSmallRefIdeal.nD,
    (Cert.Pre_selected_small.fn (F := Ideal) (m ((c.tc : Thread Cert.ChooseSmallRefIdeal.nD Cert.ChooseSmallRefIdeal.τ).loc Cert.ChooseSmallRefIdeal.main_arg0)) (m ((c.tc : Thread Cert.ChooseSmallRefIdeal.nD Cert.ChooseSmallRefIdeal.τ).loc Cert.ChooseSmallRefIdeal.main_arg1)) (m ((c.tc : Thread Cert.ChooseSmallRefIdeal.nD Cert.ChooseSmallRefIdeal.τ).loc Cert.ChooseSmallRefIdeal.main_arg2)) (m ((c.tc : Thread Cert.ChooseSmallRefIdeal.nD Cert.ChooseSmallRefIdeal.τ).loc Cert.ChooseSmallRefIdeal.main_arg3)) (m ((c.tc : Thread Cert.ChooseSmallRefIdeal.nD Cert.ChooseSmallRefIdeal.τ).loc Cert.ChooseSmallRefIdeal.main_arg4)) (m ((c.tc : Thread Cert.ChooseSmallRefIdeal.nD Cert.ChooseSmallRefIdeal.τ).loc Cert.ChooseSmallRefIdeal.main_arg5)) (m ((c.tc : Thread Cert.ChooseSmallRefIdeal.nD Cert.ChooseSmallRefIdeal.τ).loc Cert.ChooseSmallRefIdeal.main_arg6)) (m ((c.tc : Thread Cert.ChooseSmallRefIdeal.nD Cert.ChooseSmallRefIdeal.τ).loc Cert.ChooseSmallRefIdeal.main_arg7)) (m ((c.tc : Thread Cert.ChooseSmallRefIdeal.nD Cert.ChooseSmallRefIdeal.τ).loc Cert.ChooseSmallRefIdeal.main_arg8))) = (fun _ => 1#1)

def Pre_ChooseBigIdeal (m : (ℓ : Loc Cert.ChooseBigIdeal.nD Cert.ChooseBigIdeal.τ Cert.ChooseBigIdeal.sig) → Buf (Elt Ideal) ℓ) : Prop :=
  True

def Pre_ChooseBigIdeal_selected_big [hPre_selected_big : Cert.Pre_selected_big.Facts] (m : (ℓ : Loc Cert.ChooseBigIdeal.nD Cert.ChooseBigIdeal.τ Cert.ChooseBigIdeal.sig) → Buf (Elt Ideal) ℓ) : Prop :=
  ∀ c : Dev Cert.ChooseBigIdeal.nD,
    (Cert.Pre_selected_big.fn (F := Ideal) (m ((c.tc : Thread Cert.ChooseBigIdeal.nD Cert.ChooseBigIdeal.τ).loc Cert.ChooseBigIdeal.main_arg0)) (m ((c.tc : Thread Cert.ChooseBigIdeal.nD Cert.ChooseBigIdeal.τ).loc Cert.ChooseBigIdeal.main_arg1)) (m ((c.tc : Thread Cert.ChooseBigIdeal.nD Cert.ChooseBigIdeal.τ).loc Cert.ChooseBigIdeal.main_arg2)) (m ((c.tc : Thread Cert.ChooseBigIdeal.nD Cert.ChooseBigIdeal.τ).loc Cert.ChooseBigIdeal.main_arg3)) (m ((c.tc : Thread Cert.ChooseBigIdeal.nD Cert.ChooseBigIdeal.τ).loc Cert.ChooseBigIdeal.main_arg4)) (m ((c.tc : Thread Cert.ChooseBigIdeal.nD Cert.ChooseBigIdeal.τ).loc Cert.ChooseBigIdeal.main_arg5)) (m ((c.tc : Thread Cert.ChooseBigIdeal.nD Cert.ChooseBigIdeal.τ).loc Cert.ChooseBigIdeal.main_arg6)) (m ((c.tc : Thread Cert.ChooseBigIdeal.nD Cert.ChooseBigIdeal.τ).loc Cert.ChooseBigIdeal.main_arg7)) (m ((c.tc : Thread Cert.ChooseBigIdeal.nD Cert.ChooseBigIdeal.τ).loc Cert.ChooseBigIdeal.main_arg8))) = (fun _ => 1#1)

def Pre_ChooseBigRefIdeal (m : (ℓ : Loc Cert.ChooseBigRefIdeal.nD Cert.ChooseBigRefIdeal.τ Cert.ChooseBigRefIdeal.sig) → Buf (Elt Ideal) ℓ) : Prop :=
  True

def Pre_ChooseBigRefIdeal_selected_big [hPre_selected_big : Cert.Pre_selected_big.Facts] (m : (ℓ : Loc Cert.ChooseBigRefIdeal.nD Cert.ChooseBigRefIdeal.τ Cert.ChooseBigRefIdeal.sig) → Buf (Elt Ideal) ℓ) : Prop :=
  ∀ c : Dev Cert.ChooseBigRefIdeal.nD,
    (Cert.Pre_selected_big.fn (F := Ideal) (m ((c.tc : Thread Cert.ChooseBigRefIdeal.nD Cert.ChooseBigRefIdeal.τ).loc Cert.ChooseBigRefIdeal.main_arg0)) (m ((c.tc : Thread Cert.ChooseBigRefIdeal.nD Cert.ChooseBigRefIdeal.τ).loc Cert.ChooseBigRefIdeal.main_arg1)) (m ((c.tc : Thread Cert.ChooseBigRefIdeal.nD Cert.ChooseBigRefIdeal.τ).loc Cert.ChooseBigRefIdeal.main_arg2)) (m ((c.tc : Thread Cert.ChooseBigRefIdeal.nD Cert.ChooseBigRefIdeal.τ).loc Cert.ChooseBigRefIdeal.main_arg3)) (m ((c.tc : Thread Cert.ChooseBigRefIdeal.nD Cert.ChooseBigRefIdeal.τ).loc Cert.ChooseBigRefIdeal.main_arg4)) (m ((c.tc : Thread Cert.ChooseBigRefIdeal.nD Cert.ChooseBigRefIdeal.τ).loc Cert.ChooseBigRefIdeal.main_arg5)) (m ((c.tc : Thread Cert.ChooseBigRefIdeal.nD Cert.ChooseBigRefIdeal.τ).loc Cert.ChooseBigRefIdeal.main_arg6)) (m ((c.tc : Thread Cert.ChooseBigRefIdeal.nD Cert.ChooseBigRefIdeal.τ).loc Cert.ChooseBigRefIdeal.main_arg7)) (m ((c.tc : Thread Cert.ChooseBigRefIdeal.nD Cert.ChooseBigRefIdeal.τ).loc Cert.ChooseBigRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MaximaBig [hMaximaBig : Cert.MaximaBig.Facts] : Prop :=
  ∀ (m : (ℓ : Loc Cert.MaximaBig.nD Cert.MaximaBig.τ Cert.MaximaBig.sig) → Buf (Elt Bits) ℓ) (g : Dev Cert.MaximaBig.nD → PrngReg), Pre_MaximaBig m →
    θ_run (Cert.MaximaBig.defs (F := Bits)) (onTc (τ := Cert.MaximaBig.τ) (Cert.MaximaBig.main (F := Bits))) ⟨m, fun _ => 0, g⟩ (fun r => (∀ c : Dev Cert.MaximaBig.nD,
      r.2.mem ((c.tc : Thread Cert.MaximaBig.nD Cert.MaximaBig.τ).loc Cert.MaximaBig.main_arg0) = m ((c.tc : Thread Cert.MaximaBig.nD Cert.MaximaBig.τ).loc Cert.MaximaBig.main_arg0)
      ∧ r.2.mem ((c.tc : Thread Cert.MaximaBig.nD Cert.MaximaBig.τ).loc Cert.MaximaBig.main_arg1) = m ((c.tc : Thread Cert.MaximaBig.nD Cert.MaximaBig.τ).loc Cert.MaximaBig.main_arg1)
      ∧ r.2.mem ((c.tc : Thread Cert.MaximaBig.nD Cert.MaximaBig.τ).loc Cert.MaximaBig.main_arg2) = m ((c.tc : Thread Cert.MaximaBig.nD Cert.MaximaBig.τ).loc Cert.MaximaBig.main_arg2))
      ∧ r.2.sem = fun _ => 0)

def quiescent_MaximaBigRef [hMaximaBigRef : Cert.MaximaBigRef.Facts] : Prop :=
  ∀ (m : (ℓ : Loc Cert.MaximaBigRef.nD Cert.MaximaBigRef.τ Cert.MaximaBigRef.sig) → Buf (Elt Bits) ℓ) (g : Dev Cert.MaximaBigRef.nD → PrngReg), Pre_MaximaBigRef m →
    θ_run (Cert.MaximaBigRef.defs (F := Bits)) (onTc (τ := Cert.MaximaBigRef.τ) (Cert.MaximaBigRef.main (F := Bits))) ⟨m, fun _ => 0, g⟩ (fun r => (∀ c : Dev Cert.MaximaBigRef.nD,
      r.2.mem ((c.tc : Thread Cert.MaximaBigRef.nD Cert.MaximaBigRef.τ).loc Cert.MaximaBigRef.main_arg0) = m ((c.tc : Thread Cert.MaximaBigRef.nD Cert.MaximaBigRef.τ).loc Cert.MaximaBigRef.main_arg0)
      ∧ r.2.mem ((c.tc : Thread Cert.MaximaBigRef.nD Cert.MaximaBigRef.τ).loc Cert.MaximaBigRef.main_arg1) = m ((c.tc : Thread Cert.MaximaBigRef.nD Cert.MaximaBigRef.τ).loc Cert.MaximaBigRef.main_arg1)
      ∧ r.2.mem ((c.tc : Thread Cert.MaximaBigRef.nD Cert.MaximaBigRef.τ).loc Cert.MaximaBigRef.main_arg2) = m ((c.tc : Thread Cert.MaximaBigRef.nD Cert.MaximaBigRef.τ).loc Cert.MaximaBigRef.main_arg2))
      ∧ r.2.sem = fun _ => 0)

def quiescent_MaximaSmall [hMaximaSmall : Cert.MaximaSmall.Facts] : Prop :=
  ∀ (m : (ℓ : Loc Cert.MaximaSmall.nD Cert.MaximaSmall.τ Cert.MaximaSmall.sig) → Buf (Elt Bits) ℓ) (g : Dev Cert.MaximaSmall.nD → PrngReg), Pre_MaximaSmall m →
    θ_run (Cert.MaximaSmall.defs (F := Bits)) (onTc (τ := Cert.MaximaSmall.τ) (Cert.MaximaSmall.main (F := Bits))) ⟨m, fun _ => 0, g⟩ (fun r => (∀ c : Dev Cert.MaximaSmall.nD,
      r.2.mem ((c.tc : Thread Cert.MaximaSmall.nD Cert.MaximaSmall.τ).loc Cert.MaximaSmall.main_arg0) = m ((c.tc : Thread Cert.MaximaSmall.nD Cert.MaximaSmall.τ).loc Cert.MaximaSmall.main_arg0)
      ∧ r.2.mem ((c.tc : Thread Cert.MaximaSmall.nD Cert.MaximaSmall.τ).loc Cert.MaximaSmall.main_arg1) = m ((c.tc : Thread Cert.MaximaSmall.nD Cert.MaximaSmall.τ).loc Cert.MaximaSmall.main_arg1)
      ∧ r.2.mem ((c.tc : Thread Cert.MaximaSmall.nD Cert.MaximaSmall.τ).loc Cert.MaximaSmall.main_arg2) = m ((c.tc : Thread Cert.MaximaSmall.nD Cert.MaximaSmall.τ).loc Cert.MaximaSmall.main_arg2))
      ∧ r.2.sem = fun _ => 0)

def quiescent_MaximaSmallRef [hMaximaSmallRef : Cert.MaximaSmallRef.Facts] : Prop :=
  ∀ (m : (ℓ : Loc Cert.MaximaSmallRef.nD Cert.MaximaSmallRef.τ Cert.MaximaSmallRef.sig) → Buf (Elt Bits) ℓ) (g : Dev Cert.MaximaSmallRef.nD → PrngReg), Pre_MaximaSmallRef m →
    θ_run (Cert.MaximaSmallRef.defs (F := Bits)) (onTc (τ := Cert.MaximaSmallRef.τ) (Cert.MaximaSmallRef.main (F := Bits))) ⟨m, fun _ => 0, g⟩ (fun r => (∀ c : Dev Cert.MaximaSmallRef.nD,
      r.2.mem ((c.tc : Thread Cert.MaximaSmallRef.nD Cert.MaximaSmallRef.τ).loc Cert.MaximaSmallRef.main_arg0) = m ((c.tc : Thread Cert.MaximaSmallRef.nD Cert.MaximaSmallRef.τ).loc Cert.MaximaSmallRef.main_arg0)
      ∧ r.2.mem ((c.tc : Thread Cert.MaximaSmallRef.nD Cert.MaximaSmallRef.τ).loc Cert.MaximaSmallRef.main_arg1) = m ((c.tc : Thread Cert.MaximaSmallRef.nD Cert.MaximaSmallRef.τ).loc Cert.MaximaSmallRef.main_arg1)
      ∧ r.2.mem ((c.tc : Thread Cert.MaximaSmallRef.nD Cert.MaximaSmallRef.τ).loc Cert.MaximaSmallRef.main_arg2) = m ((c.tc : Thread Cert.MaximaSmallRef.nD Cert.MaximaSmallRef.τ).loc Cert.MaximaSmallRef.main_arg2))
      ∧ r.2.sem = fun _ => 0)

def quiescent_SelectBig [hSelectBig : Cert.SelectBig.Facts] : Prop :=
  ∀ (m : (ℓ : Loc Cert.SelectBig.nD Cert.SelectBig.τ Cert.SelectBig.sig) → Buf (Elt Bits) ℓ) (g : Dev Cert.SelectBig.nD → PrngReg), Pre_SelectBig m →
    θ_run (Cert.SelectBig.defs (F := Bits)) (onTc (τ := Cert.SelectBig.τ) (Cert.SelectBig.main (F := Bits))) ⟨m, fun _ => 0, g⟩ (fun r => (∀ c : Dev Cert.SelectBig.nD,
      r.2.mem ((c.tc : Thread Cert.SelectBig.nD Cert.SelectBig.τ).loc Cert.SelectBig.main_arg0) = m ((c.tc : Thread Cert.SelectBig.nD Cert.SelectBig.τ).loc Cert.SelectBig.main_arg0)
      ∧ r.2.mem ((c.tc : Thread Cert.SelectBig.nD Cert.SelectBig.τ).loc Cert.SelectBig.main_arg1) = m ((c.tc : Thread Cert.SelectBig.nD Cert.SelectBig.τ).loc Cert.SelectBig.main_arg1)
      ∧ r.2.mem ((c.tc : Thread Cert.SelectBig.nD Cert.SelectBig.τ).loc Cert.SelectBig.main_arg2) = m ((c.tc : Thread Cert.SelectBig.nD Cert.SelectBig.τ).loc Cert.SelectBig.main_arg2)
      ∧ r.2.mem ((c.tc : Thread Cert.SelectBig.nD Cert.SelectBig.τ).loc Cert.SelectBig.main_arg3) = m ((c.tc : Thread Cert.SelectBig.nD Cert.SelectBig.τ).loc Cert.SelectBig.main_arg3)
      ∧ r.2.mem ((c.tc : Thread Cert.SelectBig.nD Cert.SelectBig.τ).loc Cert.SelectBig.main_arg4) = m ((c.tc : Thread Cert.SelectBig.nD Cert.SelectBig.τ).loc Cert.SelectBig.main_arg4))
      ∧ r.2.sem = fun _ => 0)

def quiescent_SelectBigRef [hSelectBigRef : Cert.SelectBigRef.Facts] : Prop :=
  ∀ (m : (ℓ : Loc Cert.SelectBigRef.nD Cert.SelectBigRef.τ Cert.SelectBigRef.sig) → Buf (Elt Bits) ℓ) (g : Dev Cert.SelectBigRef.nD → PrngReg), Pre_SelectBigRef m →
    θ_run (Cert.SelectBigRef.defs (F := Bits)) (onTc (τ := Cert.SelectBigRef.τ) (Cert.SelectBigRef.main (F := Bits))) ⟨m, fun _ => 0, g⟩ (fun r => (∀ c : Dev Cert.SelectBigRef.nD,
      r.2.mem ((c.tc : Thread Cert.SelectBigRef.nD Cert.SelectBigRef.τ).loc Cert.SelectBigRef.main_arg0) = m ((c.tc : Thread Cert.SelectBigRef.nD Cert.SelectBigRef.τ).loc Cert.SelectBigRef.main_arg0)
      ∧ r.2.mem ((c.tc : Thread Cert.SelectBigRef.nD Cert.SelectBigRef.τ).loc Cert.SelectBigRef.main_arg1) = m ((c.tc : Thread Cert.SelectBigRef.nD Cert.SelectBigRef.τ).loc Cert.SelectBigRef.main_arg1)
      ∧ r.2.mem ((c.tc : Thread Cert.SelectBigRef.nD Cert.SelectBigRef.τ).loc Cert.SelectBigRef.main_arg2) = m ((c.tc : Thread Cert.SelectBigRef.nD Cert.SelectBigRef.τ).loc Cert.SelectBigRef.main_arg2)
      ∧ r.2.mem ((c.tc : Thread Cert.SelectBigRef.nD Cert.SelectBigRef.τ).loc Cert.SelectBigRef.main_arg3) = m ((c.tc : Thread Cert.SelectBigRef.nD Cert.SelectBigRef.τ).loc Cert.SelectBigRef.main_arg3)
      ∧ r.2.mem ((c.tc : Thread Cert.SelectBigRef.nD Cert.SelectBigRef.τ).loc Cert.SelectBigRef.main_arg4) = m ((c.tc : Thread Cert.SelectBigRef.nD Cert.SelectBigRef.τ).loc Cert.SelectBigRef.main_arg4))
      ∧ r.2.sem = fun _ => 0)

def quiescent_SelectSmall [hSelectSmall : Cert.SelectSmall.Facts] : Prop :=
  ∀ (m : (ℓ : Loc Cert.SelectSmall.nD Cert.SelectSmall.τ Cert.SelectSmall.sig) → Buf (Elt Bits) ℓ) (g : Dev Cert.SelectSmall.nD → PrngReg), Pre_SelectSmall m →
    θ_run (Cert.SelectSmall.defs (F := Bits)) (onTc (τ := Cert.SelectSmall.τ) (Cert.SelectSmall.main (F := Bits))) ⟨m, fun _ => 0, g⟩ (fun r => (∀ c : Dev Cert.SelectSmall.nD,
      r.2.mem ((c.tc : Thread Cert.SelectSmall.nD Cert.SelectSmall.τ).loc Cert.SelectSmall.main_arg0) = m ((c.tc : Thread Cert.SelectSmall.nD Cert.SelectSmall.τ).loc Cert.SelectSmall.main_arg0)
      ∧ r.2.mem ((c.tc : Thread Cert.SelectSmall.nD Cert.SelectSmall.τ).loc Cert.SelectSmall.main_arg1) = m ((c.tc : Thread Cert.SelectSmall.nD Cert.SelectSmall.τ).loc Cert.SelectSmall.main_arg1)
      ∧ r.2.mem ((c.tc : Thread Cert.SelectSmall.nD Cert.SelectSmall.τ).loc Cert.SelectSmall.main_arg2) = m ((c.tc : Thread Cert.SelectSmall.nD Cert.SelectSmall.τ).loc Cert.SelectSmall.main_arg2)
      ∧ r.2.mem ((c.tc : Thread Cert.SelectSmall.nD Cert.SelectSmall.τ).loc Cert.SelectSmall.main_arg3) = m ((c.tc : Thread Cert.SelectSmall.nD Cert.SelectSmall.τ).loc Cert.SelectSmall.main_arg3)
      ∧ r.2.mem ((c.tc : Thread Cert.SelectSmall.nD Cert.SelectSmall.τ).loc Cert.SelectSmall.main_arg4) = m ((c.tc : Thread Cert.SelectSmall.nD Cert.SelectSmall.τ).loc Cert.SelectSmall.main_arg4))
      ∧ r.2.sem = fun _ => 0)

def quiescent_SelectSmallRef [hSelectSmallRef : Cert.SelectSmallRef.Facts] : Prop :=
  ∀ (m : (ℓ : Loc Cert.SelectSmallRef.nD Cert.SelectSmallRef.τ Cert.SelectSmallRef.sig) → Buf (Elt Bits) ℓ) (g : Dev Cert.SelectSmallRef.nD → PrngReg), Pre_SelectSmallRef m →
    θ_run (Cert.SelectSmallRef.defs (F := Bits)) (onTc (τ := Cert.SelectSmallRef.τ) (Cert.SelectSmallRef.main (F := Bits))) ⟨m, fun _ => 0, g⟩ (fun r => (∀ c : Dev Cert.SelectSmallRef.nD,
      r.2.mem ((c.tc : Thread Cert.SelectSmallRef.nD Cert.SelectSmallRef.τ).loc Cert.SelectSmallRef.main_arg0) = m ((c.tc : Thread Cert.SelectSmallRef.nD Cert.SelectSmallRef.τ).loc Cert.SelectSmallRef.main_arg0)
      ∧ r.2.mem ((c.tc : Thread Cert.SelectSmallRef.nD Cert.SelectSmallRef.τ).loc Cert.SelectSmallRef.main_arg1) = m ((c.tc : Thread Cert.SelectSmallRef.nD Cert.SelectSmallRef.τ).loc Cert.SelectSmallRef.main_arg1)
      ∧ r.2.mem ((c.tc : Thread Cert.SelectSmallRef.nD Cert.SelectSmallRef.τ).loc Cert.SelectSmallRef.main_arg2) = m ((c.tc : Thread Cert.SelectSmallRef.nD Cert.SelectSmallRef.τ).loc Cert.SelectSmallRef.main_arg2)
      ∧ r.2.mem ((c.tc : Thread Cert.SelectSmallRef.nD Cert.SelectSmallRef.τ).loc Cert.SelectSmallRef.main_arg3) = m ((c.tc : Thread Cert.SelectSmallRef.nD Cert.SelectSmallRef.τ).loc Cert.SelectSmallRef.main_arg3)
      ∧ r.2.mem ((c.tc : Thread Cert.SelectSmallRef.nD Cert.SelectSmallRef.τ).loc Cert.SelectSmallRef.main_arg4) = m ((c.tc : Thread Cert.SelectSmallRef.nD Cert.SelectSmallRef.τ).loc Cert.SelectSmallRef.main_arg4))
      ∧ r.2.sem = fun _ => 0)

def quiescent_ChooseSmallIdeal [hChooseSmallIdeal : Cert.ChooseSmallIdeal.Facts] : Prop :=
  ∀ (m : (ℓ : Loc Cert.ChooseSmallIdeal.nD Cert.ChooseSmallIdeal.τ Cert.ChooseSmallIdeal.sig) → Buf (Elt Ideal) ℓ) (g : Dev Cert.ChooseSmallIdeal.nD → PrngReg), Pre_ChooseSmallIdeal m →
    θ_run (Cert.ChooseSmallIdeal.defs (F := Ideal)) (onTc (τ := Cert.ChooseSmallIdeal.τ) (Cert.ChooseSmallIdeal.main (F := Ideal))) ⟨m, fun _ => 0, g⟩ (fun r => (∀ c : Dev Cert.ChooseSmallIdeal.nD,
      r.2.mem ((c.tc : Thread Cert.ChooseSmallIdeal.nD Cert.ChooseSmallIdeal.τ).loc Cert.ChooseSmallIdeal.main_arg0) = m ((c.tc : Thread Cert.ChooseSmallIdeal.nD Cert.ChooseSmallIdeal.τ).loc Cert.ChooseSmallIdeal.main_arg0)
      ∧ r.2.mem ((c.tc : Thread Cert.ChooseSmallIdeal.nD Cert.ChooseSmallIdeal.τ).loc Cert.ChooseSmallIdeal.main_arg1) = m ((c.tc : Thread Cert.ChooseSmallIdeal.nD Cert.ChooseSmallIdeal.τ).loc Cert.ChooseSmallIdeal.main_arg1)
      ∧ r.2.mem ((c.tc : Thread Cert.ChooseSmallIdeal.nD Cert.ChooseSmallIdeal.τ).loc Cert.ChooseSmallIdeal.main_arg2) = m ((c.tc : Thread Cert.ChooseSmallIdeal.nD Cert.ChooseSmallIdeal.τ).loc Cert.ChooseSmallIdeal.main_arg2)
      ∧ r.2.mem ((c.tc : Thread Cert.ChooseSmallIdeal.nD Cert.ChooseSmallIdeal.τ).loc Cert.ChooseSmallIdeal.main_arg3) = m ((c.tc : Thread Cert.ChooseSmallIdeal.nD Cert.ChooseSmallIdeal.τ).loc Cert.ChooseSmallIdeal.main_arg3)
      ∧ r.2.mem ((c.tc : Thread Cert.ChooseSmallIdeal.nD Cert.ChooseSmallIdeal.τ).loc Cert.ChooseSmallIdeal.main_arg4) = m ((c.tc : Thread Cert.ChooseSmallIdeal.nD Cert.ChooseSmallIdeal.τ).loc Cert.ChooseSmallIdeal.main_arg4)
      ∧ r.2.mem ((c.tc : Thread Cert.ChooseSmallIdeal.nD Cert.ChooseSmallIdeal.τ).loc Cert.ChooseSmallIdeal.main_arg5) = m ((c.tc : Thread Cert.ChooseSmallIdeal.nD Cert.ChooseSmallIdeal.τ).loc Cert.ChooseSmallIdeal.main_arg5)
      ∧ r.2.mem ((c.tc : Thread Cert.ChooseSmallIdeal.nD Cert.ChooseSmallIdeal.τ).loc Cert.ChooseSmallIdeal.main_arg6) = m ((c.tc : Thread Cert.ChooseSmallIdeal.nD Cert.ChooseSmallIdeal.τ).loc Cert.ChooseSmallIdeal.main_arg6)
      ∧ r.2.mem ((c.tc : Thread Cert.ChooseSmallIdeal.nD Cert.ChooseSmallIdeal.τ).loc Cert.ChooseSmallIdeal.main_arg7) = m ((c.tc : Thread Cert.ChooseSmallIdeal.nD Cert.ChooseSmallIdeal.τ).loc Cert.ChooseSmallIdeal.main_arg7)
      ∧ r.2.mem ((c.tc : Thread Cert.ChooseSmallIdeal.nD Cert.ChooseSmallIdeal.τ).loc Cert.ChooseSmallIdeal.main_arg8) = m ((c.tc : Thread Cert.ChooseSmallIdeal.nD Cert.ChooseSmallIdeal.τ).loc Cert.ChooseSmallIdeal.main_arg8))
      ∧ r.2.sem = fun _ => 0)

def quiescent_ChooseSmallIdeal_pre_selected_small [hChooseSmallIdeal : Cert.ChooseSmallIdeal.Facts] [hPre_selected_small : Cert.Pre_selected_small.Facts] : Prop :=
  ∀ (m : (ℓ : Loc Cert.ChooseSmallIdeal.nD Cert.ChooseSmallIdeal.τ Cert.ChooseSmallIdeal.sig) → Buf (Elt Ideal) ℓ) (g : Dev Cert.ChooseSmallIdeal.nD → PrngReg), Pre_ChooseSmallIdeal_selected_small m →
    θ_run (Cert.ChooseSmallIdeal.defs (F := Ideal)) (onTc (τ := Cert.ChooseSmallIdeal.τ) (Cert.ChooseSmallIdeal.main (F := Ideal))) ⟨m, fun _ => 0, g⟩ (fun r => (∀ c : Dev Cert.ChooseSmallIdeal.nD,
      r.2.mem ((c.tc : Thread Cert.ChooseSmallIdeal.nD Cert.ChooseSmallIdeal.τ).loc Cert.ChooseSmallIdeal.main_arg0) = m ((c.tc : Thread Cert.ChooseSmallIdeal.nD Cert.ChooseSmallIdeal.τ).loc Cert.ChooseSmallIdeal.main_arg0)
      ∧ r.2.mem ((c.tc : Thread Cert.ChooseSmallIdeal.nD Cert.ChooseSmallIdeal.τ).loc Cert.ChooseSmallIdeal.main_arg1) = m ((c.tc : Thread Cert.ChooseSmallIdeal.nD Cert.ChooseSmallIdeal.τ).loc Cert.ChooseSmallIdeal.main_arg1)
      ∧ r.2.mem ((c.tc : Thread Cert.ChooseSmallIdeal.nD Cert.ChooseSmallIdeal.τ).loc Cert.ChooseSmallIdeal.main_arg2) = m ((c.tc : Thread Cert.ChooseSmallIdeal.nD Cert.ChooseSmallIdeal.τ).loc Cert.ChooseSmallIdeal.main_arg2)
      ∧ r.2.mem ((c.tc : Thread Cert.ChooseSmallIdeal.nD Cert.ChooseSmallIdeal.τ).loc Cert.ChooseSmallIdeal.main_arg3) = m ((c.tc : Thread Cert.ChooseSmallIdeal.nD Cert.ChooseSmallIdeal.τ).loc Cert.ChooseSmallIdeal.main_arg3)
      ∧ r.2.mem ((c.tc : Thread Cert.ChooseSmallIdeal.nD Cert.ChooseSmallIdeal.τ).loc Cert.ChooseSmallIdeal.main_arg4) = m ((c.tc : Thread Cert.ChooseSmallIdeal.nD Cert.ChooseSmallIdeal.τ).loc Cert.ChooseSmallIdeal.main_arg4)
      ∧ r.2.mem ((c.tc : Thread Cert.ChooseSmallIdeal.nD Cert.ChooseSmallIdeal.τ).loc Cert.ChooseSmallIdeal.main_arg5) = m ((c.tc : Thread Cert.ChooseSmallIdeal.nD Cert.ChooseSmallIdeal.τ).loc Cert.ChooseSmallIdeal.main_arg5)
      ∧ r.2.mem ((c.tc : Thread Cert.ChooseSmallIdeal.nD Cert.ChooseSmallIdeal.τ).loc Cert.ChooseSmallIdeal.main_arg6) = m ((c.tc : Thread Cert.ChooseSmallIdeal.nD Cert.ChooseSmallIdeal.τ).loc Cert.ChooseSmallIdeal.main_arg6)
      ∧ r.2.mem ((c.tc : Thread Cert.ChooseSmallIdeal.nD Cert.ChooseSmallIdeal.τ).loc Cert.ChooseSmallIdeal.main_arg7) = m ((c.tc : Thread Cert.ChooseSmallIdeal.nD Cert.ChooseSmallIdeal.τ).loc Cert.ChooseSmallIdeal.main_arg7)
      ∧ r.2.mem ((c.tc : Thread Cert.ChooseSmallIdeal.nD Cert.ChooseSmallIdeal.τ).loc Cert.ChooseSmallIdeal.main_arg8) = m ((c.tc : Thread Cert.ChooseSmallIdeal.nD Cert.ChooseSmallIdeal.τ).loc Cert.ChooseSmallIdeal.main_arg8))
      ∧ r.2.sem = fun _ => 0)

def quiescent_ChooseSmallRefIdeal [hChooseSmallRefIdeal : Cert.ChooseSmallRefIdeal.Facts] : Prop :=
  ∀ (m : (ℓ : Loc Cert.ChooseSmallRefIdeal.nD Cert.ChooseSmallRefIdeal.τ Cert.ChooseSmallRefIdeal.sig) → Buf (Elt Ideal) ℓ) (g : Dev Cert.ChooseSmallRefIdeal.nD → PrngReg), Pre_ChooseSmallRefIdeal m →
    θ_run (Cert.ChooseSmallRefIdeal.defs (F := Ideal)) (onTc (τ := Cert.ChooseSmallRefIdeal.τ) (Cert.ChooseSmallRefIdeal.main (F := Ideal))) ⟨m, fun _ => 0, g⟩ (fun r => (∀ c : Dev Cert.ChooseSmallRefIdeal.nD,
      r.2.mem ((c.tc : Thread Cert.ChooseSmallRefIdeal.nD Cert.ChooseSmallRefIdeal.τ).loc Cert.ChooseSmallRefIdeal.main_arg0) = m ((c.tc : Thread Cert.ChooseSmallRefIdeal.nD Cert.ChooseSmallRefIdeal.τ).loc Cert.ChooseSmallRefIdeal.main_arg0)
      ∧ r.2.mem ((c.tc : Thread Cert.ChooseSmallRefIdeal.nD Cert.ChooseSmallRefIdeal.τ).loc Cert.ChooseSmallRefIdeal.main_arg1) = m ((c.tc : Thread Cert.ChooseSmallRefIdeal.nD Cert.ChooseSmallRefIdeal.τ).loc Cert.ChooseSmallRefIdeal.main_arg1)
      ∧ r.2.mem ((c.tc : Thread Cert.ChooseSmallRefIdeal.nD Cert.ChooseSmallRefIdeal.τ).loc Cert.ChooseSmallRefIdeal.main_arg2) = m ((c.tc : Thread Cert.ChooseSmallRefIdeal.nD Cert.ChooseSmallRefIdeal.τ).loc Cert.ChooseSmallRefIdeal.main_arg2)
      ∧ r.2.mem ((c.tc : Thread Cert.ChooseSmallRefIdeal.nD Cert.ChooseSmallRefIdeal.τ).loc Cert.ChooseSmallRefIdeal.main_arg3) = m ((c.tc : Thread Cert.ChooseSmallRefIdeal.nD Cert.ChooseSmallRefIdeal.τ).loc Cert.ChooseSmallRefIdeal.main_arg3)
      ∧ r.2.mem ((c.tc : Thread Cert.ChooseSmallRefIdeal.nD Cert.ChooseSmallRefIdeal.τ).loc Cert.ChooseSmallRefIdeal.main_arg4) = m ((c.tc : Thread Cert.ChooseSmallRefIdeal.nD Cert.ChooseSmallRefIdeal.τ).loc Cert.ChooseSmallRefIdeal.main_arg4)
      ∧ r.2.mem ((c.tc : Thread Cert.ChooseSmallRefIdeal.nD Cert.ChooseSmallRefIdeal.τ).loc Cert.ChooseSmallRefIdeal.main_arg5) = m ((c.tc : Thread Cert.ChooseSmallRefIdeal.nD Cert.ChooseSmallRefIdeal.τ).loc Cert.ChooseSmallRefIdeal.main_arg5)
      ∧ r.2.mem ((c.tc : Thread Cert.ChooseSmallRefIdeal.nD Cert.ChooseSmallRefIdeal.τ).loc Cert.ChooseSmallRefIdeal.main_arg6) = m ((c.tc : Thread Cert.ChooseSmallRefIdeal.nD Cert.ChooseSmallRefIdeal.τ).loc Cert.ChooseSmallRefIdeal.main_arg6)
      ∧ r.2.mem ((c.tc : Thread Cert.ChooseSmallRefIdeal.nD Cert.ChooseSmallRefIdeal.τ).loc Cert.ChooseSmallRefIdeal.main_arg7) = m ((c.tc : Thread Cert.ChooseSmallRefIdeal.nD Cert.ChooseSmallRefIdeal.τ).loc Cert.ChooseSmallRefIdeal.main_arg7)
      ∧ r.2.mem ((c.tc : Thread Cert.ChooseSmallRefIdeal.nD Cert.ChooseSmallRefIdeal.τ).loc Cert.ChooseSmallRefIdeal.main_arg8) = m ((c.tc : Thread Cert.ChooseSmallRefIdeal.nD Cert.ChooseSmallRefIdeal.τ).loc Cert.ChooseSmallRefIdeal.main_arg8))
      ∧ r.2.sem = fun _ => 0)

def quiescent_ChooseSmallRefIdeal_pre_selected_small [hChooseSmallRefIdeal : Cert.ChooseSmallRefIdeal.Facts] [hPre_selected_small : Cert.Pre_selected_small.Facts] : Prop :=
  ∀ (m : (ℓ : Loc Cert.ChooseSmallRefIdeal.nD Cert.ChooseSmallRefIdeal.τ Cert.ChooseSmallRefIdeal.sig) → Buf (Elt Ideal) ℓ) (g : Dev Cert.ChooseSmallRefIdeal.nD → PrngReg), Pre_ChooseSmallRefIdeal_selected_small m →
    θ_run (Cert.ChooseSmallRefIdeal.defs (F := Ideal)) (onTc (τ := Cert.ChooseSmallRefIdeal.τ) (Cert.ChooseSmallRefIdeal.main (F := Ideal))) ⟨m, fun _ => 0, g⟩ (fun r => (∀ c : Dev Cert.ChooseSmallRefIdeal.nD,
      r.2.mem ((c.tc : Thread Cert.ChooseSmallRefIdeal.nD Cert.ChooseSmallRefIdeal.τ).loc Cert.ChooseSmallRefIdeal.main_arg0) = m ((c.tc : Thread Cert.ChooseSmallRefIdeal.nD Cert.ChooseSmallRefIdeal.τ).loc Cert.ChooseSmallRefIdeal.main_arg0)
      ∧ r.2.mem ((c.tc : Thread Cert.ChooseSmallRefIdeal.nD Cert.ChooseSmallRefIdeal.τ).loc Cert.ChooseSmallRefIdeal.main_arg1) = m ((c.tc : Thread Cert.ChooseSmallRefIdeal.nD Cert.ChooseSmallRefIdeal.τ).loc Cert.ChooseSmallRefIdeal.main_arg1)
      ∧ r.2.mem ((c.tc : Thread Cert.ChooseSmallRefIdeal.nD Cert.ChooseSmallRefIdeal.τ).loc Cert.ChooseSmallRefIdeal.main_arg2) = m ((c.tc : Thread Cert.ChooseSmallRefIdeal.nD Cert.ChooseSmallRefIdeal.τ).loc Cert.ChooseSmallRefIdeal.main_arg2)
      ∧ r.2.mem ((c.tc : Thread Cert.ChooseSmallRefIdeal.nD Cert.ChooseSmallRefIdeal.τ).loc Cert.ChooseSmallRefIdeal.main_arg3) = m ((c.tc : Thread Cert.ChooseSmallRefIdeal.nD Cert.ChooseSmallRefIdeal.τ).loc Cert.ChooseSmallRefIdeal.main_arg3)
      ∧ r.2.mem ((c.tc : Thread Cert.ChooseSmallRefIdeal.nD Cert.ChooseSmallRefIdeal.τ).loc Cert.ChooseSmallRefIdeal.main_arg4) = m ((c.tc : Thread Cert.ChooseSmallRefIdeal.nD Cert.ChooseSmallRefIdeal.τ).loc Cert.ChooseSmallRefIdeal.main_arg4)
      ∧ r.2.mem ((c.tc : Thread Cert.ChooseSmallRefIdeal.nD Cert.ChooseSmallRefIdeal.τ).loc Cert.ChooseSmallRefIdeal.main_arg5) = m ((c.tc : Thread Cert.ChooseSmallRefIdeal.nD Cert.ChooseSmallRefIdeal.τ).loc Cert.ChooseSmallRefIdeal.main_arg5)
      ∧ r.2.mem ((c.tc : Thread Cert.ChooseSmallRefIdeal.nD Cert.ChooseSmallRefIdeal.τ).loc Cert.ChooseSmallRefIdeal.main_arg6) = m ((c.tc : Thread Cert.ChooseSmallRefIdeal.nD Cert.ChooseSmallRefIdeal.τ).loc Cert.ChooseSmallRefIdeal.main_arg6)
      ∧ r.2.mem ((c.tc : Thread Cert.ChooseSmallRefIdeal.nD Cert.ChooseSmallRefIdeal.τ).loc Cert.ChooseSmallRefIdeal.main_arg7) = m ((c.tc : Thread Cert.ChooseSmallRefIdeal.nD Cert.ChooseSmallRefIdeal.τ).loc Cert.ChooseSmallRefIdeal.main_arg7)
      ∧ r.2.mem ((c.tc : Thread Cert.ChooseSmallRefIdeal.nD Cert.ChooseSmallRefIdeal.τ).loc Cert.ChooseSmallRefIdeal.main_arg8) = m ((c.tc : Thread Cert.ChooseSmallRefIdeal.nD Cert.ChooseSmallRefIdeal.τ).loc Cert.ChooseSmallRefIdeal.main_arg8))
      ∧ r.2.sem = fun _ => 0)

def quiescent_ChooseBigIdeal [hChooseBigIdeal : Cert.ChooseBigIdeal.Facts] : Prop :=
  ∀ (m : (ℓ : Loc Cert.ChooseBigIdeal.nD Cert.ChooseBigIdeal.τ Cert.ChooseBigIdeal.sig) → Buf (Elt Ideal) ℓ) (g : Dev Cert.ChooseBigIdeal.nD → PrngReg), Pre_ChooseBigIdeal m →
    θ_run (Cert.ChooseBigIdeal.defs (F := Ideal)) (onTc (τ := Cert.ChooseBigIdeal.τ) (Cert.ChooseBigIdeal.main (F := Ideal))) ⟨m, fun _ => 0, g⟩ (fun r => (∀ c : Dev Cert.ChooseBigIdeal.nD,
      r.2.mem ((c.tc : Thread Cert.ChooseBigIdeal.nD Cert.ChooseBigIdeal.τ).loc Cert.ChooseBigIdeal.main_arg0) = m ((c.tc : Thread Cert.ChooseBigIdeal.nD Cert.ChooseBigIdeal.τ).loc Cert.ChooseBigIdeal.main_arg0)
      ∧ r.2.mem ((c.tc : Thread Cert.ChooseBigIdeal.nD Cert.ChooseBigIdeal.τ).loc Cert.ChooseBigIdeal.main_arg1) = m ((c.tc : Thread Cert.ChooseBigIdeal.nD Cert.ChooseBigIdeal.τ).loc Cert.ChooseBigIdeal.main_arg1)
      ∧ r.2.mem ((c.tc : Thread Cert.ChooseBigIdeal.nD Cert.ChooseBigIdeal.τ).loc Cert.ChooseBigIdeal.main_arg2) = m ((c.tc : Thread Cert.ChooseBigIdeal.nD Cert.ChooseBigIdeal.τ).loc Cert.ChooseBigIdeal.main_arg2)
      ∧ r.2.mem ((c.tc : Thread Cert.ChooseBigIdeal.nD Cert.ChooseBigIdeal.τ).loc Cert.ChooseBigIdeal.main_arg3) = m ((c.tc : Thread Cert.ChooseBigIdeal.nD Cert.ChooseBigIdeal.τ).loc Cert.ChooseBigIdeal.main_arg3)
      ∧ r.2.mem ((c.tc : Thread Cert.ChooseBigIdeal.nD Cert.ChooseBigIdeal.τ).loc Cert.ChooseBigIdeal.main_arg4) = m ((c.tc : Thread Cert.ChooseBigIdeal.nD Cert.ChooseBigIdeal.τ).loc Cert.ChooseBigIdeal.main_arg4)
      ∧ r.2.mem ((c.tc : Thread Cert.ChooseBigIdeal.nD Cert.ChooseBigIdeal.τ).loc Cert.ChooseBigIdeal.main_arg5) = m ((c.tc : Thread Cert.ChooseBigIdeal.nD Cert.ChooseBigIdeal.τ).loc Cert.ChooseBigIdeal.main_arg5)
      ∧ r.2.mem ((c.tc : Thread Cert.ChooseBigIdeal.nD Cert.ChooseBigIdeal.τ).loc Cert.ChooseBigIdeal.main_arg6) = m ((c.tc : Thread Cert.ChooseBigIdeal.nD Cert.ChooseBigIdeal.τ).loc Cert.ChooseBigIdeal.main_arg6)
      ∧ r.2.mem ((c.tc : Thread Cert.ChooseBigIdeal.nD Cert.ChooseBigIdeal.τ).loc Cert.ChooseBigIdeal.main_arg7) = m ((c.tc : Thread Cert.ChooseBigIdeal.nD Cert.ChooseBigIdeal.τ).loc Cert.ChooseBigIdeal.main_arg7)
      ∧ r.2.mem ((c.tc : Thread Cert.ChooseBigIdeal.nD Cert.ChooseBigIdeal.τ).loc Cert.ChooseBigIdeal.main_arg8) = m ((c.tc : Thread Cert.ChooseBigIdeal.nD Cert.ChooseBigIdeal.τ).loc Cert.ChooseBigIdeal.main_arg8))
      ∧ r.2.sem = fun _ => 0)

def quiescent_ChooseBigIdeal_pre_selected_big [hChooseBigIdeal : Cert.ChooseBigIdeal.Facts] [hPre_selected_big : Cert.Pre_selected_big.Facts] : Prop :=
  ∀ (m : (ℓ : Loc Cert.ChooseBigIdeal.nD Cert.ChooseBigIdeal.τ Cert.ChooseBigIdeal.sig) → Buf (Elt Ideal) ℓ) (g : Dev Cert.ChooseBigIdeal.nD → PrngReg), Pre_ChooseBigIdeal_selected_big m →
    θ_run (Cert.ChooseBigIdeal.defs (F := Ideal)) (onTc (τ := Cert.ChooseBigIdeal.τ) (Cert.ChooseBigIdeal.main (F := Ideal))) ⟨m, fun _ => 0, g⟩ (fun r => (∀ c : Dev Cert.ChooseBigIdeal.nD,
      r.2.mem ((c.tc : Thread Cert.ChooseBigIdeal.nD Cert.ChooseBigIdeal.τ).loc Cert.ChooseBigIdeal.main_arg0) = m ((c.tc : Thread Cert.ChooseBigIdeal.nD Cert.ChooseBigIdeal.τ).loc Cert.ChooseBigIdeal.main_arg0)
      ∧ r.2.mem ((c.tc : Thread Cert.ChooseBigIdeal.nD Cert.ChooseBigIdeal.τ).loc Cert.ChooseBigIdeal.main_arg1) = m ((c.tc : Thread Cert.ChooseBigIdeal.nD Cert.ChooseBigIdeal.τ).loc Cert.ChooseBigIdeal.main_arg1)
      ∧ r.2.mem ((c.tc : Thread Cert.ChooseBigIdeal.nD Cert.ChooseBigIdeal.τ).loc Cert.ChooseBigIdeal.main_arg2) = m ((c.tc : Thread Cert.ChooseBigIdeal.nD Cert.ChooseBigIdeal.τ).loc Cert.ChooseBigIdeal.main_arg2)
      ∧ r.2.mem ((c.tc : Thread Cert.ChooseBigIdeal.nD Cert.ChooseBigIdeal.τ).loc Cert.ChooseBigIdeal.main_arg3) = m ((c.tc : Thread Cert.ChooseBigIdeal.nD Cert.ChooseBigIdeal.τ).loc Cert.ChooseBigIdeal.main_arg3)
      ∧ r.2.mem ((c.tc : Thread Cert.ChooseBigIdeal.nD Cert.ChooseBigIdeal.τ).loc Cert.ChooseBigIdeal.main_arg4) = m ((c.tc : Thread Cert.ChooseBigIdeal.nD Cert.ChooseBigIdeal.τ).loc Cert.ChooseBigIdeal.main_arg4)
      ∧ r.2.mem ((c.tc : Thread Cert.ChooseBigIdeal.nD Cert.ChooseBigIdeal.τ).loc Cert.ChooseBigIdeal.main_arg5) = m ((c.tc : Thread Cert.ChooseBigIdeal.nD Cert.ChooseBigIdeal.τ).loc Cert.ChooseBigIdeal.main_arg5)
      ∧ r.2.mem ((c.tc : Thread Cert.ChooseBigIdeal.nD Cert.ChooseBigIdeal.τ).loc Cert.ChooseBigIdeal.main_arg6) = m ((c.tc : Thread Cert.ChooseBigIdeal.nD Cert.ChooseBigIdeal.τ).loc Cert.ChooseBigIdeal.main_arg6)
      ∧ r.2.mem ((c.tc : Thread Cert.ChooseBigIdeal.nD Cert.ChooseBigIdeal.τ).loc Cert.ChooseBigIdeal.main_arg7) = m ((c.tc : Thread Cert.ChooseBigIdeal.nD Cert.ChooseBigIdeal.τ).loc Cert.ChooseBigIdeal.main_arg7)
      ∧ r.2.mem ((c.tc : Thread Cert.ChooseBigIdeal.nD Cert.ChooseBigIdeal.τ).loc Cert.ChooseBigIdeal.main_arg8) = m ((c.tc : Thread Cert.ChooseBigIdeal.nD Cert.ChooseBigIdeal.τ).loc Cert.ChooseBigIdeal.main_arg8))
      ∧ r.2.sem = fun _ => 0)

def quiescent_ChooseBigRefIdeal [hChooseBigRefIdeal : Cert.ChooseBigRefIdeal.Facts] : Prop :=
  ∀ (m : (ℓ : Loc Cert.ChooseBigRefIdeal.nD Cert.ChooseBigRefIdeal.τ Cert.ChooseBigRefIdeal.sig) → Buf (Elt Ideal) ℓ) (g : Dev Cert.ChooseBigRefIdeal.nD → PrngReg), Pre_ChooseBigRefIdeal m →
    θ_run (Cert.ChooseBigRefIdeal.defs (F := Ideal)) (onTc (τ := Cert.ChooseBigRefIdeal.τ) (Cert.ChooseBigRefIdeal.main (F := Ideal))) ⟨m, fun _ => 0, g⟩ (fun r => (∀ c : Dev Cert.ChooseBigRefIdeal.nD,
      r.2.mem ((c.tc : Thread Cert.ChooseBigRefIdeal.nD Cert.ChooseBigRefIdeal.τ).loc Cert.ChooseBigRefIdeal.main_arg0) = m ((c.tc : Thread Cert.ChooseBigRefIdeal.nD Cert.ChooseBigRefIdeal.τ).loc Cert.ChooseBigRefIdeal.main_arg0)
      ∧ r.2.mem ((c.tc : Thread Cert.ChooseBigRefIdeal.nD Cert.ChooseBigRefIdeal.τ).loc Cert.ChooseBigRefIdeal.main_arg1) = m ((c.tc : Thread Cert.ChooseBigRefIdeal.nD Cert.ChooseBigRefIdeal.τ).loc Cert.ChooseBigRefIdeal.main_arg1)
      ∧ r.2.mem ((c.tc : Thread Cert.ChooseBigRefIdeal.nD Cert.ChooseBigRefIdeal.τ).loc Cert.ChooseBigRefIdeal.main_arg2) = m ((c.tc : Thread Cert.ChooseBigRefIdeal.nD Cert.ChooseBigRefIdeal.τ).loc Cert.ChooseBigRefIdeal.main_arg2)
      ∧ r.2.mem ((c.tc : Thread Cert.ChooseBigRefIdeal.nD Cert.ChooseBigRefIdeal.τ).loc Cert.ChooseBigRefIdeal.main_arg3) = m ((c.tc : Thread Cert.ChooseBigRefIdeal.nD Cert.ChooseBigRefIdeal.τ).loc Cert.ChooseBigRefIdeal.main_arg3)
      ∧ r.2.mem ((c.tc : Thread Cert.ChooseBigRefIdeal.nD Cert.ChooseBigRefIdeal.τ).loc Cert.ChooseBigRefIdeal.main_arg4) = m ((c.tc : Thread Cert.ChooseBigRefIdeal.nD Cert.ChooseBigRefIdeal.τ).loc Cert.ChooseBigRefIdeal.main_arg4)
      ∧ r.2.mem ((c.tc : Thread Cert.ChooseBigRefIdeal.nD Cert.ChooseBigRefIdeal.τ).loc Cert.ChooseBigRefIdeal.main_arg5) = m ((c.tc : Thread Cert.ChooseBigRefIdeal.nD Cert.ChooseBigRefIdeal.τ).loc Cert.ChooseBigRefIdeal.main_arg5)
      ∧ r.2.mem ((c.tc : Thread Cert.ChooseBigRefIdeal.nD Cert.ChooseBigRefIdeal.τ).loc Cert.ChooseBigRefIdeal.main_arg6) = m ((c.tc : Thread Cert.ChooseBigRefIdeal.nD Cert.ChooseBigRefIdeal.τ).loc Cert.ChooseBigRefIdeal.main_arg6)
      ∧ r.2.mem ((c.tc : Thread Cert.ChooseBigRefIdeal.nD Cert.ChooseBigRefIdeal.τ).loc Cert.ChooseBigRefIdeal.main_arg7) = m ((c.tc : Thread Cert.ChooseBigRefIdeal.nD Cert.ChooseBigRefIdeal.τ).loc Cert.ChooseBigRefIdeal.main_arg7)
      ∧ r.2.mem ((c.tc : Thread Cert.ChooseBigRefIdeal.nD Cert.ChooseBigRefIdeal.τ).loc Cert.ChooseBigRefIdeal.main_arg8) = m ((c.tc : Thread Cert.ChooseBigRefIdeal.nD Cert.ChooseBigRefIdeal.τ).loc Cert.ChooseBigRefIdeal.main_arg8))
      ∧ r.2.sem = fun _ => 0)

def quiescent_ChooseBigRefIdeal_pre_selected_big [hChooseBigRefIdeal : Cert.ChooseBigRefIdeal.Facts] [hPre_selected_big : Cert.Pre_selected_big.Facts] : Prop :=
  ∀ (m : (ℓ : Loc Cert.ChooseBigRefIdeal.nD Cert.ChooseBigRefIdeal.τ Cert.ChooseBigRefIdeal.sig) → Buf (Elt Ideal) ℓ) (g : Dev Cert.ChooseBigRefIdeal.nD → PrngReg), Pre_ChooseBigRefIdeal_selected_big m →
    θ_run (Cert.ChooseBigRefIdeal.defs (F := Ideal)) (onTc (τ := Cert.ChooseBigRefIdeal.τ) (Cert.ChooseBigRefIdeal.main (F := Ideal))) ⟨m, fun _ => 0, g⟩ (fun r => (∀ c : Dev Cert.ChooseBigRefIdeal.nD,
      r.2.mem ((c.tc : Thread Cert.ChooseBigRefIdeal.nD Cert.ChooseBigRefIdeal.τ).loc Cert.ChooseBigRefIdeal.main_arg0) = m ((c.tc : Thread Cert.ChooseBigRefIdeal.nD Cert.ChooseBigRefIdeal.τ).loc Cert.ChooseBigRefIdeal.main_arg0)
      ∧ r.2.mem ((c.tc : Thread Cert.ChooseBigRefIdeal.nD Cert.ChooseBigRefIdeal.τ).loc Cert.ChooseBigRefIdeal.main_arg1) = m ((c.tc : Thread Cert.ChooseBigRefIdeal.nD Cert.ChooseBigRefIdeal.τ).loc Cert.ChooseBigRefIdeal.main_arg1)
      ∧ r.2.mem ((c.tc : Thread Cert.ChooseBigRefIdeal.nD Cert.ChooseBigRefIdeal.τ).loc Cert.ChooseBigRefIdeal.main_arg2) = m ((c.tc : Thread Cert.ChooseBigRefIdeal.nD Cert.ChooseBigRefIdeal.τ).loc Cert.ChooseBigRefIdeal.main_arg2)
      ∧ r.2.mem ((c.tc : Thread Cert.ChooseBigRefIdeal.nD Cert.ChooseBigRefIdeal.τ).loc Cert.ChooseBigRefIdeal.main_arg3) = m ((c.tc : Thread Cert.ChooseBigRefIdeal.nD Cert.ChooseBigRefIdeal.τ).loc Cert.ChooseBigRefIdeal.main_arg3)
      ∧ r.2.mem ((c.tc : Thread Cert.ChooseBigRefIdeal.nD Cert.ChooseBigRefIdeal.τ).loc Cert.ChooseBigRefIdeal.main_arg4) = m ((c.tc : Thread Cert.ChooseBigRefIdeal.nD Cert.ChooseBigRefIdeal.τ).loc Cert.ChooseBigRefIdeal.main_arg4)
      ∧ r.2.mem ((c.tc : Thread Cert.ChooseBigRefIdeal.nD Cert.ChooseBigRefIdeal.τ).loc Cert.ChooseBigRefIdeal.main_arg5) = m ((c.tc : Thread Cert.ChooseBigRefIdeal.nD Cert.ChooseBigRefIdeal.τ).loc Cert.ChooseBigRefIdeal.main_arg5)
      ∧ r.2.mem ((c.tc : Thread Cert.ChooseBigRefIdeal.nD Cert.ChooseBigRefIdeal.τ).loc Cert.ChooseBigRefIdeal.main_arg6) = m ((c.tc : Thread Cert.ChooseBigRefIdeal.nD Cert.ChooseBigRefIdeal.τ).loc Cert.ChooseBigRefIdeal.main_arg6)
      ∧ r.2.mem ((c.tc : Thread Cert.ChooseBigRefIdeal.nD Cert.ChooseBigRefIdeal.τ).loc Cert.ChooseBigRefIdeal.main_arg7) = m ((c.tc : Thread Cert.ChooseBigRefIdeal.nD Cert.ChooseBigRefIdeal.τ).loc Cert.ChooseBigRefIdeal.main_arg7)
      ∧ r.2.mem ((c.tc : Thread Cert.ChooseBigRefIdeal.nD Cert.ChooseBigRefIdeal.τ).loc Cert.ChooseBigRefIdeal.main_arg8) = m ((c.tc : Thread Cert.ChooseBigRefIdeal.nD Cert.ChooseBigRefIdeal.τ).loc Cert.ChooseBigRefIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_MaximaBig_MaximaBigRef [hMaximaBig : Cert.MaximaBig.Facts] [hMaximaBigRef : Cert.MaximaBigRef.Facts] : Prop :=
  ∀ (m : (ℓ : Loc Cert.MaximaBig.nD Cert.MaximaBig.τ Cert.MaximaBig.sig) → Buf (Elt Bits) ℓ) (g : Dev Cert.MaximaBig.nD → PrngReg)
    (m' : (ℓ : Loc Cert.MaximaBigRef.nD Cert.MaximaBigRef.τ Cert.MaximaBigRef.sig) → Buf (Elt Bits) ℓ) (g' : Dev Cert.MaximaBigRef.nD → PrngReg), Pre_MaximaBig m →
    (∀ c : Dev Cert.MaximaBig.nD,
      m' ((c.tc : Thread Cert.MaximaBigRef.nD Cert.MaximaBigRef.τ).loc Cert.MaximaBigRef.main_arg0) = m ((c.tc : Thread Cert.MaximaBig.nD Cert.MaximaBig.τ).loc Cert.MaximaBig.main_arg0)
      ∧ m' ((c.tc : Thread Cert.MaximaBigRef.nD Cert.MaximaBigRef.τ).loc Cert.MaximaBigRef.main_arg1) = m ((c.tc : Thread Cert.MaximaBig.nD Cert.MaximaBig.τ).loc Cert.MaximaBig.main_arg1)
      ∧ m' ((c.tc : Thread Cert.MaximaBigRef.nD Cert.MaximaBigRef.τ).loc Cert.MaximaBigRef.main_arg2) = m ((c.tc : Thread Cert.MaximaBig.nD Cert.MaximaBig.τ).loc Cert.MaximaBig.main_arg2)) →
    ∃ (v0 : (c : Dev Cert.MaximaBig.nD) → Buf (Elt Bits) ((c.tc : Thread Cert.MaximaBig.nD Cert.MaximaBig.τ).loc Cert.MaximaBig.main_v0_0)) (v1 : (c : Dev Cert.MaximaBig.nD) → Buf (Elt Bits) ((c.tc : Thread Cert.MaximaBig.nD Cert.MaximaBig.τ).loc Cert.MaximaBig.main_v0_1)),
      θ_run (Cert.MaximaBig.defs (F := Bits)) (onTc (τ := Cert.MaximaBig.τ) (Cert.MaximaBig.main (F := Bits))) ⟨m, fun _ => 0, g⟩ (fun r => ∀ c : Dev Cert.MaximaBig.nD,
          r.2.mem ((c.tc : Thread Cert.MaximaBig.nD Cert.MaximaBig.τ).loc Cert.MaximaBig.main_v0_0) = v0 c
          ∧ r.2.mem ((c.tc : Thread Cert.MaximaBig.nD Cert.MaximaBig.τ).loc Cert.MaximaBig.main_v0_1) = v1 c
          ∧ r.2.mem ((c.tc : Thread Cert.MaximaBig.nD Cert.MaximaBig.τ).loc Cert.MaximaBig.main_arg0) = m ((c.tc : Thread Cert.MaximaBig.nD Cert.MaximaBig.τ).loc Cert.MaximaBig.main_arg0)
          ∧ r.2.mem ((c.tc : Thread Cert.MaximaBig.nD Cert.MaximaBig.τ).loc Cert.MaximaBig.main_arg1) = m ((c.tc : Thread Cert.MaximaBig.nD Cert.MaximaBig.τ).loc Cert.MaximaBig.main_arg1)
          ∧ r.2.mem ((c.tc : Thread Cert.MaximaBig.nD Cert.MaximaBig.τ).loc Cert.MaximaBig.main_arg2) = m ((c.tc : Thread Cert.MaximaBig.nD Cert.MaximaBig.τ).loc Cert.MaximaBig.main_arg2))
      ∧ θ_run (Cert.MaximaBigRef.defs (F := Bits)) (onTc (τ := Cert.MaximaBigRef.τ) (Cert.MaximaBigRef.main (F := Bits))) ⟨m', fun _ => 0, g'⟩ (fun r => ∀ c : Dev Cert.MaximaBigRef.nD,
          r.2.mem ((c.tc : Thread Cert.MaximaBigRef.nD Cert.MaximaBigRef.τ).loc Cert.MaximaBigRef.main_v30) = v0 c
          ∧ r.2.mem ((c.tc : Thread Cert.MaximaBigRef.nD Cert.MaximaBigRef.τ).loc Cert.MaximaBigRef.main_v32) = v1 c
          ∧ r.2.mem ((c.tc : Thread Cert.MaximaBigRef.nD Cert.MaximaBigRef.τ).loc Cert.MaximaBigRef.main_arg0) = m' ((c.tc : Thread Cert.MaximaBigRef.nD Cert.MaximaBigRef.τ).loc Cert.MaximaBigRef.main_arg0)
          ∧ r.2.mem ((c.tc : Thread Cert.MaximaBigRef.nD Cert.MaximaBigRef.τ).loc Cert.MaximaBigRef.main_arg1) = m' ((c.tc : Thread Cert.MaximaBigRef.nD Cert.MaximaBigRef.τ).loc Cert.MaximaBigRef.main_arg1)
          ∧ r.2.mem ((c.tc : Thread Cert.MaximaBigRef.nD Cert.MaximaBigRef.τ).loc Cert.MaximaBigRef.main_arg2) = m' ((c.tc : Thread Cert.MaximaBigRef.nD Cert.MaximaBigRef.τ).loc Cert.MaximaBigRef.main_arg2))

def bitexact_MaximaSmall_MaximaSmallRef [hMaximaSmall : Cert.MaximaSmall.Facts] [hMaximaSmallRef : Cert.MaximaSmallRef.Facts] : Prop :=
  ∀ (m : (ℓ : Loc Cert.MaximaSmall.nD Cert.MaximaSmall.τ Cert.MaximaSmall.sig) → Buf (Elt Bits) ℓ) (g : Dev Cert.MaximaSmall.nD → PrngReg)
    (m' : (ℓ : Loc Cert.MaximaSmallRef.nD Cert.MaximaSmallRef.τ Cert.MaximaSmallRef.sig) → Buf (Elt Bits) ℓ) (g' : Dev Cert.MaximaSmallRef.nD → PrngReg), Pre_MaximaSmall m →
    (∀ c : Dev Cert.MaximaSmall.nD,
      m' ((c.tc : Thread Cert.MaximaSmallRef.nD Cert.MaximaSmallRef.τ).loc Cert.MaximaSmallRef.main_arg0) = m ((c.tc : Thread Cert.MaximaSmall.nD Cert.MaximaSmall.τ).loc Cert.MaximaSmall.main_arg0)
      ∧ m' ((c.tc : Thread Cert.MaximaSmallRef.nD Cert.MaximaSmallRef.τ).loc Cert.MaximaSmallRef.main_arg1) = m ((c.tc : Thread Cert.MaximaSmall.nD Cert.MaximaSmall.τ).loc Cert.MaximaSmall.main_arg1)
      ∧ m' ((c.tc : Thread Cert.MaximaSmallRef.nD Cert.MaximaSmallRef.τ).loc Cert.MaximaSmallRef.main_arg2) = m ((c.tc : Thread Cert.MaximaSmall.nD Cert.MaximaSmall.τ).loc Cert.MaximaSmall.main_arg2)) →
    ∃ (v0 : (c : Dev Cert.MaximaSmall.nD) → Buf (Elt Bits) ((c.tc : Thread Cert.MaximaSmall.nD Cert.MaximaSmall.τ).loc Cert.MaximaSmall.main_v0_0)) (v1 : (c : Dev Cert.MaximaSmall.nD) → Buf (Elt Bits) ((c.tc : Thread Cert.MaximaSmall.nD Cert.MaximaSmall.τ).loc Cert.MaximaSmall.main_v0_1)),
      θ_run (Cert.MaximaSmall.defs (F := Bits)) (onTc (τ := Cert.MaximaSmall.τ) (Cert.MaximaSmall.main (F := Bits))) ⟨m, fun _ => 0, g⟩ (fun r => ∀ c : Dev Cert.MaximaSmall.nD,
          r.2.mem ((c.tc : Thread Cert.MaximaSmall.nD Cert.MaximaSmall.τ).loc Cert.MaximaSmall.main_v0_0) = v0 c
          ∧ r.2.mem ((c.tc : Thread Cert.MaximaSmall.nD Cert.MaximaSmall.τ).loc Cert.MaximaSmall.main_v0_1) = v1 c
          ∧ r.2.mem ((c.tc : Thread Cert.MaximaSmall.nD Cert.MaximaSmall.τ).loc Cert.MaximaSmall.main_arg0) = m ((c.tc : Thread Cert.MaximaSmall.nD Cert.MaximaSmall.τ).loc Cert.MaximaSmall.main_arg0)
          ∧ r.2.mem ((c.tc : Thread Cert.MaximaSmall.nD Cert.MaximaSmall.τ).loc Cert.MaximaSmall.main_arg1) = m ((c.tc : Thread Cert.MaximaSmall.nD Cert.MaximaSmall.τ).loc Cert.MaximaSmall.main_arg1)
          ∧ r.2.mem ((c.tc : Thread Cert.MaximaSmall.nD Cert.MaximaSmall.τ).loc Cert.MaximaSmall.main_arg2) = m ((c.tc : Thread Cert.MaximaSmall.nD Cert.MaximaSmall.τ).loc Cert.MaximaSmall.main_arg2))
      ∧ θ_run (Cert.MaximaSmallRef.defs (F := Bits)) (onTc (τ := Cert.MaximaSmallRef.τ) (Cert.MaximaSmallRef.main (F := Bits))) ⟨m', fun _ => 0, g'⟩ (fun r => ∀ c : Dev Cert.MaximaSmallRef.nD,
          r.2.mem ((c.tc : Thread Cert.MaximaSmallRef.nD Cert.MaximaSmallRef.τ).loc Cert.MaximaSmallRef.main_v30) = v0 c
          ∧ r.2.mem ((c.tc : Thread Cert.MaximaSmallRef.nD Cert.MaximaSmallRef.τ).loc Cert.MaximaSmallRef.main_v32) = v1 c
          ∧ r.2.mem ((c.tc : Thread Cert.MaximaSmallRef.nD Cert.MaximaSmallRef.τ).loc Cert.MaximaSmallRef.main_arg0) = m' ((c.tc : Thread Cert.MaximaSmallRef.nD Cert.MaximaSmallRef.τ).loc Cert.MaximaSmallRef.main_arg0)
          ∧ r.2.mem ((c.tc : Thread Cert.MaximaSmallRef.nD Cert.MaximaSmallRef.τ).loc Cert.MaximaSmallRef.main_arg1) = m' ((c.tc : Thread Cert.MaximaSmallRef.nD Cert.MaximaSmallRef.τ).loc Cert.MaximaSmallRef.main_arg1)
          ∧ r.2.mem ((c.tc : Thread Cert.MaximaSmallRef.nD Cert.MaximaSmallRef.τ).loc Cert.MaximaSmallRef.main_arg2) = m' ((c.tc : Thread Cert.MaximaSmallRef.nD Cert.MaximaSmallRef.τ).loc Cert.MaximaSmallRef.main_arg2))

def bitexact_SelectBig_SelectBigRef [hSelectBig : Cert.SelectBig.Facts] [hSelectBigRef : Cert.SelectBigRef.Facts] : Prop :=
  ∀ (m : (ℓ : Loc Cert.SelectBig.nD Cert.SelectBig.τ Cert.SelectBig.sig) → Buf (Elt Bits) ℓ) (g : Dev Cert.SelectBig.nD → PrngReg)
    (m' : (ℓ : Loc Cert.SelectBigRef.nD Cert.SelectBigRef.τ Cert.SelectBigRef.sig) → Buf (Elt Bits) ℓ) (g' : Dev Cert.SelectBigRef.nD → PrngReg), Pre_SelectBig m →
    (∀ c : Dev Cert.SelectBig.nD,
      m' ((c.tc : Thread Cert.SelectBigRef.nD Cert.SelectBigRef.τ).loc Cert.SelectBigRef.main_arg0) = m ((c.tc : Thread Cert.SelectBig.nD Cert.SelectBig.τ).loc Cert.SelectBig.main_arg0)
      ∧ m' ((c.tc : Thread Cert.SelectBigRef.nD Cert.SelectBigRef.τ).loc Cert.SelectBigRef.main_arg1) = m ((c.tc : Thread Cert.SelectBig.nD Cert.SelectBig.τ).loc Cert.SelectBig.main_arg1)
      ∧ m' ((c.tc : Thread Cert.SelectBigRef.nD Cert.SelectBigRef.τ).loc Cert.SelectBigRef.main_arg2) = m ((c.tc : Thread Cert.SelectBig.nD Cert.SelectBig.τ).loc Cert.SelectBig.main_arg2)
      ∧ m' ((c.tc : Thread Cert.SelectBigRef.nD Cert.SelectBigRef.τ).loc Cert.SelectBigRef.main_arg3) = m ((c.tc : Thread Cert.SelectBig.nD Cert.SelectBig.τ).loc Cert.SelectBig.main_arg3)
      ∧ m' ((c.tc : Thread Cert.SelectBigRef.nD Cert.SelectBigRef.τ).loc Cert.SelectBigRef.main_arg4) = m ((c.tc : Thread Cert.SelectBig.nD Cert.SelectBig.τ).loc Cert.SelectBig.main_arg4)) →
    ∃ (v0 : (c : Dev Cert.SelectBig.nD) → Buf (Elt Bits) ((c.tc : Thread Cert.SelectBig.nD Cert.SelectBig.τ).loc Cert.SelectBig.main_v0_0)) (v1 : (c : Dev Cert.SelectBig.nD) → Buf (Elt Bits) ((c.tc : Thread Cert.SelectBig.nD Cert.SelectBig.τ).loc Cert.SelectBig.main_v0_1)) (v2 : (c : Dev Cert.SelectBig.nD) → Buf (Elt Bits) ((c.tc : Thread Cert.SelectBig.nD Cert.SelectBig.τ).loc Cert.SelectBig.main_v0_2)) (v3 : (c : Dev Cert.SelectBig.nD) → Buf (Elt Bits) ((c.tc : Thread Cert.SelectBig.nD Cert.SelectBig.τ).loc Cert.SelectBig.main_v0_3)),
      θ_run (Cert.SelectBig.defs (F := Bits)) (onTc (τ := Cert.SelectBig.τ) (Cert.SelectBig.main (F := Bits))) ⟨m, fun _ => 0, g⟩ (fun r => ∀ c : Dev Cert.SelectBig.nD,
          r.2.mem ((c.tc : Thread Cert.SelectBig.nD Cert.SelectBig.τ).loc Cert.SelectBig.main_v0_0) = v0 c
          ∧ r.2.mem ((c.tc : Thread Cert.SelectBig.nD Cert.SelectBig.τ).loc Cert.SelectBig.main_v0_1) = v1 c
          ∧ r.2.mem ((c.tc : Thread Cert.SelectBig.nD Cert.SelectBig.τ).loc Cert.SelectBig.main_v0_2) = v2 c
          ∧ r.2.mem ((c.tc : Thread Cert.SelectBig.nD Cert.SelectBig.τ).loc Cert.SelectBig.main_v0_3) = v3 c
          ∧ r.2.mem ((c.tc : Thread Cert.SelectBig.nD Cert.SelectBig.τ).loc Cert.SelectBig.main_arg0) = m ((c.tc : Thread Cert.SelectBig.nD Cert.SelectBig.τ).loc Cert.SelectBig.main_arg0)
          ∧ r.2.mem ((c.tc : Thread Cert.SelectBig.nD Cert.SelectBig.τ).loc Cert.SelectBig.main_arg1) = m ((c.tc : Thread Cert.SelectBig.nD Cert.SelectBig.τ).loc Cert.SelectBig.main_arg1)
          ∧ r.2.mem ((c.tc : Thread Cert.SelectBig.nD Cert.SelectBig.τ).loc Cert.SelectBig.main_arg2) = m ((c.tc : Thread Cert.SelectBig.nD Cert.SelectBig.τ).loc Cert.SelectBig.main_arg2)
          ∧ r.2.mem ((c.tc : Thread Cert.SelectBig.nD Cert.SelectBig.τ).loc Cert.SelectBig.main_arg3) = m ((c.tc : Thread Cert.SelectBig.nD Cert.SelectBig.τ).loc Cert.SelectBig.main_arg3)
          ∧ r.2.mem ((c.tc : Thread Cert.SelectBig.nD Cert.SelectBig.τ).loc Cert.SelectBig.main_arg4) = m ((c.tc : Thread Cert.SelectBig.nD Cert.SelectBig.τ).loc Cert.SelectBig.main_arg4))
      ∧ θ_run (Cert.SelectBigRef.defs (F := Bits)) (onTc (τ := Cert.SelectBigRef.τ) (Cert.SelectBigRef.main (F := Bits))) ⟨m', fun _ => 0, g'⟩ (fun r => ∀ c : Dev Cert.SelectBigRef.nD,
          r.2.mem ((c.tc : Thread Cert.SelectBigRef.nD Cert.SelectBigRef.τ).loc Cert.SelectBigRef.main_v39) = v0 c
          ∧ r.2.mem ((c.tc : Thread Cert.SelectBigRef.nD Cert.SelectBigRef.τ).loc Cert.SelectBigRef.main_v40) = v1 c
          ∧ r.2.mem ((c.tc : Thread Cert.SelectBigRef.nD Cert.SelectBigRef.τ).loc Cert.SelectBigRef.main_v41) = v2 c
          ∧ r.2.mem ((c.tc : Thread Cert.SelectBigRef.nD Cert.SelectBigRef.τ).loc Cert.SelectBigRef.main_v42) = v3 c
          ∧ r.2.mem ((c.tc : Thread Cert.SelectBigRef.nD Cert.SelectBigRef.τ).loc Cert.SelectBigRef.main_arg0) = m' ((c.tc : Thread Cert.SelectBigRef.nD Cert.SelectBigRef.τ).loc Cert.SelectBigRef.main_arg0)
          ∧ r.2.mem ((c.tc : Thread Cert.SelectBigRef.nD Cert.SelectBigRef.τ).loc Cert.SelectBigRef.main_arg1) = m' ((c.tc : Thread Cert.SelectBigRef.nD Cert.SelectBigRef.τ).loc Cert.SelectBigRef.main_arg1)
          ∧ r.2.mem ((c.tc : Thread Cert.SelectBigRef.nD Cert.SelectBigRef.τ).loc Cert.SelectBigRef.main_arg2) = m' ((c.tc : Thread Cert.SelectBigRef.nD Cert.SelectBigRef.τ).loc Cert.SelectBigRef.main_arg2)
          ∧ r.2.mem ((c.tc : Thread Cert.SelectBigRef.nD Cert.SelectBigRef.τ).loc Cert.SelectBigRef.main_arg3) = m' ((c.tc : Thread Cert.SelectBigRef.nD Cert.SelectBigRef.τ).loc Cert.SelectBigRef.main_arg3)
          ∧ r.2.mem ((c.tc : Thread Cert.SelectBigRef.nD Cert.SelectBigRef.τ).loc Cert.SelectBigRef.main_arg4) = m' ((c.tc : Thread Cert.SelectBigRef.nD Cert.SelectBigRef.τ).loc Cert.SelectBigRef.main_arg4))

def bitexact_SelectSmall_SelectSmallRef [hSelectSmall : Cert.SelectSmall.Facts] [hSelectSmallRef : Cert.SelectSmallRef.Facts] : Prop :=
  ∀ (m : (ℓ : Loc Cert.SelectSmall.nD Cert.SelectSmall.τ Cert.SelectSmall.sig) → Buf (Elt Bits) ℓ) (g : Dev Cert.SelectSmall.nD → PrngReg)
    (m' : (ℓ : Loc Cert.SelectSmallRef.nD Cert.SelectSmallRef.τ Cert.SelectSmallRef.sig) → Buf (Elt Bits) ℓ) (g' : Dev Cert.SelectSmallRef.nD → PrngReg), Pre_SelectSmall m →
    (∀ c : Dev Cert.SelectSmall.nD,
      m' ((c.tc : Thread Cert.SelectSmallRef.nD Cert.SelectSmallRef.τ).loc Cert.SelectSmallRef.main_arg0) = m ((c.tc : Thread Cert.SelectSmall.nD Cert.SelectSmall.τ).loc Cert.SelectSmall.main_arg0)
      ∧ m' ((c.tc : Thread Cert.SelectSmallRef.nD Cert.SelectSmallRef.τ).loc Cert.SelectSmallRef.main_arg1) = m ((c.tc : Thread Cert.SelectSmall.nD Cert.SelectSmall.τ).loc Cert.SelectSmall.main_arg1)
      ∧ m' ((c.tc : Thread Cert.SelectSmallRef.nD Cert.SelectSmallRef.τ).loc Cert.SelectSmallRef.main_arg2) = m ((c.tc : Thread Cert.SelectSmall.nD Cert.SelectSmall.τ).loc Cert.SelectSmall.main_arg2)
      ∧ m' ((c.tc : Thread Cert.SelectSmallRef.nD Cert.SelectSmallRef.τ).loc Cert.SelectSmallRef.main_arg3) = m ((c.tc : Thread Cert.SelectSmall.nD Cert.SelectSmall.τ).loc Cert.SelectSmall.main_arg3)
      ∧ m' ((c.tc : Thread Cert.SelectSmallRef.nD Cert.SelectSmallRef.τ).loc Cert.SelectSmallRef.main_arg4) = m ((c.tc : Thread Cert.SelectSmall.nD Cert.SelectSmall.τ).loc Cert.SelectSmall.main_arg4)) →
    ∃ (v0 : (c : Dev Cert.SelectSmall.nD) → Buf (Elt Bits) ((c.tc : Thread Cert.SelectSmall.nD Cert.SelectSmall.τ).loc Cert.SelectSmall.main_v0_0)) (v1 : (c : Dev Cert.SelectSmall.nD) → Buf (Elt Bits) ((c.tc : Thread Cert.SelectSmall.nD Cert.SelectSmall.τ).loc Cert.SelectSmall.main_v0_1)) (v2 : (c : Dev Cert.SelectSmall.nD) → Buf (Elt Bits) ((c.tc : Thread Cert.SelectSmall.nD Cert.SelectSmall.τ).loc Cert.SelectSmall.main_v0_2)) (v3 : (c : Dev Cert.SelectSmall.nD) → Buf (Elt Bits) ((c.tc : Thread Cert.SelectSmall.nD Cert.SelectSmall.τ).loc Cert.SelectSmall.main_v0_3)),
      θ_run (Cert.SelectSmall.defs (F := Bits)) (onTc (τ := Cert.SelectSmall.τ) (Cert.SelectSmall.main (F := Bits))) ⟨m, fun _ => 0, g⟩ (fun r => ∀ c : Dev Cert.SelectSmall.nD,
          r.2.mem ((c.tc : Thread Cert.SelectSmall.nD Cert.SelectSmall.τ).loc Cert.SelectSmall.main_v0_0) = v0 c
          ∧ r.2.mem ((c.tc : Thread Cert.SelectSmall.nD Cert.SelectSmall.τ).loc Cert.SelectSmall.main_v0_1) = v1 c
          ∧ r.2.mem ((c.tc : Thread Cert.SelectSmall.nD Cert.SelectSmall.τ).loc Cert.SelectSmall.main_v0_2) = v2 c
          ∧ r.2.mem ((c.tc : Thread Cert.SelectSmall.nD Cert.SelectSmall.τ).loc Cert.SelectSmall.main_v0_3) = v3 c
          ∧ r.2.mem ((c.tc : Thread Cert.SelectSmall.nD Cert.SelectSmall.τ).loc Cert.SelectSmall.main_arg0) = m ((c.tc : Thread Cert.SelectSmall.nD Cert.SelectSmall.τ).loc Cert.SelectSmall.main_arg0)
          ∧ r.2.mem ((c.tc : Thread Cert.SelectSmall.nD Cert.SelectSmall.τ).loc Cert.SelectSmall.main_arg1) = m ((c.tc : Thread Cert.SelectSmall.nD Cert.SelectSmall.τ).loc Cert.SelectSmall.main_arg1)
          ∧ r.2.mem ((c.tc : Thread Cert.SelectSmall.nD Cert.SelectSmall.τ).loc Cert.SelectSmall.main_arg2) = m ((c.tc : Thread Cert.SelectSmall.nD Cert.SelectSmall.τ).loc Cert.SelectSmall.main_arg2)
          ∧ r.2.mem ((c.tc : Thread Cert.SelectSmall.nD Cert.SelectSmall.τ).loc Cert.SelectSmall.main_arg3) = m ((c.tc : Thread Cert.SelectSmall.nD Cert.SelectSmall.τ).loc Cert.SelectSmall.main_arg3)
          ∧ r.2.mem ((c.tc : Thread Cert.SelectSmall.nD Cert.SelectSmall.τ).loc Cert.SelectSmall.main_arg4) = m ((c.tc : Thread Cert.SelectSmall.nD Cert.SelectSmall.τ).loc Cert.SelectSmall.main_arg4))
      ∧ θ_run (Cert.SelectSmallRef.defs (F := Bits)) (onTc (τ := Cert.SelectSmallRef.τ) (Cert.SelectSmallRef.main (F := Bits))) ⟨m', fun _ => 0, g'⟩ (fun r => ∀ c : Dev Cert.SelectSmallRef.nD,
          r.2.mem ((c.tc : Thread Cert.SelectSmallRef.nD Cert.SelectSmallRef.τ).loc Cert.SelectSmallRef.main_v39) = v0 c
          ∧ r.2.mem ((c.tc : Thread Cert.SelectSmallRef.nD Cert.SelectSmallRef.τ).loc Cert.SelectSmallRef.main_v40) = v1 c
          ∧ r.2.mem ((c.tc : Thread Cert.SelectSmallRef.nD Cert.SelectSmallRef.τ).loc Cert.SelectSmallRef.main_v41) = v2 c
          ∧ r.2.mem ((c.tc : Thread Cert.SelectSmallRef.nD Cert.SelectSmallRef.τ).loc Cert.SelectSmallRef.main_v42) = v3 c
          ∧ r.2.mem ((c.tc : Thread Cert.SelectSmallRef.nD Cert.SelectSmallRef.τ).loc Cert.SelectSmallRef.main_arg0) = m' ((c.tc : Thread Cert.SelectSmallRef.nD Cert.SelectSmallRef.τ).loc Cert.SelectSmallRef.main_arg0)
          ∧ r.2.mem ((c.tc : Thread Cert.SelectSmallRef.nD Cert.SelectSmallRef.τ).loc Cert.SelectSmallRef.main_arg1) = m' ((c.tc : Thread Cert.SelectSmallRef.nD Cert.SelectSmallRef.τ).loc Cert.SelectSmallRef.main_arg1)
          ∧ r.2.mem ((c.tc : Thread Cert.SelectSmallRef.nD Cert.SelectSmallRef.τ).loc Cert.SelectSmallRef.main_arg2) = m' ((c.tc : Thread Cert.SelectSmallRef.nD Cert.SelectSmallRef.τ).loc Cert.SelectSmallRef.main_arg2)
          ∧ r.2.mem ((c.tc : Thread Cert.SelectSmallRef.nD Cert.SelectSmallRef.τ).loc Cert.SelectSmallRef.main_arg3) = m' ((c.tc : Thread Cert.SelectSmallRef.nD Cert.SelectSmallRef.τ).loc Cert.SelectSmallRef.main_arg3)
          ∧ r.2.mem ((c.tc : Thread Cert.SelectSmallRef.nD Cert.SelectSmallRef.τ).loc Cert.SelectSmallRef.main_arg4) = m' ((c.tc : Thread Cert.SelectSmallRef.nD Cert.SelectSmallRef.τ).loc Cert.SelectSmallRef.main_arg4))

def algebraic_ChooseSmallIdeal_ChooseSmallRefIdeal_pre_selected_small [hChooseSmallIdeal : Cert.ChooseSmallIdeal.Facts] [hChooseSmallRefIdeal : Cert.ChooseSmallRefIdeal.Facts] [hPre_selected_small : Cert.Pre_selected_small.Facts] : Prop :=
  ∀ (m : (ℓ : Loc Cert.ChooseSmallIdeal.nD Cert.ChooseSmallIdeal.τ Cert.ChooseSmallIdeal.sig) → Buf (Elt Ideal) ℓ) (g : Dev Cert.ChooseSmallIdeal.nD → PrngReg)
    (m' : (ℓ : Loc Cert.ChooseSmallRefIdeal.nD Cert.ChooseSmallRefIdeal.τ Cert.ChooseSmallRefIdeal.sig) → Buf (Elt Ideal) ℓ) (g' : Dev Cert.ChooseSmallRefIdeal.nD → PrngReg), Pre_ChooseSmallIdeal_selected_small m →
    (∀ c : Dev Cert.ChooseSmallIdeal.nD,
      m' ((c.tc : Thread Cert.ChooseSmallRefIdeal.nD Cert.ChooseSmallRefIdeal.τ).loc Cert.ChooseSmallRefIdeal.main_arg0) = m ((c.tc : Thread Cert.ChooseSmallIdeal.nD Cert.ChooseSmallIdeal.τ).loc Cert.ChooseSmallIdeal.main_arg0)
      ∧ m' ((c.tc : Thread Cert.ChooseSmallRefIdeal.nD Cert.ChooseSmallRefIdeal.τ).loc Cert.ChooseSmallRefIdeal.main_arg1) = m ((c.tc : Thread Cert.ChooseSmallIdeal.nD Cert.ChooseSmallIdeal.τ).loc Cert.ChooseSmallIdeal.main_arg1)
      ∧ m' ((c.tc : Thread Cert.ChooseSmallRefIdeal.nD Cert.ChooseSmallRefIdeal.τ).loc Cert.ChooseSmallRefIdeal.main_arg2) = m ((c.tc : Thread Cert.ChooseSmallIdeal.nD Cert.ChooseSmallIdeal.τ).loc Cert.ChooseSmallIdeal.main_arg2)
      ∧ m' ((c.tc : Thread Cert.ChooseSmallRefIdeal.nD Cert.ChooseSmallRefIdeal.τ).loc Cert.ChooseSmallRefIdeal.main_arg3) = m ((c.tc : Thread Cert.ChooseSmallIdeal.nD Cert.ChooseSmallIdeal.τ).loc Cert.ChooseSmallIdeal.main_arg3)
      ∧ m' ((c.tc : Thread Cert.ChooseSmallRefIdeal.nD Cert.ChooseSmallRefIdeal.τ).loc Cert.ChooseSmallRefIdeal.main_arg4) = m ((c.tc : Thread Cert.ChooseSmallIdeal.nD Cert.ChooseSmallIdeal.τ).loc Cert.ChooseSmallIdeal.main_arg4)
      ∧ m' ((c.tc : Thread Cert.ChooseSmallRefIdeal.nD Cert.ChooseSmallRefIdeal.τ).loc Cert.ChooseSmallRefIdeal.main_arg5) = m ((c.tc : Thread Cert.ChooseSmallIdeal.nD Cert.ChooseSmallIdeal.τ).loc Cert.ChooseSmallIdeal.main_arg5)
      ∧ m' ((c.tc : Thread Cert.ChooseSmallRefIdeal.nD Cert.ChooseSmallRefIdeal.τ).loc Cert.ChooseSmallRefIdeal.main_arg6) = m ((c.tc : Thread Cert.ChooseSmallIdeal.nD Cert.ChooseSmallIdeal.τ).loc Cert.ChooseSmallIdeal.main_arg6)
      ∧ m' ((c.tc : Thread Cert.ChooseSmallRefIdeal.nD Cert.ChooseSmallRefIdeal.τ).loc Cert.ChooseSmallRefIdeal.main_arg7) = m ((c.tc : Thread Cert.ChooseSmallIdeal.nD Cert.ChooseSmallIdeal.τ).loc Cert.ChooseSmallIdeal.main_arg7)
      ∧ m' ((c.tc : Thread Cert.ChooseSmallRefIdeal.nD Cert.ChooseSmallRefIdeal.τ).loc Cert.ChooseSmallRefIdeal.main_arg8) = m ((c.tc : Thread Cert.ChooseSmallIdeal.nD Cert.ChooseSmallIdeal.τ).loc Cert.ChooseSmallIdeal.main_arg8)) →
    ∃ (v0 : (c : Dev Cert.ChooseSmallIdeal.nD) → Buf (Elt Ideal) ((c.tc : Thread Cert.ChooseSmallIdeal.nD Cert.ChooseSmallIdeal.τ).loc Cert.ChooseSmallIdeal.main_v97)),
      θ_run (Cert.ChooseSmallIdeal.defs (F := Ideal)) (onTc (τ := Cert.ChooseSmallIdeal.τ) (Cert.ChooseSmallIdeal.main (F := Ideal))) ⟨m, fun _ => 0, g⟩ (fun r => ∀ c : Dev Cert.ChooseSmallIdeal.nD,
          r.2.mem ((c.tc : Thread Cert.ChooseSmallIdeal.nD Cert.ChooseSmallIdeal.τ).loc Cert.ChooseSmallIdeal.main_v97) = v0 c
          ∧ r.2.mem ((c.tc : Thread Cert.ChooseSmallIdeal.nD Cert.ChooseSmallIdeal.τ).loc Cert.ChooseSmallIdeal.main_arg0) = m ((c.tc : Thread Cert.ChooseSmallIdeal.nD Cert.ChooseSmallIdeal.τ).loc Cert.ChooseSmallIdeal.main_arg0)
          ∧ r.2.mem ((c.tc : Thread Cert.ChooseSmallIdeal.nD Cert.ChooseSmallIdeal.τ).loc Cert.ChooseSmallIdeal.main_arg1) = m ((c.tc : Thread Cert.ChooseSmallIdeal.nD Cert.ChooseSmallIdeal.τ).loc Cert.ChooseSmallIdeal.main_arg1)
          ∧ r.2.mem ((c.tc : Thread Cert.ChooseSmallIdeal.nD Cert.ChooseSmallIdeal.τ).loc Cert.ChooseSmallIdeal.main_arg2) = m ((c.tc : Thread Cert.ChooseSmallIdeal.nD Cert.ChooseSmallIdeal.τ).loc Cert.ChooseSmallIdeal.main_arg2)
          ∧ r.2.mem ((c.tc : Thread Cert.ChooseSmallIdeal.nD Cert.ChooseSmallIdeal.τ).loc Cert.ChooseSmallIdeal.main_arg3) = m ((c.tc : Thread Cert.ChooseSmallIdeal.nD Cert.ChooseSmallIdeal.τ).loc Cert.ChooseSmallIdeal.main_arg3)
          ∧ r.2.mem ((c.tc : Thread Cert.ChooseSmallIdeal.nD Cert.ChooseSmallIdeal.τ).loc Cert.ChooseSmallIdeal.main_arg4) = m ((c.tc : Thread Cert.ChooseSmallIdeal.nD Cert.ChooseSmallIdeal.τ).loc Cert.ChooseSmallIdeal.main_arg4)
          ∧ r.2.mem ((c.tc : Thread Cert.ChooseSmallIdeal.nD Cert.ChooseSmallIdeal.τ).loc Cert.ChooseSmallIdeal.main_arg5) = m ((c.tc : Thread Cert.ChooseSmallIdeal.nD Cert.ChooseSmallIdeal.τ).loc Cert.ChooseSmallIdeal.main_arg5)
          ∧ r.2.mem ((c.tc : Thread Cert.ChooseSmallIdeal.nD Cert.ChooseSmallIdeal.τ).loc Cert.ChooseSmallIdeal.main_arg6) = m ((c.tc : Thread Cert.ChooseSmallIdeal.nD Cert.ChooseSmallIdeal.τ).loc Cert.ChooseSmallIdeal.main_arg6)
          ∧ r.2.mem ((c.tc : Thread Cert.ChooseSmallIdeal.nD Cert.ChooseSmallIdeal.τ).loc Cert.ChooseSmallIdeal.main_arg7) = m ((c.tc : Thread Cert.ChooseSmallIdeal.nD Cert.ChooseSmallIdeal.τ).loc Cert.ChooseSmallIdeal.main_arg7)
          ∧ r.2.mem ((c.tc : Thread Cert.ChooseSmallIdeal.nD Cert.ChooseSmallIdeal.τ).loc Cert.ChooseSmallIdeal.main_arg8) = m ((c.tc : Thread Cert.ChooseSmallIdeal.nD Cert.ChooseSmallIdeal.τ).loc Cert.ChooseSmallIdeal.main_arg8))
      ∧ θ_run (Cert.ChooseSmallRefIdeal.defs (F := Ideal)) (onTc (τ := Cert.ChooseSmallRefIdeal.τ) (Cert.ChooseSmallRefIdeal.main (F := Ideal))) ⟨m', fun _ => 0, g'⟩ (fun r => ∀ c : Dev Cert.ChooseSmallRefIdeal.nD,
          r.2.mem ((c.tc : Thread Cert.ChooseSmallRefIdeal.nD Cert.ChooseSmallRefIdeal.τ).loc Cert.ChooseSmallRefIdeal.main_v52) = v0 c
          ∧ r.2.mem ((c.tc : Thread Cert.ChooseSmallRefIdeal.nD Cert.ChooseSmallRefIdeal.τ).loc Cert.ChooseSmallRefIdeal.main_arg0) = m' ((c.tc : Thread Cert.ChooseSmallRefIdeal.nD Cert.ChooseSmallRefIdeal.τ).loc Cert.ChooseSmallRefIdeal.main_arg0)
          ∧ r.2.mem ((c.tc : Thread Cert.ChooseSmallRefIdeal.nD Cert.ChooseSmallRefIdeal.τ).loc Cert.ChooseSmallRefIdeal.main_arg1) = m' ((c.tc : Thread Cert.ChooseSmallRefIdeal.nD Cert.ChooseSmallRefIdeal.τ).loc Cert.ChooseSmallRefIdeal.main_arg1)
          ∧ r.2.mem ((c.tc : Thread Cert.ChooseSmallRefIdeal.nD Cert.ChooseSmallRefIdeal.τ).loc Cert.ChooseSmallRefIdeal.main_arg2) = m' ((c.tc : Thread Cert.ChooseSmallRefIdeal.nD Cert.ChooseSmallRefIdeal.τ).loc Cert.ChooseSmallRefIdeal.main_arg2)
          ∧ r.2.mem ((c.tc : Thread Cert.ChooseSmallRefIdeal.nD Cert.ChooseSmallRefIdeal.τ).loc Cert.ChooseSmallRefIdeal.main_arg3) = m' ((c.tc : Thread Cert.ChooseSmallRefIdeal.nD Cert.ChooseSmallRefIdeal.τ).loc Cert.ChooseSmallRefIdeal.main_arg3)
          ∧ r.2.mem ((c.tc : Thread Cert.ChooseSmallRefIdeal.nD Cert.ChooseSmallRefIdeal.τ).loc Cert.ChooseSmallRefIdeal.main_arg4) = m' ((c.tc : Thread Cert.ChooseSmallRefIdeal.nD Cert.ChooseSmallRefIdeal.τ).loc Cert.ChooseSmallRefIdeal.main_arg4)
          ∧ r.2.mem ((c.tc : Thread Cert.ChooseSmallRefIdeal.nD Cert.ChooseSmallRefIdeal.τ).loc Cert.ChooseSmallRefIdeal.main_arg5) = m' ((c.tc : Thread Cert.ChooseSmallRefIdeal.nD Cert.ChooseSmallRefIdeal.τ).loc Cert.ChooseSmallRefIdeal.main_arg5)
          ∧ r.2.mem ((c.tc : Thread Cert.ChooseSmallRefIdeal.nD Cert.ChooseSmallRefIdeal.τ).loc Cert.ChooseSmallRefIdeal.main_arg6) = m' ((c.tc : Thread Cert.ChooseSmallRefIdeal.nD Cert.ChooseSmallRefIdeal.τ).loc Cert.ChooseSmallRefIdeal.main_arg6)
          ∧ r.2.mem ((c.tc : Thread Cert.ChooseSmallRefIdeal.nD Cert.ChooseSmallRefIdeal.τ).loc Cert.ChooseSmallRefIdeal.main_arg7) = m' ((c.tc : Thread Cert.ChooseSmallRefIdeal.nD Cert.ChooseSmallRefIdeal.τ).loc Cert.ChooseSmallRefIdeal.main_arg7)
          ∧ r.2.mem ((c.tc : Thread Cert.ChooseSmallRefIdeal.nD Cert.ChooseSmallRefIdeal.τ).loc Cert.ChooseSmallRefIdeal.main_arg8) = m' ((c.tc : Thread Cert.ChooseSmallRefIdeal.nD Cert.ChooseSmallRefIdeal.τ).loc Cert.ChooseSmallRefIdeal.main_arg8))

def algebraic_ChooseBigIdeal_ChooseBigRefIdeal_pre_selected_big [hChooseBigIdeal : Cert.ChooseBigIdeal.Facts] [hChooseBigRefIdeal : Cert.ChooseBigRefIdeal.Facts] [hPre_selected_big : Cert.Pre_selected_big.Facts] : Prop :=
  ∀ (m : (ℓ : Loc Cert.ChooseBigIdeal.nD Cert.ChooseBigIdeal.τ Cert.ChooseBigIdeal.sig) → Buf (Elt Ideal) ℓ) (g : Dev Cert.ChooseBigIdeal.nD → PrngReg)
    (m' : (ℓ : Loc Cert.ChooseBigRefIdeal.nD Cert.ChooseBigRefIdeal.τ Cert.ChooseBigRefIdeal.sig) → Buf (Elt Ideal) ℓ) (g' : Dev Cert.ChooseBigRefIdeal.nD → PrngReg), Pre_ChooseBigIdeal_selected_big m →
    (∀ c : Dev Cert.ChooseBigIdeal.nD,
      m' ((c.tc : Thread Cert.ChooseBigRefIdeal.nD Cert.ChooseBigRefIdeal.τ).loc Cert.ChooseBigRefIdeal.main_arg0) = m ((c.tc : Thread Cert.ChooseBigIdeal.nD Cert.ChooseBigIdeal.τ).loc Cert.ChooseBigIdeal.main_arg0)
      ∧ m' ((c.tc : Thread Cert.ChooseBigRefIdeal.nD Cert.ChooseBigRefIdeal.τ).loc Cert.ChooseBigRefIdeal.main_arg1) = m ((c.tc : Thread Cert.ChooseBigIdeal.nD Cert.ChooseBigIdeal.τ).loc Cert.ChooseBigIdeal.main_arg1)
      ∧ m' ((c.tc : Thread Cert.ChooseBigRefIdeal.nD Cert.ChooseBigRefIdeal.τ).loc Cert.ChooseBigRefIdeal.main_arg2) = m ((c.tc : Thread Cert.ChooseBigIdeal.nD Cert.ChooseBigIdeal.τ).loc Cert.ChooseBigIdeal.main_arg2)
      ∧ m' ((c.tc : Thread Cert.ChooseBigRefIdeal.nD Cert.ChooseBigRefIdeal.τ).loc Cert.ChooseBigRefIdeal.main_arg3) = m ((c.tc : Thread Cert.ChooseBigIdeal.nD Cert.ChooseBigIdeal.τ).loc Cert.ChooseBigIdeal.main_arg3)
      ∧ m' ((c.tc : Thread Cert.ChooseBigRefIdeal.nD Cert.ChooseBigRefIdeal.τ).loc Cert.ChooseBigRefIdeal.main_arg4) = m ((c.tc : Thread Cert.ChooseBigIdeal.nD Cert.ChooseBigIdeal.τ).loc Cert.ChooseBigIdeal.main_arg4)
      ∧ m' ((c.tc : Thread Cert.ChooseBigRefIdeal.nD Cert.ChooseBigRefIdeal.τ).loc Cert.ChooseBigRefIdeal.main_arg5) = m ((c.tc : Thread Cert.ChooseBigIdeal.nD Cert.ChooseBigIdeal.τ).loc Cert.ChooseBigIdeal.main_arg5)
      ∧ m' ((c.tc : Thread Cert.ChooseBigRefIdeal.nD Cert.ChooseBigRefIdeal.τ).loc Cert.ChooseBigRefIdeal.main_arg6) = m ((c.tc : Thread Cert.ChooseBigIdeal.nD Cert.ChooseBigIdeal.τ).loc Cert.ChooseBigIdeal.main_arg6)
      ∧ m' ((c.tc : Thread Cert.ChooseBigRefIdeal.nD Cert.ChooseBigRefIdeal.τ).loc Cert.ChooseBigRefIdeal.main_arg7) = m ((c.tc : Thread Cert.ChooseBigIdeal.nD Cert.ChooseBigIdeal.τ).loc Cert.ChooseBigIdeal.main_arg7)
      ∧ m' ((c.tc : Thread Cert.ChooseBigRefIdeal.nD Cert.ChooseBigRefIdeal.τ).loc Cert.ChooseBigRefIdeal.main_arg8) = m ((c.tc : Thread Cert.ChooseBigIdeal.nD Cert.ChooseBigIdeal.τ).loc Cert.ChooseBigIdeal.main_arg8)) →
    ∃ (v0 : (c : Dev Cert.ChooseBigIdeal.nD) → Buf (Elt Ideal) ((c.tc : Thread Cert.ChooseBigIdeal.nD Cert.ChooseBigIdeal.τ).loc Cert.ChooseBigIdeal.main_v97)),
      θ_run (Cert.ChooseBigIdeal.defs (F := Ideal)) (onTc (τ := Cert.ChooseBigIdeal.τ) (Cert.ChooseBigIdeal.main (F := Ideal))) ⟨m, fun _ => 0, g⟩ (fun r => ∀ c : Dev Cert.ChooseBigIdeal.nD,
          r.2.mem ((c.tc : Thread Cert.ChooseBigIdeal.nD Cert.ChooseBigIdeal.τ).loc Cert.ChooseBigIdeal.main_v97) = v0 c
          ∧ r.2.mem ((c.tc : Thread Cert.ChooseBigIdeal.nD Cert.ChooseBigIdeal.τ).loc Cert.ChooseBigIdeal.main_arg0) = m ((c.tc : Thread Cert.ChooseBigIdeal.nD Cert.ChooseBigIdeal.τ).loc Cert.ChooseBigIdeal.main_arg0)
          ∧ r.2.mem ((c.tc : Thread Cert.ChooseBigIdeal.nD Cert.ChooseBigIdeal.τ).loc Cert.ChooseBigIdeal.main_arg1) = m ((c.tc : Thread Cert.ChooseBigIdeal.nD Cert.ChooseBigIdeal.τ).loc Cert.ChooseBigIdeal.main_arg1)
          ∧ r.2.mem ((c.tc : Thread Cert.ChooseBigIdeal.nD Cert.ChooseBigIdeal.τ).loc Cert.ChooseBigIdeal.main_arg2) = m ((c.tc : Thread Cert.ChooseBigIdeal.nD Cert.ChooseBigIdeal.τ).loc Cert.ChooseBigIdeal.main_arg2)
          ∧ r.2.mem ((c.tc : Thread Cert.ChooseBigIdeal.nD Cert.ChooseBigIdeal.τ).loc Cert.ChooseBigIdeal.main_arg3) = m ((c.tc : Thread Cert.ChooseBigIdeal.nD Cert.ChooseBigIdeal.τ).loc Cert.ChooseBigIdeal.main_arg3)
          ∧ r.2.mem ((c.tc : Thread Cert.ChooseBigIdeal.nD Cert.ChooseBigIdeal.τ).loc Cert.ChooseBigIdeal.main_arg4) = m ((c.tc : Thread Cert.ChooseBigIdeal.nD Cert.ChooseBigIdeal.τ).loc Cert.ChooseBigIdeal.main_arg4)
          ∧ r.2.mem ((c.tc : Thread Cert.ChooseBigIdeal.nD Cert.ChooseBigIdeal.τ).loc Cert.ChooseBigIdeal.main_arg5) = m ((c.tc : Thread Cert.ChooseBigIdeal.nD Cert.ChooseBigIdeal.τ).loc Cert.ChooseBigIdeal.main_arg5)
          ∧ r.2.mem ((c.tc : Thread Cert.ChooseBigIdeal.nD Cert.ChooseBigIdeal.τ).loc Cert.ChooseBigIdeal.main_arg6) = m ((c.tc : Thread Cert.ChooseBigIdeal.nD Cert.ChooseBigIdeal.τ).loc Cert.ChooseBigIdeal.main_arg6)
          ∧ r.2.mem ((c.tc : Thread Cert.ChooseBigIdeal.nD Cert.ChooseBigIdeal.τ).loc Cert.ChooseBigIdeal.main_arg7) = m ((c.tc : Thread Cert.ChooseBigIdeal.nD Cert.ChooseBigIdeal.τ).loc Cert.ChooseBigIdeal.main_arg7)
          ∧ r.2.mem ((c.tc : Thread Cert.ChooseBigIdeal.nD Cert.ChooseBigIdeal.τ).loc Cert.ChooseBigIdeal.main_arg8) = m ((c.tc : Thread Cert.ChooseBigIdeal.nD Cert.ChooseBigIdeal.τ).loc Cert.ChooseBigIdeal.main_arg8))
      ∧ θ_run (Cert.ChooseBigRefIdeal.defs (F := Ideal)) (onTc (τ := Cert.ChooseBigRefIdeal.τ) (Cert.ChooseBigRefIdeal.main (F := Ideal))) ⟨m', fun _ => 0, g'⟩ (fun r => ∀ c : Dev Cert.ChooseBigRefIdeal.nD,
          r.2.mem ((c.tc : Thread Cert.ChooseBigRefIdeal.nD Cert.ChooseBigRefIdeal.τ).loc Cert.ChooseBigRefIdeal.main_v52) = v0 c
          ∧ r.2.mem ((c.tc : Thread Cert.ChooseBigRefIdeal.nD Cert.ChooseBigRefIdeal.τ).loc Cert.ChooseBigRefIdeal.main_arg0) = m' ((c.tc : Thread Cert.ChooseBigRefIdeal.nD Cert.ChooseBigRefIdeal.τ).loc Cert.ChooseBigRefIdeal.main_arg0)
          ∧ r.2.mem ((c.tc : Thread Cert.ChooseBigRefIdeal.nD Cert.ChooseBigRefIdeal.τ).loc Cert.ChooseBigRefIdeal.main_arg1) = m' ((c.tc : Thread Cert.ChooseBigRefIdeal.nD Cert.ChooseBigRefIdeal.τ).loc Cert.ChooseBigRefIdeal.main_arg1)
          ∧ r.2.mem ((c.tc : Thread Cert.ChooseBigRefIdeal.nD Cert.ChooseBigRefIdeal.τ).loc Cert.ChooseBigRefIdeal.main_arg2) = m' ((c.tc : Thread Cert.ChooseBigRefIdeal.nD Cert.ChooseBigRefIdeal.τ).loc Cert.ChooseBigRefIdeal.main_arg2)
          ∧ r.2.mem ((c.tc : Thread Cert.ChooseBigRefIdeal.nD Cert.ChooseBigRefIdeal.τ).loc Cert.ChooseBigRefIdeal.main_arg3) = m' ((c.tc : Thread Cert.ChooseBigRefIdeal.nD Cert.ChooseBigRefIdeal.τ).loc Cert.ChooseBigRefIdeal.main_arg3)
          ∧ r.2.mem ((c.tc : Thread Cert.ChooseBigRefIdeal.nD Cert.ChooseBigRefIdeal.τ).loc Cert.ChooseBigRefIdeal.main_arg4) = m' ((c.tc : Thread Cert.ChooseBigRefIdeal.nD Cert.ChooseBigRefIdeal.τ).loc Cert.ChooseBigRefIdeal.main_arg4)
          ∧ r.2.mem ((c.tc : Thread Cert.ChooseBigRefIdeal.nD Cert.ChooseBigRefIdeal.τ).loc Cert.ChooseBigRefIdeal.main_arg5) = m' ((c.tc : Thread Cert.ChooseBigRefIdeal.nD Cert.ChooseBigRefIdeal.τ).loc Cert.ChooseBigRefIdeal.main_arg5)
          ∧ r.2.mem ((c.tc : Thread Cert.ChooseBigRefIdeal.nD Cert.ChooseBigRefIdeal.τ).loc Cert.ChooseBigRefIdeal.main_arg6) = m' ((c.tc : Thread Cert.ChooseBigRefIdeal.nD Cert.ChooseBigRefIdeal.τ).loc Cert.ChooseBigRefIdeal.main_arg6)
          ∧ r.2.mem ((c.tc : Thread Cert.ChooseBigRefIdeal.nD Cert.ChooseBigRefIdeal.τ).loc Cert.ChooseBigRefIdeal.main_arg7) = m' ((c.tc : Thread Cert.ChooseBigRefIdeal.nD Cert.ChooseBigRefIdeal.τ).loc Cert.ChooseBigRefIdeal.main_arg7)
          ∧ r.2.mem ((c.tc : Thread Cert.ChooseBigRefIdeal.nD Cert.ChooseBigRefIdeal.τ).loc Cert.ChooseBigRefIdeal.main_arg8) = m' ((c.tc : Thread Cert.ChooseBigRefIdeal.nD Cert.ChooseBigRefIdeal.τ).loc Cert.ChooseBigRefIdeal.main_arg8))

def Claim : Prop :=
  ∃ (hKernel : Cert.Kernel.Facts) (hKernelIdeal : Cert.KernelIdeal.Facts) (hReferenceIdeal : Cert.ReferenceIdeal.Facts) (hMaximaBig : Cert.MaximaBig.Facts) (hMaximaBigRef : Cert.MaximaBigRef.Facts) (hMaximaSmall : Cert.MaximaSmall.Facts) (hMaximaSmallRef : Cert.MaximaSmallRef.Facts) (hSelectBig : Cert.SelectBig.Facts) (hSelectBigRef : Cert.SelectBigRef.Facts) (hSelectSmall : Cert.SelectSmall.Facts) (hSelectSmallRef : Cert.SelectSmallRef.Facts) (hChooseSmallIdeal : Cert.ChooseSmallIdeal.Facts) (hChooseSmallRefIdeal : Cert.ChooseSmallRefIdeal.Facts) (hChooseBigIdeal : Cert.ChooseBigIdeal.Facts) (hChooseBigRefIdeal : Cert.ChooseBigRefIdeal.Facts) (hPre_drawn : Cert.Pre_drawn.Facts) (hPre_selected_small : Cert.Pre_selected_small.Facts) (hPre_selected_big : Cert.Pre_selected_big.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_MaximaBig (hMaximaBig := hMaximaBig)
    ∧ quiescent_MaximaBigRef (hMaximaBigRef := hMaximaBigRef)
    ∧ quiescent_MaximaSmall (hMaximaSmall := hMaximaSmall)
    ∧ quiescent_MaximaSmallRef (hMaximaSmallRef := hMaximaSmallRef)
    ∧ quiescent_SelectBig (hSelectBig := hSelectBig)
    ∧ quiescent_SelectBigRef (hSelectBigRef := hSelectBigRef)
    ∧ quiescent_SelectSmall (hSelectSmall := hSelectSmall)
    ∧ quiescent_SelectSmallRef (hSelectSmallRef := hSelectSmallRef)
    ∧ quiescent_ChooseSmallIdeal (hChooseSmallIdeal := hChooseSmallIdeal)
    ∧ quiescent_ChooseSmallIdeal_pre_selected_small (hChooseSmallIdeal := hChooseSmallIdeal) (hPre_selected_small := hPre_selected_small)
    ∧ quiescent_ChooseSmallRefIdeal (hChooseSmallRefIdeal := hChooseSmallRefIdeal)
    ∧ quiescent_ChooseSmallRefIdeal_pre_selected_small (hChooseSmallRefIdeal := hChooseSmallRefIdeal) (hPre_selected_small := hPre_selected_small)
    ∧ quiescent_ChooseBigIdeal (hChooseBigIdeal := hChooseBigIdeal)
    ∧ quiescent_ChooseBigIdeal_pre_selected_big (hChooseBigIdeal := hChooseBigIdeal) (hPre_selected_big := hPre_selected_big)
    ∧ quiescent_ChooseBigRefIdeal (hChooseBigRefIdeal := hChooseBigRefIdeal)
    ∧ quiescent_ChooseBigRefIdeal_pre_selected_big (hChooseBigRefIdeal := hChooseBigRefIdeal) (hPre_selected_big := hPre_selected_big)
    ∧ preserves_Kernel_KernelIdeal
    ∧ algebraic_KernelIdeal_ReferenceIdeal_pre_drawn (hKernelIdeal := hKernelIdeal) (hReferenceIdeal := hReferenceIdeal) (hPre_drawn := hPre_drawn)
    ∧ bitexact_MaximaBig_MaximaBigRef (hMaximaBig := hMaximaBig) (hMaximaBigRef := hMaximaBigRef)
    ∧ bitexact_MaximaSmall_MaximaSmallRef (hMaximaSmall := hMaximaSmall) (hMaximaSmallRef := hMaximaSmallRef)
    ∧ bitexact_SelectBig_SelectBigRef (hSelectBig := hSelectBig) (hSelectBigRef := hSelectBigRef)
    ∧ bitexact_SelectSmall_SelectSmallRef (hSelectSmall := hSelectSmall) (hSelectSmallRef := hSelectSmallRef)
    ∧ algebraic_ChooseSmallIdeal_ChooseSmallRefIdeal_pre_selected_small (hChooseSmallIdeal := hChooseSmallIdeal) (hChooseSmallRefIdeal := hChooseSmallRefIdeal) (hPre_selected_small := hPre_selected_small)
    ∧ algebraic_ChooseBigIdeal_ChooseBigRefIdeal_pre_selected_big (hChooseBigIdeal := hChooseBigIdeal) (hChooseBigRefIdeal := hChooseBigRefIdeal) (hPre_selected_big := hPre_selected_big)
-- ==== Pre_drawn.lean ====
abbrev S4x256x64x64 : Shape := ⟨4, ![4, 256, 64, 64]⟩
abbrev S152x175x1 : Shape := ⟨3, ![152, 175, 1]⟩
abbrev S152x75x1 : Shape := ⟨3, ![152, 75, 1]⟩
abbrev S_ : Shape := ⟨0, ![]⟩

class Facts : Prop where
  bcast_S_S152x175x1 : S_.BroadcastsInDim S152x175x1 (![] : Fin 0 → Fin S152x175x1.rank)
  reducesTo_S152x175x1_S_d0_1_2 : S152x175x1.ReducesTo [0, 1, 2] S_
  h_S_ : 0 < S_.numel
  bcast_S_S152x75x1 : S_.BroadcastsInDim S152x75x1 (![] : Fin 0 → Fin S152x75x1.rank)
  reducesTo_S152x75x1_S_d0_1_2 : S152x75x1.ReducesTo [0, 1, 2] S_

variable [Facts]

def fn {F : FTy → Type} [FloatOps F] (main_arg0 : FVec F S4x256x64x64 .f32) (main_arg1 : IVec S152x175x1 32) (main_arg2 : IVec S152x75x1 32) : IVec S_ 1 :=
  let main_c : IVec S_ 32 := constantI S_ 32 0#32
  let main_v0 : IVec S152x175x1 32 := broadcastInDim S152x175x1 ![] bcast_S_S152x175x1 main_c
  let main_v1 : IVec S152x175x1 1 := cmpi .sge main_arg1 main_v0
  let main_c_0 : IVec S_ 32 := constantI S_ 32 16384#32
  let main_v2 : IVec S152x175x1 32 := broadcastInDim S152x175x1 ![] bcast_S_S152x175x1 main_c_0
  let main_v3 : IVec S152x175x1 1 := cmpi .slt main_arg1 main_v2
  let main_v4 : IVec S152x175x1 1 := andi main_v1 main_v3
  let main_c_1 : IVec S_ 1 := constantI S_ 1 1#1
  let main_v5 : IVec S_ 1 := (fun x v => Host.reduce IntOp.andi x v reducesTo_S152x175x1_S_d0_1_2 h_S_) main_v4 main_c_1
  let main_c_2 : IVec S_ 32 := constantI S_ 32 0#32
  let main_v6 : IVec S152x75x1 32 := broadcastInDim S152x75x1 ![] bcast_S_S152x75x1 main_c_2
  let main_v7 : IVec S152x75x1 1 := cmpi .sge main_arg2 main_v6
  let main_c_3 : IVec S_ 32 := constantI S_ 32 16384#32
  let main_v8 : IVec S152x75x1 32 := broadcastInDim S152x75x1 ![] bcast_S_S152x75x1 main_c_3
  let main_v9 : IVec S152x75x1 1 := cmpi .slt main_arg2 main_v8
  let main_v10 : IVec S152x75x1 1 := andi main_v7 main_v9
  let main_c_4 : IVec S_ 1 := constantI S_ 1 1#1
  let main_v11 : IVec S_ 1 := (fun x v => Host.reduce IntOp.andi x v reducesTo_S152x75x1_S_d0_1_2 h_S_) main_v10 main_c_4
  let main_v12 : IVec S_ 1 := andi main_v5 main_v11
  main_v12
-- ==== Pre_selected_big.lean ====
abbrev S152x175x16384 : Shape := ⟨3, ![152, 175, 16384]⟩
abbrev S4x1x16384 : Shape := ⟨3, ![4, 1, 16384]⟩
abbrev S152x175x1 : Shape := ⟨3, ![152, 175, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S16384 : Shape := ⟨1, ![16384]⟩
abbrev S152x1 : Shape := ⟨2, ![152, 1]⟩
abbrev S152x1x1 : Shape := ⟨3, ![152, 1, 1]⟩

class Facts : Prop where
  shapeCasts_S4x1x16384_S4x16384 : S4x1x16384.ShapeCasts S4x16384
  bcast_S4x16384_S1x4x16384_1_2 : S4x16384.BroadcastsInDim S1x4x16384 (![1, 2] : Fin 2 → Fin S1x4x16384.rank)
  bcast_S19_S19x1x1_0 : S19.BroadcastsInDim S19x1x1 (![0] : Fin 1 → Fin S19x1x1.rank)
  bcast_S1x4x16384_S19x4x16384_0_1_2 : S1x4x16384.BroadcastsInDim S19x4x16384 (![0, 1, 2] : Fin 3 → Fin S19x4x16384.rank)
  bcast_S19x1x1_S19x4x16384_0_1_2 : S19x1x1.BroadcastsInDim S19x4x16384 (![0, 1, 2] : Fin 3 → Fin S19x4x16384.rank)
  bcast_S19x4x16384_S19x4x1x16384_0_1_3 : S19x4x16384.BroadcastsInDim S19x4x1x16384 (![0, 1, 3] : Fin 3 → Fin S19x4x1x16384.rank)
  concatenates_S19x4x1x16384_S19x4x1x16384_S19x4x2x16384_d2 : Shape.Concatenates [S19x4x1x16384, S19x4x1x16384] S19x4x2x16384 2
  shapeCasts_S19x4x2x16384_S152x1x16384 : S19x4x2x16384.ShapeCasts S152x1x16384
  bcast_S_S152x175x16384 : S_.BroadcastsInDim S152x175x16384 (![] : Fin 0 → Fin S152x175x16384.rank)
  bcast_S_S152x175x1 : S_.BroadcastsInDim S152x175x1 (![] : Fin 0 → Fin S152x175x1.rank)
  bcast_S152x1x16384_S152x175x16384_0_1_2 : S152x1x16384.BroadcastsInDim S152x175x16384 (![0, 1, 2] : Fin 3 → Fin S152x175x16384.rank)
  bcast_S152x175x1_S152x175x16384_0_1_2 : S152x175x1.BroadcastsInDim S152x175x16384 (![0, 1, 2] : Fin 3 → Fin S152x175x16384.rank)
  bcast_S16384_S152x175x16384_2 : S16384.BroadcastsInDim S152x175x16384 (![2] : Fin 1 → Fin S152x175x16384.rank)
  slices_S152x175x16384_S152x175x1_0_0_0 : S152x175x16384.Slices ![0, 0, 0] S152x175x1
  slices_S152x175x16384_S152x175x1_0_0_1 : S152x175x16384.Slices ![0, 0, 1] S152x175x1
  slices_S152x175x16384_S152x175x1_0_0_2 : S152x175x16384.Slices ![0, 0, 2] S152x175x1
  slices_S152x175x16384_S152x175x1_0_0_3 : S152x175x16384.Slices ![0, 0, 3] S152x175x1
  slices_S152x175x16384_S152x175x1_0_0_4 : S152x175x16384.Slices ![0, 0, 4] S152x175x1
  reducesTo_S152x1x16384_S152x1_d2 : S152x1x16384.ReducesTo [2] S152x1
  h_S_ : 0 < S_.numel
  bcast_S152x1_S152x1x1_0_1 : S152x1.BroadcastsInDim S152x1x1 (![0, 1] : Fin 2 → Fin S152x1x1.rank)
  bcast_S152x1x1_S152x175x1_0_1_2 : S152x1x1.BroadcastsInDim S152x175x1 (![0, 1, 2] : Fin 3 → Fin S152x175x1.rank)
  reducesTo_S152x175x1_S_d0_1_2 : S152x175x1.ReducesTo [0, 1, 2] S_

variable [Facts]

def comparator_i32_d2 : BitVec 32 → BitVec 32 → BitVec 1 :=
  fun l r =>
    let v1 := IntOp.cmpi .slt l r
    v1
def fn_where {F : FTy → Type} [FloatOps F] (arg0 : IVec S152x175x16384 1) (arg1 : IVec S16384 32) (arg2 : IVec S_ 32) : IVec S152x175x16384 32 :=
  let v0 : IVec S_ 32 := id arg2
  let v1 : IVec S152x175x16384 32 := broadcastInDim S152x175x16384 ![2] bcast_S16384_S152x175x16384_2 arg1
  let v2 : IVec S152x175x16384 32 := broadcastInDim S152x175x16384 ![] bcast_S_S152x175x16384 v0
  let v3 : IVec S152x175x16384 32 := select arg0 v1 v2
  v3

def fn_sort {F : FTy → Type} [FloatOps F] (arg0 : IVec S152x175x16384 32) : IVec S152x175x16384 32 :=
  let v0 : IVec S152x175x16384 32 := (fun x => Host.sort S152x175x16384 2 comparator_i32_d2 x) arg0
  v0

def fn_part3 {F : FTy → Type} [FloatOps F] (main_v64 : IVec S152x175x1 1) : IVec S_ 1 :=
  let main_c_6 : IVec S_ 1 := constantI S_ 1 1#1
  let main_v65 : IVec S_ 1 := (fun x v => Host.reduce IntOp.andi x v reducesTo_S152x175x1_S_d0_1_2 h_S_) main_v64 main_c_6
  main_v65

def fn_part2 {F : FTy → Type} [FloatOps F] (main_arg4 : IVec S152x175x1 32) (main_arg5 : IVec S152x175x1 32) (main_arg6 : IVec S152x175x1 32) (main_arg7 : IVec S152x175x1 32) (main_arg8 : IVec S152x175x1 32) (main_v24 : IVec S152x1x16384 1) (main_v39 : IVec S152x175x1 32) (main_v40 : IVec S152x175x1 32) (main_v41 : IVec S152x175x1 32) (main_v42 : IVec S152x175x1 32) (main_v43 : IVec S152x175x1 32) (main_c_2 : IVec S_ 32) : IVec S_ 1 :=
  let main_v44 : IVec S152x175x1 32 := broadcastInDim S152x175x1 ![] bcast_S_S152x175x1 main_c_2
  let main_v45 : IVec S152x175x1 1 := cmpi .sgt main_arg4 main_v44
  let main_c_3 : IVec S_ 1 := constantI S_ 1 0#1
  let main_v46 : IVec S152x1 1 := (fun x v => Host.reduce IntOp.ori x v reducesTo_S152x1x16384_S152x1_d2 h_S_) main_v24 main_c_3
  let main_v47 : IVec S152x1x1 1 := broadcastInDim S152x1x1 ![0, 1] bcast_S152x1_S152x1x1_0_1 main_v46
  let main_v48 : IVec S152x1x1 1 := noti main_v47
  let main_v49 : IVec S152x175x1 1 := broadcastInDim S152x175x1 ![0, 1, 2] bcast_S152x1x1_S152x175x1_0_1_2 main_v48
  let main_v50 : IVec S152x175x1 1 := cmpi .eq main_v45 main_v49
  let main_c_4 : IVec S_ 32 := constantI S_ 32 16384#32
  let main_v51 : IVec S152x175x1 32 := broadcastInDim S152x175x1 ![] bcast_S_S152x175x1 main_c_4
  let main_v52 : IVec S152x175x1 1 := cmpi .slt main_v39 main_v51
  let main_v53 : IVec S152x175x1 1 := andi main_v50 main_v52
  let main_c_5 : IVec S_ 32 := constantI S_ 32 16384#32
  let main_v54 : IVec S152x175x1 32 := broadcastInDim S152x175x1 ![] bcast_S_S152x175x1 main_c_5
  let main_v55 : IVec S152x175x1 1 := cmpi .eq main_v43 main_v54
  let main_v56 : IVec S152x175x1 1 := andi main_v53 main_v55
  let main_v57 : IVec S152x175x1 1 := cmpi .eq main_arg5 main_v39
  let main_v58 : IVec S152x175x1 1 := andi main_v56 main_v57
  let main_v59 : IVec S152x175x1 1 := cmpi .eq main_arg6 main_v40
  let main_v60 : IVec S152x175x1 1 := andi main_v58 main_v59
  let main_v61 : IVec S152x175x1 1 := cmpi .eq main_arg7 main_v41
  let main_v62 : IVec S152x175x1 1 := andi main_v60 main_v61
  let main_v63 : IVec S152x175x1 1 := cmpi .eq main_arg8 main_v42
  let main_v64 : IVec S152x175x1 1 := andi main_v62 main_v63
  fn_part3 (F := F) main_v64

def fn_part1 {F : FTy → Type} [FloatOps F] (main_arg0 : IVec S152x175x16384 32) (main_arg3 : IVec S152x175x1 32) (main_arg4 : IVec S152x175x1 32) (main_arg5 : IVec S152x175x1 32) (main_arg6 : IVec S152x175x1 32) (main_arg7 : IVec S152x175x1 32) (main_arg8 : IVec S152x175x1 32) (main_v23 : IVec S19x4x2x16384 1) : IVec S_ 1 :=
  let main_v24 : IVec S152x1x16384 1 := shapeCast S152x1x16384 main_v23 shapeCasts_S19x4x2x16384_S152x1x16384
  let main_c : IVec S_ 32 := constantI S_ 32 9#32
  let main_v25 : IVec S152x175x16384 32 := broadcastInDim S152x175x16384 ![] bcast_S_S152x175x16384 main_c
  let main_v26 : IVec S152x175x16384 32 := Host.shrui main_arg0 main_v25
  let main_v27 : IVec S152x175x16384 32 := id main_v26
  let main_c_0 : IVec S_ 32 := constantI S_ 32 0#32
  let main_v28 : IVec S152x175x1 32 := broadcastInDim S152x175x1 ![] bcast_S_S152x175x1 main_c_0
  let main_v29 : IVec S152x175x1 1 := cmpi .sgt main_arg4 main_v28
  let main_v30 : IVec S152x175x16384 1 := broadcastInDim S152x175x16384 ![0, 1, 2] bcast_S152x1x16384_S152x175x16384_0_1_2 main_v24
  let main_v31 : IVec S152x175x16384 1 := broadcastInDim S152x175x16384 ![0, 1, 2] bcast_S152x175x1_S152x175x16384_0_1_2 main_v29
  let main_v32 : IVec S152x175x16384 1 := ori main_v30 main_v31
  let main_v33 : IVec S152x175x16384 32 := broadcastInDim S152x175x16384 ![0, 1, 2] bcast_S152x175x1_S152x175x16384_0_1_2 main_arg3
  let main_v34 : IVec S152x175x16384 1 := cmpi .sge main_v27 main_v33
  let main_v35 : IVec S152x175x16384 1 := andi main_v32 main_v34
  let main_v36 : IVec S16384 32 := iotaInDim S16384 32 0
  let main_c_1 : IVec S_ 32 := constantI S_ 32 16384#32
  let main_v37 : IVec S152x175x16384 32 := fn_where (F := F) main_v35 main_v36 main_c_1
  let main_v38 : IVec S152x175x16384 32 := fn_sort (F := F) main_v37
  let main_v39 : IVec S152x175x1 32 := (extractStridedSlice S152x175x1 ![0, 0, 0] · slices_S152x175x16384_S152x175x1_0_0_0) main_v38
  let main_v40 : IVec S152x175x1 32 := (extractStridedSlice S152x175x1 ![0, 0, 1] · slices_S152x175x16384_S152x175x1_0_0_1) main_v38
  let main_v41 : IVec S152x175x1 32 := (extractStridedSlice S152x175x1 ![0, 0, 2] · slices_S152x175x16384_S152x175x1_0_0_2) main_v38
  let main_v42 : IVec S152x175x1 32 := (extractStridedSlice S152x175x1 ![0, 0, 3] · slices_S152x175x16384_S152x175x1_0_0_3) main_v38
  let main_v43 : IVec S152x175x1 32 := (extractStridedSlice S152x175x1 ![0, 0, 4] · slices_S152x175x16384_S152x175x1_0_0_4) main_v38
  let main_c_2 : IVec S_ 32 := constantI S_ 32 0#32
  fn_part2 (F := F) main_arg4 main_arg5 main_arg6 main_arg7 main_arg8 main_v24 main_v39 main_v40 main_v41 main_v42 main_v43 main_c_2

def fn {F : FTy → Type} [FloatOps F] (main_arg0 : IVec S152x175x16384 32) (main_arg1 : IVec S4x1x16384 32) (main_arg2 : IVec S4x1x16384 32) (main_arg3 : IVec S152x175x1 32) (main_arg4 : IVec S152x175x1 32) (main_arg5 : IVec S152x175x1 32) (main_arg6 : IVec S152x175x1 32) (main_arg7 : IVec S152x175x1 32) (main_arg8 : IVec S152x175x1 32) : IVec S_ 1 :=
  let main_v0 : IVec S4x16384 32 := shapeCast S4x16384 main_arg1 shapeCasts_S4x1x16384_S4x16384
  let main_v1 : IVec S4x16384 32 := shapeCast S4x16384 main_arg2 shapeCasts_S4x1x16384_S4x16384
  let main_v2 : IVec S19 32 := iotaInDim S19 32 0
  let main_v3 : IVec S1x4x16384 32 := broadcastInDim S1x4x16384 ![1, 2] bcast_S4x16384_S1x4x16384_1_2 main_v0
  let main_v4 : IVec S19x1x1 32 := broadcastInDim S19x1x1 ![0] bcast_S19_S19x1x1_0 main_v2
  let main_v5 : IVec S19x4x16384 32 := broadcastInDim S19x4x16384 ![0, 1, 2] bcast_S1x4x16384_S19x4x16384_0_1_2 main_v3
  let main_v6 : IVec S19x4x16384 32 := broadcastInDim S19x4x16384 ![0, 1, 2] bcast_S19x1x1_S19x4x16384_0_1_2 main_v4
  let main_v7 : IVec S19x4x16384 1 := cmpi .eq main_v5 main_v6
  let main_v8 : IVec S1x4x16384 32 := broadcastInDim S1x4x16384 ![1, 2] bcast_S4x16384_S1x4x16384_1_2 main_v1
  let main_v9 : IVec S19x1x1 32 := broadcastInDim S19x1x1 ![0] bcast_S19_S19x1x1_0 main_v2
  let main_v10 : IVec S19x4x16384 32 := broadcastInDim S19x4x16384 ![0, 1, 2] bcast_S1x4x16384_S19x4x16384_0_1_2 main_v8
  let main_v11 : IVec S19x4x16384 32 := broadcastInDim S19x4x16384 ![0, 1, 2] bcast_S19x1x1_S19x4x16384_0_1_2 main_v9
  let main_v12 : IVec S19x4x16384 1 := cmpi .eq main_v10 main_v11
  let main_v13 : IVec S19x4x16384 1 := andi main_v7 main_v12
  let main_v14 : IVec S19x4x16384 1 := noti main_v7
  let main_v15 : IVec S19x4x16384 1 := noti main_v12
  let main_v16 : IVec S19x4x16384 1 := andi main_v14 main_v15
  let main_v17 : IVec S19x4x16384 1 := noti main_v12
  let main_v18 : IVec S19x4x16384 1 := andi main_v7 main_v17
  let main_v19 : IVec S19x4x16384 1 := noti main_v7
  let main_v20 : IVec S19x4x16384 1 := andi main_v19 main_v12
  let main_v21 : IVec S19x4x1x16384 1 := broadcastInDim S19x4x1x16384 ![0, 1, 3] bcast_S19x4x16384_S19x4x1x16384_0_1_3 main_v13
  let main_v22 : IVec S19x4x1x16384 1 := broadcastInDim S19x4x1x16384 ![0, 1, 3] bcast_S19x4x16384_S19x4x1x16384_0_1_3 main_v16
  let main_v23 : IVec S19x4x2x16384 1 := (fun a b => concatenate S19x4x2x16384 2 [⟨S19x4x1x16384, a⟩, ⟨S19x4x1x16384, b⟩] concatenates_S19x4x1x16384_S19x4x1x16384_S19x4x2x16384_d2) main_v21 main_v22
  fn_part1 (F := F) main_arg0 main_arg3 main_arg4 main_arg5 main_arg6 main_arg7 main_arg8 main_v23
-- ==== Pre_selected_small.lean ====
abbrev S152x75x16384 : Shape := ⟨3, ![152, 75, 16384]⟩
abbrev S4x1x16384 : Shape := ⟨3, ![4, 1, 16384]⟩
abbrev S152x75x1 : Shape := ⟨3, ![152, 75, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S16384 : Shape := ⟨1, ![16384]⟩
abbrev S152x1 : Shape := ⟨2, ![152, 1]⟩
abbrev S152x1x1 : Shape := ⟨3, ![152, 1, 1]⟩

class Facts : Prop where
  shapeCasts_S4x1x16384_S4x16384 : S4x1x16384.ShapeCasts S4x16384
  bcast_S4x16384_S1x4x16384_1_2 : S4x16384.BroadcastsInDim S1x4x16384 (![1, 2] : Fin 2 → Fin S1x4x16384.rank)
  bcast_S19_S19x1x1_0 : S19.BroadcastsInDim S19x1x1 (![0] : Fin 1 → Fin S19x1x1.rank)
  bcast_S1x4x16384_S19x4x16384_0_1_2 : S1x4x16384.BroadcastsInDim S19x4x16384 (![0, 1, 2] : Fin 3 → Fin S19x4x16384.rank)
  bcast_S19x1x1_S19x4x16384_0_1_2 : S19x1x1.BroadcastsInDim S19x4x16384 (![0, 1, 2] : Fin 3 → Fin S19x4x16384.rank)
  bcast_S19x4x16384_S19x4x1x16384_0_1_3 : S19x4x16384.BroadcastsInDim S19x4x1x16384 (![0, 1, 3] : Fin 3 → Fin S19x4x1x16384.rank)
  concatenates_S19x4x1x16384_S19x4x1x16384_S19x4x2x16384_d2 : Shape.Concatenates [S19x4x1x16384, S19x4x1x16384] S19x4x2x16384 2
  shapeCasts_S19x4x2x16384_S152x1x16384 : S19x4x2x16384.ShapeCasts S152x1x16384
  bcast_S_S152x75x16384 : S_.BroadcastsInDim S152x75x16384 (![] : Fin 0 → Fin S152x75x16384.rank)
  bcast_S_S152x75x1 : S_.BroadcastsInDim S152x75x1 (![] : Fin 0 → Fin S152x75x1.rank)
  bcast_S152x1x16384_S152x75x16384_0_1_2 : S152x1x16384.BroadcastsInDim S152x75x16384 (![0, 1, 2] : Fin 3 → Fin S152x75x16384.rank)
  bcast_S152x75x1_S152x75x16384_0_1_2 : S152x75x1.BroadcastsInDim S152x75x16384 (![0, 1, 2] : Fin 3 → Fin S152x75x16384.rank)
  bcast_S16384_S152x75x16384_2 : S16384.BroadcastsInDim S152x75x16384 (![2] : Fin 1 → Fin S152x75x16384.rank)
  slices_S152x75x16384_S152x75x1_0_0_0 : S152x75x16384.Slices ![0, 0, 0] S152x75x1
  slices_S152x75x16384_S152x75x1_0_0_1 : S152x75x16384.Slices ![0, 0, 1] S152x75x1
  slices_S152x75x16384_S152x75x1_0_0_2 : S152x75x16384.Slices ![0, 0, 2] S152x75x1
  slices_S152x75x16384_S152x75x1_0_0_3 : S152x75x16384.Slices ![0, 0, 3] S152x75x1
  slices_S152x75x16384_S152x75x1_0_0_4 : S152x75x16384.Slices ![0, 0, 4] S152x75x1
  reducesTo_S152x1x16384_S152x1_d2 : S152x1x16384.ReducesTo [2] S152x1
  h_S_ : 0 < S_.numel
  bcast_S152x1_S152x1x1_0_1 : S152x1.BroadcastsInDim S152x1x1 (![0, 1] : Fin 2 → Fin S152x1x1.rank)
  bcast_S152x1x1_S152x75x1_0_1_2 : S152x1x1.BroadcastsInDim S152x75x1 (![0, 1, 2] : Fin 3 → Fin S152x75x1.rank)
  reducesTo_S152x75x1_S_d0_1_2 : S152x75x1.ReducesTo [0, 1, 2] S_

variable [Facts]

def comparator_i32_d2 : BitVec 32 → BitVec 32 → BitVec 1 :=
  fun l r =>
    let v1 := IntOp.cmpi .slt l r
    v1
def fn_where {F : FTy → Type} [FloatOps F] (arg0 : IVec S152x75x16384 1) (arg1 : IVec S16384 32) (arg2 : IVec S_ 32) : IVec S152x75x16384 32 :=
  let v0 : IVec S_ 32 := id arg2
  let v1 : IVec S152x75x16384 32 := broadcastInDim S152x75x16384 ![2] bcast_S16384_S152x75x16384_2 arg1
  let v2 : IVec S152x75x16384 32 := broadcastInDim S152x75x16384 ![] bcast_S_S152x75x16384 v0
  let v3 : IVec S152x75x16384 32 := select arg0 v1 v2
  v3

def fn_sort {F : FTy → Type} [FloatOps F] (arg0 : IVec S152x75x16384 32) : IVec S152x75x16384 32 :=
  let v0 : IVec S152x75x16384 32 := (fun x => Host.sort S152x75x16384 2 comparator_i32_d2 x) arg0
  v0

def fn_part3 {F : FTy → Type} [FloatOps F] (main_v64 : IVec S152x75x1 1) : IVec S_ 1 :=
  let main_c_6 : IVec S_ 1 := constantI S_ 1 1#1
  let main_v65 : IVec S_ 1 := (fun x v => Host.reduce IntOp.andi x v reducesTo_S152x75x1_S_d0_1_2 h_S_) main_v64 main_c_6
  main_v65

def fn_part2 {F : FTy → Type} [FloatOps F] (main_arg4 : IVec S152x75x1 32) (main_arg5 : IVec S152x75x1 32) (main_arg6 : IVec S152x75x1 32) (main_arg7 : IVec S152x75x1 32) (main_arg8 : IVec S152x75x1 32) (main_v24 : IVec S152x1x16384 1) (main_v39 : IVec S152x75x1 32) (main_v40 : IVec S152x75x1 32) (main_v41 : IVec S152x75x1 32) (main_v42 : IVec S152x75x1 32) (main_v43 : IVec S152x75x1 32) (main_c_2 : IVec S_ 32) : IVec S_ 1 :=
  let main_v44 : IVec S152x75x1 32 := broadcastInDim S152x75x1 ![] bcast_S_S152x75x1 main_c_2
  let main_v45 : IVec S152x75x1 1 := cmpi .sgt main_arg4 main_v44
  let main_c_3 : IVec S_ 1 := constantI S_ 1 0#1
  let main_v46 : IVec S152x1 1 := (fun x v => Host.reduce IntOp.ori x v reducesTo_S152x1x16384_S152x1_d2 h_S_) main_v24 main_c_3
  let main_v47 : IVec S152x1x1 1 := broadcastInDim S152x1x1 ![0, 1] bcast_S152x1_S152x1x1_0_1 main_v46
  let main_v48 : IVec S152x1x1 1 := noti main_v47
  let main_v49 : IVec S152x75x1 1 := broadcastInDim S152x75x1 ![0, 1, 2] bcast_S152x1x1_S152x75x1_0_1_2 main_v48
  let main_v50 : IVec S152x75x1 1 := cmpi .eq main_v45 main_v49
  let main_c_4 : IVec S_ 32 := constantI S_ 32 16384#32
  let main_v51 : IVec S152x75x1 32 := broadcastInDim S152x75x1 ![] bcast_S_S152x75x1 main_c_4
  let main_v52 : IVec S152x75x1 1 := cmpi .slt main_v39 main_v51
  let main_v53 : IVec S152x75x1 1 := andi main_v50 main_v52
  let main_c_5 : IVec S_ 32 := constantI S_ 32 16384#32
  let main_v54 : IVec S152x75x1 32 := broadcastInDim S152x75x1 ![] bcast_S_S152x75x1 main_c_5
  let main_v55 : IVec S152x75x1 1 := cmpi .eq main_v43 main_v54
  let main_v56 : IVec S152x75x1 1 := andi main_v53 main_v55
  let main_v57 : IVec S152x75x1 1 := cmpi .eq main_arg5 main_v39
  let main_v58 : IVec S152x75x1 1 := andi main_v56 main_v57
  let main_v59 : IVec S152x75x1 1 := cmpi .eq main_arg6 main_v40
  let main_v60 : IVec S152x75x1 1 := andi main_v58 main_v59
  let main_v61 : IVec S152x75x1 1 := cmpi .eq main_arg7 main_v41
  let main_v62 : IVec S152x75x1 1 := andi main_v60 main_v61
  let main_v63 : IVec S152x75x1 1 := cmpi .eq main_arg8 main_v42
  let main_v64 : IVec S152x75x1 1 := andi main_v62 main_v63
  fn_part3 (F := F) main_v64

def fn_part1 {F : FTy → Type} [FloatOps F] (main_arg0 : IVec S152x75x16384 32) (main_arg3 : IVec S152x75x1 32) (main_arg4 : IVec S152x75x1 32) (main_arg5 : IVec S152x75x1 32) (main_arg6 : IVec S152x75x1 32) (main_arg7 : IVec S152x75x1 32) (main_arg8 : IVec S152x75x1 32) (main_v23 : IVec S19x4x2x16384 1) : IVec S_ 1 :=
  let main_v24 : IVec S152x1x16384 1 := shapeCast S152x1x16384 main_v23 shapeCasts_S19x4x2x16384_S152x1x16384
  let main_c : IVec S_ 32 := constantI S_ 32 9#32
  let main_v25 : IVec S152x75x16384 32 := broadcastInDim S152x75x16384 ![] bcast_S_S152x75x16384 main_c
  let main_v26 : IVec S152x75x16384 32 := Host.shrui main_arg0 main_v25
  let main_v27 : IVec S152x75x16384 32 := id main_v26
  let main_c_0 : IVec S_ 32 := constantI S_ 32 0#32
  let main_v28 : IVec S152x75x1 32 := broadcastInDim S152x75x1 ![] bcast_S_S152x75x1 main_c_0
  let main_v29 : IVec S152x75x1 1 := cmpi .sgt main_arg4 main_v28
  let main_v30 : IVec S152x75x16384 1 := broadcastInDim S152x75x16384 ![0, 1, 2] bcast_S152x1x16384_S152x75x16384_0_1_2 main_v24
  let main_v31 : IVec S152x75x16384 1 := broadcastInDim S152x75x16384 ![0, 1, 2] bcast_S152x75x1_S152x75x16384_0_1_2 main_v29
  let main_v32 : IVec S152x75x16384 1 := ori main_v30 main_v31
  let main_v33 : IVec S152x75x16384 32 := broadcastInDim S152x75x16384 ![0, 1, 2] bcast_S152x75x1_S152x75x16384_0_1_2 main_arg3
  let main_v34 : IVec S152x75x16384 1 := cmpi .sge main_v27 main_v33
  let main_v35 : IVec S152x75x16384 1 := andi main_v32 main_v34
  let main_v36 : IVec S16384 32 := iotaInDim S16384 32 0
  let main_c_1 : IVec S_ 32 := constantI S_ 32 16384#32
  let main_v37 : IVec S152x75x16384 32 := fn_where (F := F) main_v35 main_v36 main_c_1
  let main_v38 : IVec S152x75x16384 32 := fn_sort (F := F) main_v37
  let main_v39 : IVec S152x75x1 32 := (extractStridedSlice S152x75x1 ![0, 0, 0] · slices_S152x75x16384_S152x75x1_0_0_0) main_v38
  let main_v40 : IVec S152x75x1 32 := (extractStridedSlice S152x75x1 ![0, 0, 1] · slices_S152x75x16384_S152x75x1_0_0_1) main_v38
  let main_v41 : IVec S152x75x1 32 := (extractStridedSlice S152x75x1 ![0, 0, 2] · slices_S152x75x16384_S152x75x1_0_0_2) main_v38
  let main_v42 : IVec S152x75x1 32 := (extractStridedSlice S152x75x1 ![0, 0, 3] · slices_S152x75x16384_S152x75x1_0_0_3) main_v38
  let main_v43 : IVec S152x75x1 32 := (extractStridedSlice S152x75x1 ![0, 0, 4] · slices_S152x75x16384_S152x75x1_0_0_4) main_v38
  let main_c_2 : IVec S_ 32 := constantI S_ 32 0#32
  fn_part2 (F := F) main_arg4 main_arg5 main_arg6 main_arg7 main_arg8 main_v24 main_v39 main_v40 main_v41 main_v42 main_v43 main_c_2

def fn {F : FTy → Type} [FloatOps F] (main_arg0 : IVec S152x75x16384 32) (main_arg1 : IVec S4x1x16384 32) (main_arg2 : IVec S4x1x16384 32) (main_arg3 : IVec S152x75x1 32) (main_arg4 : IVec S152x75x1 32) (main_arg5 : IVec S152x75x1 32) (main_arg6 : IVec S152x75x1 32) (main_arg7 : IVec S152x75x1 32) (main_arg8 : IVec S152x75x1 32) : IVec S_ 1 :=
  let main_v0 : IVec S4x16384 32 := shapeCast S4x16384 main_arg1 shapeCasts_S4x1x16384_S4x16384
  let main_v1 : IVec S4x16384 32 := shapeCast S4x16384 main_arg2 shapeCasts_S4x1x16384_S4x16384
  let main_v2 : IVec S19 32 := iotaInDim S19 32 0
  let main_v3 : IVec S1x4x16384 32 := broadcastInDim S1x4x16384 ![1, 2] bcast_S4x16384_S1x4x16384_1_2 main_v0
  let main_v4 : IVec S19x1x1 32 := broadcastInDim S19x1x1 ![0] bcast_S19_S19x1x1_0 main_v2
  let main_v5 : IVec S19x4x16384 32 := broadcastInDim S19x4x16384 ![0, 1, 2] bcast_S1x4x16384_S19x4x16384_0_1_2 main_v3
  let main_v6 : IVec S19x4x16384 32 := broadcastInDim S19x4x16384 ![0, 1, 2] bcast_S19x1x1_S19x4x16384_0_1_2 main_v4
  let main_v7 : IVec S19x4x16384 1 := cmpi .eq main_v5 main_v6
  let main_v8 : IVec S1x4x16384 32 := broadcastInDim S1x4x16384 ![1, 2] bcast_S4x16384_S1x4x16384_1_2 main_v1
  let main_v9 : IVec S19x1x1 32 := broadcastInDim S19x1x1 ![0] bcast_S19_S19x1x1_0 main_v2
  let main_v10 : IVec S19x4x16384 32 := broadcastInDim S19x4x16384 ![0, 1, 2] bcast_S1x4x16384_S19x4x16384_0_1_2 main_v8
  let main_v11 : IVec S19x4x16384 32 := broadcastInDim S19x4x16384 ![0, 1, 2] bcast_S19x1x1_S19x4x16384_0_1_2 main_v9
  let main_v12 : IVec S19x4x16384 1 := cmpi .eq main_v10 main_v11
  let main_v13 : IVec S19x4x16384 1 := andi main_v7 main_v12
  let main_v14 : IVec S19x4x16384 1 := noti main_v7
  let main_v15 : IVec S19x4x16384 1 := noti main_v12
  let main_v16 : IVec S19x4x16384 1 := andi main_v14 main_v15
  let main_v17 : IVec S19x4x16384 1 := noti main_v12
  let main_v18 : IVec S19x4x16384 1 := andi main_v7 main_v17
  let main_v19 : IVec S19x4x16384 1 := noti main_v7
  let main_v20 : IVec S19x4x16384 1 := andi main_v19 main_v12
  let main_v21 : IVec S19x4x1x16384 1 := broadcastInDim S19x4x1x16384 ![0, 1, 3] bcast_S19x4x16384_S19x4x1x16384_0_1_3 main_v18
  let main_v22 : IVec S19x4x1x16384 1 := broadcastInDim S19x4x1x16384 ![0, 1, 3] bcast_S19x4x16384_S19x4x1x16384_0_1_3 main_v20
  let main_v23 : IVec S19x4x2x16384 1 := (fun a b => concatenate S19x4x2x16384 2 [⟨S19x4x1x16384, a⟩, ⟨S19x4x1x16384, b⟩] concatenates_S19x4x1x16384_S19x4x1x16384_S19x4x2x16384_d2) main_v21 main_v22
  fn_part1 (F := F) main_arg0 main_arg3 main_arg4 main_arg5 main_arg6 main_arg7 main_arg8 main_v23
-- ==== Kernel.lean ====
abbrev S4x256x64x64 : Shape := ⟨4, ![4, 256, 64, 64]⟩
abbrev S152x175x1 : Shape := ⟨3, ![152, 175, 1]⟩
abbrev S152x75x1 : Shape := ⟨3, ![152, 75, 1]⟩
abbrev S_ : Shape := ⟨0, ![]⟩
abbrev S127 : Shape := ⟨1, ![127]⟩
abbrev S1 : Shape := ⟨1, ![1]⟩
abbrev S128 : Shape := ⟨1, ![128]⟩
abbrev S64x64 : Shape := ⟨2, ![64, 64]⟩
abbrev S128x1 : Shape := ⟨2, ![128, 1]⟩
abbrev S128x64 : Shape := ⟨2, ![128, 64]⟩
abbrev S4x256x128x128 : Shape := ⟨4, ![4, 256, 128, 128]⟩
abbrev S4x128x128 : Shape := ⟨3, ![4, 128, 128]⟩
abbrev S1x32x64x64 : Shape := ⟨4, ![1, 32, 64, 64]⟩
abbrev S1x32x128x128 : Shape := ⟨4, ![1, 32, 128, 128]⟩
abbrev S1x128x128 : Shape := ⟨3, ![1, 128, 128]⟩
abbrev S32x64x64 : Shape := ⟨3, ![32, 64, 64]⟩
abbrev S32x64x128 : Shape := ⟨3, ![32, 64, 128]⟩
abbrev S1x128x64 : Shape := ⟨3, ![1, 128, 64]⟩
abbrev S32x128x64 : Shape := ⟨3, ![32, 128, 64]⟩
abbrev S32x128x128 : Shape := ⟨3, ![32, 128, 128]⟩
abbrev S128x128 : Shape := ⟨2, ![128, 128]⟩
abbrev S4x1x16384 : Shape := ⟨3, ![4, 1, 16384]⟩
abbrev S152x1x16384 : Shape := ⟨3, ![152, 1, 16384]⟩
abbrev S1x175x1 : Shape := ⟨3, ![1, 175, 1]⟩
abbrev S1x1x16384 : Shape := ⟨3, ![1, 1, 16384]⟩
abbrev S175x1 : Shape := ⟨2, ![175, 1]⟩
abbrev S175x2048 : Shape := ⟨2, ![175, 2048]⟩
abbrev S2048 : Shape := ⟨1, ![2048]⟩
abbrev S1x2048 : Shape := ⟨2, ![1, 2048]⟩
abbrev S1x1x2048 : Shape := ⟨3, ![1, 1, 2048]⟩
abbrev S1x75x1 : Shape := ⟨3, ![1, 75, 1]⟩
abbrev S75x1 : Shape := ⟨2, ![75, 1]⟩
abbrev S75x2048 : Shape := ⟨2, ![75, 2048]⟩
abbrev S19x4x2x16384 : Shape := ⟨4, ![19, 4, 2, 16384]⟩
abbrev S4x256x16384 : Shape := ⟨3, ![4, 256, 16384]⟩
abbrev S1x1 : Shape := ⟨2, ![1, 1]⟩
abbrev S1x256x2048 : Shape := ⟨3, ![1, 256, 2048]⟩
abbrev S19x1x2x2048 : Shape := ⟨4, ![19, 1, 2, 2048]⟩
abbrev S256x76 : Shape := ⟨2, ![256, 76]⟩
abbrev S256x2048 : Shape := ⟨2, ![256, 2048]⟩
abbrev S19x2x2048 : Shape := ⟨3, ![19, 2, 2048]⟩
abbrev S19x1x2048 : Shape := ⟨3, ![19, 1, 2048]⟩
abbrev S19x2048 : Shape := ⟨2, ![19, 2048]⟩
abbrev S76x2048 : Shape := ⟨2, ![76, 2048]⟩
abbrev S256x19 : Shape := ⟨2, ![256, 19]⟩
abbrev S1x256x19 : Shape := ⟨3, ![1, 256, 19]⟩
abbrev S1x1x1 : Shape := ⟨3, ![1, 1, 1]⟩

abbrev nBuf : Space → Nat
  | .hbm => 81
  | .vmem => 28
  | .smem => 0
  | _ => 0

abbrev bufTy : (tb : Table) → Fin (tcTables nBuf tb) → BufTy
  | .hbm, ⟨0, _⟩ => ⟨S4x256x64x64, .f32⟩
  | .hbm, ⟨1, _⟩ => ⟨S152x175x1, .i32⟩
  | .hbm, ⟨2, _⟩ => ⟨S152x75x1, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S128, .f32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .f32⟩
  | .hbm, ⟨35, _⟩ => ⟨S128, .f32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i1⟩
  | .hbm, ⟨42, _⟩ => ⟨S64x64, .f32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S128x64, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128x1, .f32⟩
  | .hbm, ⟨56, _⟩ => ⟨S128x64, .f32⟩
  | .hbm, ⟨57, _⟩ => ⟨S128x64, .f32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S128x64, .f32⟩
  | .hbm, ⟨67, _⟩ => ⟨S128x1, .f32⟩
  | .hbm, ⟨68, _⟩ => ⟨S128x64, .f32⟩
  | .hbm, ⟨69, _⟩ => ⟨S128x64, .f32⟩
  | .hbm, ⟨70, _⟩ => ⟨S128x64, .f32⟩
  | .hbm, ⟨71, _⟩ => ⟨S4x256x128x128, .f32⟩
  | .hbm, ⟨72, _⟩ => ⟨S4x128x128, .f32⟩
  | .hbm, ⟨73, _⟩ => ⟨S4x1x16384, .f32⟩
  | .hbm, ⟨74, _⟩ => ⟨S152x1x16384, .f32⟩
  | .hbm, ⟨75, _⟩ => ⟨S152x1x16384, .f32⟩
  | .hbm, ⟨76, _⟩ => ⟨S19x4x2x16384, .f32⟩
  | .hbm, ⟨77, _⟩ => ⟨S19x4x2x16384, .f32⟩
  | .hbm, ⟨78, _⟩ => ⟨S4x256x16384, .f32⟩
  | .hbm, ⟨79, _⟩ => ⟨S1x1, .f32⟩
  | .hbm, ⟨80, _⟩ => ⟨S_, .f32⟩
  | .local _ .vmem, ⟨0, _⟩ => ⟨S1x32x64x64, .f32⟩
  | .local _ .vmem, ⟨1, _⟩ => ⟨S1x32x64x64, .f32⟩
  | .local _ .vmem, ⟨2, _⟩ => ⟨S128x64, .f32⟩
  | .local _ .vmem, ⟨3, _⟩ => ⟨S128x64, .f32⟩
  | .local _ .vmem, ⟨4, _⟩ => ⟨S1x32x128x128, .f32⟩
  | .local _ .vmem, ⟨5, _⟩ => ⟨S1x32x128x128, .f32⟩
  | .local _ .vmem, ⟨6, _⟩ => ⟨S1x128x128, .f32⟩
  | .local _ .vmem, ⟨7, _⟩ => ⟨S1x128x128, .f32⟩
  | .local _ .vmem, ⟨8, _⟩ => ⟨S1x175x1, .i32⟩
  | .local _ .vmem, ⟨9, _⟩ => ⟨S1x175x1, .i32⟩
  | .local _ .vmem, ⟨10, _⟩ => ⟨S1x1x16384, .f32⟩
  | .local _ .vmem, ⟨11, _⟩ => ⟨S1x1x16384, .f32⟩
  | .local _ .vmem, ⟨12, _⟩ => ⟨S1x1x16384, .f32⟩
  | .local _ .vmem, ⟨13, _⟩ => ⟨S1x1x16384, .f32⟩
  | .local _ .vmem, ⟨14, _⟩ => ⟨S1x75x1, .i32⟩
  | .local _ .vmem, ⟨15, _⟩ => ⟨S1x75x1, .i32⟩
  | .local _ .vmem, ⟨16, _⟩ => ⟨S1x1x16384, .f32⟩
  | .local _ .vmem, ⟨17, _⟩ => ⟨S1x1x16384, .f32⟩
  | .local _ .vmem, ⟨18, _⟩ => ⟨S1x1x16384, .f32⟩
  | .local _ .vmem, ⟨19, _⟩ => ⟨S1x1x16384, .f32⟩
  | .local _ .vmem, ⟨20, _⟩ => ⟨S1x256x2048, .f32⟩
  | .local _ .vmem, ⟨21, _⟩ => ⟨S1x256x2048, .f32⟩
  | .local _ .vmem, ⟨22, _⟩ => ⟨S19x1x2x2048, .f32⟩
  | .local _ .vmem, ⟨23, _⟩ => ⟨S19x1x2x2048, .f32⟩
  | .local _ .vmem, ⟨24, _⟩ => ⟨S19x1x2x2048, .f32⟩
  | .local _ .vmem, ⟨25, _⟩ => ⟨S19x1x2x2048, .f32⟩
  | .local _ .vmem, ⟨26, _⟩ => ⟨S1x1, .f32⟩
  | .local _ .vmem, ⟨27, _⟩ => ⟨S256x76, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38_0 : Ref sig .tc := ⟨.hbm, 71, rfl⟩
abbrev main_v38_1 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_13 : BitVec 32 := 0#32
  let v18 : BitVec 1 := Scalar.cmpi .ne v17 c0_i32_13
  v18

def k0_cond2 (i : grid0.Coords) : BitVec 1 :=
  let arg1 : BitVec 32 := BitVec.ofNat 32 (i 1).val
  let c0_i32_14 : BitVec 32 := 0#32
  let v19 : BitVec 1 := Scalar.cmpi .ne arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![152], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x175x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![152], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x75x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 8], ![false, false]⟩

def k3_cond3 (i : grid3.Coords) : BitVec 1 :=
  let arg0 : BitVec 32 := BitVec.ofNat 32 (i 0).val
  let c3_i32 : BitVec 32 := 3#32
  let v27 : BitVec 1 := Scalar.cmpi .eq arg0 c3_i32
  let arg1 : BitVec 32 := BitVec.ofNat 32 (i 1).val
  let c7_i32 : BitVec 32 := 7#32
  let v28 : BitVec 1 := Scalar.cmpi .eq arg1 c7_i32
  let v29 : BitVec 1 := Scalar.andi v27 v28
  let v30 : BitVec 32 := Scalar.extui v29
  let c0_i32_15 : BitVec 32 := 0#32
  let v31 : BitVec 1 := Scalar.cmpi .ne v30 c0_i32_15
  v31

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S19x1x2x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S19x1x2x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]
-- ==== ReferenceIdeal.lean ====
abbrev S4x256x64x64 : Shape := ⟨4, ![4, 256, 64, 64]⟩
abbrev S152x175x1 : Shape := ⟨3, ![152, 175, 1]⟩
abbrev S152x75x1 : Shape := ⟨3, ![152, 75, 1]⟩
abbrev S_ : Shape := ⟨0, ![]⟩
abbrev S127 : Shape := ⟨1, ![127]⟩
abbrev S1 : Shape := ⟨1, ![1]⟩
abbrev S128 : Shape := ⟨1, ![128]⟩
abbrev S1x1x128x1 : Shape := ⟨4, ![1, 1, 128, 1]⟩
abbrev S1x1x1x128 : Shape := ⟨4, ![1, 1, 1, 128]⟩
abbrev S128x1 : Shape := ⟨2, ![128, 1]⟩
abbrev S1x1 : Shape := ⟨2, ![1, 1]⟩
abbrev S4x256x128x64 : Shape := ⟨4, ![4, 256, 128, 64]⟩
abbrev S4x256x128x128 : Shape := ⟨4, ![4, 256, 128, 128]⟩
abbrev S4x256x16384 : Shape := ⟨3, ![4, 256, 16384]⟩
abbrev S4x16384 : Shape := ⟨2, ![4, 16384]⟩
abbrev S4x1x16384 : Shape := ⟨3, ![4, 1, 16384]⟩
abbrev S19x4x2x175 : Shape := ⟨4, ![19, 4, 2, 175]⟩
abbrev S19x4x2x75 : Shape := ⟨4, ![19, 4, 2, 75]⟩
abbrev S1x256x16384 : Shape := ⟨3, ![1, 256, 16384]⟩
abbrev S256x16384 : Shape := ⟨2, ![256, 16384]⟩
abbrev S19x1x1x175 : Shape := ⟨4, ![19, 1, 1, 175]⟩
abbrev S19x175 : Shape := ⟨2, ![19, 175]⟩
abbrev S19x175x1 : Shape := ⟨3, ![19, 175, 1]⟩
abbrev S256x19x175 : Shape := ⟨3, ![256, 19, 175]⟩
abbrev S256x19x700 : Shape := ⟨3, ![256, 19, 700]⟩
abbrev S19x1x1x75 : Shape := ⟨4, ![19, 1, 1, 75]⟩
abbrev S19x75 : Shape := ⟨2, ![19, 75]⟩
abbrev S19x75x1 : Shape := ⟨3, ![19, 75, 1]⟩
abbrev S256x19x75 : Shape := ⟨3, ![256, 19, 75]⟩
abbrev S256x19x300 : Shape := ⟨3, ![256, 19, 300]⟩
abbrev S19x300x700 : Shape := ⟨3, ![19, 300, 700]⟩
abbrev S19x1200x700 : Shape := ⟨3, ![19, 1200, 700]⟩
abbrev S19 : Shape := ⟨1, ![19]⟩

abbrev nBuf : Space → Nat
  | .hbm => 478
  | .vmem => 0
  | .smem => 0
  | _ => 0

abbrev hbmTy0_0 (i : Nat) : BufTy := match i % 128 with
  | 0 => ⟨S4x256x64x64, .f32⟩
  | 1 => ⟨S152x175x1, .i32⟩
  | 2 => ⟨S152x75x1, .i32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S127, .f32⟩
  | 11 => ⟨S_, .f32⟩
  | 12 => ⟨S127, .f32⟩
  | 13 => ⟨S127, .f32⟩
  | 14 => ⟨S1, .f32⟩
  | 15 => ⟨S_, .f32⟩
  | 16 => ⟨S127, .f32⟩
  | 17 => ⟨S127, .f32⟩
  | 18 => ⟨S127, .f32⟩
  | 19 => ⟨S127, .f32⟩
  | 20 => ⟨S1, .f32⟩
  | 21 => ⟨S127, .f32⟩
  | 22 => ⟨S127, .f32⟩
  | 23 => ⟨S127, .f32⟩
  | 24 => ⟨S1, .f32⟩
  | 25 => ⟨S128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S127, .f32⟩
  | 34 => ⟨S_, .f32⟩
  | 35 => ⟨S127, .f32⟩
  | 36 => ⟨S127, .f32⟩
  | 37 => ⟨S1, .f32⟩
  | 38 => ⟨S_, .f32⟩
  | 39 => ⟨S127, .f32⟩
  | 40 => ⟨S127, .f32⟩
  | 41 => ⟨S127, .f32⟩
  | 42 => ⟨S127, .f32⟩
  | 43 => ⟨S1, .f32⟩
  | 44 => ⟨S127, .f32⟩
  | 45 => ⟨S127, .f32⟩
  | 46 => ⟨S127, .f32⟩
  | 47 => ⟨S1, .f32⟩
  | 48 => ⟨S128, .f32⟩
  | 49 => ⟨S128, .f32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .f32⟩
  | 58 => ⟨S128, .i32⟩
  | 59 => ⟨S_, .i32⟩
  | 60 => ⟨S128, .i32⟩
  | 61 => ⟨S128, .i32⟩
  | 62 => ⟨S_, .i32⟩
  | 63 => ⟨S128, .i32⟩
  | 64 => ⟨S128, .i32⟩
  | 65 => ⟨S128, .f32⟩
  | 66 => ⟨S128, .f32⟩
  | 67 => ⟨S1x1x128x1, .f32⟩
  | 68 => ⟨S128, .f32⟩
  | 69 => ⟨S128, .f32⟩
  | 70 => ⟨S1x1x1x128, .f32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S128x1, .i32⟩
  | 79 => ⟨S1, .i32⟩
  | 80 => ⟨S_, .i32⟩
  | 81 => ⟨S128x1, .i32⟩
  | 82 => ⟨S128x1, .i1⟩
  | 83 => ⟨S1x1, .i32⟩
  | 84 => ⟨S128x1, .i32⟩
  | 85 => ⟨S128x1, .i1⟩
  | 86 => ⟨S128x1, .i1⟩
  | 87 => ⟨S_, .i1⟩
  | 88 => ⟨S128, .i1⟩
  | 89 => ⟨S4x256x128x64, .f32⟩
  | 90 => ⟨S4x256x128x64, .i1⟩
  | 91 => ⟨S_, .f32⟩
  | 92 => ⟨S4x256x128x64, .f32⟩
  | 93 => ⟨S4x256x128x64, .f32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S1, .i32⟩
  | 103 => ⟨S_, .i32⟩
  | 104 => ⟨S128x1, .i32⟩
  | 105 => ⟨S128x1, .i1⟩
  | 106 => ⟨S1x1, .i32⟩
  | 107 => ⟨S128x1, .i32⟩
  | 108 => ⟨S128x1, .i1⟩
  | 109 => ⟨S128x1, .i1⟩
  | 110 => ⟨S_, .i1⟩
  | 111 => ⟨S128, .i1⟩
  | 112 => ⟨S4x256x128x64, .f32⟩
  | 113 => ⟨S4x256x128x64, .i1⟩
  | 114 => ⟨S_, .f32⟩
  | 115 => ⟨S4x256x128x64, .f32⟩
  | 116 => ⟨S4x256x128x64, .f32⟩
  | 117 => ⟨S_, .i32⟩
  | 118 => ⟨S128, .i32⟩
  | 119 => ⟨S128, .i1⟩
  | 120 => ⟨S_, .i32⟩
  | 121 => ⟨S128, .i32⟩
  | 122 => ⟨S128, .i32⟩
  | 123 => ⟨S128, .i32⟩
  | 124 => ⟨S128x1, .i32⟩
  | 125 => ⟨S1, .i32⟩
  | 126 => ⟨S_, .i32⟩
  | 127 => ⟨S128x1, .i32⟩
  | _ => ⟨S4x256x64x64, .f32⟩

abbrev hbmTy0_1 (i : Nat) : BufTy := match i % 128 with
  | 0 => ⟨S128x1, .i1⟩
  | 1 => ⟨S1x1, .i32⟩
  | 2 => ⟨S128x1, .i32⟩
  | 3 => ⟨S128x1, .i1⟩
  | 4 => ⟨S128x1, .i1⟩
  | 5 => ⟨S_, .i1⟩
  | 6 => ⟨S128, .i1⟩
  | 7 => ⟨S4x256x128x128, .f32⟩
  | 8 => ⟨S4x256x128x128, .i1⟩
  | 9 => ⟨S_, .f32⟩
  | 10 => ⟨S4x256x128x128, .f32⟩
  | 11 => ⟨S4x256x128x128, .f32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S1, .i32⟩
  | 21 => ⟨S_, .i32⟩
  | 22 => ⟨S128x1, .i32⟩
  | 23 => ⟨S128x1, .i1⟩
  | 24 => ⟨S1x1, .i32⟩
  | 25 => ⟨S128x1, .i32⟩
  | 26 => ⟨S128x1, .i1⟩
  | 27 => ⟨S128x1, .i1⟩
  | 28 => ⟨S_, .i1⟩
  | 29 => ⟨S128, .i1⟩
  | 30 => ⟨S4x256x128x128, .f32⟩
  | 31 => ⟨S4x256x128x128, .i1⟩
  | 32 => ⟨S_, .f32⟩
  | 33 => ⟨S4x256x128x128, .f32⟩
  | 34 => ⟨S4x256x128x128, .f32⟩
  | 35 => ⟨S_, .i32⟩
  | 36 => ⟨S128, .i32⟩
  | 37 => ⟨S128, .i1⟩
  | 38 => ⟨S_, .i32⟩
  | 39 => ⟨S128, .i32⟩
  | 40 => ⟨S128, .i32⟩
  | 41 => ⟨S128, .i32⟩
  | 42 => ⟨S128x1, .i32⟩
  | 43 => ⟨S1, .i32⟩
  | 44 => ⟨S_, .i32⟩
  | 45 => ⟨S128x1, .i32⟩
  | 46 => ⟨S128x1, .i1⟩
  | 47 => ⟨S1x1, .i32⟩
  | 48 => ⟨S128x1, .i32⟩
  | 49 => ⟨S128x1, .i1⟩
  | 50 => ⟨S128x1, .i1⟩
  | 51 => ⟨S_, .i1⟩
  | 52 => ⟨S128, .i1⟩
  | 53 => ⟨S4x256x128x128, .f32⟩
  | 54 => ⟨S4x256x128x128, .i1⟩
  | 55 => ⟨S_, .f32⟩
  | 56 => ⟨S4x256x128x128, .f32⟩
  | 57 => ⟨S4x256x128x128, .f32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S128x1, .i32⟩
  | 66 => ⟨S1, .i32⟩
  | 67 => ⟨S_, .i32⟩
  | 68 => ⟨S128x1, .i32⟩
  | 69 => ⟨S128x1, .i1⟩
  | 70 => ⟨S1x1, .i32⟩
  | 71 => ⟨S128x1, .i32⟩
  | 72 => ⟨S128x1, .i1⟩
  | 73 => ⟨S128x1, .i1⟩
  | 74 => ⟨S_, .i1⟩
  | 75 => ⟨S128, .i1⟩
  | 76 => ⟨S4x256x128x128, .f32⟩
  | 77 => ⟨S4x256x128x128, .i1⟩
  | 78 => ⟨S_, .f32⟩
  | 79 => ⟨S4x256x128x128, .f32⟩
  | 80 => ⟨S4x256x128x128, .f32⟩
  | 81 => ⟨S_, .f32⟩
  | 82 => ⟨S1x1x1x128, .f32⟩
  | 83 => ⟨S1x1x1x128, .f32⟩
  | 84 => ⟨S4x256x128x128, .f32⟩
  | 85 => ⟨S4x256x128x128, .f32⟩
  | 86 => ⟨S4x256x128x128, .f32⟩
  | 87 => ⟨S4x256x128x128, .f32⟩
  | 88 => ⟨S4x256x128x128, .f32⟩
  | 89 => ⟨S_, .f32⟩
  | 90 => ⟨S1x1x1x128, .f32⟩
  | 91 => ⟨S1x1x1x128, .f32⟩
  | 92 => ⟨S4x256x128x128, .f32⟩
  | 93 => ⟨S4x256x128x128, .f32⟩
  | 94 => ⟨S4x256x128x128, .f32⟩
  | 95 => ⟨S4x256x128x128, .f32⟩
  | 96 => ⟨S4x256x128x128, .f32⟩
  | 97 => ⟨S_, .f32⟩
  | 98 => ⟨S1x1x128x1, .f32⟩
  | 99 => ⟨S1x1x128x1, .f32⟩
  | 100 => ⟨S4x256x128x128, .f32⟩
  | 101 => ⟨S4x256x128x128, .f32⟩
  | 102 => ⟨S4x256x128x128, .f32⟩
  | 103 => ⟨S4x256x128x128, .f32⟩
  | 104 => ⟨S4x256x128x128, .f32⟩
  | 105 => ⟨S4x256x16384, .f32⟩
  | 106 => ⟨S4x256x16384, .f32⟩
  | 107 => ⟨S_, .f32⟩
  | 108 => ⟨S4x16384, .f32⟩
  | 109 => ⟨S4x1x16384, .f32⟩
  | 110 => ⟨S4x1x16384, .f32⟩
  | 111 => ⟨S_, .f32⟩
  | 112 => ⟨S4x1x16384, .f32⟩
  | 113 => ⟨S4x1x16384, .f32⟩
  | 114 => ⟨S4x256x16384, .f32⟩
  | 115 => ⟨S4x256x16384, .f32⟩
  | 116 => ⟨S19x4x2x175, .i32⟩
  | 117 => ⟨S19x4x2x75, .i32⟩
  | 118 => ⟨S1x256x16384, .f32⟩
  | 119 => ⟨S256x16384, .f32⟩
  | 120 => ⟨S19x1x1x175, .i32⟩
  | 121 => ⟨S19x175, .i32⟩
  | 122 => ⟨S_, .i32⟩
  | 123 => ⟨S19x175, .i32⟩
  | 124 => ⟨S19x175, .i1⟩
  | 125 => ⟨S_, .i32⟩
  | 126 => ⟨S19x175, .i32⟩
  | 127 => ⟨S19x175, .i32⟩
  | _ => ⟨S4x256x64x64, .f32⟩

abbrev hbmTy0_2 (i : Nat) : BufTy := match i % 128 with
  | 0 => ⟨S19x175, .i32⟩
  | 1 => ⟨S19x175x1, .i32⟩
  | 2 => ⟨S256x19x175, .f32⟩
  | 3 => ⟨S1x256x16384, .f32⟩
  | 4 => ⟨S256x16384, .f32⟩
  | 5 => ⟨S19x1x1x175, .i32⟩
  | 6 => ⟨S19x175, .i32⟩
  | 7 => ⟨S_, .i32⟩
  | 8 => ⟨S19x175, .i32⟩
  | 9 => ⟨S19x175, .i1⟩
  | 10 => ⟨S_, .i32⟩
  | 11 => ⟨S19x175, .i32⟩
  | 12 => ⟨S19x175, .i32⟩
  | 13 => ⟨S19x175, .i32⟩
  | 14 => ⟨S19x175x1, .i32⟩
  | 15 => ⟨S256x19x175, .f32⟩
  | 16 => ⟨S1x256x16384, .f32⟩
  | 17 => ⟨S256x16384, .f32⟩
  | 18 => ⟨S19x1x1x175, .i32⟩
  | 19 => ⟨S19x175, .i32⟩
  | 20 => ⟨S_, .i32⟩
  | 21 => ⟨S19x175, .i32⟩
  | 22 => ⟨S19x175, .i1⟩
  | 23 => ⟨S_, .i32⟩
  | 24 => ⟨S19x175, .i32⟩
  | 25 => ⟨S19x175, .i32⟩
  | 26 => ⟨S19x175, .i32⟩
  | 27 => ⟨S19x175x1, .i32⟩
  | 28 => ⟨S256x19x175, .f32⟩
  | 29 => ⟨S1x256x16384, .f32⟩
  | 30 => ⟨S256x16384, .f32⟩
  | 31 => ⟨S19x1x1x175, .i32⟩
  | 32 => ⟨S19x175, .i32⟩
  | 33 => ⟨S_, .i32⟩
  | 34 => ⟨S19x175, .i32⟩
  | 35 => ⟨S19x175, .i1⟩
  | 36 => ⟨S_, .i32⟩
  | 37 => ⟨S19x175, .i32⟩
  | 38 => ⟨S19x175, .i32⟩
  | 39 => ⟨S19x175, .i32⟩
  | 40 => ⟨S19x175x1, .i32⟩
  | 41 => ⟨S256x19x175, .f32⟩
  | 42 => ⟨S256x19x700, .f32⟩
  | 43 => ⟨S1x256x16384, .f32⟩
  | 44 => ⟨S256x16384, .f32⟩
  | 45 => ⟨S19x1x1x175, .i32⟩
  | 46 => ⟨S19x175, .i32⟩
  | 47 => ⟨S_, .i32⟩
  | 48 => ⟨S19x175, .i32⟩
  | 49 => ⟨S19x175, .i1⟩
  | 50 => ⟨S_, .i32⟩
  | 51 => ⟨S19x175, .i32⟩
  | 52 => ⟨S19x175, .i32⟩
  | 53 => ⟨S19x175, .i32⟩
  | 54 => ⟨S19x175x1, .i32⟩
  | 55 => ⟨S256x19x175, .f32⟩
  | 56 => ⟨S1x256x16384, .f32⟩
  | 57 => ⟨S256x16384, .f32⟩
  | 58 => ⟨S19x1x1x175, .i32⟩
  | 59 => ⟨S19x175, .i32⟩
  | 60 => ⟨S_, .i32⟩
  | 61 => ⟨S19x175, .i32⟩
  | 62 => ⟨S19x175, .i1⟩
  | 63 => ⟨S_, .i32⟩
  | 64 => ⟨S19x175, .i32⟩
  | 65 => ⟨S19x175, .i32⟩
  | 66 => ⟨S19x175, .i32⟩
  | 67 => ⟨S19x175x1, .i32⟩
  | 68 => ⟨S256x19x175, .f32⟩
  | 69 => ⟨S1x256x16384, .f32⟩
  | 70 => ⟨S256x16384, .f32⟩
  | 71 => ⟨S19x1x1x175, .i32⟩
  | 72 => ⟨S19x175, .i32⟩
  | 73 => ⟨S_, .i32⟩
  | 74 => ⟨S19x175, .i32⟩
  | 75 => ⟨S19x175, .i1⟩
  | 76 => ⟨S_, .i32⟩
  | 77 => ⟨S19x175, .i32⟩
  | 78 => ⟨S19x175, .i32⟩
  | 79 => ⟨S19x175, .i32⟩
  | 80 => ⟨S19x175x1, .i32⟩
  | 81 => ⟨S256x19x175, .f32⟩
  | 82 => ⟨S1x256x16384, .f32⟩
  | 83 => ⟨S256x16384, .f32⟩
  | 84 => ⟨S19x1x1x175, .i32⟩
  | 85 => ⟨S19x175, .i32⟩
  | 86 => ⟨S_, .i32⟩
  | 87 => ⟨S19x175, .i32⟩
  | 88 => ⟨S19x175, .i1⟩
  | 89 => ⟨S_, .i32⟩
  | 90 => ⟨S19x175, .i32⟩
  | 91 => ⟨S19x175, .i32⟩
  | 92 => ⟨S19x175, .i32⟩
  | 93 => ⟨S19x175x1, .i32⟩
  | 94 => ⟨S256x19x175, .f32⟩
  | 95 => ⟨S256x19x700, .f32⟩
  | 96 => ⟨S1x256x16384, .f32⟩
  | 97 => ⟨S256x16384, .f32⟩
  | 98 => ⟨S19x1x1x75, .i32⟩
  | 99 => ⟨S19x75, .i32⟩
  | 100 => ⟨S_, .i32⟩
  | 101 => ⟨S19x75, .i32⟩
  | 102 => ⟨S19x75, .i1⟩
  | 103 => ⟨S_, .i32⟩
  | 104 => ⟨S19x75, .i32⟩
  | 105 => ⟨S19x75, .i32⟩
  | 106 => ⟨S19x75, .i32⟩
  | 107 => ⟨S19x75x1, .i32⟩
  | 108 => ⟨S256x19x75, .f32⟩
  | 109 => ⟨S1x256x16384, .f32⟩
  | 110 => ⟨S256x16384, .f32⟩
  | 111 => ⟨S19x1x1x75, .i32⟩
  | 112 => ⟨S19x75, .i32⟩
  | 113 => ⟨S_, .i32⟩
  | 114 => ⟨S19x75, .i32⟩
  | 115 => ⟨S19x75, .i1⟩
  | 116 => ⟨S_, .i32⟩
  | 117 => ⟨S19x75, .i32⟩
  | 118 => ⟨S19x75, .i32⟩
  | 119 => ⟨S19x75, .i32⟩
  | 120 => ⟨S19x75x1, .i32⟩
  | 121 => ⟨S256x19x75, .f32⟩
  | 122 => ⟨S1x256x16384, .f32⟩
  | 123 => ⟨S256x16384, .f32⟩
  | 124 => ⟨S19x1x1x75, .i32⟩
  | 125 => ⟨S19x75, .i32⟩
  | 126 => ⟨S_, .i32⟩
  | 127 => ⟨S19x75, .i32⟩
  | _ => ⟨S4x256x64x64, .f32⟩

abbrev hbmTy0_3 (i : Nat) : BufTy := match i % 128 with
  | 0 => ⟨S19x75, .i1⟩
  | 1 => ⟨S_, .i32⟩
  | 2 => ⟨S19x75, .i32⟩
  | 3 => ⟨S19x75, .i32⟩
  | 4 => ⟨S19x75, .i32⟩
  | 5 => ⟨S19x75x1, .i32⟩
  | 6 => ⟨S256x19x75, .f32⟩
  | 7 => ⟨S1x256x16384, .f32⟩
  | 8 => ⟨S256x16384, .f32⟩
  | 9 => ⟨S19x1x1x75, .i32⟩
  | 10 => ⟨S19x75, .i32⟩
  | 11 => ⟨S_, .i32⟩
  | 12 => ⟨S19x75, .i32⟩
  | 13 => ⟨S19x75, .i1⟩
  | 14 => ⟨S_, .i32⟩
  | 15 => ⟨S19x75, .i32⟩
  | 16 => ⟨S19x75, .i32⟩
  | 17 => ⟨S19x75, .i32⟩
  | 18 => ⟨S19x75x1, .i32⟩
  | 19 => ⟨S256x19x75, .f32⟩
  | 20 => ⟨S256x19x300, .f32⟩
  | 21 => ⟨S1x256x16384, .f32⟩
  | 22 => ⟨S256x16384, .f32⟩
  | 23 => ⟨S19x1x1x75, .i32⟩
  | 24 => ⟨S19x75, .i32⟩
  | 25 => ⟨S_, .i32⟩
  | 26 => ⟨S19x75, .i32⟩
  | 27 => ⟨S19x75, .i1⟩
  | 28 => ⟨S_, .i32⟩
  | 29 => ⟨S19x75, .i32⟩
  | 30 => ⟨S19x75, .i32⟩
  | 31 => ⟨S19x75, .i32⟩
  | 32 => ⟨S19x75x1, .i32⟩
  | 33 => ⟨S256x19x75, .f32⟩
  | 34 => ⟨S1x256x16384, .f32⟩
  | 35 => ⟨S256x16384, .f32⟩
  | 36 => ⟨S19x1x1x75, .i32⟩
  | 37 => ⟨S19x75, .i32⟩
  | 38 => ⟨S_, .i32⟩
  | 39 => ⟨S19x75, .i32⟩
  | 40 => ⟨S19x75, .i1⟩
  | 41 => ⟨S_, .i32⟩
  | 42 => ⟨S19x75, .i32⟩
  | 43 => ⟨S19x75, .i32⟩
  | 44 => ⟨S19x75, .i32⟩
  | 45 => ⟨S19x75x1, .i32⟩
  | 46 => ⟨S256x19x75, .f32⟩
  | 47 => ⟨S1x256x16384, .f32⟩
  | 48 => ⟨S256x16384, .f32⟩
  | 49 => ⟨S19x1x1x75, .i32⟩
  | 50 => ⟨S19x75, .i32⟩
  | 51 => ⟨S_, .i32⟩
  | 52 => ⟨S19x75, .i32⟩
  | 53 => ⟨S19x75, .i1⟩
  | 54 => ⟨S_, .i32⟩
  | 55 => ⟨S19x75, .i32⟩
  | 56 => ⟨S19x75, .i32⟩
  | 57 => ⟨S19x75, .i32⟩
  | 58 => ⟨S19x75x1, .i32⟩
  | 59 => ⟨S256x19x75, .f32⟩
  | 60 => ⟨S1x256x16384, .f32⟩
  | 61 => ⟨S256x16384, .f32⟩
  | 62 => ⟨S19x1x1x75, .i32⟩
  | 63 => ⟨S19x75, .i32⟩
  | 64 => ⟨S_, .i32⟩
  | 65 => ⟨S19x75, .i32⟩
  | 66 => ⟨S19x75, .i1⟩
  | 67 => ⟨S_, .i32⟩
  | 68 => ⟨S19x75, .i32⟩
  | 69 => ⟨S19x75, .i32⟩
  | 70 => ⟨S19x75, .i32⟩
  | 71 => ⟨S19x75x1, .i32⟩
  | 72 => ⟨S256x19x75, .f32⟩
  | 73 => ⟨S256x19x300, .f32⟩
  | 74 => ⟨S19x300x700, .f32⟩
  | 75 => ⟨S_, .f32⟩
  | 76 => ⟨S19x300x700, .f32⟩
  | 77 => ⟨S19x300x700, .f32⟩
  | 78 => ⟨S19x300x700, .f32⟩
  | 79 => ⟨S19x300x700, .f32⟩
  | 80 => ⟨S19x300x700, .f32⟩
  | 81 => ⟨S_, .f32⟩
  | 82 => ⟨S19x300x700, .f32⟩
  | 83 => ⟨S19x300x700, .f32⟩
  | 84 => ⟨S19x1200x700, .f32⟩
  | 85 => ⟨S_, .f32⟩
  | 86 => ⟨S19, .f32⟩
  | 87 => ⟨S_, .f32⟩
  | 88 => ⟨S19, .f32⟩
  | 89 => ⟨S19, .f32⟩
  | 90 => ⟨S_, .f32⟩
  | 91 => ⟨S_, .f32⟩
  | 92 => ⟨S_, .f32⟩
  | 93 => ⟨S_, .f32⟩
  | _ => ⟨S4x256x64x64, .f32⟩

abbrev hbmTy (i : Nat) : BufTy := match i / 128 with
  | 0 => hbmTy0_0 i
  | 1 => hbmTy0_1 i
  | 2 => hbmTy0_2 i
  | 3 => hbmTy0_3 i
  | _ => ⟨S4x256x64x64, .f32⟩

abbrev bufTy : (tb : Table) → Fin (tcTables nBuf tb) → BufTy
  | .hbm, ⟨i, _⟩ => hbmTy i
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_cst : Ref sig .tc := ⟨.hbm, 31, rfl⟩
abbrev main_call1_v3 : Ref sig .tc := ⟨.hbm, 32, rfl⟩
abbrev main_call1_v4 : Ref sig .tc := ⟨.hbm, 33, rfl⟩
abbrev main_call1_cst_0 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_v15 : Ref sig .tc := ⟨.hbm, 46, rfl⟩
abbrev main_call1_v16 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_c : Ref sig .tc := ⟨.hbm, 51, rfl⟩
abbrev main_v4 : Ref sig .tc := ⟨.hbm, 52, rfl⟩
abbrev main_v5 : Ref sig .tc := ⟨.hbm, 53, rfl⟩
abbrev main_c_3 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_c_4 : Ref sig .tc := ⟨.hbm, 59, rfl⟩
abbrev main_v10 : Ref sig .tc := ⟨.hbm, 60, rfl⟩
abbrev main_v11 : Ref sig .tc := ⟨.hbm, 61, rfl⟩
abbrev main_c_5 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v20 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v21 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v22 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v23 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v24 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v25 : Ref sig .tc := ⟨.hbm, 208, rfl⟩
abbrev main_cst_6 : Ref sig .tc := ⟨.hbm, 209, rfl⟩
abbrev main_v26 : Ref sig .tc := ⟨.hbm, 210, rfl⟩
abbrev main_v27 : Ref sig .tc := ⟨.hbm, 211, rfl⟩
abbrev main_v28 : Ref sig .tc := ⟨.hbm, 212, rfl⟩
abbrev main_v29 : Ref sig .tc := ⟨.hbm, 213, rfl⟩
abbrev main_v30 : Ref sig .tc := ⟨.hbm, 214, rfl⟩
abbrev main_v31 : Ref sig .tc := ⟨.hbm, 215, rfl⟩
abbrev main_v32 : Ref sig .tc := ⟨.hbm, 216, rfl⟩
abbrev main_cst_7 : Ref sig .tc := ⟨.hbm, 217, rfl⟩
abbrev main_v33 : Ref sig .tc := ⟨.hbm, 218, rfl⟩
abbrev main_v34 : Ref sig .tc := ⟨.hbm, 219, rfl⟩
abbrev main_v35 : Ref sig .tc := ⟨.hbm, 220, rfl⟩
abbrev main_v36 : Ref sig .tc := ⟨.hbm, 221, rfl⟩
abbrev main_v37 : Ref sig .tc := ⟨.hbm, 222, rfl⟩
abbrev main_v38 : Ref sig .tc := ⟨.hbm, 223, rfl⟩
abbrev main_v39 : Ref sig .tc := ⟨.hbm, 224, rfl⟩
abbrev main_cst_8 : Ref sig .tc := ⟨.hbm, 225, rfl⟩
abbrev main_v40 : Ref sig .tc := ⟨.hbm, 226, rfl⟩
abbrev main_v41 : Ref sig .tc := ⟨.hbm, 227, rfl⟩
abbrev main_v42 : Ref sig .tc := ⟨.hbm, 228, rfl⟩
abbrev main_v43 : Ref sig .tc := ⟨.hbm, 229, rfl⟩
abbrev main_v44 : Ref sig .tc := ⟨.hbm, 230, rfl⟩
abbrev main_v45 : Ref sig .tc := ⟨.hbm, 231, rfl⟩
abbrev main_v46 : Ref sig .tc := ⟨.hbm, 232, rfl⟩
abbrev main_v47 : Ref sig .tc := ⟨.hbm, 233, rfl⟩
abbrev main_call8_v0 : Ref sig .tc := ⟨.hbm, 234, rfl⟩
abbrev main_call8_cst : Ref sig .tc := ⟨.hbm, 235, rfl⟩
abbrev main_call8_v1 : Ref sig .tc := ⟨.hbm, 236, rfl⟩
abbrev main_call8_v2 : Ref sig .tc := ⟨.hbm, 237, rfl⟩
abbrev main_v48 : Ref sig .tc := ⟨.hbm, 238, rfl⟩
abbrev main_cst_9 : Ref sig .tc := ⟨.hbm, 239, rfl⟩
abbrev main_v49 : Ref sig .tc := ⟨.hbm, 240, rfl⟩
abbrev main_v50 : Ref sig .tc := ⟨.hbm, 241, rfl⟩
abbrev main_v51 : Ref sig .tc := ⟨.hbm, 242, rfl⟩
abbrev main_v52 : Ref sig .tc := ⟨.hbm, 243, rfl⟩
abbrev main_v53 : Ref sig .tc := ⟨.hbm, 244, rfl⟩
abbrev main_v54 : Ref sig .tc := ⟨.hbm, 245, rfl⟩
abbrev main_v55 : Ref sig .tc := ⟨.hbm, 246, rfl⟩
abbrev main_v56 : Ref sig .tc := ⟨.hbm, 247, rfl⟩
abbrev main_v57 : Ref sig .tc := ⟨.hbm, 248, rfl⟩
abbrev main_v58 : Ref sig .tc := ⟨.hbm, 249, rfl⟩
abbrev main_c_10 : Ref sig .tc := ⟨.hbm, 250, rfl⟩
abbrev main_v59 : Ref sig .tc := ⟨.hbm, 251, rfl⟩
abbrev main_v60 : Ref sig .tc := ⟨.hbm, 252, rfl⟩
abbrev main_c_11 : Ref sig .tc := ⟨.hbm, 253, rfl⟩
abbrev main_v61 : Ref sig .tc := ⟨.hbm, 254, rfl⟩
abbrev main_v62 : Ref sig .tc := ⟨.hbm, 255, rfl⟩
abbrev main_v63 : Ref sig .tc := ⟨.hbm, 256, rfl⟩
abbrev main_v64 : Ref sig .tc := ⟨.hbm, 257, rfl⟩
abbrev main_v65 : Ref sig .tc := ⟨.hbm, 258, rfl⟩
abbrev main_v66 : Ref sig .tc := ⟨.hbm, 259, rfl⟩
abbrev main_v67 : Ref sig .tc := ⟨.hbm, 260, rfl⟩
abbrev main_v68 : Ref sig .tc := ⟨.hbm, 261, rfl⟩
abbrev main_v69 : Ref sig .tc := ⟨.hbm, 262, rfl⟩
abbrev main_c_12 : Ref sig .tc := ⟨.hbm, 263, rfl⟩
abbrev main_v70 : Ref sig .tc := ⟨.hbm, 264, rfl⟩
abbrev main_v71 : Ref sig .tc := ⟨.hbm, 265, rfl⟩
abbrev main_c_13 : Ref sig .tc := ⟨.hbm, 266, rfl⟩
abbrev main_v72 : Ref sig .tc := ⟨.hbm, 267, rfl⟩
abbrev main_v73 : Ref sig .tc := ⟨.hbm, 268, rfl⟩
abbrev main_v74 : Ref sig .tc := ⟨.hbm, 269, rfl⟩
abbrev main_v75 : Ref sig .tc := ⟨.hbm, 270, rfl⟩
abbrev main_v76 : Ref sig .tc := ⟨.hbm, 271, rfl⟩
abbrev main_v77 : Ref sig .tc := ⟨.hbm, 272, rfl⟩
abbrev main_v78 : Ref sig .tc := ⟨.hbm, 273, rfl⟩
abbrev main_v79 : Ref sig .tc := ⟨.hbm, 274, rfl⟩
abbrev main_v80 : Ref sig .tc := ⟨.hbm, 275, rfl⟩
abbrev main_c_14 : Ref sig .tc := ⟨.hbm, 276, rfl⟩
abbrev main_v81 : Ref sig .tc := ⟨.hbm, 277, rfl⟩
abbrev main_v82 : Ref sig .tc := ⟨.hbm, 278, rfl⟩
abbrev main_c_15 : Ref sig .tc := ⟨.hbm, 279, rfl⟩
abbrev main_v83 : Ref sig .tc := ⟨.hbm, 280, rfl⟩
abbrev main_v84 : Ref sig .tc := ⟨.hbm, 281, rfl⟩
abbrev main_v85 : Ref sig .tc := ⟨.hbm, 282, rfl⟩
abbrev main_v86 : Ref sig .tc := ⟨.hbm, 283, rfl⟩
abbrev main_v87 : Ref sig .tc := ⟨.hbm, 284, rfl⟩
abbrev main_v88 : Ref sig .tc := ⟨.hbm, 285, rfl⟩
abbrev main_v89 : Ref sig .tc := ⟨.hbm, 286, rfl⟩
abbrev main_v90 : Ref sig .tc := ⟨.hbm, 287, rfl⟩
abbrev main_v91 : Ref sig .tc := ⟨.hbm, 288, rfl⟩
abbrev main_c_16 : Ref sig .tc := ⟨.hbm, 289, rfl⟩
abbrev main_v92 : Ref sig .tc := ⟨.hbm, 290, rfl⟩
abbrev main_v93 : Ref sig .tc := ⟨.hbm, 291, rfl⟩
abbrev main_c_17 : Ref sig .tc := ⟨.hbm, 292, rfl⟩
abbrev main_v94 : Ref sig .tc := ⟨.hbm, 293, rfl⟩
abbrev main_v95 : Ref sig .tc := ⟨.hbm, 294, rfl⟩
abbrev main_v96 : Ref sig .tc := ⟨.hbm, 295, rfl⟩
abbrev main_v97 : Ref sig .tc := ⟨.hbm, 296, rfl⟩
abbrev main_v98 : Ref sig .tc := ⟨.hbm, 297, rfl⟩
abbrev main_v99 : Ref sig .tc := ⟨.hbm, 298, rfl⟩
abbrev main_v100 : Ref sig .tc := ⟨.hbm, 299, rfl⟩
abbrev main_v101 : Ref sig .tc := ⟨.hbm, 300, rfl⟩
abbrev main_v102 : Ref sig .tc := ⟨.hbm, 301, rfl⟩
abbrev main_v103 : Ref sig .tc := ⟨.hbm, 302, rfl⟩
abbrev main_c_18 : Ref sig .tc := ⟨.hbm, 303, rfl⟩
abbrev main_v104 : Ref sig .tc := ⟨.hbm, 304, rfl⟩
abbrev main_v105 : Ref sig .tc := ⟨.hbm, 305, rfl⟩
abbrev main_c_19 : Ref sig .tc := ⟨.hbm, 306, rfl⟩
abbrev main_v106 : Ref sig .tc := ⟨.hbm, 307, rfl⟩
abbrev main_v107 : Ref sig .tc := ⟨.hbm, 308, rfl⟩
abbrev main_v108 : Ref sig .tc := ⟨.hbm, 309, rfl⟩
abbrev main_v109 : Ref sig .tc := ⟨.hbm, 310, rfl⟩
abbrev main_v110 : Ref sig .tc := ⟨.hbm, 311, rfl⟩
abbrev main_v111 : Ref sig .tc := ⟨.hbm, 312, rfl⟩
abbrev main_v112 : Ref sig .tc := ⟨.hbm, 313, rfl⟩
abbrev main_v113 : Ref sig .tc := ⟨.hbm, 314, rfl⟩
abbrev main_v114 : Ref sig .tc := ⟨.hbm, 315, rfl⟩
abbrev main_c_20 : Ref sig .tc := ⟨.hbm, 316, rfl⟩
abbrev main_v115 : Ref sig .tc := ⟨.hbm, 317, rfl⟩
abbrev main_v116 : Ref sig .tc := ⟨.hbm, 318, rfl⟩
abbrev main_c_21 : Ref sig .tc := ⟨.hbm, 319, rfl⟩
abbrev main_v117 : Ref sig .tc := ⟨.hbm, 320, rfl⟩
abbrev main_v118 : Ref sig .tc := ⟨.hbm, 321, rfl⟩
abbrev main_v119 : Ref sig .tc := ⟨.hbm, 322, rfl⟩
abbrev main_v120 : Ref sig .tc := ⟨.hbm, 323, rfl⟩
abbrev main_v121 : Ref sig .tc := ⟨.hbm, 324, rfl⟩
abbrev main_v122 : Ref sig .tc := ⟨.hbm, 325, rfl⟩
abbrev main_v123 : Ref sig .tc := ⟨.hbm, 326, rfl⟩
abbrev main_v124 : Ref sig .tc := ⟨.hbm, 327, rfl⟩
abbrev main_v125 : Ref sig .tc := ⟨.hbm, 328, rfl⟩
abbrev main_c_22 : Ref sig .tc := ⟨.hbm, 329, rfl⟩
abbrev main_v126 : Ref sig .tc := ⟨.hbm, 330, rfl⟩
abbrev main_v127 : Ref sig .tc := ⟨.hbm, 331, rfl⟩
abbrev main_c_23 : Ref sig .tc := ⟨.hbm, 332, rfl⟩
abbrev main_v128 : Ref sig .tc := ⟨.hbm, 333, rfl⟩
abbrev main_v129 : Ref sig .tc := ⟨.hbm, 334, rfl⟩
abbrev main_v130 : Ref sig .tc := ⟨.hbm, 335, rfl⟩
abbrev main_v131 : Ref sig .tc := ⟨.hbm, 336, rfl⟩
abbrev main_v132 : Ref sig .tc := ⟨.hbm, 337, rfl⟩
abbrev main_v133 : Ref sig .tc := ⟨.hbm, 338, rfl⟩
abbrev main_v134 : Ref sig .tc := ⟨.hbm, 339, rfl⟩
abbrev main_v135 : Ref sig .tc := ⟨.hbm, 340, rfl⟩
abbrev main_v136 : Ref sig .tc := ⟨.hbm, 341, rfl⟩
abbrev main_c_24 : Ref sig .tc := ⟨.hbm, 342, rfl⟩
abbrev main_v137 : Ref sig .tc := ⟨.hbm, 343, rfl⟩
abbrev main_v138 : Ref sig .tc := ⟨.hbm, 344, rfl⟩
abbrev main_c_25 : Ref sig .tc := ⟨.hbm, 345, rfl⟩
abbrev main_v139 : Ref sig .tc := ⟨.hbm, 346, rfl⟩
abbrev main_v140 : Ref sig .tc := ⟨.hbm, 347, rfl⟩
abbrev main_v141 : Ref sig .tc := ⟨.hbm, 348, rfl⟩
abbrev main_v142 : Ref sig .tc := ⟨.hbm, 349, rfl⟩
abbrev main_v143 : Ref sig .tc := ⟨.hbm, 350, rfl⟩
abbrev main_v144 : Ref sig .tc := ⟨.hbm, 351, rfl⟩
abbrev main_v145 : Ref sig .tc := ⟨.hbm, 352, rfl⟩
abbrev main_v146 : Ref sig .tc := ⟨.hbm, 353, rfl⟩
abbrev main_v147 : Ref sig .tc := ⟨.hbm, 354, rfl⟩
abbrev main_v148 : Ref sig .tc := ⟨.hbm, 355, rfl⟩
abbrev main_c_26 : Ref sig .tc := ⟨.hbm, 356, rfl⟩
abbrev main_v149 : Ref sig .tc := ⟨.hbm, 357, rfl⟩
abbrev main_v150 : Ref sig .tc := ⟨.hbm, 358, rfl⟩
abbrev main_c_27 : Ref sig .tc := ⟨.hbm, 359, rfl⟩
abbrev main_v151 : Ref sig .tc := ⟨.hbm, 360, rfl⟩
abbrev main_v152 : Ref sig .tc := ⟨.hbm, 361, rfl⟩
abbrev main_v153 : Ref sig .tc := ⟨.hbm, 362, rfl⟩
abbrev main_v154 : Ref sig .tc := ⟨.hbm, 363, rfl⟩
abbrev main_v155 : Ref sig .tc := ⟨.hbm, 364, rfl⟩
abbrev main_v156 : Ref sig .tc := ⟨.hbm, 365, rfl⟩
abbrev main_v157 : Ref sig .tc := ⟨.hbm, 366, rfl⟩
abbrev main_v158 : Ref sig .tc := ⟨.hbm, 367, rfl⟩
abbrev main_v159 : Ref sig .tc := ⟨.hbm, 368, rfl⟩
abbrev main_c_28 : Ref sig .tc := ⟨.hbm, 369, rfl⟩
abbrev main_v160 : Ref sig .tc := ⟨.hbm, 370, rfl⟩
abbrev main_v161 : Ref sig .tc := ⟨.hbm, 371, rfl⟩
abbrev main_c_29 : Ref sig .tc := ⟨.hbm, 372, rfl⟩
abbrev main_v162 : Ref sig .tc := ⟨.hbm, 373, rfl⟩
abbrev main_v163 : Ref sig .tc := ⟨.hbm, 374, rfl⟩
abbrev main_v164 : Ref sig .tc := ⟨.hbm, 375, rfl⟩
abbrev main_v165 : Ref sig .tc := ⟨.hbm, 376, rfl⟩
abbrev main_v166 : Ref sig .tc := ⟨.hbm, 377, rfl⟩
abbrev main_v167 : Ref sig .tc := ⟨.hbm, 378, rfl⟩
abbrev main_v168 : Ref sig .tc := ⟨.hbm, 379, rfl⟩
abbrev main_v169 : Ref sig .tc := ⟨.hbm, 380, rfl⟩
abbrev main_v170 : Ref sig .tc := ⟨.hbm, 381, rfl⟩
abbrev main_c_30 : Ref sig .tc := ⟨.hbm, 382, rfl⟩
abbrev main_v171 : Ref sig .tc := ⟨.hbm, 383, rfl⟩
abbrev main_v172 : Ref sig .tc := ⟨.hbm, 384, rfl⟩
abbrev main_c_31 : Ref sig .tc := ⟨.hbm, 385, rfl⟩
abbrev main_v173 : Ref sig .tc := ⟨.hbm, 386, rfl⟩
abbrev main_v174 : Ref sig .tc := ⟨.hbm, 387, rfl⟩
abbrev main_v175 : Ref sig .tc := ⟨.hbm, 388, rfl⟩
abbrev main_v176 : Ref sig .tc := ⟨.hbm, 389, rfl⟩
abbrev main_v177 : Ref sig .tc := ⟨.hbm, 390, rfl⟩
abbrev main_v178 : Ref sig .tc := ⟨.hbm, 391, rfl⟩
abbrev main_v179 : Ref sig .tc := ⟨.hbm, 392, rfl⟩
abbrev main_v180 : Ref sig .tc := ⟨.hbm, 393, rfl⟩
abbrev main_v181 : Ref sig .tc := ⟨.hbm, 394, rfl⟩
abbrev main_c_32 : Ref sig .tc := ⟨.hbm, 395, rfl⟩
abbrev main_v182 : Ref sig .tc := ⟨.hbm, 396, rfl⟩
abbrev main_v183 : Ref sig .tc := ⟨.hbm, 397, rfl⟩
abbrev main_c_33 : Ref sig .tc := ⟨.hbm, 398, rfl⟩
abbrev main_v184 : Ref sig .tc := ⟨.hbm, 399, rfl⟩
abbrev main_v185 : Ref sig .tc := ⟨.hbm, 400, rfl⟩
abbrev main_v186 : Ref sig .tc := ⟨.hbm, 401, rfl⟩
abbrev main_v187 : Ref sig .tc := ⟨.hbm, 402, rfl⟩
abbrev main_v188 : Ref sig .tc := ⟨.hbm, 403, rfl⟩
abbrev main_v189 : Ref sig .tc := ⟨.hbm, 404, rfl⟩
abbrev main_v190 : Ref sig .tc := ⟨.hbm, 405, rfl⟩
abbrev main_v191 : Ref sig .tc := ⟨.hbm, 406, rfl⟩
abbrev main_v192 : Ref sig .tc := ⟨.hbm, 407, rfl⟩
abbrev main_v193 : Ref sig .tc := ⟨.hbm, 408, rfl⟩
abbrev main_c_34 : Ref sig .tc := ⟨.hbm, 409, rfl⟩
abbrev main_v194 : Ref sig .tc := ⟨.hbm, 410, rfl⟩
abbrev main_v195 : Ref sig .tc := ⟨.hbm, 411, rfl⟩
abbrev main_c_35 : Ref sig .tc := ⟨.hbm, 412, rfl⟩
abbrev main_v196 : Ref sig .tc := ⟨.hbm, 413, rfl⟩
abbrev main_v197 : Ref sig .tc := ⟨.hbm, 414, rfl⟩
abbrev main_v198 : Ref sig .tc := ⟨.hbm, 415, rfl⟩
abbrev main_v199 : Ref sig .tc := ⟨.hbm, 416, rfl⟩
abbrev main_v200 : Ref sig .tc := ⟨.hbm, 417, rfl⟩
abbrev main_v201 : Ref sig .tc := ⟨.hbm, 418, rfl⟩
abbrev main_v202 : Ref sig .tc := ⟨.hbm, 419, rfl⟩
abbrev main_v203 : Ref sig .tc := ⟨.hbm, 420, rfl⟩
abbrev main_v204 : Ref sig .tc := ⟨.hbm, 421, rfl⟩
abbrev main_c_36 : Ref sig .tc := ⟨.hbm, 422, rfl⟩
abbrev main_v205 : Ref sig .tc := ⟨.hbm, 423, rfl⟩
abbrev main_v206 : Ref sig .tc := ⟨.hbm, 424, rfl⟩
abbrev main_c_37 : Ref sig .tc := ⟨.hbm, 425, rfl⟩
abbrev main_v207 : Ref sig .tc := ⟨.hbm, 426, rfl⟩
abbrev main_v208 : Ref sig .tc := ⟨.hbm, 427, rfl⟩
abbrev main_v209 : Ref sig .tc := ⟨.hbm, 428, rfl⟩
abbrev main_v210 : Ref sig .tc := ⟨.hbm, 429, rfl⟩
abbrev main_v211 : Ref sig .tc := ⟨.hbm, 430, rfl⟩
abbrev main_v212 : Ref sig .tc := ⟨.hbm, 431, rfl⟩
abbrev main_v213 : Ref sig .tc := ⟨.hbm, 432, rfl⟩
abbrev main_v214 : Ref sig .tc := ⟨.hbm, 433, rfl⟩
abbrev main_v215 : Ref sig .tc := ⟨.hbm, 434, rfl⟩
abbrev main_c_38 : Ref sig .tc := ⟨.hbm, 435, rfl⟩
abbrev main_v216 : Ref sig .tc := ⟨.hbm, 436, rfl⟩
abbrev main_v217 : Ref sig .tc := ⟨.hbm, 437, rfl⟩
abbrev main_c_39 : Ref sig .tc := ⟨.hbm, 438, rfl⟩
abbrev main_v218 : Ref sig .tc := ⟨.hbm, 439, rfl⟩
abbrev main_v219 : Ref sig .tc := ⟨.hbm, 440, rfl⟩
abbrev main_v220 : Ref sig .tc := ⟨.hbm, 441, rfl⟩
abbrev main_v221 : Ref sig .tc := ⟨.hbm, 442, rfl⟩
abbrev main_v222 : Ref sig .tc := ⟨.hbm, 443, rfl⟩
abbrev main_v223 : Ref sig .tc := ⟨.hbm, 444, rfl⟩
abbrev main_v224 : Ref sig .tc := ⟨.hbm, 445, rfl⟩
abbrev main_v225 : Ref sig .tc := ⟨.hbm, 446, rfl⟩
abbrev main_v226 : Ref sig .tc := ⟨.hbm, 447, rfl⟩
abbrev main_c_40 : Ref sig .tc := ⟨.hbm, 448, rfl⟩
abbrev main_v227 : Ref sig .tc := ⟨.hbm, 449, rfl⟩
abbrev main_v228 : Ref sig .tc := ⟨.hbm, 450, rfl⟩
abbrev main_c_41 : Ref sig .tc := ⟨.hbm, 451, rfl⟩
abbrev main_v229 : Ref sig .tc := ⟨.hbm, 452, rfl⟩
abbrev main_v230 : Ref sig .tc := ⟨.hbm, 453, rfl⟩
abbrev main_v231 : Ref sig .tc := ⟨.hbm, 454, rfl⟩
abbrev main_v232 : Ref sig .tc := ⟨.hbm, 455, rfl⟩
abbrev main_v233 : Ref sig .tc := ⟨.hbm, 456, rfl⟩
abbrev main_v234 : Ref sig .tc := ⟨.hbm, 457, rfl⟩
abbrev main_v235 : Ref sig .tc := ⟨.hbm, 458, rfl⟩
abbrev main_cst_42 : Ref sig .tc := ⟨.hbm, 459, rfl⟩
abbrev main_v236 : Ref sig .tc := ⟨.hbm, 460, rfl⟩
abbrev main_v237 : Ref sig .tc := ⟨.hbm, 461, rfl⟩
abbrev main_v238 : Ref sig .tc := ⟨.hbm, 462, rfl⟩
abbrev main_v239 : Ref sig .tc := ⟨.hbm, 463, rfl⟩
abbrev main_v240 : Ref sig .tc := ⟨.hbm, 464, rfl⟩
abbrev main_cst_43 : Ref sig .tc := ⟨.hbm, 465, rfl⟩
abbrev main_v241 : Ref sig .tc := ⟨.hbm, 466, rfl⟩
abbrev main_v242 : Ref sig .tc := ⟨.hbm, 467, rfl⟩
abbrev main_v243 : Ref sig .tc := ⟨.hbm, 468, rfl⟩
abbrev main_cst_44 : Ref sig .tc := ⟨.hbm, 469, rfl⟩
abbrev main_v244 : Ref sig .tc := ⟨.hbm, 470, rfl⟩
abbrev main_cst_45 : Ref sig .tc := ⟨.hbm, 471, rfl⟩
abbrev main_v245 : Ref sig .tc := ⟨.hbm, 472, rfl⟩
abbrev main_v246 : Ref sig .tc := ⟨.hbm, 473, rfl⟩
abbrev main_cst_46 : Ref sig .tc := ⟨.hbm, 474, rfl⟩
abbrev main_v247 : Ref sig .tc := ⟨.hbm, 475, rfl⟩
abbrev main_cst_47 : Ref sig .tc := ⟨.hbm, 476, rfl⟩
abbrev main_v248 : Ref sig .tc := ⟨.hbm, 477, rfl⟩

abbrev nD : Nat := 1
abbrev τ : Topo := Topo.v7x

variable {F : FTy → Type} [FloatOps F]
-- ==== MaximaBig.lean ====
abbrev S152x175x16384 : Shape := ⟨3, ![152, 175, 16384]⟩
abbrev S4x1x16384 : Shape := ⟨3, ![4, 1, 16384]⟩
abbrev S152x175x1 : Shape := ⟨3, ![152, 175, 1]⟩
abbrev S1x175x2048 : Shape := ⟨3, ![1, 175, 2048]⟩
abbrev S1x1x16384 : Shape := ⟨3, ![1, 1, 16384]⟩
abbrev S1x175x1 : Shape := ⟨3, ![1, 175, 1]⟩
abbrev S175x1 : Shape := ⟨2, ![175, 1]⟩
abbrev S1x1x2048 : Shape := ⟨3, ![1, 1, 2048]⟩
abbrev S1x2048 : Shape := ⟨2, ![1, 2048]⟩
abbrev S175x2048 : Shape := ⟨2, ![175, 2048]⟩
abbrev S175 : Shape := ⟨1, ![175]⟩

abbrev nBuf : Space → Nat
  | .hbm => 5
  | .vmem => 12
  | .smem => 0
  | _ => 0

abbrev bufTy : (tb : Table) → Fin (tcTables nBuf tb) → BufTy
  | .hbm, ⟨0, _⟩ => ⟨S152x175x16384, .i32⟩
  | .hbm, ⟨1, _⟩ => ⟨S4x1x16384, .i32⟩
  | .hbm, ⟨2, _⟩ => ⟨S4x1x16384, .i32⟩
  | .hbm, ⟨3, _⟩ => ⟨S152x175x1, .i32⟩
  | .hbm, ⟨4, _⟩ => ⟨S152x175x1, .i32⟩
  | .local _ .vmem, ⟨0, _⟩ => ⟨S1x175x2048, .i32⟩
  | .local _ .vmem, ⟨1, _⟩ => ⟨S1x175x2048, .i32⟩
  | .local _ .vmem, ⟨2, _⟩ => ⟨S1x1x16384, .i32⟩
  | .local _ .vmem, ⟨3, _⟩ => ⟨S1x1x16384, .i32⟩
  | .local _ .vmem, ⟨4, _⟩ => ⟨S1x1x16384, .i32⟩
  | .local _ .vmem, ⟨5, _⟩ => ⟨S1x1x16384, .i32⟩
  | .local _ .vmem, ⟨6, _⟩ => ⟨S1x175x1, .i32⟩
  | .local _ .vmem, ⟨7, _⟩ => ⟨S1x175x1, .i32⟩
  | .local _ .vmem, ⟨8, _⟩ => ⟨S1x175x1, .i32⟩
  | .local _ .vmem, ⟨9, _⟩ => ⟨S1x175x1, .i32⟩
  | .local _ .vmem, ⟨10, _⟩ => ⟨S175x1, .i32⟩
  | .local _ .vmem, ⟨11, _⟩ => ⟨S175x1, .i32⟩
  | _, _ => ⟨S152x175x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![152, 8], ![false, false]⟩

def k0_off1 (i : grid0.Coords) : Fin 3 → Nat :=
  let c0 : Index := 0#32
  let c0_9 : Index := 0#32
  let arg1 : BitVec 32 := BitVec.ofNat 32 (i 1).val
  let c2048_i32 : BitVec 32 := 2048#32
  let v0 : BitVec 32 := Scalar.muli arg1 c2048_i32
  let v28 : Index := Scalar.indexCast v0
  ![0, 0, v28.toNat]
def k0_cond3 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_24 : BitVec 32 := 0#32
  let v68 : BitVec 1 := Scalar.cmpi .ne v67 c0_i32_24
  v68

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x175x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x175x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x175x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MaximaBigRef.lean ====
abbrev S152x175x16384 : Shape := ⟨3, ![152, 175, 16384]⟩
abbrev S4x1x16384 : Shape := ⟨3, ![4, 1, 16384]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S152x175 : Shape := ⟨2, ![152, 175]⟩
abbrev S152x175x1 : Shape := ⟨3, ![152, 175, 1]⟩

abbrev nBuf : Space → Nat
  | .hbm => 43
  | .vmem => 0
  | .smem => 0
  | _ => 0

abbrev bufTy : (tb : Table) → Fin (tcTables nBuf tb) → BufTy
  | .hbm, ⟨0, _⟩ => ⟨S152x175x16384, .i32⟩
  | .hbm, ⟨1, _⟩ => ⟨S4x1x16384, .i32⟩
  | .hbm, ⟨2, _⟩ => ⟨S4x1x16384, .i32⟩
  | .hbm, ⟨3, _⟩ => ⟨S4x16384, .i32⟩
  | .hbm, ⟨4, _⟩ => ⟨S4x16384, .i32⟩
  | .hbm, ⟨5, _⟩ => ⟨S19, .i32⟩
  | .hbm, ⟨6, _⟩ => ⟨S1x4x16384, .i32⟩
  | .hbm, ⟨7, _⟩ => ⟨S19x1x1, .i32⟩
  | .hbm, ⟨8, _⟩ => ⟨S19x4x16384, .i32⟩
  | .hbm, ⟨9, _⟩ => ⟨S19x4x16384, .i32⟩
  | .hbm, ⟨10, _⟩ => ⟨S19x4x16384, .i1⟩
  | .hbm, ⟨11, _⟩ => ⟨S1x4x16384, .i32⟩
  | .hbm, ⟨12, _⟩ => ⟨S19x1x1, .i32⟩
  | .hbm, ⟨13, _⟩ => ⟨S19x4x16384, .i32⟩
  | .hbm, ⟨14, _⟩ => ⟨S19x4x16384, .i32⟩
  | .hbm, ⟨15, _⟩ => ⟨S19x4x16384, .i1⟩
  | .hbm, ⟨16, _⟩ => ⟨S19x4x16384, .i1⟩
  | .hbm, ⟨17, _⟩ => ⟨S19x4x16384, .i1⟩
  | .hbm, ⟨18, _⟩ => ⟨S19x4x16384, .i1⟩
  | .hbm, ⟨19, _⟩ => ⟨S19x4x16384, .i1⟩
  | .hbm, ⟨20, _⟩ => ⟨S19x4x16384, .i1⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x1x16384, .i1⟩
  | .hbm, ⟨25, _⟩ => ⟨S19x4x1x16384, .i1⟩
  | .hbm, ⟨26, _⟩ => ⟨S19x4x2x16384, .i1⟩
  | .hbm, ⟨27, _⟩ => ⟨S152x1x16384, .i1⟩
  | .hbm, ⟨28, _⟩ => ⟨S_, .i32⟩
  | .hbm, ⟨29, _⟩ => ⟨S152x175x16384, .i32⟩
  | .hbm, ⟨30, _⟩ => ⟨S152x175x16384, .i32⟩
  | .hbm, ⟨31, _⟩ => ⟨S152x175x16384, .i32⟩
  | .hbm, ⟨32, _⟩ => ⟨S_, .i32⟩
  | .hbm, ⟨33, _⟩ => ⟨S_, .i32⟩
  | .hbm, ⟨34, _⟩ => ⟨S152x175x16384, .i1⟩
  | .hbm, ⟨35, _⟩ => ⟨S152x175x16384, .i32⟩
  | .hbm, ⟨36, _⟩ => ⟨S152x175x16384, .i32⟩
  | .hbm, ⟨37, _⟩ => ⟨S_, .i32⟩
  | .hbm, ⟨38, _⟩ => ⟨S152x175, .i32⟩
  | .hbm, ⟨39, _⟩ => ⟨S152x175x1, .i32⟩
  | .hbm, ⟨40, _⟩ => ⟨S_, .i32⟩
  | .hbm, ⟨41, _⟩ => ⟨S152x175, .i32⟩
  | .hbm, ⟨42, _⟩ => ⟨S152x175x1, .i32⟩
  | _, _ => ⟨S152x175x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== MaximaSmall.lean ====
abbrev S152x75x16384 : Shape := ⟨3, ![152, 75, 16384]⟩
abbrev S4x1x16384 : Shape := ⟨3, ![4, 1, 16384]⟩
abbrev S152x75x1 : Shape := ⟨3, ![152, 75, 1]⟩
abbrev S1x75x2048 : Shape := ⟨3, ![1, 75, 2048]⟩
abbrev S1x1x16384 : Shape := ⟨3, ![1, 1, 16384]⟩
abbrev S1x75x1 : Shape := ⟨3, ![1, 75, 1]⟩
abbrev S75x1 : Shape := ⟨2, ![75, 1]⟩
abbrev S1x1x2048 : Shape := ⟨3, ![1, 1, 2048]⟩
abbrev S1x2048 : Shape := ⟨2, ![1, 2048]⟩
abbrev S75x2048 : Shape := ⟨2, ![75, 2048]⟩
abbrev S75 : Shape := ⟨1, ![75]⟩

abbrev nBuf : Space → Nat
  | .hbm => 5
  | .vmem => 12
  | .smem => 0
  | _ => 0

abbrev bufTy : (tb : Table) → Fin (tcTables nBuf tb) → BufTy
  | .hbm, ⟨0, _⟩ => ⟨S152x75x16384, .i32⟩
  | .hbm, ⟨1, _⟩ => ⟨S4x1x16384, .i32⟩
  | .hbm, ⟨2, _⟩ => ⟨S4x1x16384, .i32⟩
  | .hbm, ⟨3, _⟩ => ⟨S152x75x1, .i32⟩
  | .hbm, ⟨4, _⟩ => ⟨S152x75x1, .i32⟩
  | .local _ .vmem, ⟨0, _⟩ => ⟨S1x75x2048, .i32⟩
  | .local _ .vmem, ⟨1, _⟩ => ⟨S1x75x2048, .i32⟩
  | .local _ .vmem, ⟨2, _⟩ => ⟨S1x1x16384, .i32⟩
  | .local _ .vmem, ⟨3, _⟩ => ⟨S1x1x16384, .i32⟩
  | .local _ .vmem, ⟨4, _⟩ => ⟨S1x1x16384, .i32⟩
  | .local _ .vmem, ⟨5, _⟩ => ⟨S1x1x16384, .i32⟩
  | .local _ .vmem, ⟨6, _⟩ => ⟨S1x75x1, .i32⟩
  | .local _ .vmem, ⟨7, _⟩ => ⟨S1x75x1, .i32⟩
  | .local _ .vmem, ⟨8, _⟩ => ⟨S1x75x1, .i32⟩
  | .local _ .vmem, ⟨9, _⟩ => ⟨S1x75x1, .i32⟩
  | .local _ .vmem, ⟨10, _⟩ => ⟨S75x1, .i32⟩
  | .local _ .vmem, ⟨11, _⟩ => ⟨S75x1, .i32⟩
  | _, _ => ⟨S152x75x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![152, 8], ![false, false]⟩

def k0_off1 (i : grid0.Coords) : Fin 3 → Nat :=
  let c0 : Index := 0#32
  let c0_9 : Index := 0#32
  let arg1 : BitVec 32 := BitVec.ofNat 32 (i 1).val
  let c2048_i32 : BitVec 32 := 2048#32
  let v0 : BitVec 32 := Scalar.muli arg1 c2048_i32
  let v28 : Index := Scalar.indexCast v0
  ![0, 0, v28.toNat]
def k0_cond3 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_24 : BitVec 32 := 0#32
  let v68 : BitVec 1 := Scalar.cmpi .ne v67 c0_i32_24
  v68

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x75x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x75x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x75x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MaximaSmallRef.lean ====
abbrev S152x75x16384 : Shape := ⟨3, ![152, 75, 16384]⟩
abbrev S4x1x16384 : Shape := ⟨3, ![4, 1, 16384]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S152x75 : Shape := ⟨2, ![152, 75]⟩
abbrev S152x75x1 : Shape := ⟨3, ![152, 75, 1]⟩

abbrev nBuf : Space → Nat
  | .hbm => 43
  | .vmem => 0
  | .smem => 0
  | _ => 0

abbrev bufTy : (tb : Table) → Fin (tcTables nBuf tb) → BufTy
  | .hbm, ⟨0, _⟩ => ⟨S152x75x16384, .i32⟩
  | .hbm, ⟨1, _⟩ => ⟨S4x1x16384, .i32⟩
  | .hbm, ⟨2, _⟩ => ⟨S4x1x16384, .i32⟩
  | .hbm, ⟨3, _⟩ => ⟨S4x16384, .i32⟩
  | .hbm, ⟨4, _⟩ => ⟨S4x16384, .i32⟩
  | .hbm, ⟨5, _⟩ => ⟨S19, .i32⟩
  | .hbm, ⟨6, _⟩ => ⟨S1x4x16384, .i32⟩
  | .hbm, ⟨7, _⟩ => ⟨S19x1x1, .i32⟩
  | .hbm, ⟨8, _⟩ => ⟨S19x4x16384, .i32⟩
  | .hbm, ⟨9, _⟩ => ⟨S19x4x16384, .i32⟩
  | .hbm, ⟨10, _⟩ => ⟨S19x4x16384, .i1⟩
  | .hbm, ⟨11, _⟩ => ⟨S1x4x16384, .i32⟩
  | .hbm, ⟨12, _⟩ => ⟨S19x1x1, .i32⟩
  | .hbm, ⟨13, _⟩ => ⟨S19x4x16384, .i32⟩
  | .hbm, ⟨14, _⟩ => ⟨S19x4x16384, .i32⟩
  | .hbm, ⟨15, _⟩ => ⟨S19x4x16384, .i1⟩
  | .hbm, ⟨16, _⟩ => ⟨S19x4x16384, .i1⟩
  | .hbm, ⟨17, _⟩ => ⟨S19x4x16384, .i1⟩
  | .hbm, ⟨18, _⟩ => ⟨S19x4x16384, .i1⟩
  | .hbm, ⟨19, _⟩ => ⟨S19x4x16384, .i1⟩
  | .hbm, ⟨20, _⟩ => ⟨S19x4x16384, .i1⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x1x16384, .i1⟩
  | .hbm, ⟨25, _⟩ => ⟨S19x4x1x16384, .i1⟩
  | .hbm, ⟨26, _⟩ => ⟨S19x4x2x16384, .i1⟩
  | .hbm, ⟨27, _⟩ => ⟨S152x1x16384, .i1⟩
  | .hbm, ⟨28, _⟩ => ⟨S_, .i32⟩
  | .hbm, ⟨29, _⟩ => ⟨S152x75x16384, .i32⟩
  | .hbm, ⟨30, _⟩ => ⟨S152x75x16384, .i32⟩
  | .hbm, ⟨31, _⟩ => ⟨S152x75x16384, .i32⟩
  | .hbm, ⟨32, _⟩ => ⟨S_, .i32⟩
  | .hbm, ⟨33, _⟩ => ⟨S_, .i32⟩
  | .hbm, ⟨34, _⟩ => ⟨S152x75x16384, .i1⟩
  | .hbm, ⟨35, _⟩ => ⟨S152x75x16384, .i32⟩
  | .hbm, ⟨36, _⟩ => ⟨S152x75x16384, .i32⟩
  | .hbm, ⟨37, _⟩ => ⟨S_, .i32⟩
  | .hbm, ⟨38, _⟩ => ⟨S152x75, .i32⟩
  | .hbm, ⟨39, _⟩ => ⟨S152x75x1, .i32⟩
  | .hbm, ⟨40, _⟩ => ⟨S_, .i32⟩
  | .hbm, ⟨41, _⟩ => ⟨S152x75, .i32⟩
  | .hbm, ⟨42, _⟩ => ⟨S152x75x1, .i32⟩
  | _, _ => ⟨S152x75x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== SelectBig.lean ====
abbrev S152x175x16384 : Shape := ⟨3, ![152, 175, 16384]⟩
abbrev S4x1x16384 : Shape := ⟨3, ![4, 1, 16384]⟩
abbrev S152x175x1 : Shape := ⟨3, ![152, 175, 1]⟩
abbrev S1x175x2048 : Shape := ⟨3, ![1, 175, 2048]⟩
abbrev S1x1x16384 : Shape := ⟨3, ![1, 1, 16384]⟩
abbrev S1x175x1 : Shape := ⟨3, ![1, 175, 1]⟩
abbrev S175x1 : Shape := ⟨2, ![175, 1]⟩
abbrev S1x1x2048 : Shape := ⟨3, ![1, 1, 2048]⟩
abbrev S1x2048 : Shape := ⟨2, ![1, 2048]⟩
abbrev S175x2048 : Shape := ⟨2, ![175, 2048]⟩
abbrev S175 : Shape := ⟨1, ![175]⟩

abbrev nBuf : Space → Nat
  | .hbm => 9
  | .vmem => 22
  | .smem => 0
  | _ => 0

abbrev bufTy : (tb : Table) → Fin (tcTables nBuf tb) → BufTy
  | .hbm, ⟨0, _⟩ => ⟨S152x175x16384, .i32⟩
  | .hbm, ⟨1, _⟩ => ⟨S4x1x16384, .i32⟩
  | .hbm, ⟨2, _⟩ => ⟨S4x1x16384, .i32⟩
  | .hbm, ⟨3, _⟩ => ⟨S152x175x1, .i32⟩
  | .hbm, ⟨4, _⟩ => ⟨S152x175x1, .i32⟩
  | .hbm, ⟨5, _⟩ => ⟨S152x175x1, .i32⟩
  | .hbm, ⟨6, _⟩ => ⟨S152x175x1, .i32⟩
  | .hbm, ⟨7, _⟩ => ⟨S152x175x1, .i32⟩
  | .hbm, ⟨8, _⟩ => ⟨S152x175x1, .i32⟩
  | .local _ .vmem, ⟨0, _⟩ => ⟨S1x175x2048, .i32⟩
  | .local _ .vmem, ⟨1, _⟩ => ⟨S1x175x2048, .i32⟩
  | .local _ .vmem, ⟨2, _⟩ => ⟨S1x1x16384, .i32⟩
  | .local _ .vmem, ⟨3, _⟩ => ⟨S1x1x16384, .i32⟩
  | .local _ .vmem, ⟨4, _⟩ => ⟨S1x1x16384, .i32⟩
  | .local _ .vmem, ⟨5, _⟩ => ⟨S1x1x16384, .i32⟩
  | .local _ .vmem, ⟨6, _⟩ => ⟨S1x175x1, .i32⟩
  | .local _ .vmem, ⟨7, _⟩ => ⟨S1x175x1, .i32⟩
  | .local _ .vmem, ⟨8, _⟩ => ⟨S1x175x1, .i32⟩
  | .local _ .vmem, ⟨9, _⟩ => ⟨S1x175x1, .i32⟩
  | .local _ .vmem, ⟨10, _⟩ => ⟨S1x175x1, .i32⟩
  | .local _ .vmem, ⟨11, _⟩ => ⟨S1x175x1, .i32⟩
  | .local _ .vmem, ⟨12, _⟩ => ⟨S1x175x1, .i32⟩
  | .local _ .vmem, ⟨13, _⟩ => ⟨S1x175x1, .i32⟩
  | .local _ .vmem, ⟨14, _⟩ => ⟨S1x175x1, .i32⟩
  | .local _ .vmem, ⟨15, _⟩ => ⟨S1x175x1, .i32⟩
  | .local _ .vmem, ⟨16, _⟩ => ⟨S1x175x1, .i32⟩
  | .local _ .vmem, ⟨17, _⟩ => ⟨S1x175x1, .i32⟩
  | .local _ .vmem, ⟨18, _⟩ => ⟨S175x1, .i32⟩
  | .local _ .vmem, ⟨19, _⟩ => ⟨S175x1, .i32⟩
  | .local _ .vmem, ⟨20, _⟩ => ⟨S175x1, .i32⟩
  | .local _ .vmem, ⟨21, _⟩ => ⟨S175x1, .i32⟩
  | _, _ => ⟨S152x175x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![152, 8], ![false, false]⟩

def k0_off1 (i : grid0.Coords) : Fin 3 → Nat :=
  let c0 : Index := 0#32
  let c0_9 : Index := 0#32
  let arg1 : BitVec 32 := BitVec.ofNat 32 (i 1).val
  let c2048_i32 : BitVec 32 := 2048#32
  let v0 : BitVec 32 := Scalar.muli arg1 c2048_i32
  let v28 : Index := Scalar.indexCast v0
  ![0, 0, v28.toNat]
def k0_cond3 (i : grid0.Coords) : BitVec 1 :=
  let arg1 : BitVec 32 := BitVec.ofNat 32 (i 1).val
  let c7_i32 : BitVec 32 := 7#32
  let v95 : BitVec 1 := Scalar.cmpi .eq arg1 c7_i32
  let v96 : BitVec 32 := Scalar.extui v95
  let c0_i32_36 : BitVec 32 := 0#32
  let v97 : BitVec 1 := Scalar.cmpi .ne v96 c0_i32_36
  v97

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x175x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x175x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x175x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x175x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x175x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x175x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x175x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SelectBigRef.lean ====
abbrev S152x175x16384 : Shape := ⟨3, ![152, 175, 16384]⟩
abbrev S4x1x16384 : Shape := ⟨3, ![4, 1, 16384]⟩
abbrev S152x175x1 : Shape := ⟨3, ![152, 175, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S16384 : Shape := ⟨1, ![16384]⟩

abbrev nBuf : Space → Nat
  | .hbm => 54
  | .vmem => 0
  | .smem => 0
  | _ => 0

abbrev bufTy : (tb : Table) → Fin (tcTables nBuf tb) → BufTy
  | .hbm, ⟨0, _⟩ => ⟨S152x175x16384, .i32⟩
  | .hbm, ⟨1, _⟩ => ⟨S4x1x16384, .i32⟩
  | .hbm, ⟨2, _⟩ => ⟨S4x1x16384, .i32⟩
  | .hbm, ⟨3, _⟩ => ⟨S152x175x1, .i32⟩
  | .hbm, ⟨4, _⟩ => ⟨S152x175x1, .i32⟩
  | .hbm, ⟨5, _⟩ => ⟨S4x16384, .i32⟩
  | .hbm, ⟨6, _⟩ => ⟨S4x16384, .i32⟩
  | .hbm, ⟨7, _⟩ => ⟨S19, .i32⟩
  | .hbm, ⟨8, _⟩ => ⟨S1x4x16384, .i32⟩
  | .hbm, ⟨9, _⟩ => ⟨S19x1x1, .i32⟩
  | .hbm, ⟨10, _⟩ => ⟨S19x4x16384, .i32⟩
  | .hbm, ⟨11, _⟩ => ⟨S19x4x16384, .i32⟩
  | .hbm, ⟨12, _⟩ => ⟨S19x4x16384, .i1⟩
  | .hbm, ⟨13, _⟩ => ⟨S1x4x16384, .i32⟩
  | .hbm, ⟨14, _⟩ => ⟨S19x1x1, .i32⟩
  | .hbm, ⟨15, _⟩ => ⟨S19x4x16384, .i32⟩
  | .hbm, ⟨16, _⟩ => ⟨S19x4x16384, .i32⟩
  | .hbm, ⟨17, _⟩ => ⟨S19x4x16384, .i1⟩
  | .hbm, ⟨18, _⟩ => ⟨S19x4x16384, .i1⟩
  | .hbm, ⟨19, _⟩ => ⟨S19x4x16384, .i1⟩
  | .hbm, ⟨20, _⟩ => ⟨S19x4x16384, .i1⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x16384, .i1⟩
  | .hbm, ⟨25, _⟩ => ⟨S19x4x16384, .i1⟩
  | .hbm, ⟨26, _⟩ => ⟨S19x4x1x16384, .i1⟩
  | .hbm, ⟨27, _⟩ => ⟨S19x4x1x16384, .i1⟩
  | .hbm, ⟨28, _⟩ => ⟨S19x4x2x16384, .i1⟩
  | .hbm, ⟨29, _⟩ => ⟨S152x1x16384, .i1⟩
  | .hbm, ⟨30, _⟩ => ⟨S_, .i32⟩
  | .hbm, ⟨31, _⟩ => ⟨S152x175x16384, .i32⟩
  | .hbm, ⟨32, _⟩ => ⟨S152x175x16384, .i32⟩
  | .hbm, ⟨33, _⟩ => ⟨S152x175x16384, .i32⟩
  | .hbm, ⟨34, _⟩ => ⟨S_, .i32⟩
  | .hbm, ⟨35, _⟩ => ⟨S152x175x1, .i32⟩
  | .hbm, ⟨36, _⟩ => ⟨S152x175x1, .i1⟩
  | .hbm, ⟨37, _⟩ => ⟨S152x175x16384, .i1⟩
  | .hbm, ⟨38, _⟩ => ⟨S152x175x16384, .i1⟩
  | .hbm, ⟨39, _⟩ => ⟨S152x175x16384, .i1⟩
  | .hbm, ⟨40, _⟩ => ⟨S152x175x16384, .i32⟩
  | .hbm, ⟨41, _⟩ => ⟨S152x175x16384, .i1⟩
  | .hbm, ⟨42, _⟩ => ⟨S152x175x16384, .i1⟩
  | .hbm, ⟨43, _⟩ => ⟨S16384, .i32⟩
  | .hbm, ⟨44, _⟩ => ⟨S_, .i32⟩
  | .hbm, ⟨45, _⟩ => ⟨S_, .i32⟩
  | .hbm, ⟨46, _⟩ => ⟨S152x175x16384, .i32⟩
  | .hbm, ⟨47, _⟩ => ⟨S152x175x16384, .i32⟩
  | .hbm, ⟨48, _⟩ => ⟨S152x175x16384, .i32⟩
  | .hbm, ⟨49, _⟩ => ⟨S152x175x16384, .i32⟩
  | .hbm, ⟨50, _⟩ => ⟨S152x175x1, .i32⟩
  | .hbm, ⟨51, _⟩ => ⟨S152x175x1, .i32⟩
  | .hbm, ⟨52, _⟩ => ⟨S152x175x1, .i32⟩
  | .hbm, ⟨53, _⟩ => ⟨S152x175x1, .i32⟩
  | _, _ => ⟨S152x175x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== SelectSmall.lean ====
abbrev S152x75x16384 : Shape := ⟨3, ![152, 75, 16384]⟩
abbrev S4x1x16384 : Shape := ⟨3, ![4, 1, 16384]⟩
abbrev S152x75x1 : Shape := ⟨3, ![152, 75, 1]⟩
abbrev S1x75x2048 : Shape := ⟨3, ![1, 75, 2048]⟩
abbrev S1x1x16384 : Shape := ⟨3, ![1, 1, 16384]⟩
abbrev S1x75x1 : Shape := ⟨3, ![1, 75, 1]⟩
abbrev S75x1 : Shape := ⟨2, ![75, 1]⟩
abbrev S1x1x2048 : Shape := ⟨3, ![1, 1, 2048]⟩
abbrev S1x2048 : Shape := ⟨2, ![1, 2048]⟩
abbrev S75x2048 : Shape := ⟨2, ![75, 2048]⟩
abbrev S75 : Shape := ⟨1, ![75]⟩

abbrev nBuf : Space → Nat
  | .hbm => 9
  | .vmem => 22
  | .smem => 0
  | _ => 0

abbrev bufTy : (tb : Table) → Fin (tcTables nBuf tb) → BufTy
  | .hbm, ⟨0, _⟩ => ⟨S152x75x16384, .i32⟩
  | .hbm, ⟨1, _⟩ => ⟨S4x1x16384, .i32⟩
  | .hbm, ⟨2, _⟩ => ⟨S4x1x16384, .i32⟩
  | .hbm, ⟨3, _⟩ => ⟨S152x75x1, .i32⟩
  | .hbm, ⟨4, _⟩ => ⟨S152x75x1, .i32⟩
  | .hbm, ⟨5, _⟩ => ⟨S152x75x1, .i32⟩
  | .hbm, ⟨6, _⟩ => ⟨S152x75x1, .i32⟩
  | .hbm, ⟨7, _⟩ => ⟨S152x75x1, .i32⟩
  | .hbm, ⟨8, _⟩ => ⟨S152x75x1, .i32⟩
  | .local _ .vmem, ⟨0, _⟩ => ⟨S1x75x2048, .i32⟩
  | .local _ .vmem, ⟨1, _⟩ => ⟨S1x75x2048, .i32⟩
  | .local _ .vmem, ⟨2, _⟩ => ⟨S1x1x16384, .i32⟩
  | .local _ .vmem, ⟨3, _⟩ => ⟨S1x1x16384, .i32⟩
  | .local _ .vmem, ⟨4, _⟩ => ⟨S1x1x16384, .i32⟩
  | .local _ .vmem, ⟨5, _⟩ => ⟨S1x1x16384, .i32⟩
  | .local _ .vmem, ⟨6, _⟩ => ⟨S1x75x1, .i32⟩
  | .local _ .vmem, ⟨7, _⟩ => ⟨S1x75x1, .i32⟩
  | .local _ .vmem, ⟨8, _⟩ => ⟨S1x75x1, .i32⟩
  | .local _ .vmem, ⟨9, _⟩ => ⟨S1x75x1, .i32⟩
  | .local _ .vmem, ⟨10, _⟩ => ⟨S1x75x1, .i32⟩
  | .local _ .vmem, ⟨11, _⟩ => ⟨S1x75x1, .i32⟩
  | .local _ .vmem, ⟨12, _⟩ => ⟨S1x75x1, .i32⟩
  | .local _ .vmem, ⟨13, _⟩ => ⟨S1x75x1, .i32⟩
  | .local _ .vmem, ⟨14, _⟩ => ⟨S1x75x1, .i32⟩
  | .local _ .vmem, ⟨15, _⟩ => ⟨S1x75x1, .i32⟩
  | .local _ .vmem, ⟨16, _⟩ => ⟨S1x75x1, .i32⟩
  | .local _ .vmem, ⟨17, _⟩ => ⟨S1x75x1, .i32⟩
  | .local _ .vmem, ⟨18, _⟩ => ⟨S75x1, .i32⟩
  | .local _ .vmem, ⟨19, _⟩ => ⟨S75x1, .i32⟩
  | .local _ .vmem, ⟨20, _⟩ => ⟨S75x1, .i32⟩
  | .local _ .vmem, ⟨21, _⟩ => ⟨S75x1, .i32⟩
  | _, _ => ⟨S152x75x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![152, 8], ![false, false]⟩

def k0_off1 (i : grid0.Coords) : Fin 3 → Nat :=
  let c0 : Index := 0#32
  let c0_9 : Index := 0#32
  let arg1 : BitVec 32 := BitVec.ofNat 32 (i 1).val
  let c2048_i32 : BitVec 32 := 2048#32
  let v0 : BitVec 32 := Scalar.muli arg1 c2048_i32
  let v28 : Index := Scalar.indexCast v0
  ![0, 0, v28.toNat]
def k0_cond3 (i : grid0.Coords) : BitVec 1 :=
  let arg1 : BitVec 32 := BitVec.ofNat 32 (i 1).val
  let c7_i32 : BitVec 32 := 7#32
  let v95 : BitVec 1 := Scalar.cmpi .eq arg1 c7_i32
  let v96 : BitVec 32 := Scalar.extui v95
  let c0_i32_36 : BitVec 32 := 0#32
  let v97 : BitVec 1 := Scalar.cmpi .ne v96 c0_i32_36
  v97

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let v17 : BitVec 1 := Scalar.cmpi .eq c4_i32 c0_i32_4
  let c1_i32_5 : BitVec 32 := 1#32
  let v18 : BitVec 32 := Scalar.select v17 c1_i32_5 c4_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v26.toNat, c0_i32_9.toNat, c0_i32_10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x75x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x75x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x75x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x75x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x75x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x75x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x75x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SelectSmallRef.lean ====
abbrev S152x75x16384 : Shape := ⟨3, ![152, 75, 16384]⟩
abbrev S4x1x16384 : Shape := ⟨3, ![4, 1, 16384]⟩
abbrev S152x75x1 : Shape := ⟨3, ![152, 75, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S16384 : Shape := ⟨1, ![16384]⟩

abbrev nBuf : Space → Nat
  | .hbm => 54
  | .vmem => 0
  | .smem => 0
  | _ => 0

abbrev bufTy : (tb : Table) → Fin (tcTables nBuf tb) → BufTy
  | .hbm, ⟨0, _⟩ => ⟨S152x75x16384, .i32⟩
  | .hbm, ⟨1, _⟩ => ⟨S4x1x16384, .i32⟩
  | .hbm, ⟨2, _⟩ => ⟨S4x1x16384, .i32⟩
  | .hbm, ⟨3, _⟩ => ⟨S152x75x1, .i32⟩
  | .hbm, ⟨4, _⟩ => ⟨S152x75x1, .i32⟩
  | .hbm, ⟨5, _⟩ => ⟨S4x16384, .i32⟩
  | .hbm, ⟨6, _⟩ => ⟨S4x16384, .i32⟩
  | .hbm, ⟨7, _⟩ => ⟨S19, .i32⟩
  | .hbm, ⟨8, _⟩ => ⟨S1x4x16384, .i32⟩
  | .hbm, ⟨9, _⟩ => ⟨S19x1x1, .i32⟩
  | .hbm, ⟨10, _⟩ => ⟨S19x4x16384, .i32⟩
  | .hbm, ⟨11, _⟩ => ⟨S19x4x16384, .i32⟩
  | .hbm, ⟨12, _⟩ => ⟨S19x4x16384, .i1⟩
  | .hbm, ⟨13, _⟩ => ⟨S1x4x16384, .i32⟩
  | .hbm, ⟨14, _⟩ => ⟨S19x1x1, .i32⟩
  | .hbm, ⟨15, _⟩ => ⟨S19x4x16384, .i32⟩
  | .hbm, ⟨16, _⟩ => ⟨S19x4x16384, .i32⟩
  | .hbm, ⟨17, _⟩ => ⟨S19x4x16384, .i1⟩
  | .hbm, ⟨18, _⟩ => ⟨S19x4x16384, .i1⟩
  | .hbm, ⟨19, _⟩ => ⟨S19x4x16384, .i1⟩
  | .hbm, ⟨20, _⟩ => ⟨S19x4x16384, .i1⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x16384, .i1⟩
  | .hbm, ⟨25, _⟩ => ⟨S19x4x16384, .i1⟩
  | .hbm, ⟨26, _⟩ => ⟨S19x4x1x16384, .i1⟩
  | .hbm, ⟨27, _⟩ => ⟨S19x4x1x16384, .i1⟩
  | .hbm, ⟨28, _⟩ => ⟨S19x4x2x16384, .i1⟩
  | .hbm, ⟨29, _⟩ => ⟨S152x1x16384, .i1⟩
  | .hbm, ⟨30, _⟩ => ⟨S_, .i32⟩
  | .hbm, ⟨31, _⟩ => ⟨S152x75x16384, .i32⟩
  | .hbm, ⟨32, _⟩ => ⟨S152x75x16384, .i32⟩
  | .hbm, ⟨33, _⟩ => ⟨S152x75x16384, .i32⟩
  | .hbm, ⟨34, _⟩ => ⟨S_, .i32⟩
  | .hbm, ⟨35, _⟩ => ⟨S152x75x1, .i32⟩
  | .hbm, ⟨36, _⟩ => ⟨S152x75x1, .i1⟩
  | .hbm, ⟨37, _⟩ => ⟨S152x75x16384, .i1⟩
  | .hbm, ⟨38, _⟩ => ⟨S152x75x16384, .i1⟩
  | .hbm, ⟨39, _⟩ => ⟨S152x75x16384, .i1⟩
  | .hbm, ⟨40, _⟩ => ⟨S152x75x16384, .i32⟩
  | .hbm, ⟨41, _⟩ => ⟨S152x75x16384, .i1⟩
  | .hbm, ⟨42, _⟩ => ⟨S152x75x16384, .i1⟩
  | .hbm, ⟨43, _⟩ => ⟨S16384, .i32⟩
  | .hbm, ⟨44, _⟩ => ⟨S_, .i32⟩
  | .hbm, ⟨45, _⟩ => ⟨S_, .i32⟩
  | .hbm, ⟨46, _⟩ => ⟨S152x75x16384, .i32⟩
  | .hbm, ⟨47, _⟩ => ⟨S152x75x16384, .i32⟩
  | .hbm, ⟨48, _⟩ => ⟨S152x75x16384, .i32⟩
  | .hbm, ⟨49, _⟩ => ⟨S152x75x16384, .i32⟩
  | .hbm, ⟨50, _⟩ => ⟨S152x75x1, .i32⟩
  | .hbm, ⟨51, _⟩ => ⟨S152x75x1, .i32⟩
  | .hbm, ⟨52, _⟩ => ⟨S152x75x1, .i32⟩
  | .hbm, ⟨53, _⟩ => ⟨S152x75x1, .i32⟩
  | _, _ => ⟨S152x75x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== ChooseSmallIdeal.lean ====
abbrev S152x75x16384 : Shape := ⟨3, ![152, 75, 16384]⟩
abbrev S4x1x16384 : Shape := ⟨3, ![4, 1, 16384]⟩
abbrev S152x75x1 : Shape := ⟨3, ![152, 75, 1]⟩
abbrev S_ : Shape := ⟨0, ![]⟩
abbrev S152x75x1x1 : Shape := ⟨4, ![152, 75, 1, 1]⟩
abbrev S1 : Shape := ⟨1, ![1]⟩
abbrev S1x1x1x1 : Shape := ⟨4, ![1, 1, 1, 1]⟩

abbrev nBuf : Space → Nat
  | .hbm => 283
  | .vmem => 0
  | .smem => 0
  | _ => 0

abbrev hbmTy0_0 (i : Nat) : BufTy := match i % 128 with
  | 0 => ⟨S152x75x16384, .i32⟩
  | 1 => ⟨S4x1x16384, .i32⟩
  | 2 => ⟨S4x1x16384, .i32⟩
  | 3 => ⟨S152x75x1, .i32⟩
  | 4 => ⟨S152x75x1, .i32⟩
  | 5 => ⟨S152x75x1, .i32⟩
  | 6 => ⟨S152x75x1, .i32⟩
  | 7 => ⟨S152x75x1, .i32⟩
  | 8 => ⟨S152x75x1, .i32⟩
  | 9 => ⟨S_, .i32⟩
  | 10 => ⟨S152x75x1, .i32⟩
  | 11 => ⟨S152x75x1, .i1⟩
  | 12 => ⟨S152x75x1, .i32⟩
  | 13 => ⟨S152x75x1, .i32⟩
  | 14 => ⟨S_, .i32⟩
  | 15 => ⟨S152x75x1, .i32⟩
  | 16 => ⟨S152x75x1, .i1⟩
  | 17 => ⟨S_, .i32⟩
  | 18 => ⟨S152x75x1, .i32⟩
  | 19 => ⟨S152x75x1, .i32⟩
  | 20 => ⟨S152x75x1, .i32⟩
  | 21 => ⟨S152x75x1x1, .i32⟩
  | 22 => ⟨S1, .i32⟩
  | 23 => ⟨S_, .i32⟩
  | 24 => ⟨S152x75x1x1, .i32⟩
  | 25 => ⟨S152x75x1x1, .i1⟩
  | 26 => ⟨S1x1x1x1, .i32⟩
  | 27 => ⟨S152x75x1x1, .i32⟩
  | 28 => ⟨S152x75x1x1, .i1⟩
  | 29 => ⟨S152x75x1x1, .i1⟩
  | 30 => ⟨S_, .i1⟩
  | 31 => ⟨S152x75x1, .i1⟩
  | 32 => ⟨S152x75x1, .i32⟩
  | 33 => ⟨S_, .i32⟩
  | 34 => ⟨S152x75x1, .i32⟩
  | 35 => ⟨S152x75x1, .i32⟩
  | 36 => ⟨S_, .i32⟩
  | 37 => ⟨S152x75x1, .i32⟩
  | 38 => ⟨S152x75x1, .i32⟩
  | 39 => ⟨S152x75x1, .i32⟩
  | 40 => ⟨S152x75x1, .f32⟩
  | 41 => ⟨S_, .f32⟩
  | 42 => ⟨S152x75x1, .f32⟩
  | 43 => ⟨S152x75x1, .f32⟩
  | 44 => ⟨S_, .f32⟩
  | 45 => ⟨S152x75x1, .f32⟩
  | 46 => ⟨S152x75x1, .f32⟩
  | 47 => ⟨S_, .f32⟩
  | 48 => ⟨S152x75x1, .f32⟩
  | 49 => ⟨S152x75x1, .f32⟩
  | 50 => ⟨S152x75x1, .f32⟩
  | 51 => ⟨S152x75x1, .f32⟩
  | 52 => ⟨S152x75x1, .f32⟩
  | 53 => ⟨S152x75x1, .f32⟩
  | 54 => ⟨S_, .f32⟩
  | 55 => ⟨S152x75x1, .f32⟩
  | 56 => ⟨S152x75x1, .f32⟩
  | 57 => ⟨S152x75x1, .f32⟩
  | 58 => ⟨S152x75x1, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S152x75x1, .i32⟩
  | 66 => ⟨S152x75x1, .i32⟩
  | 67 => ⟨S_, .i32⟩
  | 68 => ⟨S152x75x1, .i32⟩
  | 69 => ⟨S152x75x1, .i1⟩
  | 70 => ⟨S_, .i32⟩
  | 71 => ⟨S152x75x1, .i32⟩
  | 72 => ⟨S152x75x1, .i1⟩
  | 73 => ⟨S_, .i32⟩
  | 74 => ⟨S_, .i1⟩
  | 75 => ⟨S152x75x1, .i1⟩
  | 76 => ⟨S152x75x1, .i1⟩
  | 77 => ⟨S152x75x1, .i1⟩
  | 78 => ⟨S152x75x1, .i32⟩
  | 79 => ⟨S152x75x1, .i32⟩
  | 80 => ⟨S152x75x1, .i32⟩
  | 81 => ⟨S152x75x1, .i32⟩
  | 82 => ⟨S_, .i32⟩
  | 83 => ⟨S152x75x1, .i32⟩
  | 84 => ⟨S152x75x1, .i1⟩
  | 85 => ⟨S_, .i32⟩
  | 86 => ⟨S152x75x1, .i32⟩
  | 87 => ⟨S152x75x1, .i32⟩
  | 88 => ⟨S152x75x1, .i32⟩
  | 89 => ⟨S152x75x1x1, .i32⟩
  | 90 => ⟨S1, .i32⟩
  | 91 => ⟨S_, .i32⟩
  | 92 => ⟨S152x75x1x1, .i32⟩
  | 93 => ⟨S152x75x1x1, .i1⟩
  | 94 => ⟨S1x1x1x1, .i32⟩
  | 95 => ⟨S152x75x1x1, .i32⟩
  | 96 => ⟨S152x75x1x1, .i1⟩
  | 97 => ⟨S152x75x1x1, .i1⟩
  | 98 => ⟨S_, .i1⟩
  | 99 => ⟨S152x75x1, .i1⟩
  | 100 => ⟨S152x75x1, .i32⟩
  | 101 => ⟨S_, .i32⟩
  | 102 => ⟨S152x75x1, .i32⟩
  | 103 => ⟨S152x75x1, .i32⟩
  | 104 => ⟨S_, .i32⟩
  | 105 => ⟨S152x75x1, .i32⟩
  | 106 => ⟨S152x75x1, .i32⟩
  | 107 => ⟨S152x75x1, .i32⟩
  | 108 => ⟨S152x75x1, .f32⟩
  | 109 => ⟨S_, .f32⟩
  | 110 => ⟨S152x75x1, .f32⟩
  | 111 => ⟨S152x75x1, .f32⟩
  | 112 => ⟨S_, .f32⟩
  | 113 => ⟨S152x75x1, .f32⟩
  | 114 => ⟨S152x75x1, .f32⟩
  | 115 => ⟨S_, .f32⟩
  | 116 => ⟨S152x75x1, .f32⟩
  | 117 => ⟨S152x75x1, .f32⟩
  | 118 => ⟨S152x75x1, .f32⟩
  | 119 => ⟨S152x75x1, .f32⟩
  | 120 => ⟨S152x75x1, .f32⟩
  | 121 => ⟨S152x75x1, .f32⟩
  | 122 => ⟨S_, .f32⟩
  | 123 => ⟨S152x75x1, .f32⟩
  | 124 => ⟨S152x75x1, .f32⟩
  | 125 => ⟨S152x75x1, .f32⟩
  | 126 => ⟨S_, .i32⟩
  | 127 => ⟨S152x75x1, .i32⟩
  | _ => ⟨S152x75x16384, .i32⟩

abbrev hbmTy0_1 (i : Nat) : BufTy := match i % 128 with
  | 0 => ⟨S152x75x1, .i1⟩
  | 1 => ⟨S152x75x1, .i1⟩
  | 2 => ⟨S152x75x1, .i1⟩
  | 3 => ⟨S152x75x1, .i32⟩
  | 4 => ⟨S152x75x1, .f32⟩
  | 5 => ⟨S152x75x1, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S152x75x1, .i32⟩
  | 13 => ⟨S152x75x1, .i32⟩
  | 14 => ⟨S_, .i32⟩
  | 15 => ⟨S152x75x1, .i32⟩
  | 16 => ⟨S152x75x1, .i1⟩
  | 17 => ⟨S_, .i32⟩
  | 18 => ⟨S152x75x1, .i32⟩
  | 19 => ⟨S152x75x1, .i1⟩
  | 20 => ⟨S_, .i32⟩
  | 21 => ⟨S_, .i1⟩
  | 22 => ⟨S152x75x1, .i1⟩
  | 23 => ⟨S152x75x1, .i1⟩
  | 24 => ⟨S152x75x1, .i1⟩
  | 25 => ⟨S152x75x1, .i32⟩
  | 26 => ⟨S152x75x1, .i32⟩
  | 27 => ⟨S152x75x1, .i32⟩
  | 28 => ⟨S152x75x1, .i32⟩
  | 29 => ⟨S_, .i32⟩
  | 30 => ⟨S152x75x1, .i32⟩
  | 31 => ⟨S152x75x1, .i1⟩
  | 32 => ⟨S_, .i32⟩
  | 33 => ⟨S152x75x1, .i32⟩
  | 34 => ⟨S152x75x1, .i32⟩
  | 35 => ⟨S152x75x1, .i32⟩
  | 36 => ⟨S152x75x1x1, .i32⟩
  | 37 => ⟨S1, .i32⟩
  | 38 => ⟨S_, .i32⟩
  | 39 => ⟨S152x75x1x1, .i32⟩
  | 40 => ⟨S152x75x1x1, .i1⟩
  | 41 => ⟨S1x1x1x1, .i32⟩
  | 42 => ⟨S152x75x1x1, .i32⟩
  | 43 => ⟨S152x75x1x1, .i1⟩
  | 44 => ⟨S152x75x1x1, .i1⟩
  | 45 => ⟨S_, .i1⟩
  | 46 => ⟨S152x75x1, .i1⟩
  | 47 => ⟨S152x75x1, .i32⟩
  | 48 => ⟨S_, .i32⟩
  | 49 => ⟨S152x75x1, .i32⟩
  | 50 => ⟨S152x75x1, .i32⟩
  | 51 => ⟨S_, .i32⟩
  | 52 => ⟨S152x75x1, .i32⟩
  | 53 => ⟨S152x75x1, .i32⟩
  | 54 => ⟨S152x75x1, .i32⟩
  | 55 => ⟨S152x75x1, .f32⟩
  | 56 => ⟨S_, .f32⟩
  | 57 => ⟨S152x75x1, .f32⟩
  | 58 => ⟨S152x75x1, .f32⟩
  | 59 => ⟨S_, .f32⟩
  | 60 => ⟨S152x75x1, .f32⟩
  | 61 => ⟨S152x75x1, .f32⟩
  | 62 => ⟨S_, .f32⟩
  | 63 => ⟨S152x75x1, .f32⟩
  | 64 => ⟨S152x75x1, .f32⟩
  | 65 => ⟨S152x75x1, .f32⟩
  | 66 => ⟨S152x75x1, .f32⟩
  | 67 => ⟨S152x75x1, .f32⟩
  | 68 => ⟨S152x75x1, .f32⟩
  | 69 => ⟨S_, .f32⟩
  | 70 => ⟨S152x75x1, .f32⟩
  | 71 => ⟨S152x75x1, .f32⟩
  | 72 => ⟨S152x75x1, .f32⟩
  | 73 => ⟨S_, .i32⟩
  | 74 => ⟨S152x75x1, .i32⟩
  | 75 => ⟨S152x75x1, .i1⟩
  | 76 => ⟨S152x75x1, .i1⟩
  | 77 => ⟨S152x75x1, .i1⟩
  | 78 => ⟨S152x75x1, .i32⟩
  | 79 => ⟨S152x75x1, .f32⟩
  | 80 => ⟨S152x75x1, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S152x75x1, .i32⟩
  | 88 => ⟨S152x75x1, .i32⟩
  | 89 => ⟨S_, .i32⟩
  | 90 => ⟨S152x75x1, .i32⟩
  | 91 => ⟨S152x75x1, .i1⟩
  | 92 => ⟨S_, .i32⟩
  | 93 => ⟨S152x75x1, .i32⟩
  | 94 => ⟨S152x75x1, .i1⟩
  | 95 => ⟨S_, .i32⟩
  | 96 => ⟨S_, .i1⟩
  | 97 => ⟨S152x75x1, .i1⟩
  | 98 => ⟨S152x75x1, .i1⟩
  | 99 => ⟨S152x75x1, .i1⟩
  | 100 => ⟨S152x75x1, .i32⟩
  | 101 => ⟨S152x75x1, .i32⟩
  | 102 => ⟨S152x75x1, .i32⟩
  | 103 => ⟨S152x75x1, .i32⟩
  | 104 => ⟨S_, .i32⟩
  | 105 => ⟨S152x75x1, .i32⟩
  | 106 => ⟨S152x75x1, .i1⟩
  | 107 => ⟨S_, .i32⟩
  | 108 => ⟨S152x75x1, .i32⟩
  | 109 => ⟨S152x75x1, .i32⟩
  | 110 => ⟨S152x75x1, .i32⟩
  | 111 => ⟨S152x75x1x1, .i32⟩
  | 112 => ⟨S1, .i32⟩
  | 113 => ⟨S_, .i32⟩
  | 114 => ⟨S152x75x1x1, .i32⟩
  | 115 => ⟨S152x75x1x1, .i1⟩
  | 116 => ⟨S1x1x1x1, .i32⟩
  | 117 => ⟨S152x75x1x1, .i32⟩
  | 118 => ⟨S152x75x1x1, .i1⟩
  | 119 => ⟨S152x75x1x1, .i1⟩
  | 120 => ⟨S_, .i1⟩
  | 121 => ⟨S152x75x1, .i1⟩
  | 122 => ⟨S152x75x1, .i32⟩
  | 123 => ⟨S_, .i32⟩
  | 124 => ⟨S152x75x1, .i32⟩
  | 125 => ⟨S152x75x1, .i32⟩
  | 126 => ⟨S_, .i32⟩
  | 127 => ⟨S152x75x1, .i32⟩
  | _ => ⟨S152x75x16384, .i32⟩

abbrev hbmTy0_2 (i : Nat) : BufTy := match i % 128 with
  | 0 => ⟨S152x75x1, .i32⟩
  | 1 => ⟨S152x75x1, .i32⟩
  | 2 => ⟨S152x75x1, .f32⟩
  | 3 => ⟨S_, .f32⟩
  | 4 => ⟨S152x75x1, .f32⟩
  | 5 => ⟨S152x75x1, .f32⟩
  | 6 => ⟨S_, .f32⟩
  | 7 => ⟨S152x75x1, .f32⟩
  | 8 => ⟨S152x75x1, .f32⟩
  | 9 => ⟨S_, .f32⟩
  | 10 => ⟨S152x75x1, .f32⟩
  | 11 => ⟨S152x75x1, .f32⟩
  | 12 => ⟨S152x75x1, .f32⟩
  | 13 => ⟨S152x75x1, .f32⟩
  | 14 => ⟨S152x75x1, .f32⟩
  | 15 => ⟨S152x75x1, .f32⟩
  | 16 => ⟨S_, .f32⟩
  | 17 => ⟨S152x75x1, .f32⟩
  | 18 => ⟨S152x75x1, .f32⟩
  | 19 => ⟨S152x75x1, .f32⟩
  | 20 => ⟨S_, .i32⟩
  | 21 => ⟨S152x75x1, .i32⟩
  | 22 => ⟨S152x75x1, .i1⟩
  | 23 => ⟨S152x75x1, .i1⟩
  | 24 => ⟨S152x75x1, .i1⟩
  | 25 => ⟨S152x75x1, .i32⟩
  | 26 => ⟨S152x75x1, .f32⟩
  | _ => ⟨S152x75x16384, .i32⟩

abbrev hbmTy (i : Nat) : BufTy := match i / 128 with
  | 0 => hbmTy0_0 i
  | 1 => hbmTy0_1 i
  | 2 => hbmTy0_2 i
  | _ => ⟨S152x75x16384, .i32⟩

abbrev bufTy : (tb : Table) → Fin (tcTables nBuf tb) → BufTy
  | .hbm, ⟨i, _⟩ => hbmTy i
  | _, _ => ⟨S152x75x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_c_0 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_3 : Ref sig .tc := ⟨.hbm, 30, rfl⟩
abbrev main_call0_v13 : Ref sig .tc := ⟨.hbm, 31, rfl⟩
abbrev main_call0_v14 : Ref sig .tc := ⟨.hbm, 32, rfl⟩
abbrev main_call0_c_4 : Ref sig .tc := ⟨.hbm, 33, rfl⟩
abbrev main_call0_v15 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_cst_1 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v22 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_v2 : Ref sig .tc := ⟨.hbm, 84, rfl⟩
abbrev main_call3_c_0 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_c_1 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_c_3 : Ref sig .tc := ⟨.hbm, 98, rfl⟩
abbrev main_call3_v13 : Ref sig .tc := ⟨.hbm, 99, rfl⟩
abbrev main_call3_v14 : Ref sig .tc := ⟨.hbm, 100, rfl⟩
abbrev main_call3_c_4 : Ref sig .tc := ⟨.hbm, 101, rfl⟩
abbrev main_call3_v15 : Ref sig .tc := ⟨.hbm, 102, rfl⟩
abbrev main_v23 : Ref sig .tc := ⟨.hbm, 103, rfl⟩
abbrev main_c_5 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_cst_6 : Ref sig .tc := ⟨.hbm, 109, rfl⟩
abbrev main_v28 : Ref sig .tc := ⟨.hbm, 110, rfl⟩
abbrev main_v29 : Ref sig .tc := ⟨.hbm, 111, rfl⟩
abbrev main_cst_7 : Ref sig .tc := ⟨.hbm, 112, rfl⟩
abbrev main_v30 : Ref sig .tc := ⟨.hbm, 113, rfl⟩
abbrev main_v31 : Ref sig .tc := ⟨.hbm, 114, rfl⟩
abbrev main_cst_8 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_cst_9 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_c_10 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_c_11 : Ref sig .tc := ⟨.hbm, 134, rfl⟩
abbrev main_call7_v0 : Ref sig .tc := ⟨.hbm, 135, rfl⟩
abbrev main_call7_c : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_c_1 : Ref sig .tc := ⟨.hbm, 142, rfl⟩
abbrev main_call7_v5 : Ref sig .tc := ⟨.hbm, 143, rfl⟩
abbrev main_call7_v6 : Ref sig .tc := ⟨.hbm, 144, rfl⟩
abbrev main_call7_c_2 : Ref sig .tc := ⟨.hbm, 145, rfl⟩
abbrev main_call7_v7 : Ref sig .tc := ⟨.hbm, 146, rfl⟩
abbrev main_call7_v8 : Ref sig .tc := ⟨.hbm, 147, rfl⟩
abbrev main_call7_c_3 : Ref sig .tc := ⟨.hbm, 148, rfl⟩
abbrev main_call7_v9 : Ref sig .tc := ⟨.hbm, 149, rfl⟩
abbrev main_call7_v10 : Ref sig .tc := ⟨.hbm, 150, rfl⟩
abbrev main_call7_v11 : Ref sig .tc := ⟨.hbm, 151, rfl⟩
abbrev main_call7_v12 : Ref sig .tc := ⟨.hbm, 152, rfl⟩
abbrev main_call7_v13 : Ref sig .tc := ⟨.hbm, 153, rfl⟩
abbrev main_call7_v14 : Ref sig .tc := ⟨.hbm, 154, rfl⟩
abbrev main_v48 : Ref sig .tc := ⟨.hbm, 155, rfl⟩
abbrev main_call8_v0 : Ref sig .tc := ⟨.hbm, 156, rfl⟩
abbrev main_call8_c : Ref sig .tc := ⟨.hbm, 157, rfl⟩
abbrev main_call8_v1 : Ref sig .tc := ⟨.hbm, 158, rfl⟩
abbrev main_call8_v2 : Ref sig .tc := ⟨.hbm, 159, rfl⟩
abbrev main_call8_c_0 : Ref sig .tc := ⟨.hbm, 160, rfl⟩
abbrev main_call8_v3 : Ref sig .tc := ⟨.hbm, 161, rfl⟩
abbrev main_call8_v4 : Ref sig .tc := ⟨.hbm, 162, rfl⟩
abbrev main_call8_v5 : Ref sig .tc := ⟨.hbm, 163, rfl⟩
abbrev main_call8_v6 : Ref sig .tc := ⟨.hbm, 164, rfl⟩
abbrev main_call8_c_1 : Ref sig .tc := ⟨.hbm, 165, rfl⟩
abbrev main_call8_c_2 : Ref sig .tc := ⟨.hbm, 166, rfl⟩
abbrev main_call8_v7 : Ref sig .tc := ⟨.hbm, 167, rfl⟩
abbrev main_call8_v8 : Ref sig .tc := ⟨.hbm, 168, rfl⟩
abbrev main_call8_v9 : Ref sig .tc := ⟨.hbm, 169, rfl⟩
abbrev main_call8_v10 : Ref sig .tc := ⟨.hbm, 170, rfl⟩
abbrev main_call8_v11 : Ref sig .tc := ⟨.hbm, 171, rfl⟩
abbrev main_call8_v12 : Ref sig .tc := ⟨.hbm, 172, rfl⟩
abbrev main_call8_c_3 : Ref sig .tc := ⟨.hbm, 173, rfl⟩
abbrev main_call8_v13 : Ref sig .tc := ⟨.hbm, 174, rfl⟩
abbrev main_call8_v14 : Ref sig .tc := ⟨.hbm, 175, rfl⟩
abbrev main_call8_c_4 : Ref sig .tc := ⟨.hbm, 176, rfl⟩
abbrev main_call8_v15 : Ref sig .tc := ⟨.hbm, 177, rfl⟩
abbrev main_v49 : Ref sig .tc := ⟨.hbm, 178, rfl⟩
abbrev main_c_12 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_cst_13 : Ref sig .tc := ⟨.hbm, 184, rfl⟩
abbrev main_v54 : Ref sig .tc := ⟨.hbm, 185, rfl⟩
abbrev main_v55 : Ref sig .tc := ⟨.hbm, 186, rfl⟩
abbrev main_cst_14 : Ref sig .tc := ⟨.hbm, 187, rfl⟩
abbrev main_v56 : Ref sig .tc := ⟨.hbm, 188, rfl⟩
abbrev main_v57 : Ref sig .tc := ⟨.hbm, 189, rfl⟩
abbrev main_cst_15 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_cst_16 : Ref sig .tc := ⟨.hbm, 197, rfl⟩
abbrev main_v64 : Ref sig .tc := ⟨.hbm, 198, rfl⟩
abbrev main_v65 : Ref sig .tc := ⟨.hbm, 199, rfl⟩
abbrev main_v66 : Ref sig .tc := ⟨.hbm, 200, rfl⟩
abbrev main_c_17 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_c_18 : Ref sig .tc := ⟨.hbm, 209, rfl⟩
abbrev main_call12_v0 : Ref sig .tc := ⟨.hbm, 210, rfl⟩
abbrev main_call12_c : Ref sig .tc := ⟨.hbm, 211, rfl⟩
abbrev main_call12_v1 : Ref sig .tc := ⟨.hbm, 212, rfl⟩
abbrev main_call12_c_0 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_call12_c_1 : Ref sig .tc := ⟨.hbm, 217, rfl⟩
abbrev main_call12_v5 : Ref sig .tc := ⟨.hbm, 218, rfl⟩
abbrev main_call12_v6 : Ref sig .tc := ⟨.hbm, 219, rfl⟩
abbrev main_call12_c_2 : Ref sig .tc := ⟨.hbm, 220, rfl⟩
abbrev main_call12_v7 : Ref sig .tc := ⟨.hbm, 221, rfl⟩
abbrev main_call12_v8 : Ref sig .tc := ⟨.hbm, 222, rfl⟩
abbrev main_call12_c_3 : Ref sig .tc := ⟨.hbm, 223, rfl⟩
abbrev main_call12_v9 : Ref sig .tc := ⟨.hbm, 224, rfl⟩
abbrev main_call12_v10 : Ref sig .tc := ⟨.hbm, 225, rfl⟩
abbrev main_call12_v11 : Ref sig .tc := ⟨.hbm, 226, rfl⟩
abbrev main_call12_v12 : Ref sig .tc := ⟨.hbm, 227, rfl⟩
abbrev main_call12_v13 : Ref sig .tc := ⟨.hbm, 228, rfl⟩
abbrev main_call12_v14 : Ref sig .tc := ⟨.hbm, 229, rfl⟩
abbrev main_v74 : Ref sig .tc := ⟨.hbm, 230, rfl⟩
abbrev main_call13_v0 : Ref sig .tc := ⟨.hbm, 231, rfl⟩
abbrev main_call13_c : Ref sig .tc := ⟨.hbm, 232, rfl⟩
abbrev main_call13_v1 : Ref sig .tc := ⟨.hbm, 233, rfl⟩
abbrev main_call13_v2 : Ref sig .tc := ⟨.hbm, 234, rfl⟩
abbrev main_call13_c_0 : Ref sig .tc := ⟨.hbm, 235, rfl⟩
abbrev main_call13_v3 : Ref sig .tc := ⟨.hbm, 236, rfl⟩
abbrev main_call13_v4 : Ref sig .tc := ⟨.hbm, 237, rfl⟩
abbrev main_call13_v5 : Ref sig .tc := ⟨.hbm, 238, rfl⟩
abbrev main_call13_v6 : Ref sig .tc := ⟨.hbm, 239, rfl⟩
abbrev main_call13_c_1 : Ref sig .tc := ⟨.hbm, 240, rfl⟩
abbrev main_call13_c_2 : Ref sig .tc := ⟨.hbm, 241, rfl⟩
abbrev main_call13_v7 : Ref sig .tc := ⟨.hbm, 242, rfl⟩
abbrev main_call13_v8 : Ref sig .tc := ⟨.hbm, 243, rfl⟩
abbrev main_call13_v9 : Ref sig .tc := ⟨.hbm, 244, rfl⟩
abbrev main_call13_v10 : Ref sig .tc := ⟨.hbm, 245, rfl⟩
abbrev main_call13_v11 : Ref sig .tc := ⟨.hbm, 246, rfl⟩
abbrev main_call13_v12 : Ref sig .tc := ⟨.hbm, 247, rfl⟩
abbrev main_call13_c_3 : Ref sig .tc := ⟨.hbm, 248, rfl⟩
abbrev main_call13_v13 : Ref sig .tc := ⟨.hbm, 249, rfl⟩
abbrev main_call13_v14 : Ref sig .tc := ⟨.hbm, 250, rfl⟩
abbrev main_call13_c_4 : Ref sig .tc := ⟨.hbm, 251, rfl⟩
abbrev main_call13_v15 : Ref sig .tc := ⟨.hbm, 252, rfl⟩
abbrev main_v75 : Ref sig .tc := ⟨.hbm, 253, rfl⟩
abbrev main_c_19 : Ref sig .tc := ⟨.hbm, 254, rfl⟩
abbrev main_v76 : Ref sig .tc := ⟨.hbm, 255, rfl⟩
abbrev main_v77 : Ref sig .tc := ⟨.hbm, 256, rfl⟩
abbrev main_v78 : Ref sig .tc := ⟨.hbm, 257, rfl⟩
abbrev main_v79 : Ref sig .tc := ⟨.hbm, 258, rfl⟩
abbrev main_cst_20 : Ref sig .tc := ⟨.hbm, 259, rfl⟩
abbrev main_v80 : Ref sig .tc := ⟨.hbm, 260, rfl⟩
abbrev main_v81 : Ref sig .tc := ⟨.hbm, 261, rfl⟩
abbrev main_cst_21 : Ref sig .tc := ⟨.hbm, 262, rfl⟩
abbrev main_v82 : Ref sig .tc := ⟨.hbm, 263, rfl⟩
abbrev main_v83 : Ref sig .tc := ⟨.hbm, 264, rfl⟩
abbrev main_cst_22 : Ref sig .tc := ⟨.hbm, 265, rfl⟩
abbrev main_v84 : Ref sig .tc := ⟨.hbm, 266, rfl⟩
abbrev main_v85 : Ref sig .tc := ⟨.hbm, 267, rfl⟩
abbrev main_v86 : Ref sig .tc := ⟨.hbm, 268, rfl⟩
abbrev main_v87 : Ref sig .tc := ⟨.hbm, 269, rfl⟩
abbrev main_v88 : Ref sig .tc := ⟨.hbm, 270, rfl⟩
abbrev main_v89 : Ref sig .tc := ⟨.hbm, 271, rfl⟩
abbrev main_cst_23 : Ref sig .tc := ⟨.hbm, 272, rfl⟩
abbrev main_v90 : Ref sig .tc := ⟨.hbm, 273, rfl⟩
abbrev main_v91 : Ref sig .tc := ⟨.hbm, 274, rfl⟩
abbrev main_v92 : Ref sig .tc := ⟨.hbm, 275, rfl⟩
abbrev main_c_24 : Ref sig .tc := ⟨.hbm, 276, rfl⟩
abbrev main_v93 : Ref sig .tc := ⟨.hbm, 277, rfl⟩
abbrev main_v94 : Ref sig .tc := ⟨.hbm, 278, rfl⟩
abbrev main_v95 : Ref sig .tc := ⟨.hbm, 279, rfl⟩
abbrev main_v96 : Ref sig .tc := ⟨.hbm, 280, rfl⟩
abbrev main_v97 : Ref sig .tc := ⟨.hbm, 281, rfl⟩
abbrev main_v98 : Ref sig .tc := ⟨.hbm, 282, rfl⟩

abbrev nD : Nat := 1
abbrev τ : Topo := Topo.v7x

variable {F : FTy → Type} [FloatOps F]
-- ==== ChooseSmallRefIdeal.lean ====
abbrev S152x75x16384 : Shape := ⟨3, ![152, 75, 16384]⟩
abbrev S4x1x16384 : Shape := ⟨3, ![4, 1, 16384]⟩
abbrev S152x75x1 : Shape := ⟨3, ![152, 75, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S152x75 : Shape := ⟨2, ![152, 75]⟩
abbrev S16384 : Shape := ⟨1, ![16384]⟩

abbrev nBuf : Space → Nat
  | .hbm => 77
  | .vmem => 0
  | .smem => 0
  | _ => 0

abbrev bufTy : (tb : Table) → Fin (tcTables nBuf tb) → BufTy
  | .hbm, ⟨0, _⟩ => ⟨S152x75x16384, .i32⟩
  | .hbm, ⟨1, _⟩ => ⟨S4x1x16384, .i32⟩
  | .hbm, ⟨2, _⟩ => ⟨S4x1x16384, .i32⟩
  | .hbm, ⟨3, _⟩ => ⟨S152x75x1, .i32⟩
  | .hbm, ⟨4, _⟩ => ⟨S152x75x1, .i32⟩
  | .hbm, ⟨5, _⟩ => ⟨S152x75x1, .i32⟩
  | .hbm, ⟨6, _⟩ => ⟨S152x75x1, .i32⟩
  | .hbm, ⟨7, _⟩ => ⟨S152x75x1, .i32⟩
  | .hbm, ⟨8, _⟩ => ⟨S152x75x1, .i32⟩
  | .hbm, ⟨9, _⟩ => ⟨S4x16384, .i32⟩
  | .hbm, ⟨10, _⟩ => ⟨S4x16384, .i32⟩
  | .hbm, ⟨11, _⟩ => ⟨S19, .i32⟩
  | .hbm, ⟨12, _⟩ => ⟨S1x4x16384, .i32⟩
  | .hbm, ⟨13, _⟩ => ⟨S19x1x1, .i32⟩
  | .hbm, ⟨14, _⟩ => ⟨S19x4x16384, .i32⟩
  | .hbm, ⟨15, _⟩ => ⟨S19x4x16384, .i32⟩
  | .hbm, ⟨16, _⟩ => ⟨S19x4x16384, .i1⟩
  | .hbm, ⟨17, _⟩ => ⟨S1x4x16384, .i32⟩
  | .hbm, ⟨18, _⟩ => ⟨S19x1x1, .i32⟩
  | .hbm, ⟨19, _⟩ => ⟨S19x4x16384, .i32⟩
  | .hbm, ⟨20, _⟩ => ⟨S19x4x16384, .i32⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x16384, .i1⟩
  | .hbm, ⟨25, _⟩ => ⟨S19x4x16384, .i1⟩
  | .hbm, ⟨26, _⟩ => ⟨S19x4x16384, .i1⟩
  | .hbm, ⟨27, _⟩ => ⟨S19x4x16384, .i1⟩
  | .hbm, ⟨28, _⟩ => ⟨S19x4x16384, .i1⟩
  | .hbm, ⟨29, _⟩ => ⟨S19x4x16384, .i1⟩
  | .hbm, ⟨30, _⟩ => ⟨S19x4x1x16384, .i1⟩
  | .hbm, ⟨31, _⟩ => ⟨S19x4x1x16384, .i1⟩
  | .hbm, ⟨32, _⟩ => ⟨S19x4x2x16384, .i1⟩
  | .hbm, ⟨33, _⟩ => ⟨S152x1x16384, .i1⟩
  | .hbm, ⟨34, _⟩ => ⟨S_, .f32⟩
  | .hbm, ⟨35, _⟩ => ⟨S_, .f32⟩
  | .hbm, ⟨36, _⟩ => ⟨S152x1x16384, .f32⟩
  | .hbm, ⟨37, _⟩ => ⟨S152x1x16384, .f32⟩
  | .hbm, ⟨38, _⟩ => ⟨S152x1x16384, .f32⟩
  | .hbm, ⟨39, _⟩ => ⟨S_, .i32⟩
  | .hbm, ⟨40, _⟩ => ⟨S152x75x16384, .i32⟩
  | .hbm, ⟨41, _⟩ => ⟨S152x75x16384, .i32⟩
  | .hbm, ⟨42, _⟩ => ⟨S152x75x16384, .i32⟩
  | .hbm, ⟨43, _⟩ => ⟨S152x75x16384, .f32⟩
  | .hbm, ⟨44, _⟩ => ⟨S_, .f32⟩
  | .hbm, ⟨45, _⟩ => ⟨S152x75x16384, .f32⟩
  | .hbm, ⟨46, _⟩ => ⟨S152x75x16384, .f32⟩
  | .hbm, ⟨47, _⟩ => ⟨S_, .f32⟩
  | .hbm, ⟨48, _⟩ => ⟨S152x75x16384, .f32⟩
  | .hbm, ⟨49, _⟩ => ⟨S152x75x16384, .f32⟩
  | .hbm, ⟨50, _⟩ => ⟨S_, .f32⟩
  | .hbm, ⟨51, _⟩ => ⟨S152x75x16384, .f32⟩
  | .hbm, ⟨52, _⟩ => ⟨S152x75x16384, .f32⟩
  | .hbm, ⟨53, _⟩ => ⟨S_, .f32⟩
  | .hbm, ⟨54, _⟩ => ⟨S152x75x16384, .f32⟩
  | .hbm, ⟨55, _⟩ => ⟨S152x75x16384, .f32⟩
  | .hbm, ⟨56, _⟩ => ⟨S152x75x16384, .f32⟩
  | .hbm, ⟨57, _⟩ => ⟨S152x75x16384, .f32⟩
  | .hbm, ⟨58, _⟩ => ⟨S152x75x16384, .f32⟩
  | .hbm, ⟨59, _⟩ => ⟨S152x75x16384, .f32⟩
  | .hbm, ⟨60, _⟩ => ⟨S152x1x16384, .f32⟩
  | .hbm, ⟨61, _⟩ => ⟨S152x75x16384, .f32⟩
  | .hbm, ⟨62, _⟩ => ⟨S152x75x16384, .f32⟩
  | .hbm, ⟨63, _⟩ => ⟨S_, .f32⟩
  | .hbm, ⟨64, _⟩ => ⟨S152x75, .f32⟩
  | .hbm, ⟨65, _⟩ => ⟨S152x75x1, .f32⟩
  | .hbm, ⟨66, _⟩ => ⟨S152x75x16384, .f32⟩
  | .hbm, ⟨67, _⟩ => ⟨S152x75x16384, .i1⟩
  | .hbm, ⟨68, _⟩ => ⟨S16384, .i32⟩
  | .hbm, ⟨69, _⟩ => ⟨S_, .i32⟩
  | .hbm, ⟨70, _⟩ => ⟨S_, .i32⟩
  | .hbm, ⟨71, _⟩ => ⟨S152x75x16384, .i32⟩
  | .hbm, ⟨72, _⟩ => ⟨S152x75x16384, .i32⟩
  | .hbm, ⟨73, _⟩ => ⟨S152x75x16384, .i32⟩
  | .hbm, ⟨74, _⟩ => ⟨S_, .i32⟩
  | .hbm, ⟨75, _⟩ => ⟨S152x75, .i32⟩
  | .hbm, ⟨76, _⟩ => ⟨S152x75x1, .i32⟩
  | _, _ => ⟨S152x75x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== ChooseBigIdeal.lean ====
abbrev S152x175x16384 : Shape := ⟨3, ![152, 175, 16384]⟩
abbrev S4x1x16384 : Shape := ⟨3, ![4, 1, 16384]⟩
abbrev S152x175x1 : Shape := ⟨3, ![152, 175, 1]⟩
abbrev S_ : Shape := ⟨0, ![]⟩
abbrev S152x175x1x1 : Shape := ⟨4, ![152, 175, 1, 1]⟩
abbrev S1 : Shape := ⟨1, ![1]⟩
abbrev S1x1x1x1 : Shape := ⟨4, ![1, 1, 1, 1]⟩

abbrev nBuf : Space → Nat
  | .hbm => 283
  | .vmem => 0
  | .smem => 0
  | _ => 0

abbrev hbmTy0_0 (i : Nat) : BufTy := match i % 128 with
  | 0 => ⟨S152x175x16384, .i32⟩
  | 1 => ⟨S4x1x16384, .i32⟩
  | 2 => ⟨S4x1x16384, .i32⟩
  | 3 => ⟨S152x175x1, .i32⟩
  | 4 => ⟨S152x175x1, .i32⟩
  | 5 => ⟨S152x175x1, .i32⟩
  | 6 => ⟨S152x175x1, .i32⟩
  | 7 => ⟨S152x175x1, .i32⟩
  | 8 => ⟨S152x175x1, .i32⟩
  | 9 => ⟨S_, .i32⟩
  | 10 => ⟨S152x175x1, .i32⟩
  | 11 => ⟨S152x175x1, .i1⟩
  | 12 => ⟨S152x175x1, .i32⟩
  | 13 => ⟨S152x175x1, .i32⟩
  | 14 => ⟨S_, .i32⟩
  | 15 => ⟨S152x175x1, .i32⟩
  | 16 => ⟨S152x175x1, .i1⟩
  | 17 => ⟨S_, .i32⟩
  | 18 => ⟨S152x175x1, .i32⟩
  | 19 => ⟨S152x175x1, .i32⟩
  | 20 => ⟨S152x175x1, .i32⟩
  | 21 => ⟨S152x175x1x1, .i32⟩
  | 22 => ⟨S1, .i32⟩
  | 23 => ⟨S_, .i32⟩
  | 24 => ⟨S152x175x1x1, .i32⟩
  | 25 => ⟨S152x175x1x1, .i1⟩
  | 26 => ⟨S1x1x1x1, .i32⟩
  | 27 => ⟨S152x175x1x1, .i32⟩
  | 28 => ⟨S152x175x1x1, .i1⟩
  | 29 => ⟨S152x175x1x1, .i1⟩
  | 30 => ⟨S_, .i1⟩
  | 31 => ⟨S152x175x1, .i1⟩
  | 32 => ⟨S152x175x1, .i32⟩
  | 33 => ⟨S_, .i32⟩
  | 34 => ⟨S152x175x1, .i32⟩
  | 35 => ⟨S152x175x1, .i32⟩
  | 36 => ⟨S_, .i32⟩
  | 37 => ⟨S152x175x1, .i32⟩
  | 38 => ⟨S152x175x1, .i32⟩
  | 39 => ⟨S152x175x1, .i32⟩
  | 40 => ⟨S152x175x1, .f32⟩
  | 41 => ⟨S_, .f32⟩
  | 42 => ⟨S152x175x1, .f32⟩
  | 43 => ⟨S152x175x1, .f32⟩
  | 44 => ⟨S_, .f32⟩
  | 45 => ⟨S152x175x1, .f32⟩
  | 46 => ⟨S152x175x1, .f32⟩
  | 47 => ⟨S_, .f32⟩
  | 48 => ⟨S152x175x1, .f32⟩
  | 49 => ⟨S152x175x1, .f32⟩
  | 50 => ⟨S152x175x1, .f32⟩
  | 51 => ⟨S152x175x1, .f32⟩
  | 52 => ⟨S152x175x1, .f32⟩
  | 53 => ⟨S152x175x1, .f32⟩
  | 54 => ⟨S_, .f32⟩
  | 55 => ⟨S152x175x1, .f32⟩
  | 56 => ⟨S152x175x1, .f32⟩
  | 57 => ⟨S152x175x1, .f32⟩
  | 58 => ⟨S152x175x1, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S152x175x1, .i32⟩
  | 66 => ⟨S152x175x1, .i32⟩
  | 67 => ⟨S_, .i32⟩
  | 68 => ⟨S152x175x1, .i32⟩
  | 69 => ⟨S152x175x1, .i1⟩
  | 70 => ⟨S_, .i32⟩
  | 71 => ⟨S152x175x1, .i32⟩
  | 72 => ⟨S152x175x1, .i1⟩
  | 73 => ⟨S_, .i32⟩
  | 74 => ⟨S_, .i1⟩
  | 75 => ⟨S152x175x1, .i1⟩
  | 76 => ⟨S152x175x1, .i1⟩
  | 77 => ⟨S152x175x1, .i1⟩
  | 78 => ⟨S152x175x1, .i32⟩
  | 79 => ⟨S152x175x1, .i32⟩
  | 80 => ⟨S152x175x1, .i32⟩
  | 81 => ⟨S152x175x1, .i32⟩
  | 82 => ⟨S_, .i32⟩
  | 83 => ⟨S152x175x1, .i32⟩
  | 84 => ⟨S152x175x1, .i1⟩
  | 85 => ⟨S_, .i32⟩
  | 86 => ⟨S152x175x1, .i32⟩
  | 87 => ⟨S152x175x1, .i32⟩
  | 88 => ⟨S152x175x1, .i32⟩
  | 89 => ⟨S152x175x1x1, .i32⟩
  | 90 => ⟨S1, .i32⟩
  | 91 => ⟨S_, .i32⟩
  | 92 => ⟨S152x175x1x1, .i32⟩
  | 93 => ⟨S152x175x1x1, .i1⟩
  | 94 => ⟨S1x1x1x1, .i32⟩
  | 95 => ⟨S152x175x1x1, .i32⟩
  | 96 => ⟨S152x175x1x1, .i1⟩
  | 97 => ⟨S152x175x1x1, .i1⟩
  | 98 => ⟨S_, .i1⟩
  | 99 => ⟨S152x175x1, .i1⟩
  | 100 => ⟨S152x175x1, .i32⟩
  | 101 => ⟨S_, .i32⟩
  | 102 => ⟨S152x175x1, .i32⟩
  | 103 => ⟨S152x175x1, .i32⟩
  | 104 => ⟨S_, .i32⟩
  | 105 => ⟨S152x175x1, .i32⟩
  | 106 => ⟨S152x175x1, .i32⟩
  | 107 => ⟨S152x175x1, .i32⟩
  | 108 => ⟨S152x175x1, .f32⟩
  | 109 => ⟨S_, .f32⟩
  | 110 => ⟨S152x175x1, .f32⟩
  | 111 => ⟨S152x175x1, .f32⟩
  | 112 => ⟨S_, .f32⟩
  | 113 => ⟨S152x175x1, .f32⟩
  | 114 => ⟨S152x175x1, .f32⟩
  | 115 => ⟨S_, .f32⟩
  | 116 => ⟨S152x175x1, .f32⟩
  | 117 => ⟨S152x175x1, .f32⟩
  | 118 => ⟨S152x175x1, .f32⟩
  | 119 => ⟨S152x175x1, .f32⟩
  | 120 => ⟨S152x175x1, .f32⟩
  | 121 => ⟨S152x175x1, .f32⟩
  | 122 => ⟨S_, .f32⟩
  | 123 => ⟨S152x175x1, .f32⟩
  | 124 => ⟨S152x175x1, .f32⟩
  | 125 => ⟨S152x175x1, .f32⟩
  | 126 => ⟨S_, .i32⟩
  | 127 => ⟨S152x175x1, .i32⟩
  | _ => ⟨S152x175x16384, .i32⟩

abbrev hbmTy0_1 (i : Nat) : BufTy := match i % 128 with
  | 0 => ⟨S152x175x1, .i1⟩
  | 1 => ⟨S152x175x1, .i1⟩
  | 2 => ⟨S152x175x1, .i1⟩
  | 3 => ⟨S152x175x1, .i32⟩
  | 4 => ⟨S152x175x1, .f32⟩
  | 5 => ⟨S152x175x1, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S152x175x1, .i32⟩
  | 13 => ⟨S152x175x1, .i32⟩
  | 14 => ⟨S_, .i32⟩
  | 15 => ⟨S152x175x1, .i32⟩
  | 16 => ⟨S152x175x1, .i1⟩
  | 17 => ⟨S_, .i32⟩
  | 18 => ⟨S152x175x1, .i32⟩
  | 19 => ⟨S152x175x1, .i1⟩
  | 20 => ⟨S_, .i32⟩
  | 21 => ⟨S_, .i1⟩
  | 22 => ⟨S152x175x1, .i1⟩
  | 23 => ⟨S152x175x1, .i1⟩
  | 24 => ⟨S152x175x1, .i1⟩
  | 25 => ⟨S152x175x1, .i32⟩
  | 26 => ⟨S152x175x1, .i32⟩
  | 27 => ⟨S152x175x1, .i32⟩
  | 28 => ⟨S152x175x1, .i32⟩
  | 29 => ⟨S_, .i32⟩
  | 30 => ⟨S152x175x1, .i32⟩
  | 31 => ⟨S152x175x1, .i1⟩
  | 32 => ⟨S_, .i32⟩
  | 33 => ⟨S152x175x1, .i32⟩
  | 34 => ⟨S152x175x1, .i32⟩
  | 35 => ⟨S152x175x1, .i32⟩
  | 36 => ⟨S152x175x1x1, .i32⟩
  | 37 => ⟨S1, .i32⟩
  | 38 => ⟨S_, .i32⟩
  | 39 => ⟨S152x175x1x1, .i32⟩
  | 40 => ⟨S152x175x1x1, .i1⟩
  | 41 => ⟨S1x1x1x1, .i32⟩
  | 42 => ⟨S152x175x1x1, .i32⟩
  | 43 => ⟨S152x175x1x1, .i1⟩
  | 44 => ⟨S152x175x1x1, .i1⟩
  | 45 => ⟨S_, .i1⟩
  | 46 => ⟨S152x175x1, .i1⟩
  | 47 => ⟨S152x175x1, .i32⟩
  | 48 => ⟨S_, .i32⟩
  | 49 => ⟨S152x175x1, .i32⟩
  | 50 => ⟨S152x175x1, .i32⟩
  | 51 => ⟨S_, .i32⟩
  | 52 => ⟨S152x175x1, .i32⟩
  | 53 => ⟨S152x175x1, .i32⟩
  | 54 => ⟨S152x175x1, .i32⟩
  | 55 => ⟨S152x175x1, .f32⟩
  | 56 => ⟨S_, .f32⟩
  | 57 => ⟨S152x175x1, .f32⟩
  | 58 => ⟨S152x175x1, .f32⟩
  | 59 => ⟨S_, .f32⟩
  | 60 => ⟨S152x175x1, .f32⟩
  | 61 => ⟨S152x175x1, .f32⟩
  | 62 => ⟨S_, .f32⟩
  | 63 => ⟨S152x175x1, .f32⟩
  | 64 => ⟨S152x175x1, .f32⟩
  | 65 => ⟨S152x175x1, .f32⟩
  | 66 => ⟨S152x175x1, .f32⟩
  | 67 => ⟨S152x175x1, .f32⟩
  | 68 => ⟨S152x175x1, .f32⟩
  | 69 => ⟨S_, .f32⟩
  | 70 => ⟨S152x175x1, .f32⟩
  | 71 => ⟨S152x175x1, .f32⟩
  | 72 => ⟨S152x175x1, .f32⟩
  | 73 => ⟨S_, .i32⟩
  | 74 => ⟨S152x175x1, .i32⟩
  | 75 => ⟨S152x175x1, .i1⟩
  | 76 => ⟨S152x175x1, .i1⟩
  | 77 => ⟨S152x175x1, .i1⟩
  | 78 => ⟨S152x175x1, .i32⟩
  | 79 => ⟨S152x175x1, .f32⟩
  | 80 => ⟨S152x175x1, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S152x175x1, .i32⟩
  | 88 => ⟨S152x175x1, .i32⟩
  | 89 => ⟨S_, .i32⟩
  | 90 => ⟨S152x175x1, .i32⟩
  | 91 => ⟨S152x175x1, .i1⟩
  | 92 => ⟨S_, .i32⟩
  | 93 => ⟨S152x175x1, .i32⟩
  | 94 => ⟨S152x175x1, .i1⟩
  | 95 => ⟨S_, .i32⟩
  | 96 => ⟨S_, .i1⟩
  | 97 => ⟨S152x175x1, .i1⟩
  | 98 => ⟨S152x175x1, .i1⟩
  | 99 => ⟨S152x175x1, .i1⟩
  | 100 => ⟨S152x175x1, .i32⟩
  | 101 => ⟨S152x175x1, .i32⟩
  | 102 => ⟨S152x175x1, .i32⟩
  | 103 => ⟨S152x175x1, .i32⟩
  | 104 => ⟨S_, .i32⟩
  | 105 => ⟨S152x175x1, .i32⟩
  | 106 => ⟨S152x175x1, .i1⟩
  | 107 => ⟨S_, .i32⟩
  | 108 => ⟨S152x175x1, .i32⟩
  | 109 => ⟨S152x175x1, .i32⟩
  | 110 => ⟨S152x175x1, .i32⟩
  | 111 => ⟨S152x175x1x1, .i32⟩
  | 112 => ⟨S1, .i32⟩
  | 113 => ⟨S_, .i32⟩
  | 114 => ⟨S152x175x1x1, .i32⟩
  | 115 => ⟨S152x175x1x1, .i1⟩
  | 116 => ⟨S1x1x1x1, .i32⟩
  | 117 => ⟨S152x175x1x1, .i32⟩
  | 118 => ⟨S152x175x1x1, .i1⟩
  | 119 => ⟨S152x175x1x1, .i1⟩
  | 120 => ⟨S_, .i1⟩
  | 121 => ⟨S152x175x1, .i1⟩
  | 122 => ⟨S152x175x1, .i32⟩
  | 123 => ⟨S_, .i32⟩
  | 124 => ⟨S152x175x1, .i32⟩
  | 125 => ⟨S152x175x1, .i32⟩
  | 126 => ⟨S_, .i32⟩
  | 127 => ⟨S152x175x1, .i32⟩
  | _ => ⟨S152x175x16384, .i32⟩

abbrev hbmTy0_2 (i : Nat) : BufTy := match i % 128 with
  | 0 => ⟨S152x175x1, .i32⟩
  | 1 => ⟨S152x175x1, .i32⟩
  | 2 => ⟨S152x175x1, .f32⟩
  | 3 => ⟨S_, .f32⟩
  | 4 => ⟨S152x175x1, .f32⟩
  | 5 => ⟨S152x175x1, .f32⟩
  | 6 => ⟨S_, .f32⟩
  | 7 => ⟨S152x175x1, .f32⟩
  | 8 => ⟨S152x175x1, .f32⟩
  | 9 => ⟨S_, .f32⟩
  | 10 => ⟨S152x175x1, .f32⟩
  | 11 => ⟨S152x175x1, .f32⟩
  | 12 => ⟨S152x175x1, .f32⟩
  | 13 => ⟨S152x175x1, .f32⟩
  | 14 => ⟨S152x175x1, .f32⟩
  | 15 => ⟨S152x175x1, .f32⟩
  | 16 => ⟨S_, .f32⟩
  | 17 => ⟨S152x175x1, .f32⟩
  | 18 => ⟨S152x175x1, .f32⟩
  | 19 => ⟨S152x175x1, .f32⟩
  | 20 => ⟨S_, .i32⟩
  | 21 => ⟨S152x175x1, .i32⟩
  | 22 => ⟨S152x175x1, .i1⟩
  | 23 => ⟨S152x175x1, .i1⟩
  | 24 => ⟨S152x175x1, .i1⟩
  | 25 => ⟨S152x175x1, .i32⟩
  | 26 => ⟨S152x175x1, .f32⟩
  | _ => ⟨S152x175x16384, .i32⟩

abbrev hbmTy (i : Nat) : BufTy := match i / 128 with
  | 0 => hbmTy0_0 i
  | 1 => hbmTy0_1 i
  | 2 => hbmTy0_2 i
  | _ => ⟨S152x175x16384, .i32⟩

abbrev bufTy : (tb : Table) → Fin (tcTables nBuf tb) → BufTy
  | .hbm, ⟨i, _⟩ => hbmTy i
  | _, _ => ⟨S152x175x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_c_0 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_3 : Ref sig .tc := ⟨.hbm, 30, rfl⟩
abbrev main_call0_v13 : Ref sig .tc := ⟨.hbm, 31, rfl⟩
abbrev main_call0_v14 : Ref sig .tc := ⟨.hbm, 32, rfl⟩
abbrev main_call0_c_4 : Ref sig .tc := ⟨.hbm, 33, rfl⟩
abbrev main_call0_v15 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_cst_1 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v22 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_v2 : Ref sig .tc := ⟨.hbm, 84, rfl⟩
abbrev main_call3_c_0 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_c_1 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_c_3 : Ref sig .tc := ⟨.hbm, 98, rfl⟩
abbrev main_call3_v13 : Ref sig .tc := ⟨.hbm, 99, rfl⟩
abbrev main_call3_v14 : Ref sig .tc := ⟨.hbm, 100, rfl⟩
abbrev main_call3_c_4 : Ref sig .tc := ⟨.hbm, 101, rfl⟩
abbrev main_call3_v15 : Ref sig .tc := ⟨.hbm, 102, rfl⟩
abbrev main_v23 : Ref sig .tc := ⟨.hbm, 103, rfl⟩
abbrev main_c_5 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_cst_6 : Ref sig .tc := ⟨.hbm, 109, rfl⟩
abbrev main_v28 : Ref sig .tc := ⟨.hbm, 110, rfl⟩
abbrev main_v29 : Ref sig .tc := ⟨.hbm, 111, rfl⟩
abbrev main_cst_7 : Ref sig .tc := ⟨.hbm, 112, rfl⟩
abbrev main_v30 : Ref sig .tc := ⟨.hbm, 113, rfl⟩
abbrev main_v31 : Ref sig .tc := ⟨.hbm, 114, rfl⟩
abbrev main_cst_8 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_cst_9 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_c_10 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_c_11 : Ref sig .tc := ⟨.hbm, 134, rfl⟩
abbrev main_call7_v0 : Ref sig .tc := ⟨.hbm, 135, rfl⟩
abbrev main_call7_c : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_c_1 : Ref sig .tc := ⟨.hbm, 142, rfl⟩
abbrev main_call7_v5 : Ref sig .tc := ⟨.hbm, 143, rfl⟩
abbrev main_call7_v6 : Ref sig .tc := ⟨.hbm, 144, rfl⟩
abbrev main_call7_c_2 : Ref sig .tc := ⟨.hbm, 145, rfl⟩
abbrev main_call7_v7 : Ref sig .tc := ⟨.hbm, 146, rfl⟩
abbrev main_call7_v8 : Ref sig .tc := ⟨.hbm, 147, rfl⟩
abbrev main_call7_c_3 : Ref sig .tc := ⟨.hbm, 148, rfl⟩
abbrev main_call7_v9 : Ref sig .tc := ⟨.hbm, 149, rfl⟩
abbrev main_call7_v10 : Ref sig .tc := ⟨.hbm, 150, rfl⟩
abbrev main_call7_v11 : Ref sig .tc := ⟨.hbm, 151, rfl⟩
abbrev main_call7_v12 : Ref sig .tc := ⟨.hbm, 152, rfl⟩
abbrev main_call7_v13 : Ref sig .tc := ⟨.hbm, 153, rfl⟩
abbrev main_call7_v14 : Ref sig .tc := ⟨.hbm, 154, rfl⟩
abbrev main_v48 : Ref sig .tc := ⟨.hbm, 155, rfl⟩
abbrev main_call8_v0 : Ref sig .tc := ⟨.hbm, 156, rfl⟩
abbrev main_call8_c : Ref sig .tc := ⟨.hbm, 157, rfl⟩
abbrev main_call8_v1 : Ref sig .tc := ⟨.hbm, 158, rfl⟩
abbrev main_call8_v2 : Ref sig .tc := ⟨.hbm, 159, rfl⟩
abbrev main_call8_c_0 : Ref sig .tc := ⟨.hbm, 160, rfl⟩
abbrev main_call8_v3 : Ref sig .tc := ⟨.hbm, 161, rfl⟩
abbrev main_call8_v4 : Ref sig .tc := ⟨.hbm, 162, rfl⟩
abbrev main_call8_v5 : Ref sig .tc := ⟨.hbm, 163, rfl⟩
abbrev main_call8_v6 : Ref sig .tc := ⟨.hbm, 164, rfl⟩
abbrev main_call8_c_1 : Ref sig .tc := ⟨.hbm, 165, rfl⟩
abbrev main_call8_c_2 : Ref sig .tc := ⟨.hbm, 166, rfl⟩
abbrev main_call8_v7 : Ref sig .tc := ⟨.hbm, 167, rfl⟩
abbrev main_call8_v8 : Ref sig .tc := ⟨.hbm, 168, rfl⟩
abbrev main_call8_v9 : Ref sig .tc := ⟨.hbm, 169, rfl⟩
abbrev main_call8_v10 : Ref sig .tc := ⟨.hbm, 170, rfl⟩
abbrev main_call8_v11 : Ref sig .tc := ⟨.hbm, 171, rfl⟩
abbrev main_call8_v12 : Ref sig .tc := ⟨.hbm, 172, rfl⟩
abbrev main_call8_c_3 : Ref sig .tc := ⟨.hbm, 173, rfl⟩
abbrev main_call8_v13 : Ref sig .tc := ⟨.hbm, 174, rfl⟩
abbrev main_call8_v14 : Ref sig .tc := ⟨.hbm, 175, rfl⟩
abbrev main_call8_c_4 : Ref sig .tc := ⟨.hbm, 176, rfl⟩
abbrev main_call8_v15 : Ref sig .tc := ⟨.hbm, 177, rfl⟩
abbrev main_v49 : Ref sig .tc := ⟨.hbm, 178, rfl⟩
abbrev main_c_12 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_cst_13 : Ref sig .tc := ⟨.hbm, 184, rfl⟩
abbrev main_v54 : Ref sig .tc := ⟨.hbm, 185, rfl⟩
abbrev main_v55 : Ref sig .tc := ⟨.hbm, 186, rfl⟩
abbrev main_cst_14 : Ref sig .tc := ⟨.hbm, 187, rfl⟩
abbrev main_v56 : Ref sig .tc := ⟨.hbm, 188, rfl⟩
abbrev main_v57 : Ref sig .tc := ⟨.hbm, 189, rfl⟩
abbrev main_cst_15 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_cst_16 : Ref sig .tc := ⟨.hbm, 197, rfl⟩
abbrev main_v64 : Ref sig .tc := ⟨.hbm, 198, rfl⟩
abbrev main_v65 : Ref sig .tc := ⟨.hbm, 199, rfl⟩
abbrev main_v66 : Ref sig .tc := ⟨.hbm, 200, rfl⟩
abbrev main_c_17 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_c_18 : Ref sig .tc := ⟨.hbm, 209, rfl⟩
abbrev main_call12_v0 : Ref sig .tc := ⟨.hbm, 210, rfl⟩
abbrev main_call12_c : Ref sig .tc := ⟨.hbm, 211, rfl⟩
abbrev main_call12_v1 : Ref sig .tc := ⟨.hbm, 212, rfl⟩
abbrev main_call12_c_0 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_call12_c_1 : Ref sig .tc := ⟨.hbm, 217, rfl⟩
abbrev main_call12_v5 : Ref sig .tc := ⟨.hbm, 218, rfl⟩
abbrev main_call12_v6 : Ref sig .tc := ⟨.hbm, 219, rfl⟩
abbrev main_call12_c_2 : Ref sig .tc := ⟨.hbm, 220, rfl⟩
abbrev main_call12_v7 : Ref sig .tc := ⟨.hbm, 221, rfl⟩
abbrev main_call12_v8 : Ref sig .tc := ⟨.hbm, 222, rfl⟩
abbrev main_call12_c_3 : Ref sig .tc := ⟨.hbm, 223, rfl⟩
abbrev main_call12_v9 : Ref sig .tc := ⟨.hbm, 224, rfl⟩
abbrev main_call12_v10 : Ref sig .tc := ⟨.hbm, 225, rfl⟩
abbrev main_call12_v11 : Ref sig .tc := ⟨.hbm, 226, rfl⟩
abbrev main_call12_v12 : Ref sig .tc := ⟨.hbm, 227, rfl⟩
abbrev main_call12_v13 : Ref sig .tc := ⟨.hbm, 228, rfl⟩
abbrev main_call12_v14 : Ref sig .tc := ⟨.hbm, 229, rfl⟩
abbrev main_v74 : Ref sig .tc := ⟨.hbm, 230, rfl⟩
abbrev main_call13_v0 : Ref sig .tc := ⟨.hbm, 231, rfl⟩
abbrev main_call13_c : Ref sig .tc := ⟨.hbm, 232, rfl⟩
abbrev main_call13_v1 : Ref sig .tc := ⟨.hbm, 233, rfl⟩
abbrev main_call13_v2 : Ref sig .tc := ⟨.hbm, 234, rfl⟩
abbrev main_call13_c_0 : Ref sig .tc := ⟨.hbm, 235, rfl⟩
abbrev main_call13_v3 : Ref sig .tc := ⟨.hbm, 236, rfl⟩
abbrev main_call13_v4 : Ref sig .tc := ⟨.hbm, 237, rfl⟩
abbrev main_call13_v5 : Ref sig .tc := ⟨.hbm, 238, rfl⟩
abbrev main_call13_v6 : Ref sig .tc := ⟨.hbm, 239, rfl⟩
abbrev main_call13_c_1 : Ref sig .tc := ⟨.hbm, 240, rfl⟩
abbrev main_call13_c_2 : Ref sig .tc := ⟨.hbm, 241, rfl⟩
abbrev main_call13_v7 : Ref sig .tc := ⟨.hbm, 242, rfl⟩
abbrev main_call13_v8 : Ref sig .tc := ⟨.hbm, 243, rfl⟩
abbrev main_call13_v9 : Ref sig .tc := ⟨.hbm, 244, rfl⟩
abbrev main_call13_v10 : Ref sig .tc := ⟨.hbm, 245, rfl⟩
abbrev main_call13_v11 : Ref sig .tc := ⟨.hbm, 246, rfl⟩
abbrev main_call13_v12 : Ref sig .tc := ⟨.hbm, 247, rfl⟩
abbrev main_call13_c_3 : Ref sig .tc := ⟨.hbm, 248, rfl⟩
abbrev main_call13_v13 : Ref sig .tc := ⟨.hbm, 249, rfl⟩
abbrev main_call13_v14 : Ref sig .tc := ⟨.hbm, 250, rfl⟩
abbrev main_call13_c_4 : Ref sig .tc := ⟨.hbm, 251, rfl⟩
abbrev main_call13_v15 : Ref sig .tc := ⟨.hbm, 252, rfl⟩
abbrev main_v75 : Ref sig .tc := ⟨.hbm, 253, rfl⟩
abbrev main_c_19 : Ref sig .tc := ⟨.hbm, 254, rfl⟩
abbrev main_v76 : Ref sig .tc := ⟨.hbm, 255, rfl⟩
abbrev main_v77 : Ref sig .tc := ⟨.hbm, 256, rfl⟩
abbrev main_v78 : Ref sig .tc := ⟨.hbm, 257, rfl⟩
abbrev main_v79 : Ref sig .tc := ⟨.hbm, 258, rfl⟩
abbrev main_cst_20 : Ref sig .tc := ⟨.hbm, 259, rfl⟩
abbrev main_v80 : Ref sig .tc := ⟨.hbm, 260, rfl⟩
abbrev main_v81 : Ref sig .tc := ⟨.hbm, 261, rfl⟩
abbrev main_cst_21 : Ref sig .tc := ⟨.hbm, 262, rfl⟩
abbrev main_v82 : Ref sig .tc := ⟨.hbm, 263, rfl⟩
abbrev main_v83 : Ref sig .tc := ⟨.hbm, 264, rfl⟩
abbrev main_cst_22 : Ref sig .tc := ⟨.hbm, 265, rfl⟩
abbrev main_v84 : Ref sig .tc := ⟨.hbm, 266, rfl⟩
abbrev main_v85 : Ref sig .tc := ⟨.hbm, 267, rfl⟩
abbrev main_v86 : Ref sig .tc := ⟨.hbm, 268, rfl⟩
abbrev main_v87 : Ref sig .tc := ⟨.hbm, 269, rfl⟩
abbrev main_v88 : Ref sig .tc := ⟨.hbm, 270, rfl⟩
abbrev main_v89 : Ref sig .tc := ⟨.hbm, 271, rfl⟩
abbrev main_cst_23 : Ref sig .tc := ⟨.hbm, 272, rfl⟩
abbrev main_v90 : Ref sig .tc := ⟨.hbm, 273, rfl⟩
abbrev main_v91 : Ref sig .tc := ⟨.hbm, 274, rfl⟩
abbrev main_v92 : Ref sig .tc := ⟨.hbm, 275, rfl⟩
abbrev main_c_24 : Ref sig .tc := ⟨.hbm, 276, rfl⟩
abbrev main_v93 : Ref sig .tc := ⟨.hbm, 277, rfl⟩
abbrev main_v94 : Ref sig .tc := ⟨.hbm, 278, rfl⟩
abbrev main_v95 : Ref sig .tc := ⟨.hbm, 279, rfl⟩
abbrev main_v96 : Ref sig .tc := ⟨.hbm, 280, rfl⟩
abbrev main_v97 : Ref sig .tc := ⟨.hbm, 281, rfl⟩
abbrev main_v98 : Ref sig .tc := ⟨.hbm, 282, rfl⟩

abbrev nD : Nat := 1
abbrev τ : Topo := Topo.v7x

variable {F : FTy → Type} [FloatOps F]
-- ==== ChooseBigRefIdeal.lean ====
abbrev S152x175x16384 : Shape := ⟨3, ![152, 175, 16384]⟩
abbrev S4x1x16384 : Shape := ⟨3, ![4, 1, 16384]⟩
abbrev S152x175x1 : Shape := ⟨3, ![152, 175, 1]⟩
abbrev S4x16384 : Shape := ⟨2, ![4, 16384]⟩
abbrev S19 : Shape := ⟨1, ![19]⟩
abbrev S1x4x16384 : Shape := ⟨3, ![1, 4, 16384]⟩
abbrev S19x1x1 : Shape := ⟨3, ![19, 1, 1]⟩
abbrev S19x4x16384 : Shape := ⟨3, ![19, 4, 16384]⟩
abbrev S19x4x1x16384 : Shape := ⟨4, ![19, 4, 1, 16384]⟩
abbrev S19x4x2x16384 : Shape := ⟨4, ![19, 4, 2, 16384]⟩
abbrev S152x1x16384 : Shape := ⟨3, ![152, 1, 16384]⟩
abbrev S_ : Shape := ⟨0, ![]⟩
abbrev S152x175 : Shape := ⟨2, ![152, 175]⟩
abbrev S16384 : Shape := ⟨1, ![16384]⟩

abbrev nBuf : Space → Nat
  | .hbm => 77
  | .vmem => 0
  | .smem => 0
  | _ => 0

abbrev bufTy : (tb : Table) → Fin (tcTables nBuf tb) → BufTy
  | .hbm, ⟨0, _⟩ => ⟨S152x175x16384, .i32⟩
  | .hbm, ⟨1, _⟩ => ⟨S4x1x16384, .i32⟩
  | .hbm, ⟨2, _⟩ => ⟨S4x1x16384, .i32⟩
  | .hbm, ⟨3, _⟩ => ⟨S152x175x1, .i32⟩
  | .hbm, ⟨4, _⟩ => ⟨S152x175x1, .i32⟩
  | .hbm, ⟨5, _⟩ => ⟨S152x175x1, .i32⟩
  | .hbm, ⟨6, _⟩ => ⟨S152x175x1, .i32⟩
  | .hbm, ⟨7, _⟩ => ⟨S152x175x1, .i32⟩
  | .hbm, ⟨8, _⟩ => ⟨S152x175x1, .i32⟩
  | .hbm, ⟨9, _⟩ => ⟨S4x16384, .i32⟩
  | .hbm, ⟨10, _⟩ => ⟨S4x16384, .i32⟩
  | .hbm, ⟨11, _⟩ => ⟨S19, .i32⟩
  | .hbm, ⟨12, _⟩ => ⟨S1x4x16384, .i32⟩
  | .hbm, ⟨13, _⟩ => ⟨S19x1x1, .i32⟩
  | .hbm, ⟨14, _⟩ => ⟨S19x4x16384, .i32⟩
  | .hbm, ⟨15, _⟩ => ⟨S19x4x16384, .i32⟩
  | .hbm, ⟨16, _⟩ => ⟨S19x4x16384, .i1⟩
  | .hbm, ⟨17, _⟩ => ⟨S1x4x16384, .i32⟩
  | .hbm, ⟨18, _⟩ => ⟨S19x1x1, .i32⟩
  | .hbm, ⟨19, _⟩ => ⟨S19x4x16384, .i32⟩
  | .hbm, ⟨20, _⟩ => ⟨S19x4x16384, .i32⟩
  | .hbm, ⟨21, _⟩ => ⟨S19x4x16384, .i1⟩
  | .hbm, ⟨22, _⟩ => ⟨S19x4x16384, .i1⟩
  | .hbm, ⟨23, _⟩ => ⟨S19x4x16384, .i1⟩
  | .hbm, ⟨24, _⟩ => ⟨S19x4x16384, .i1⟩
  | .hbm, ⟨25, _⟩ => ⟨S19x4x16384, .i1⟩
  | .hbm, ⟨26, _⟩ => ⟨S19x4x16384, .i1⟩
  | .hbm, ⟨27, _⟩ => ⟨S19x4x16384, .i1⟩
  | .hbm, ⟨28, _⟩ => ⟨S19x4x16384, .i1⟩
  | .hbm, ⟨29, _⟩ => ⟨S19x4x16384, .i1⟩
  | .hbm, ⟨30, _⟩ => ⟨S19x4x1x16384, .i1⟩
  | .hbm, ⟨31, _⟩ => ⟨S19x4x1x16384, .i1⟩
  | .hbm, ⟨32, _⟩ => ⟨S19x4x2x16384, .i1⟩
  | .hbm, ⟨33, _⟩ => ⟨S152x1x16384, .i1⟩
  | .hbm, ⟨34, _⟩ => ⟨S_, .f32⟩
  | .hbm, ⟨35, _⟩ => ⟨S_, .f32⟩
  | .hbm, ⟨36, _⟩ => ⟨S152x1x16384, .f32⟩
  | .hbm, ⟨37, _⟩ => ⟨S152x1x16384, .f32⟩
  | .hbm, ⟨38, _⟩ => ⟨S152x1x16384, .f32⟩
  | .hbm, ⟨39, _⟩ => ⟨S_, .i32⟩
  | .hbm, ⟨40, _⟩ => ⟨S152x175x16384, .i32⟩
  | .hbm, ⟨41, _⟩ => ⟨S152x175x16384, .i32⟩
  | .hbm, ⟨42, _⟩ => ⟨S152x175x16384, .i32⟩
  | .hbm, ⟨43, _⟩ => ⟨S152x175x16384, .f32⟩
  | .hbm, ⟨44, _⟩ => ⟨S_, .f32⟩
  | .hbm, ⟨45, _⟩ => ⟨S152x175x16384, .f32⟩
  | .hbm, ⟨46, _⟩ => ⟨S152x175x16384, .f32⟩
  | .hbm, ⟨47, _⟩ => ⟨S_, .f32⟩
  | .hbm, ⟨48, _⟩ => ⟨S152x175x16384, .f32⟩
  | .hbm, ⟨49, _⟩ => ⟨S152x175x16384, .f32⟩
  | .hbm, ⟨50, _⟩ => ⟨S_, .f32⟩
  | .hbm, ⟨51, _⟩ => ⟨S152x175x16384, .f32⟩
  | .hbm, ⟨52, _⟩ => ⟨S152x175x16384, .f32⟩
  | .hbm, ⟨53, _⟩ => ⟨S_, .f32⟩
  | .hbm, ⟨54, _⟩ => ⟨S152x175x16384, .f32⟩
  | .hbm, ⟨55, _⟩ => ⟨S152x175x16384, .f32⟩
  | .hbm, ⟨56, _⟩ => ⟨S152x175x16384, .f32⟩
  | .hbm, ⟨57, _⟩ => ⟨S152x175x16384, .f32⟩
  | .hbm, ⟨58, _⟩ => ⟨S152x175x16384, .f32⟩
  | .hbm, ⟨59, _⟩ => ⟨S152x175x16384, .f32⟩
  | .hbm, ⟨60, _⟩ => ⟨S152x1x16384, .f32⟩
  | .hbm, ⟨61, _⟩ => ⟨S152x175x16384, .f32⟩
  | .hbm, ⟨62, _⟩ => ⟨S152x175x16384, .f32⟩
  | .hbm, ⟨63, _⟩ => ⟨S_, .f32⟩
  | .hbm, ⟨64, _⟩ => ⟨S152x175, .f32⟩
  | .hbm, ⟨65, _⟩ => ⟨S152x175x1, .f32⟩
  | .hbm, ⟨66, _⟩ => ⟨S152x175x16384, .f32⟩
  | .hbm, ⟨67, _⟩ => ⟨S152x175x16384, .i1⟩
  | .hbm, ⟨68, _⟩ => ⟨S16384, .i32⟩
  | .hbm, ⟨69, _⟩ => ⟨S_, .i32⟩
  | .hbm, ⟨70, _⟩ => ⟨S_, .i32⟩
  | .hbm, ⟨71, _⟩ => ⟨S152x175x16384, .i32⟩
  | .hbm, ⟨72, _⟩ => ⟨S152x175x16384, .i32⟩
  | .hbm, ⟨73, _⟩ => ⟨S152x175x16384, .i32⟩
  | .hbm, ⟨74, _⟩ => ⟨S_, .i32⟩
  | .hbm, ⟨75, _⟩ => ⟨S152x175, .i32⟩
  | .hbm, ⟨76, _⟩ => ⟨S152x175x1, .i32⟩
  | _, _ => ⟨S152x175x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.Run.Interp.lean ====
/- Region 0 of the kernel, the bilinear resize: what its body leaves in the two output windows, case by case of its
   conditionals, as a function of the buffers found at entry. Laid out like the generated frame of a single-call program. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- a cover by rectangles of the kernel's own extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of @main: custom_call 0, `cc0__interp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 8 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x80808080 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 3, through which its contents are stated (`View.read_writes_of_cover`: the
    choice does not matter). -/
abbrev VO0_3 : View sig .tc .vmem S1x32x128x128 .f32 := (Memref.whole cc0_stg3_0 : Memref sig .tc .vmem S1x32x128x128 .f32).view
/-- One staging buffer of output window 4, through which its contents are stated (`View.read_writes_of_cover`: the
    choice does not matter). -/
abbrev VO0_4 : View sig .tc .vmem S1x128x128 .f32 := (Memref.whole cc0_stg4_0 : Memref sig .tc .vmem S1x128x128 .f32).view
/-- Each window's current staging memref at point `t`, spelled as the pipeline passes it (`bodyAt0`), and its wholeness. -/
abbrev ms0_0 (t : Fin cfg0.N) : Memref sig .tc .vmem S1x32x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, 16, 24), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : cond0_0 i) (hc1 : ¬cond0_1 i)
    (x0 : Vec F S1x32x64x64 .f32) (x1 : Vec F S128x64 .f32) (x2 : Vec F S128x64 .f32) :
    Σ' (L3 : List (View.Piece (Elt F) S1x32x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__interp_kernel i arg2 harg2 arg3 harg3 arg4 harg4 arg5 harg5 arg6 harg6) K } := by
  refine ⟨?_, ?_, fun E K => ?run⟩
  case run =>
    simp only [cc0__interp_kernel_eq_skeleton]; unfold cc0__interp_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S1x32x128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : cond0_0 i) (hc1 : ¬cond0_1 i)
    (x0 : Vec F S1x32x64x64 .f32) (x1 : Vec F S128x64 .f32) (x2 : Vec F S128x64 .f32) (y : S1x32x128x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1x32x128x128.size (by sl_kernel_rfl) y

/-- What case A leaves in output 3's staging buffer: its pieces read back over junk. -/
def out0_A_3 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : cond0_0 i) (hc1 : ¬cond0_1 i)
    (x0 : Vec F S1x32x64x64 .f32) (x1 : Vec F S128x64 .f32) (x2 : Vec F S128x64 .f32) : Vec F S1x32x128x128 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for output 4 tile its block (1 store of `S1x128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : cond0_0 i) (hc1 : ¬cond0_1 i)
    (x0 : Vec F S1x32x64x64 .f32) (x1 : Vec F S128x64 .f32) (x2 : Vec F S128x64 .f32) (y : S1x128x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x128x128.size (by sl_kernel_rfl) y

/-- What case A leaves in output 4's staging buffer: its pieces read back over junk. -/
def out0_A_4 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : cond0_0 i) (hc1 : ¬cond0_1 i)
    (x0 : Vec F S1x32x64x64 .f32) (x1 : Vec F S128x64 .f32) (x2 : Vec F S128x64 .f32) : Vec F S1x128x128 .f32 :=
  VO0_4.read (Elt F) (VO0_4.writes (Elt F) VO0_4.junk (kernelRun0_A c i arg2 harg2 arg3 harg3 arg4 harg4 arg5 harg5 arg6 harg6 hc0 hc1 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 31: 28 of 32), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : ¬cond0_0 i) (hc1 : cond0_1 i)
    (x0 : Vec F S1x32x64x64 .f32) (x1 : Vec F S128x64 .f32) (x2 : Vec F S128x64 .f32) (xo4 : Vec F S1x128x128 .f32) :
    Σ' (L3 : List (View.Piece (Elt F) S1x32x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__interp_kernel i arg2 harg2 arg3 harg3 arg4 harg4 arg5 harg5 arg6 harg6) K } := by
  refine ⟨?_, ?_, fun E K => ?run⟩
  case run =>
    simp only [cc0__interp_kernel_eq_skeleton]; unfold cc0__interp_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case B's pieces for output 3 tile its block (1 store of `S1x32x128x128`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : ¬cond0_0 i) (hc1 : cond0_1 i)
    (x0 : Vec F S1x32x64x64 .f32) (x1 : Vec F S128x64 .f32) (x2 : Vec F S128x64 .f32) (xo4 : Vec F S1x128x128 .f32) (y : S1x32x128x128.Idx) :
    ∃ pc ∈ (kernelRun0_B c i arg2 harg2 arg3 harg3 arg4 harg4 arg5 harg5 arg6 harg6 hc0 hc1 x0 x1 x2 xo4).1, y ∈ pc.1.set :=
  View.cover_of_tiledL (kernelRun0_B c i arg2 harg2 arg3 harg3 arg4 harg4 arg5 harg5 arg6 harg6 hc0 hc1 x0 x1 x2 xo4).1 S1x32x128x128.size (by sl_kernel_rfl) y

/-- What case B leaves in output 3's staging buffer: its pieces read back over junk. -/
def out0_B_3 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : ¬cond0_0 i) (hc1 : cond0_1 i)
    (x0 : Vec F S1x32x64x64 .f32) (x1 : Vec F S128x64 .f32) (x2 : Vec F S128x64 .f32) (xo4 : Vec F S1x128x128 .f32) : Vec F S1x32x128x128 .f32 :=
  VO0_3.read (Elt F) (VO0_3.writes (Elt F) VO0_3.junk (kernelRun0_B c i arg2 harg2 arg3 harg3 arg4 harg4 arg5 harg5 arg6 harg6 hc0 hc1 x0 x1 x2 xo4).1)

/-- Case B's pieces for output 4 tile its block (1 store of `S1x128x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : ¬cond0_0 i) (hc1 : cond0_1 i)
    (x0 : Vec F S1x32x64x64 .f32) (x1 : Vec F S128x64 .f32) (x2 : Vec F S128x64 .f32) (xo4 : Vec F S1x128x128 .f32) (y : S1x128x128.Idx) :
    ∃ pc ∈ (kernelRun0_B c i arg2 harg2 arg3 harg3 arg4 harg4 arg5 harg5 arg6 harg6 hc0 hc1 x0 x1 x2 xo4).2.1, y ∈ pc.1.set :=
  View.cover_of_tiledL (kernelRun0_B c i arg2 harg2 arg3 harg3 arg4 harg4 arg5 harg5 arg6 harg6 hc0 hc1 x0 x1 x2 xo4).2.1 S1x128x128.size (by sl_kernel_rfl) y

/-- What case B leaves in output 4's staging buffer: its pieces read back over junk. -/
def out0_B_4 (c : Dev nD) (i : grid0.Coords) (arg2 : Memref sig .tc .vmem S1x32x64x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x32x128x128 .f32) (harg5 : arg5.IsWhole) (arg6 : Memref sig .tc .vmem S1x128x128 .f32) (harg6 : arg6.IsWhole) (hc0 : ¬cond0_0 i) (hc1 : cond0_1 i)
    (x0 : Vec F S1x32x64x64 .f32) (x1 : Vec F S128x64 .f32) (x2 : Vec F S128x64 .f32) (xo4 : Vec F S1x128x128 .f32) : Vec F S1x128x128 .f32 :=
  VO0_4.read (Elt F) (VO0_4.writes (Elt F) VO0_4.junk (kernelRun0_B c i arg2 harg2 arg3 harg3 arg4 harg4 arg5 harg5 arg6 harg6 hc0 hc1 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x32x128x128 .f32 × Vec F S1x128x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : 1 ≤ (n + 1) % 8 then
        False.elim (by have hN : n + 1 < 32 := lt_of_lt_of_eq hn (show cfg0.N = 32 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : 1 ≤ (n + 1) % 8 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 8 = 0) (h1 : ¬1 ≤ t.val % 8) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val % 8) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 32 := lt_of_lt_of_eq t.isLt (show cfg0.N = 32 from N_0)
  rw [after0_4, after0_4]
  by_cases h0 : t.val % 8 = 0
  · by_cases h1 : 1 ≤ t.val % 8
    · exfalso; omega
    · rw [liveAt0_4_A t ((hcond0_0 t).mpr h0) (fun h => h1 ((hcond0_1 t).mp h))] at hi
      exact absurd hi Bool.false_ne_true
  · by_cases h1 : 1 ≤ t.val % 8
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 8 = 0) (h1 : 1 ≤ t.val % 8) (d) :
    (dat0 V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 32 := lt_of_lt_of_eq t.isLt (show cfg0.N = 32 from N_0)
  by_cases h0 : t.val % 8 = 0
  · by_cases h1 : 1 ≤ t.val % 8
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 8
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Run.Hist.lean ====
/- Regions 1 and 2 of the kernel, the two histograms (175 and 75 samples a row): what the body leaves in its output window.
   Laid out like the generated frame of a single-call program. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- a cover by rectangles of the kernel's own extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1 of @main: custom_call 1, `cc1__hist_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x175x1 := Rect.unit (s := S1x175x1) ![0, 0, 0] S1x175x1.size inb_S1x175x1_S1x175x1_0_0_0
abbrev r1_1 : Rect S1x1x16384 := Rect.unit (s := S1x1x16384) ![0, 0, 0] S1x1x2048.size inb_S1x1x16384_S1x1x2048_0_0_0
abbrev r1_2 : Rect S1x1x16384 := Rect.unit (s := S1x1x16384) ![0, 0, 2048] S1x1x2048.size inb_S1x1x16384_S1x1x2048_0_0_2048
abbrev r1_3 : Rect S1x1x16384 := Rect.unit (s := S1x1x16384) ![0, 0, 4096] S1x1x2048.size inb_S1x1x16384_S1x1x2048_0_0_4096
abbrev r1_4 : Rect S1x1x16384 := Rect.unit (s := S1x1x16384) ![0, 0, 6144] S1x1x2048.size inb_S1x1x16384_S1x1x2048_0_0_6144
abbrev r1_5 : Rect S1x1x16384 := Rect.unit (s := S1x1x16384) ![0, 0, 8192] S1x1x2048.size inb_S1x1x16384_S1x1x2048_0_0_8192
abbrev r1_6 : Rect S1x1x16384 := Rect.unit (s := S1x1x16384) ![0, 0, 10240] S1x1x2048.size inb_S1x1x16384_S1x1x2048_0_0_10240
abbrev r1_7 : Rect S1x1x16384 := Rect.unit (s := S1x1x16384) ![0, 0, 12288] S1x1x2048.size inb_S1x1x16384_S1x1x2048_0_0_12288
abbrev r1_8 : Rect S1x1x16384 := Rect.unit (s := S1x1x16384) ![0, 0, 14336] S1x1x2048.size inb_S1x1x16384_S1x1x2048_0_0_14336

/-! ## What the body leaves in each output window's buffer -/

/-! ### Values of the body that the stores' payloads, spelt out, would write more than once

    Each is a vector the body binds (often a part call's result), stated over the input windows' blocks and
    numbered on from the skeleton's payload functions (`k1_pay15` …, after `k1_pay14`), so that
    `out1_W` and the values after it name it instead of spelling it out; the comment after each is the printed function's
    name for the value (a count appended where that name is bound again). -/

def k1_pay15 (x0 : Vec F S1x175x1 .i32) (x1 : Vec F S1x1x16384 .f32) : IVec S175x1 32 :=
  k1_pay3 (View.ld x0 r1_0) -- `v1`

/-- Window 2's staging buffer after the body, from the input windows' blocks: its 8 stores as pieces, LAST
    FIRST (Lib/Pipeline/FrameBody.lean `View.canon`; the payloads are the skeleton's and the values stated above). -/
def out1_2 (x0 : Vec F S1x175x1 .i32) (x1 : Vec F S1x1x16384 .f32) : Vec F S1x1x16384 .f32 :=
  View.canon [⟨r1_8, k1_pay2 (k1_pay15 x0 x1) (View.ld x1 r1_8)⟩,
    ⟨r1_7, k1_pay1 (k1_pay14 (k1_pay15 x0 x1) (View.ld x1 r1_7))⟩,
    ⟨r1_6, k1_pay13 (k1_pay15 x0 x1) k1_pay12 (View.ld x1 r1_6)⟩,
    ⟨r1_5, k1_pay11 (k1_pay15 x0 x1) (View.ld x1 r1_5)⟩,
    ⟨r1_4, k1_pay10 (k1_pay9 (F := F) (k1_pay15 x0 x1)) (View.ld x1 r1_4)⟩,
    ⟨r1_3, k1_pay8 (k1_pay15 x0 x1) (View.ld x1 r1_3)⟩,
    ⟨r1_2, k1_pay7 (k1_pay5 (View.ld x0 r1_0)) (k1_pay6 (View.ld x1 r1_2))⟩,
    ⟨r1_1, k1_pay4 (View.ld x0 r1_0) (View.ld x1 r1_1)⟩]

/-- Its stores tile the buffer (checked by evaluation), so they cover it. -/
theorem cover1_2 (p0 : Vec F S1x1x2048 .f32) (p1 : Vec F S1x1x2048 .f32) (p2 : Vec F S1x1x2048 .f32) (p3 : Vec F S1x1x2048 .f32) (p4 : Vec F S1x1x2048 .f32) (p5 : Vec F S1x1x2048 .f32) (p6 : Vec F S1x1x2048 .f32) (p7 : Vec F S1x1x2048 .f32) (y : S1x1x16384.Idx) :
    ∃ pc ∈ ([⟨r1_8, p0⟩, ⟨r1_7, p1⟩, ⟨r1_6, p2⟩, ⟨r1_5, p3⟩, ⟨r1_4, p4⟩, ⟨r1_3, p5⟩, ⟨r1_2, p6⟩, ⟨r1_1, p7⟩] : List (View.Piece (Elt F) S1x1x16384 .f32)), y ∈ pc.1.set :=
  View.cover_of_tiled [⟨r1_8, p0⟩, ⟨r1_7, p1⟩, ⟨r1_6, p2⟩, ⟨r1_5, p3⟩, ⟨r1_4, p4⟩, ⟨r1_3, p5⟩, ⟨r1_2, p6⟩, ⟨r1_1, p7⟩] S1x1x2048.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x175x1 .i32) (harg1 : arg1.IsWhole) (arg2 : Memref sig .tc .vmem S1x1x16384 .f32) (harg2 : arg2.IsWhole) (arg3 : Memref sig .tc .vmem S1x1x16384 .f32) (harg3 : arg3.IsWhole)
    (x0 : Vec F S1x175x1 .i32) (x1 : Vec F S1x1x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__hist_kernel i arg1 harg1 arg2 harg2 arg3 harg3) K := by
  simp only [cc1__hist_kernel_eq_skeleton]; unfold cc1__hist_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _ _ _ _ _ _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__hist_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x75x1 := Rect.unit (s := S1x75x1) ![0, 0, 0] S1x75x1.size inb_S1x75x1_S1x75x1_0_0_0
abbrev r2_1 : Rect S1x1x16384 := Rect.unit (s := S1x1x16384) ![0, 0, 0] S1x1x2048.size inb_S1x1x16384_S1x1x2048_0_0_0
abbrev r2_2 : Rect S1x1x16384 := Rect.unit (s := S1x1x16384) ![0, 0, 2048] S1x1x2048.size inb_S1x1x16384_S1x1x2048_0_0_2048
abbrev r2_3 : Rect S1x1x16384 := Rect.unit (s := S1x1x16384) ![0, 0, 4096] S1x1x2048.size inb_S1x1x16384_S1x1x2048_0_0_4096
abbrev r2_4 : Rect S1x1x16384 := Rect.unit (s := S1x1x16384) ![0, 0, 6144] S1x1x2048.size inb_S1x1x16384_S1x1x2048_0_0_6144
abbrev r2_5 : Rect S1x1x16384 := Rect.unit (s := S1x1x16384) ![0, 0, 8192] S1x1x2048.size inb_S1x1x16384_S1x1x2048_0_0_8192
abbrev r2_6 : Rect S1x1x16384 := Rect.unit (s := S1x1x16384) ![0, 0, 10240] S1x1x2048.size inb_S1x1x16384_S1x1x2048_0_0_10240
abbrev r2_7 : Rect S1x1x16384 := Rect.unit (s := S1x1x16384) ![0, 0, 12288] S1x1x2048.size inb_S1x1x16384_S1x1x2048_0_0_12288
abbrev r2_8 : Rect S1x1x16384 := Rect.unit (s := S1x1x16384) ![0, 0, 14336] S1x1x2048.size inb_S1x1x16384_S1x1x2048_0_0_14336

/-! ## What the body leaves in each output window's buffer -/

/-! ### Values of the body that the stores' payloads, spelt out, would write more than once

    Each is a vector the body binds (often a part call's result), stated over the input windows' blocks and
    numbered on from the skeleton's payload functions (`k2_pay15` …, after `k2_pay14`), so that
    `out2_W` and the values after it name it instead of spelling it out; the comment after each is the printed function's
    name for the value (a count appended where that name is bound again). -/

def k2_pay15 (x0 : Vec F S1x75x1 .i32) (x1 : Vec F S1x1x16384 .f32) : IVec S75x1 32 :=
  k2_pay3 (View.ld x0 r2_0) -- `v1`

/-- Window 2's staging buffer after the body, from the input windows' blocks: its 8 stores as pieces, LAST
    FIRST (Lib/Pipeline/FrameBody.lean `View.canon`; the payloads are the skeleton's and the values stated above). -/
def out2_2 (x0 : Vec F S1x75x1 .i32) (x1 : Vec F S1x1x16384 .f32) : Vec F S1x1x16384 .f32 :=
  View.canon [⟨r2_8, k2_pay2 (k2_pay15 x0 x1) (View.ld x1 r2_8)⟩,
    ⟨r2_7, k2_pay1 (k2_pay14 (k2_pay15 x0 x1) (View.ld x1 r2_7))⟩,
    ⟨r2_6, k2_pay13 (k2_pay15 x0 x1) k2_pay12 (View.ld x1 r2_6)⟩,
    ⟨r2_5, k2_pay11 (k2_pay15 x0 x1) (View.ld x1 r2_5)⟩,
    ⟨r2_4, k2_pay10 (k2_pay9 (F := F) (k2_pay15 x0 x1)) (View.ld x1 r2_4)⟩,
    ⟨r2_3, k2_pay8 (k2_pay15 x0 x1) (View.ld x1 r2_3)⟩,
    ⟨r2_2, k2_pay7 (k2_pay5 (View.ld x0 r2_0)) (k2_pay6 (View.ld x1 r2_2))⟩,
    ⟨r2_1, k2_pay4 (View.ld x0 r2_0) (View.ld x1 r2_1)⟩]

/-- Its stores tile the buffer (checked by evaluation), so they cover it. -/
theorem cover2_2 (p0 : Vec F S1x1x2048 .f32) (p1 : Vec F S1x1x2048 .f32) (p2 : Vec F S1x1x2048 .f32) (p3 : Vec F S1x1x2048 .f32) (p4 : Vec F S1x1x2048 .f32) (p5 : Vec F S1x1x2048 .f32) (p6 : Vec F S1x1x2048 .f32) (p7 : Vec F S1x1x2048 .f32) (y : S1x1x16384.Idx) :
    ∃ pc ∈ ([⟨r2_8, p0⟩, ⟨r2_7, p1⟩, ⟨r2_6, p2⟩, ⟨r2_5, p3⟩, ⟨r2_4, p4⟩, ⟨r2_3, p5⟩, ⟨r2_2, p6⟩, ⟨r2_1, p7⟩] : List (View.Piece (Elt F) S1x1x16384 .f32)), y ∈ pc.1.set :=
  View.cover_of_tiled [⟨r2_8, p0⟩, ⟨r2_7, p1⟩, ⟨r2_6, p2⟩, ⟨r2_5, p3⟩, ⟨r2_4, p4⟩, ⟨r2_3, p5⟩, ⟨r2_2, p6⟩, ⟨r2_1, p7⟩] S1x1x2048.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x75x1 .i32) (harg1 : arg1.IsWhole) (arg2 : Memref sig .tc .vmem S1x1x16384 .f32) (harg2 : arg2.IsWhole) (arg3 : Memref sig .tc .vmem S1x1x16384 .f32) (harg3 : arg3.IsWhole)
    (x0 : Vec F S1x75x1 .i32) (x1 : Vec F S1x1x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__hist_kernel i arg1 harg1 arg2 harg2 arg3 harg3) K := by
  simp only [cc2__hist_kernel_eq_skeleton]; unfold cc2__hist_kernel_skel
  simp only [k2_part1_eq_skeleton, k2_part2_eq_skeleton, k2_part3_eq_skeleton, k2_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Run.Contract.lean ====
/- Region 3 of the kernel, the contraction: the scratch accumulator and the output window point by point.
   Laid out like the generated frame of a single-call program. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- a cover by rectangles of the kernel's own extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 3 of @main: custom_call 3, `cc3__contract_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond3_0 : ∀ t : Fin cfg3.N, cond3_0 (grid3.coords t) ↔ t.val % 32 = 0 :=
  (fun t => by
    have ht : t.val < 32 := Nat.lt_of_lt_of_eq t.isLt N_3
    have e0 : (grid3.coords t 0).val = t.val / 8 % 4 := Pipeline.Grid.coords_val t 0 (by decide) rfl
    have e1 : (grid3.coords t 1).val = t.val / 1 % 8 := Pipeline.Grid.coords_val t 1 (by decide) rfl
    simp only [cond3_0, e0, e1]
    word_cmp
   : ∀ t : Fin grid3.N, cond3_0 (grid3.coords t) ↔ t.val % 32 = 0)

/-- The condition of the body's `scf.if` 1 (`k3_h2`), from the grid coordinates (the skeleton's scalar
    chain substituted). -/
abbrev cond3_1 (i : grid3.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond3_1 : ∀ t : Fin cfg3.N, cond3_1 (grid3.coords t) ↔ 1 ≤ t.val :=
  (by decide +kernel : ∀ t : Fin grid3.N, cond3_1 (grid3.coords t) ↔ 1 ≤ t.val)

/-- The condition of the body's `scf.if` 2 (`k3_h3`), from the grid coordinates (the skeleton's scalar
    chain substituted). -/
abbrev cond3_2 (i : grid3.Coords) : Prop := k3_cond3 i = 1#1
/-- It holds at the last point only — by arithmetic of the point. -/
theorem hcond3_2 : ∀ t : Fin cfg3.N, cond3_2 (grid3.coords t) ↔ t.val % 32 = 31 :=
  (fun t => by
    have ht : t.val < 32 := Nat.lt_of_lt_of_eq t.isLt N_3
    have e0 : (grid3.coords t 0).val = t.val / 8 % 4 := Pipeline.Grid.coords_val t 0 (by decide) rfl
    have e1 : (grid3.coords t 1).val = t.val / 1 % 8 := Pipeline.Grid.coords_val t 1 (by decide) rfl
    simp only [cond3_2, k3_cond3, e0, e1]
    word_cmp
   : ∀ t : Fin grid3.N, cond3_2 (grid3.coords t) ↔ t.val % 32 = 31)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- At the points of case A the printed configuration (`Cfg.idle`) calls output 3 idle: the case stores nothing into it. -/
theorem idleAt3_3_A : ∀ t : Fin cfg3.N, cond3_0 (grid3.coords t) → ¬cond3_1 (grid3.coords t) → ¬cond3_2 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → ¬cond3_2 (grid3.coords t) → (cfg3.win 3).flush t = false := by decide +kernel
/-- At the points of case B the printed configuration (`Cfg.idle`) calls output 3 idle: the case stores nothing into it. -/
theorem idleAt3_3_B : ∀ t : Fin cfg3.N, ¬cond3_0 (grid3.coords t) → cond3_1 (grid3.coords t) → ¬cond3_2 (grid3.coords t) → cfg3.idle 3 (grid3.coords t) = true := by decide +kernel
/-- At the points of case B the pipeline does not write output 3's block back. -/
theorem noFlush3_3_B : ∀ t : Fin cfg3.N, ¬cond3_0 (grid3.coords t) → cond3_1 (grid3.coords t) → ¬cond3_2 (grid3.coords t) → (cfg3.win 3).flush t = false := by decide +kernel
/-- At the points of case C the printed configuration (`Cfg.idle`) calls output 3 live: the case stores into it. -/
theorem liveAt3_3_C : ∀ t : Fin cfg3.N, ¬cond3_0 (grid3.coords t) → cond3_1 (grid3.coords t) → cond3_2 (grid3.coords t) → cfg3.idle 3 (grid3.coords t) = false := by decide +kernel

/-! ## The kernel body on any staging memrefs: a subtype the run finds -/

/-- One staging buffer of output window 3, through which its contents are stated (`View.read_writes_of_cover`: the
    choice does not matter). -/
abbrev VO3_3 : View sig .tc .vmem S1x1 .f32 := (Memref.whole cc3_stg3_0 : Memref sig .tc .vmem S1x1 .f32).view
/-- Each window's current staging memref at point `t`, spelled as the pipeline passes it (`bodyAt3`), and its wholeness. -/
abbrev ms3_0 (t : Fin cfg3.N) : Memref sig .tc .vmem S1x256x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S19x1x2x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S19x1x2x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
/-- The scratch operands: whole scoped buffers of the kernel's own, passed beside the windows. -/
abbrev scM3_0 : Memref sig .tc .vmem S256x76 .f32 := Memref.whole cc3_scratch0
/-- The scratch `arg6` the kernel carries between points, as a view: what it holds is stated through it. -/
abbrev VS3_0 : View sig .tc .vmem S256x76 .f32 := scM3_0.view

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d)) ∗ (∃ r, prngReg c r)) := by
  unfold Pipeline.ΦA; rw [scopedRest3_eq]; simp only [scM3_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : cond3_0 i) (hc1 : ¬cond3_1 i) (hc2 : ¬cond3_2 i)
    (x0 : Vec F S1x256x2048 .f32) (x1 : Vec F S19x1x2x2048 .f32) (x2 : Vec F S19x1x2x2048 .f32) :
    Σ' (L3 : List (View.Piece (Elt F) S1x1 .f32)), { LS0 : List (View.Piece (Elt F) S256x76 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__contract_kernel i arg2 harg2 arg3 harg3 arg4 harg4 arg5 harg5 arg6 harg6) K } := by
  refine ⟨[], ?_, fun xi3 E K => ?run⟩
  case run =>
    simp only [cc3__contract_kernel_eq_skeleton]; unfold cc3__contract_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out3_A_3 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : cond3_0 i) (hc1 : ¬cond3_1 i) (hc2 : ¬cond3_2 i)
    (x0 : Vec F S1x256x2048 .f32) (x1 : Vec F S19x1x2x2048 .f32) (x2 : Vec F S19x1x2x2048 .f32) : Vec F S1x1 .f32 :=
  VO3_3.read (Elt F) (VO3_3.writes (Elt F) VO3_3.junk (kernelRun3_A c i arg2 harg2 arg3 harg3 arg4 harg4 arg5 harg5 arg6 harg6 hc0 hc1 hc2 x0 x1 x2).1)

/-- Case A's pieces for scratch `arg6`, which the kernel carries between points, cover it: 1 piece of `S256x76` tiling it (Lib/Ring.lean `Piece.tiledL`). -/
theorem scover3_A_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : cond3_0 i) (hc1 : ¬cond3_1 i) (hc2 : ¬cond3_2 i)
    (x0 : Vec F S1x256x2048 .f32) (x1 : Vec F S19x1x2x2048 .f32) (x2 : Vec F S19x1x2x2048 .f32) (y : S256x76.Idx) :
    ∃ pc ∈ (kernelRun3_A c i arg2 harg2 arg3 harg3 arg4 harg4 arg5 harg5 arg6 harg6 hc0 hc1 hc2 x0 x1 x2).2.1, y ∈ pc.1.set :=
  View.cover_of_tiledL (kernelRun3_A c i arg2 harg2 arg3 harg3 arg4 harg4 arg5 harg5 arg6 harg6 hc0 hc1 hc2 x0 x1 x2).2.1 S256x76.size (by sl_kernel_rfl) y

/-- What case A leaves in scratch `arg6`: its pieces read back over junk. -/
def sout3_A_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : cond3_0 i) (hc1 : ¬cond3_1 i) (hc2 : ¬cond3_2 i)
    (x0 : Vec F S1x256x2048 .f32) (x1 : Vec F S19x1x2x2048 .f32) (x2 : Vec F S19x1x2x2048 .f32) : Vec F S256x76 .f32 :=
  VS3_0.read (Elt F) (VS3_0.writes (Elt F) VS3_0.junk (kernelRun3_A c i arg2 harg2 arg3 harg3 arg4 harg4 arg5 harg5 arg6 harg6 hc0 hc1 hc2 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 30: 30 of 32), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : ¬cond3_2 i)
    (x0 : Vec F S1x256x2048 .f32) (x1 : Vec F S19x1x2x2048 .f32) (x2 : Vec F S19x1x2x2048 .f32) (xs0 : Vec F S256x76 .f32) :
    Σ' (L3 : List (View.Piece (Elt F) S1x1 .f32)), { LS0 : List (View.Piece (Elt F) S256x76 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__contract_kernel i arg2 harg2 arg3 harg3 arg4 harg4 arg5 harg5 arg6 harg6) K } := by
  refine ⟨[], ?_, fun xi3 E K => ?run⟩
  case run =>
    simp only [cc3__contract_kernel_eq_skeleton]; unfold cc3__contract_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out3_B_3 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : ¬cond3_2 i)
    (x0 : Vec F S1x256x2048 .f32) (x1 : Vec F S19x1x2x2048 .f32) (x2 : Vec F S19x1x2x2048 .f32) (xs0 : Vec F S256x76 .f32) : Vec F S1x1 .f32 :=
  VO3_3.read (Elt F) (VO3_3.writes (Elt F) VO3_3.junk (kernelRun3_B c i arg2 harg2 arg3 harg3 arg4 harg4 arg5 harg5 arg6 harg6 hc0 hc1 hc2 x0 x1 x2 xs0).1)

/-- Case B's pieces for scratch `arg6`, which the kernel carries between points, cover it: 1 piece of `S256x76` tiling it (Lib/Ring.lean `Piece.tiledL`). -/
theorem scover3_B_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : ¬cond3_2 i)
    (x0 : Vec F S1x256x2048 .f32) (x1 : Vec F S19x1x2x2048 .f32) (x2 : Vec F S19x1x2x2048 .f32) (xs0 : Vec F S256x76 .f32) (y : S256x76.Idx) :
    ∃ pc ∈ (kernelRun3_B c i arg2 harg2 arg3 harg3 arg4 harg4 arg5 harg5 arg6 harg6 hc0 hc1 hc2 x0 x1 x2 xs0).2.1, y ∈ pc.1.set :=
  View.cover_of_tiledL (kernelRun3_B c i arg2 harg2 arg3 harg3 arg4 harg4 arg5 harg5 arg6 harg6 hc0 hc1 hc2 x0 x1 x2 xs0).2.1 S256x76.size (by sl_kernel_rfl) y

/-- What case B leaves in scratch `arg6`: its pieces read back over junk. -/
def sout3_B_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : ¬cond3_2 i)
    (x0 : Vec F S1x256x2048 .f32) (x1 : Vec F S19x1x2x2048 .f32) (x2 : Vec F S19x1x2x2048 .f32) (xs0 : Vec F S256x76 .f32) : Vec F S256x76 .f32 :=
  VS3_0.read (Elt F) (VS3_0.writes (Elt F) VS3_0.junk (kernelRun3_B c i arg2 harg2 arg3 harg3 arg4 harg4 arg5 harg5 arg6 harg6 hc0 hc1 hc2 x0 x1 x2 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : cond3_2 i)
    (x0 : Vec F S1x256x2048 .f32) (x1 : Vec F S19x1x2x2048 .f32) (x2 : Vec F S19x1x2x2048 .f32) (xs0 : Vec F S256x76 .f32) :
    Σ' (L3 : List (View.Piece (Elt F) S1x1 .f32)), { LS0 : List (View.Piece (Elt F) S256x76 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__contract_kernel i arg2 harg2 arg3 harg3 arg4 harg4 arg5 harg5 arg6 harg6) K } := by
  refine ⟨?_, ?_, fun E K => ?run⟩
  case run =>
    simp only [cc3__contract_kernel_eq_skeleton]; unfold cc3__contract_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Case C's pieces for output 3 tile its block (1 store of `S1x1`, checked by the kernel's evaluation: Lib/Ring.lean `Piece.tiledL`, linear in the pieces, through a loop's `@[irreducible]` trip theorem too), so they cover it. -/
theorem cover3_C_3 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : cond3_2 i)
    (x0 : Vec F S1x256x2048 .f32) (x1 : Vec F S19x1x2x2048 .f32) (x2 : Vec F S19x1x2x2048 .f32) (xs0 : Vec F S256x76 .f32) (y : S1x1.Idx) :
    ∃ pc ∈ (kernelRun3_C c i arg2 harg2 arg3 harg3 arg4 harg4 arg5 harg5 arg6 harg6 hc0 hc1 hc2 x0 x1 x2 xs0).1, y ∈ pc.1.set :=
  View.cover_of_tiledL (kernelRun3_C c i arg2 harg2 arg3 harg3 arg4 harg4 arg5 harg5 arg6 harg6 hc0 hc1 hc2 x0 x1 x2 xs0).1 S1x1.size (by sl_kernel_rfl) y

/-- What case C leaves in output 3's staging buffer: its pieces read back over junk. -/
def out3_C_3 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : cond3_2 i)
    (x0 : Vec F S1x256x2048 .f32) (x1 : Vec F S19x1x2x2048 .f32) (x2 : Vec F S19x1x2x2048 .f32) (xs0 : Vec F S256x76 .f32) : Vec F S1x1 .f32 :=
  VO3_3.read (Elt F) (VO3_3.writes (Elt F) VO3_3.junk (kernelRun3_C c i arg2 harg2 arg3 harg3 arg4 harg4 arg5 harg5 arg6 harg6 hc0 hc1 hc2 x0 x1 x2 xs0).1)

/-- Case C's pieces for scratch `arg6`, which the kernel carries between points, cover it: 1 piece of `S256x76` tiling it (Lib/Ring.lean `Piece.tiledL`). -/
theorem scover3_C_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : cond3_2 i)
    (x0 : Vec F S1x256x2048 .f32) (x1 : Vec F S19x1x2x2048 .f32) (x2 : Vec F S19x1x2x2048 .f32) (xs0 : Vec F S256x76 .f32) (y : S256x76.Idx) :
    ∃ pc ∈ (kernelRun3_C c i arg2 harg2 arg3 harg3 arg4 harg4 arg5 harg5 arg6 harg6 hc0 hc1 hc2 x0 x1 x2 xs0).2.1, y ∈ pc.1.set :=
  View.cover_of_tiledL (kernelRun3_C c i arg2 harg2 arg3 harg3 arg4 harg4 arg5 harg5 arg6 harg6 hc0 hc1 hc2 x0 x1 x2 xs0).2.1 S256x76.size (by sl_kernel_rfl) y

/-- What case C leaves in scratch `arg6`: its pieces read back over junk. -/
def sout3_C_0 (c : Dev nD) (i : grid3.Coords) (arg2 : Memref sig .tc .vmem S1x256x2048 .f32) (harg2 : arg2.IsWhole) (arg3 : Memref sig .tc .vmem S19x1x2x2048 .f32) (harg3 : arg3.IsWhole) (arg4 : Memref sig .tc .vmem S19x1x2x2048 .f32) (harg4 : arg4.IsWhole) (arg5 : Memref sig .tc .vmem S1x1 .f32) (harg5 : arg5.IsWhole) (arg6 : Memref sig .tc .vmem S256x76 .f32) (harg6 : arg6.IsWhole) (hc0 : ¬cond3_0 i) (hc1 : cond3_1 i) (hc2 : cond3_2 i)
    (x0 : Vec F S1x256x2048 .f32) (x1 : Vec F S19x1x2x2048 .f32) (x2 : Vec F S19x1x2x2048 .f32) (xs0 : Vec F S256x76 .f32) : Vec F S256x76 .f32 :=
  VS3_0.read (Elt F) (VS3_0.writes (Elt F) VS3_0.junk (kernelRun3_C c i arg2 harg2 arg3 harg3 arg4 harg4 arg5 harg5 arg6 harg6 hc0 hc1 hc2 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1x1 .f32 × Vec F S256x76 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (fun h => (fun h => by (try dsimp only at h); omega) ((hcond3_2 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (fun h => (fun h => by (try dsimp only at h); omega) ((hcond3_2 ⟨0, hn⟩).mp h)) (iblk3 V c 0 ⟨0, hn⟩) (iblk3 V c 1 ⟨0, hn⟩) (iblk3 V c 2 ⟨0, hn⟩))
  | n + 1, hn =>
    if h0 : (n + 1) % 32 = 0 then
      if h1 : 1 ≤ (n + 1) then
        False.elim (by have hN : n + 1 < 32 := lt_of_lt_of_eq hn (show cfg3.N = 32 from N_3); omega)
      else
        if h2 : (n + 1) % 32 = 31 then
          False.elim (by have hN : n + 1 < 32 := lt_of_lt_of_eq hn (show cfg3.N = 32 from N_3); omega)
        else
          (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩))
    else
      if h1 : 1 ≤ (n + 1) then
        if h2 : (n + 1) % 32 = 31 then
          (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2)
        else
          (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)
      else
        False.elim (by have hN : n + 1 < 32 := lt_of_lt_of_eq hn (show cfg3.N = 32 from N_3); omega)

/-- `outsAt3` at a point of case A: that case's contents. -/
theorem outsAt3_A (c : Dev nD) (t : Fin cfg3.N) (h0 : t.val % 32 = 0) (h1 : ¬1 ≤ t.val) (h2 : ¬t.val % 32 = 31) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (fun h => h2 ((hcond3_2 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (fun h => h2 ((hcond3_2 t).mp h)) (iblk3 V c 0 t) (iblk3 V c 1 t) (iblk3 V c 2 t)) := by
  obtain ⟨n, hn⟩ := t
  cases n with
  | zero => exact rfl
  | succ n => exact (dif_pos h0).trans ((dif_neg h1).trans ((dif_neg h2).trans rfl))

/-- `outsAt3` at a point of case B: that case's contents, over what the point before left. -/
theorem outsAt3_B (c : Dev nD) (t : Fin cfg3.N) (h0 : ¬t.val % 32 = 0) (h1 : 1 ≤ t.val) (h2 : ¬t.val % 32 = 31) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (fun h => h2 ((hcond3_2 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (fun h => h2 ((hcond3_2 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt3` at a point of case C: that case's contents, over what the point before left. -/
theorem outsAt3_C (c : Dev nD) (t : Fin cfg3.N) (h0 : ¬t.val % 32 = 0) (h1 : 1 ≤ t.val) (h2 : t.val % 32 = 31) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) ((hcond3_2 t).mpr h2) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) ((hcond3_2 t).mpr h2) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2)) ∗ (∃ r, prngReg c r))

theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2)) ∗ (∃ r, prngReg c r)) := rfl

/-- Before a point that is not the first: the carried scratch at what the point before left. -/
theorem PhiS_pos (c : Dev nD) (n : ℕ) (h : n ≤ cfg3.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c (n - 1) (by omega)).2)) ∗ (∃ r, prngReg c r)) := by
  cases n with
  | zero => exact absurd rfl hz
  | succ n => rfl

/-! ## The pipeline's proof data -/

/-- The proof data of pipeline 3 on core `c`: the arrays as the region finds them (`V`); after the body at
    point `t` each input's buffer at its block and the outputs' at `outsAt3`; the invariant the class's
    (`PhiS`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS_castSucc (c : Dev nD) (t : Fin cfg3.N) :
    (dat3 V c).Φ t.castSucc = PhiS V c t.val (Nat.le_of_lt t.isLt) := by
  dsimp only [dat3]; exact Pipeline.Dat.Φ_castSucc (PhiS V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks (`before3_W`); the closed forms say which case the point is in (`by_cases`), an output the case reads before covering holds what the point before left (`before3_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  have hN : t.val < 32 := lt_of_lt_of_eq t.isLt (show cfg3.N = 32 from N_3)
  by_cases h0 : t.val % 32 = 0
  · by_cases h1 : 1 ≤ t.val
    · exfalso; omega
    · by_cases h2 : t.val % 32 = 31
      · exfalso; omega
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [Dat.leavesExact_idle (dat3 V c) 3 t (idleAt3_3_A t ((hcond3_0 t).mpr h0) (fun h => h1 ((hcond3_1 t).mp h)) (fun h => h2 ((hcond3_2 t).mp h))) (noFlush3_3_A t ((hcond3_0 t).mpr h0) (fun h => h1 ((hcond3_1 t).mp h)) (fun h => h2 ((hcond3_2 t).mp h)))]
        by_cases hz : t.val = 0
        · rw [PhiS_castSucc V c t, PhiS_zero V c _ _ hz, PhiA3_eq]
          rw [outsAt3_A V c t h0 h1 h2]
          unfold sout3_A_0; (try dsimp only)
          iintro ⟨⟨⟨HR0, HR1, HR2, HR3, HR4, HR5, HR6, HR7, HR8, HR9, HR10, HR11, HR12, HR13, HR14, HR15, HR16, HR17, HR18, HR19, HS0⟩, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (fun h => h1 ((hcond3_1 t).mp h)) (fun h => h2 ((hcond3_2 t).mp h)) (iblk3 V c 0 t) (iblk3 V c 1 t) (iblk3 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HR0 HR1 HR2 HR3 HR4 HR5 HR6 HR7 HR8 HR9 HR10 HR11 HR12 HR13 HR14 HR15 HR16 HR17 HR18 HR19 HS0 Hg]
          · isplitl [HR0 HR1 HR2 HR3 HR4 HR5 HR6 HR7 HR8 HR9 HR10 HR11 HR12 HR13 HR14 HR15 HR16 HR17 HR18 HR19 HS0]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              unfold owns; iexists _; isplitr
              swap; · iexact HS0
              ipureintro; exact View.read_writes_of_cover _ _ _ _ _ (scover3_A_0 c _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
        · exfalso; have hN : t.val < 32 := lt_of_lt_of_eq t.isLt (show cfg3.N = 32 from N_3); omega
  · by_cases h1 : 1 ≤ t.val
    · by_cases h2 : t.val % 32 = 31
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [show (dat3 V c).leavesExact 3 t = owns (c : Thread nD τ) (ms3_3 t) fullShare ((dat3 V c).after 3 t) from by
      unfold Dat.leavesExact; rw [liveAt3_3_C t (fun h => h0 ((hcond3_0 t).mp h)) ((hcond3_1 t).mpr h1) ((hcond3_2 t).mpr h2)], after3_3]
        by_cases hz : t.val = 0
        · exfalso; have hN : t.val < 32 := lt_of_lt_of_eq t.isLt (show cfg3.N = 32 from N_3); omega
        · rw [PhiS_castSucc V c t, PhiS_pos V c _ _ hz]
          rw [outsAt3_C V c t h0 h1 h2]
          unfold out3_C_3 sout3_C_0; (try dsimp only)
          iintro ⟨⟨⟨HR0, HR1, HR2, HR3, HR4, HR5, HR6, HR7, HR8, HR9, HR10, HR11, HR12, HR13, HR14, HR15, HR16, HR17, HR18, HR19, HS0⟩, Hg⟩, Ho, ⟨%d0, H0⟩, ⟨%d1, H1⟩, ⟨%d2, H2⟩, ⟨%d3, H3⟩⟩
          iapply ((kernelRun3_C c (grid3.coords t) _ _ _ _ _ _ _ _ _ _ (fun h => h0 ((hcond3_0 t).mp h)) ((hcond3_1 t).mpr h1) ((hcond3_2 t).mpr h2) (iblk3 V c 0 t) (iblk3 V c 1 t) (iblk3 V c 2 t) _).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HR0 HR1 HR2 HR3 HR4 HR5 HR6 HR7 HR8 HR9 HR10 HR11 HR12 HR13 HR14 HR15 HR16 HR17 HR18 HR19 HS0 Hg]
          · isplitl [HR0 HR1 HR2 HR3 HR4 HR5 HR6 HR7 HR8 HR9 HR10 HR11 HR12 HR13 HR14 HR15 HR16 HR17 HR18 HR19 HS0]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              unfold owns; iexists _; isplitr
              swap; · iexact HS0
              ipureintro; exact View.read_writes_of_cover _ _ _ _ _ (scover3_C_0 c _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover3_C_3 c _ _ _ _ _ _ _ _ _ _ _ _ _ _ _ _ _ _)
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [Dat.leavesExact_idle (dat3 V c) 3 t (idleAt3_3_B t (fun h => h0 ((hcond3_0 t).mp h)) ((hcond3_1 t).mpr h1) (fun h => h2 ((hcond3_2 t).mp h))) (noFlush3_3_B t (fun h => h0 ((hcond3_0 t).mp h)) ((hcond3_1 t).mpr h1) (fun h => h2 ((hcond3_2 t).mp h)))]
        by_cases hz : t.val = 0
        · exfalso; have hN : t.val < 32 := lt_of_lt_of_eq t.isLt (show cfg3.N = 32 from N_3); omega
        · rw [PhiS_castSucc V c t, PhiS_pos V c _ _ hz]
          rw [outsAt3_B V c t h0 h1 h2]
          unfold sout3_B_0; (try dsimp only)
          iintro ⟨⟨⟨HR0, HR1, HR2, HR3, HR4, HR5, HR6, HR7, HR8, HR9, HR10, HR11, HR12, HR13, HR14, HR15, HR16, HR17, HR18, HR19, HS0⟩, Hg⟩, Ho, ⟨%d0, H0⟩, ⟨%d1, H1⟩, ⟨%d2, H2⟩, ⟨%d3, H3⟩⟩
          iapply ((kernelRun3_B c (grid3.coords t) _ _ _ _ _ _ _ _ _ _ (fun h => h0 ((hcond3_0 t).mp h)) ((hcond3_1 t).mpr h1) (fun h => h2 ((hcond3_2 t).mp h)) (iblk3 V c 0 t) (iblk3 V c 1 t) (iblk3 V c 2 t) _).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HR0 HR1 HR2 HR3 HR4 HR5 HR6 HR7 HR8 HR9 HR10 HR11 HR12 HR13 HR14 HR15 HR16 HR17 HR18 HR19 HS0 Hg]
          · isplitl [HR0 HR1 HR2 HR3 HR4 HR5 HR6 HR7 HR8 HR9 HR10 HR11 HR12 HR13 HR14 HR15 HR16 HR17 HR18 HR19 HS0]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              unfold owns; iexists _; isplitr
              swap; · iexact HS0
              ipureintro; exact View.read_writes_of_cover _ _ _ _ _ (scover3_B_0 c _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HR0, HR1, HR2, HR3, HR4, HR5, HR6, HR7, HR8, HR9, HR10, HR11, HR12, HR13, HR14, HR15, HR16, HR17, HR18, HR19, HS0⟩, Hg⟩
  isplitl [HR0 HR1 HR2 HR3 HR4 HR5 HR6 HR7 HR8 HR9 HR10 HR11 HR12 HR13 HR14 HR15 HR16 HR17 HR18 HR19 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    iexists _; iexact HS0
  iexact Hg

/-- The same after the last point. -/
theorem hout (c : Dev nD) : (dat3 V c).Φ (Fin.last cfg3.N) ⊢ Pipeline.ΦA spec3 c :=
  Phi_out V c _ (by rw [Fin.val_last]; have : cfg3.N = 32 := N_3; omega)

end Cert.KernelIdeal.Run

end
-- ==== Proof.Run.Launch.lean ====
/- The run of the kernel: its four regions and the host operations between them as segments, the buffer contents at every
   boundary, and the final state. Laid out like the generated run of a program of several regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import proofs.«01_k».proof.Proof.Run.Interp
public import proofs.«01_k».proof.Proof.Run.Hist
public import proofs.«01_k».proof.Proof.Run.Contract

@[expose] public section

-- a cover by rectangles of the kernel's own extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v1, main_v2, main_c, main_v3, main_v4, main_c_1, main_v5, main_v6, main_v7, main_v8, main_v9, main_v10, main_c_2, main_v11, main_v12, main_v13, main_v14, main_c_3, main_v15, main_v16, main_c_4, main_v17, main_v18, main_v19, main_v20, main_v21, main_cst_5, main_v22, main_v23, main_v24, main_v25, main_v26, main_c_6, main_v27, main_v28, main_c_7, main_v29, main_v30, main_v31, main_v32, main_v33, main_v34, main_v35, main_v36, main_v37]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v39]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v42, main_v43, main_v44]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v46]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact (dat0 (V3 m ρ) c).withArrays_arrAt launch₀0.sharedIn _ (A_eq0 (V3 m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`) (region 2's entry). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3` (region 3's entry). -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W8_args (c : Dev nD) : ∀ a ∈ argRefs, W8 m ρ c (Proc.devRef .tc a) = m ((c : Thread nD τ).loc a) :=
  fun a ha => (W8_of m ρ c a (hostOps3_args a ha)).trans (W7_args m ρ c a ha)
/-- The same read at the TensorCore's references (what region 3's proof data take). -/
abbrev V8 : (c : Dev nD) → (b : Ref sig .tc) → Buf (Elt F) ((c : Thread nD τ).loc b) := fun c b => W8 m ρ c b
/-- At region 3's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After `hostOps4`. -/
abbrev W10 : Dev nD → Valuation τ sig (Elt F) := fun c => StableHlo.after hostOps4 (W9 m ρ c)
/-- A reference `hostOps4` does not write keeps its contents across it. -/
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) : ∀ a ∈ argRefs, W10 m ρ c (Proc.devRef .tc a) = m ((c : Thread nD τ).loc a) :=
  fun a ha => (W10_of m ρ c a (hostOps4_args a ha)).trans (W9_args m ρ c a ha)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec3 c ⊢ (pdats m ρ 3 c).Φ 0 := hin (V8 m ρ) c
    unfold Pipeline.ΦA at h
    iintro ⟨Hp, -, Hr⟩
    iapply h
    isplitl [Hr]; · iexact Hr
    iexact Hp
  hout c := by
    rw [Pipeline.ownSems0_none]
    have h : (pdats m ρ 3 c).Φ (Fin.last (Pipeline.pin (pcfgs (F := F)) adm 3).N) ⊢ Pipeline.ΦA spec3 c := hout (V8 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The kernel's run, at any reading of the floats: from any memory with zero counters every weakly fair execution of
    @main on the TensorCores terminates without fault, and every final state has the arguments as launched, the result
    `main_v46` at the last boundary's contents `W10`, and every semaphore counter at zero. -/
theorem frame : θ_run defs (onTc (τ := τ) (main (F := F))) ⟨m, fun _ => 0, ρ⟩ (fun r => (∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v46 (by decide)), (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩), funext fun g => hz g (.inr (no_unscoped g.2))⟩)

end Cert.KernelIdeal.Run

end
-- ==== Proof.Frames.lean ====
/- The five frames: both spellings of the program from the run of its four pipelined calls (Proof/Run/Launch.lean), and
   the reference from its straight-line run. -/
module

public import proofs.«01_k».proof.Defs
public import proofs.«01_k».proof.Proof.Gen.Kernel.Launch
public import proofs.«01_k».proof.Proof.Gen.Kernel.Regions
public import proofs.«01_k».proof.Proof.Gen.Kernel.Points
public import proofs.«01_k».proof.Proof.Gen.ReferenceIdeal
public import proofs.«01_k».proof.Proof.Gen.ReferenceIdeal.Run
public import proofs.«01_k».proof.Proof.Gen.Pre_drawn
public import proofs.«01_k».proof.Proof.Run.Launch
public import Idealize.ShloMosaic.Lib.Quiescent

@[expose] public section

noncomputable section

namespace Cert.Proof

open Idealize.ShloMosaic Idealize.SL.Sem

/-- The frame of the idealized program at any float values: what Run/Launch.lean states, the result's contents dropped. -/
theorem frame_any {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run _ _ _).mono (fun _ h => ⟨fun c => (h.1 c).2, h.2⟩) (Cert.KernelIdeal.Run.frame m g)

set_option maxHeartbeats 4000000 in
/-- The four bodies of the program as printed and of its idealization are the same terms (no operation was rewritten). -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext p
  match p with
  | 0 => rfl
  | 1 => rfl
  | 2 => rfl
  | 3 => rfl

set_option maxHeartbeats 4000000 in
theorem defs_eq {F : FTy → Type} [FloatOps F] : Cert.Kernel.defs (F := F) = Cert.KernelIdeal.defs (F := F) := by
  exact congrArg (Pipeline.defs Cert.KernelIdeal.pcfgs) bodies_eq

set_option maxHeartbeats 4000000 in
theorem main_eq {F : FTy → Type} [FloatOps F] : Cert.Kernel.main (F := F) = Cert.KernelIdeal.main (F := F) := rfl

set_option maxHeartbeats 4000000 in
/-- The program as printed, at its bits: the two spellings are one program, so the run is the one above. -/
theorem frame_Kernel : Cert.quiescent_Kernel (hKernel := Cert.Kernel.Gen.facts) := fun m g _ => by
  have h := frame_any (F := Bits) m g
  rw [← defs_eq, ← main_eq] at h
  exact h

theorem frame_KernelIdeal : Cert.quiescent_KernelIdeal (hKernelIdeal := Cert.KernelIdeal.Gen.facts) := fun m g _ => frame_any m g

theorem frame_KernelIdeal_pre : Cert.quiescent_KernelIdeal_pre_drawn (hKernelIdeal := Cert.KernelIdeal.Gen.facts)
    (hPre_drawn := Cert.Pre_drawn.Gen.facts) := fun m g _ => frame_any m g

/-- The reference's frame: its program signals no semaphore, for its signature has none. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h c).2, sem_eq_zero_of_no_sems (by decide) _⟩) (Cert.ReferenceIdeal.Value.run m g)

theorem frame_ReferenceIdeal : Cert.quiescent_ReferenceIdeal (hReferenceIdeal := Cert.ReferenceIdeal.Gen.facts) := fun m g _ => frame_ref m g

theorem frame_ReferenceIdeal_pre : Cert.quiescent_ReferenceIdeal_pre_drawn (hReferenceIdeal := Cert.ReferenceIdeal.Gen.facts)
    (hPre_drawn := Cert.Pre_drawn.Gen.facts) := fun m g _ => frame_ref m g

end Cert.Proof

end
-- ==== Proof.Value.Gather.lean ====
/- A gather along one axis, read at an index: the operand at the start index read signed and clamped into that axis. -/
module

public import Idealize.ShloMosaic.Lib.Pointwise
public import proofs.«01_k».proof.Proof.Gen.KernelIdeal
public import proofs.«01_k».proof.Proof.Gen.ReferenceIdeal

@[expose] public section

noncomputable section

namespace Cert.Gathers

open Idealize.ShloMosaic

/-- A word read as a position on an axis of `n` places: signed, and clamped. -/
def at' (n : Nat) (h : 0 < n) (b : BitVec 32) : Fin n := ⟨min b.toInt.toNat (n - 1), by omega⟩

/-- Rows of a matrix. -/
theorem rows_apply {α : Type} (x : Cert.KernelIdeal.S64x64.Idx → α) (idx : IVec Cert.KernelIdeal.S128x1 32) (i : Fin 128) (k : Fin 64) :
    Host.gather Cert.KernelIdeal.gather_S64x64_S128x1_S128x64_1_0_n_n_0_1_164 x idx (ix2 i k) = x (ix2 (at' 64 (by decide) (idx (ix2 i 0))) k) := by
  unfold Host.gather
  refine congrArg x ?_
  funext a
  refine Fin.ext ?_
  match a with
  | ⟨0, _⟩ =>
    refine congrArg (fun q => min (idx q).toInt.toNat (64 - 1))
      (?_ : Cert.KernelIdeal.gather_S64x64_S128x1_S128x64_1_0_n_n_0_1_164.siIdx (ix2 i k) ⟨0, by decide⟩ = ix2 i 0)
    funext b
    match b with
    | ⟨0, _⟩ => rfl
    | ⟨1, _⟩ => rfl
  | ⟨1, _⟩ => exact (Nat.zero_add _)

/-- Rows of images. -/
theorem take2_apply {α : Type} (x : Cert.ReferenceIdeal.S4x256x64x64.Idx → α) (idx : IVec Cert.ReferenceIdeal.S128x1 32) (b : Fin 4) (c : Fin 256) (i : Fin 128) (w : Fin 64) :
    Host.gather Cert.ReferenceIdeal.gather_S4x256x64x64_S128x1_S4x256x128x64_013_2_n_n_2_1_4256164 x idx (ix4 b c i w)
      = x (ix4 b c (at' 64 (by decide) (idx (ix2 i 0))) w) := by
  unfold Host.gather
  refine congrArg x ?_
  funext a
  refine Fin.ext ?_
  match a with
  | ⟨0, _⟩ => exact (Nat.zero_add _)
  | ⟨1, _⟩ => exact (Nat.zero_add _)
  | ⟨2, _⟩ =>
    refine congrArg (fun q => min (idx q).toInt.toNat (64 - 1))
      (?_ : Cert.ReferenceIdeal.gather_S4x256x64x64_S128x1_S4x256x128x64_013_2_n_n_2_1_4256164.siIdx (ix4 b c i w) ⟨0, by decide⟩ = ix2 i 0)
    funext b
    match b with
    | ⟨0, _⟩ => rfl
    | ⟨1, _⟩ => rfl
  | ⟨3, _⟩ => exact (Nat.zero_add _)

/-- Columns of images. -/
theorem take3_apply {α : Type} (x : Cert.ReferenceIdeal.S4x256x128x64.Idx → α) (idx : IVec Cert.ReferenceIdeal.S128x1 32) (b : Fin 4) (c : Fin 256) (i j : Fin 128) :
    Host.gather Cert.ReferenceIdeal.gather_S4x256x128x64_S128x1_S4x256x128x128_012_3_n_n_3_1_42561281 x idx (ix4 b c i j)
      = x (ix4 b c i (at' 64 (by decide) (idx (ix2 j 0)))) := by
  unfold Host.gather
  refine congrArg x ?_
  funext a
  refine Fin.ext ?_
  match a with
  | ⟨0, _⟩ => exact (Nat.zero_add _)
  | ⟨1, _⟩ => exact (Nat.zero_add _)
  | ⟨2, _⟩ => exact (Nat.zero_add _)
  | ⟨3, _⟩ =>
    refine congrArg (fun q => min (idx q).toInt.toNat (64 - 1))
      (?_ : Cert.ReferenceIdeal.gather_S4x256x128x64_S128x1_S4x256x128x128_012_3_n_n_3_1_42561281.siIdx (ix4 b c i j) ⟨0, by decide⟩ = ix2 j 0)
    funext b
    match b with
    | ⟨0, _⟩ => rfl
    | ⟨1, _⟩ => rfl

theorem big_apply {α : Type} (x : Cert.ReferenceIdeal.S256x16384.Idx → α) (idx : IVec Cert.ReferenceIdeal.S19x175x1 32) (c : Fin 256) (k : Fin 19) (n : Fin 175) :
    Host.gather Cert.ReferenceIdeal.gather_S256x16384_S19x175x1_S256x19x175_0_1_n_n_1_2_2561 x idx (ix3 c k n)
      = x (ix2 c (at' 16384 (by decide) (idx (ix3 k n 0)))) := by
  unfold Host.gather
  refine congrArg x ?_
  funext a
  refine Fin.ext ?_
  match a with
  | ⟨0, _⟩ => exact (Nat.zero_add _)
  | ⟨1, _⟩ =>
    refine congrArg (fun q => min (idx q).toInt.toNat (16384 - 1))
      (?_ : Cert.ReferenceIdeal.gather_S256x16384_S19x175x1_S256x19x175_0_1_n_n_1_2_2561.siIdx (ix3 c k n) ⟨0, by decide⟩ = ix3 k n 0)
    funext b
    match b with
    | ⟨0, _⟩ => rfl
    | ⟨1, _⟩ => rfl
    | ⟨2, _⟩ => rfl

theorem small_apply {α : Type} (x : Cert.ReferenceIdeal.S256x16384.Idx → α) (idx : IVec Cert.ReferenceIdeal.S19x75x1 32) (c : Fin 256) (k : Fin 19) (n : Fin 75) :
    Host.gather Cert.ReferenceIdeal.gather_S256x16384_S19x75x1_S256x19x75_0_1_n_n_1_2_2561 x idx (ix3 c k n)
      = x (ix2 c (at' 16384 (by decide) (idx (ix3 k n 0)))) := by
  unfold Host.gather
  refine congrArg x ?_
  funext a
  refine Fin.ext ?_
  match a with
  | ⟨0, _⟩ => exact (Nat.zero_add _)
  | ⟨1, _⟩ =>
    refine congrArg (fun q => min (idx q).toInt.toNat (16384 - 1))
      (?_ : Cert.ReferenceIdeal.gather_S256x16384_S19x75x1_S256x19x75_0_1_n_n_1_2_2561.siIdx (ix3 c k n) ⟨0, by decide⟩ = ix3 k n 0)
    funext b
    match b with
    | ⟨0, _⟩ => rfl
    | ⟨1, _⟩ => rfl
    | ⟨2, _⟩ => rfl

end Cert.Gathers

end
-- ==== Proof.Value.Grid.lean ====
/- The sample grid: position `i` of 128 lies at `63 i / 127` among 64 rows. -/
module

public import Idealize.ShloMosaic.Lib.Pointwise
public import Idealize.ShloMosaic.Lib.IdealHost
public import proofs.«01_k».proof.Proof.Value.Gather

@[expose] public section

noncomputable section

namespace Cert.Grid

open Idealize.ShloMosaic Cert.Gathers

/-- The row at or before sample `i`. -/
def low (i : Fin 128) : Fin 64 := ⟨63 * i.val / 127, by omega⟩
/-- The row after it, the last row having none. -/
def high (i : Fin 128) : Fin 64 := ⟨min (63 * i.val / 127 + 1) 63, by omega⟩
/-- How far sample `i` lies past its row. -/
def past (i : Fin 128) : ℝ := 63 * (i.val : ℝ) / 127 - ((63 * i.val / 127 : ℕ) : ℝ)

theorem floor_place (i : Fin 128) : ⌊63 * (i.val : ℝ) / 127⌋ = ((63 * i.val / 127 : ℕ) : ℤ) := by
  have h1 : 127 * (63 * i.val / 127) ≤ 63 * i.val := by omega
  have h2 : 63 * i.val < 127 * (63 * i.val / 127) + 127 := by omega
  generalize 63 * i.val / 127 = n at h1 h2 ⊢
  have h3 : 127 * (n : ℝ) ≤ 63 * (i.val : ℝ) := by exact_mod_cast h1
  have h4 : 63 * (i.val : ℝ) < 127 * (n : ℝ) + 127 := by exact_mod_cast h2
  rw [Int.floor_eq_iff, Int.cast_natCast]
  constructor <;> linarith

theorem past_nonneg (i : Fin 128) : 0 ≤ past i := by
  have h := Int.floor_le (63 * (i.val : ℝ) / 127)
  rw [floor_place, Int.cast_natCast] at h
  unfold past
  linarith

theorem past_le (i : Fin 128) : past i ≤ 1 := by
  have h := Int.lt_floor_add_one (63 * (i.val : ℝ) / 127)
  rw [floor_place, Int.cast_natCast] at h
  unfold past
  linarith

theorem ofBits_127 : Ideal.ofBits .f32 0x42FE0000#32 = ((127 : ℝ) : EReal) := by
  simp [Ideal.ofBits, Ideal.ieee]; rw [← EReal.coe_mul]; norm_num
theorem ofBits_63 : Ideal.ofBits .f32 0x427C0000#32 = ((63 : ℝ) : EReal) := by
  simp [Ideal.ofBits, Ideal.ieee]; rw [← EReal.coe_mul]; norm_num

theorem toInt_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The position as the host computes it. -/
theorem place (i : Fin 128) :
    (if h : i.val < 127 then
      0 * (1 - Ideal.div (FloatOps.sitofp (F := Ideal) FTy.f32 (BitVec.ofNat 32 i.val)) (Ideal.ofBits FTy.f32 1123942400#32)) +
        Ideal.ofBits FTy.f32 1115422720#32 * Ideal.div (FloatOps.sitofp (F := Ideal) FTy.f32 (BitVec.ofNat 32 i.val)) (Ideal.ofBits FTy.f32 1123942400#32)
     else Ideal.ofBits FTy.f32 1115422720#32) = ((63 * (i.val : ℝ) / 127 : ℝ) : EReal) := by
  rw [ofBits_127, ofBits_63]
  split
  · rw [zero_mul, zero_add, Ideal.div_coe (by norm_num)]
    have hs : FloatOps.sitofp (F := Ideal) FTy.f32 (BitVec.ofNat 32 i.val) = (((i.val : ℕ) : ℝ) : EReal) := by
      show (((BitVec.ofNat 32 i.val).toInt : ℝ) : EReal) = _
      rw [toInt_small _ (by omega)]; push_cast; rfl
    rw [hs, ← EReal.coe_mul, ← EReal.coe_mul]
    congr 1; ring
  · have : i.val = 127 := by omega
    rw [this]; congr 1; norm_num

/-- Its whole part, as a word. -/
theorem whole (i : Fin 128) :
    Ideal.fptosi 32 (Ideal.liftRound Int.floor ((63 * (i.val : ℝ) / 127 : ℝ) : EReal)) = BitVec.ofNat 32 (low i).val := by
  rw [Ideal.liftRound_coe, floor_place]
  unfold Ideal.fptosi
  rw [Ideal.toIntClamped_coe, if_pos (by push_cast; positivity), Int.floor_intCast]
  have h : (63 * i.val / 127 : ℕ) < 64 := (low i).isLt
  have : max (-((2 ^ (32 - 1) : ℕ) : ℤ)) (min (((2 ^ (32 - 1) : ℕ) : ℤ) - 1) ((63 * i.val / 127 : ℕ) : ℤ)) = ((63 * i.val / 127 : ℕ) : ℤ) := by omega
  rw [this]
  exact BitVec.ofInt_natCast _ _

theorem next (n : Fin 64) : IntOp.minsi (IntOp.addi (BitVec.ofNat 32 n.val) 1#32) 63#32 = BitVec.ofNat 32 (min (n.val + 1) 63) := by
  revert n; decide

theorem wrapped (n : Fin 64) :
    Scalar.select (IntOp.cmpi .slt (BitVec.ofNat 32 n.val) 0#32) (IntOp.addi (BitVec.ofNat 32 n.val) 64#32) (BitVec.ofNat 32 n.val) = BitVec.ofNat 32 n.val := by
  revert n; decide

theorem within (n : Fin 64) :
    IntOp.andi (IntOp.andi (IntOp.cmpi .sge (BitVec.ofNat 32 n.val) 0#32) (IntOp.cmpi .sle (BitVec.ofNat 32 n.val) 63#32)) 1#1 = 1#1 := by
  revert n; decide

theorem at_row (n : Fin 64) : at' 64 (by decide) (BitVec.ofNat 32 n.val) = n := by
  revert n; decide

/-- A pixel index is not negative, so wrapping leaves it. -/
theorem wrapped_pixel (n : Fin 16384) :
    Scalar.select (IntOp.cmpi .slt (BitVec.ofNat 32 n.val) 0#32) (IntOp.addi (BitVec.ofNat 32 n.val) 16384#32) (BitVec.ofNat 32 n.val) = BitVec.ofNat 32 n.val := by
  have h : IntOp.cmpi .slt (BitVec.ofNat 32 n.val) 0#32 = 0#1 := by
    have := toInt_small n.val (by omega)
    have hn : ¬ ((n.val : ℤ) < 0) := by omega
    simp only [IntOp.cmpi, BitVec.slt, this, BitVec.toInt_zero, hn, decide_false]
    rfl
  rw [h]
  rfl

theorem at_pixel (n : Fin 16384) : at' 16384 (by decide) (BitVec.ofNat 32 n.val) = n := by
  refine Fin.ext ?_
  unfold at'
  dsimp only
  rw [toInt_small n.val (by omega), Int.toNat_natCast]
  omega

theorem unit (i j : Fin 64) :
    FloatOps.uitofp (F := Ideal) FTy.f32 (IntOp.cmpi CmpIPredicate.eq (IntOp.addi (BitVec.ofNat 32 i.val) 0#32) (BitVec.ofNat 32 j.val)) = ((if i = j then 1 else 0 : ℝ) : EReal) := by
  have h : IntOp.cmpi CmpIPredicate.eq (IntOp.addi (BitVec.ofNat 32 i.val) 0#32) (BitVec.ofNat 32 j.val) = if i = j then 1#1 else 0#1 := by
    revert i j; decide
  rw [h]
  show ((((if i = j then 1#1 else 0#1 : BitVec 1).toNat : ℝ)) : EReal) = _
  split <;> simp

/-- The weight of row `k` in sample `i`. -/
def share (i : Fin 128) (k : Fin 64) : EReal :=
  ((if low i = k then 1 else 0 : ℝ) : EReal) * ((1 - past i : ℝ) : EReal) + ((if high i = k then 1 else 0 : ℝ) : EReal) * ((past i : ℝ) : EReal)

/-- A sum against the weights of one sample keeps two rows. -/
theorem sum_share (Y : Fin 64 → EReal) (i : Fin 128) :
    ∑ k : Fin 64, Y k * share i k = Y (low i) * ((1 - past i : ℝ) : EReal) + Y (high i) * ((past i : ℝ) : EReal) := by
  have one (z : Fin 64) (r : ℝ) : ∑ k : Fin 64, Y k * (((if z = k then 1 else 0 : ℝ) : EReal) * (r : EReal)) = Y z * (r : EReal) := by
    rw [Finset.sum_eq_single z]
    · simp
    · intro k _ hk
      rw [if_neg (Ne.symm hk), EReal.coe_zero, zero_mul, mul_zero]
    · intro h; exact absurd (Finset.mem_univ _) h
  rw [← one (low i), ← one (high i), ← Finset.sum_add_distrib]
  refine Finset.sum_congr rfl fun k _ => ?_
  unfold share
  refine EReal.left_distrib_of_nonneg ?_ ?_
  · rw [← EReal.coe_mul, EReal.coe_nonneg]
    refine mul_nonneg (by split <;> norm_num) (by linarith [past_le i])
  · rw [← EReal.coe_mul, EReal.coe_nonneg]
    refine mul_nonneg (by split <;> norm_num) (past_nonneg i)

/-- Bilinear interpolation at sample `(i, j)`. -/
def bil (Y : Fin 64 → Fin 64 → EReal) (i j : Fin 128) : EReal :=
  (Y (low i) (low j) * ((1 - past j : ℝ) : EReal) + Y (low i) (high j) * ((past j : ℝ) : EReal)) * ((1 - past i : ℝ) : EReal)
    + (Y (high i) (low j) * ((1 - past j : ℝ) : EReal) + Y (high i) (high j) * ((past j : ℝ) : EReal)) * ((past i : ℝ) : EReal)

theorem sum_bil (Y : Fin 64 → Fin 64 → EReal) (i j : Fin 128) :
    ∑ h : Fin 64, share i h * ∑ w : Fin 64, Y h w * share j w = bil Y i j := by
  simp only [sum_share]
  simp only [mul_comm (share i _)]
  rw [sum_share]
  rfl

/-- The row of the drawn indices holding class `k`, batch entry `b`, group `g`. -/
def slot (k : Fin 19) (b : Fin 4) (g : Fin 2) : Fin 152 := ⟨(k.val * 4 + b.val) * 2 + g.val, by omega⟩

end Cert.Grid

end
-- ==== Proof.Value.Payloads.lean ====
/- What the bodies of the four pipelined calls compute, read at an index over the extended reals. -/
module

public import proofs.«01_k».proof.Proof.Gen.KernelIdeal.Skeleton
public import Idealize.ShloMosaic.Lib.Pointwise

@[expose] public section

noncomputable section

namespace Cert.KernelIdeal.Value

open Idealize.ShloMosaic Cert.KernelIdeal Cert.KernelIdeal.Gen

theorem interp_apply (x : Vec Ideal S1x32x64x64 .f32) (cm rm : Vec Ideal S128x64 .f32) (c : Fin 32) (i j : Fin 128) :
    k0_pay1 x cm rm (ix3 c i j) = ∑ h : Fin 64, rm (ix2 i h) * ∑ w : Fin 64, x (ix4 0 c h w) * cm (ix2 j w) := by
  pointwise [k0_pay1]

theorem interp_out_apply (x : Vec Ideal S1x32x64x64 .f32) (cm rm : Vec Ideal S128x64 .f32) (c : Fin 32) (i j : Fin 128) :
    k0_pay2 x cm rm (ix4 0 c i j) = ∑ h : Fin 64, rm (ix2 i h) * ∑ w : Fin 64, x (ix4 0 c h w) * cm (ix2 j w) := by
  pointwise [k0_pay2]
  exact interp_apply x cm rm c i j

theorem ssq_apply (x : Vec Ideal S1x32x64x64 .f32) (cm rm : Vec Ideal S128x64 .f32) (i j : Fin 128) :
    k0_pay3 x cm rm (ix2 i j) = ∑ c : Fin 32, k0_pay1 x cm rm (ix3 c i j) * k0_pay1 x cm rm (ix3 c i j) := by
  pointwise [k0_pay3]

theorem ssq_first_apply (x : Vec Ideal S1x32x64x64 .f32) (cm rm : Vec Ideal S128x64 .f32) (i j : Fin 128) :
    k0_pay4 x cm rm (ix3 0 i j) = ∑ c : Fin 32, k0_pay1 x cm rm (ix3 c i j) * k0_pay1 x cm rm (ix3 c i j) := by
  pointwise [k0_pay4]
  exact ssq_apply x cm rm i j

theorem ssq_next_apply (x : Vec Ideal S1x32x64x64 .f32) (cm rm : Vec Ideal S128x64 .f32) (acc : Vec Ideal S1x128x128 .f32) (i j : Fin 128) :
    k0_pay5 x cm rm acc (ix3 0 i j)
      = acc (ix3 0 i j) + ∑ c : Fin 32, k0_pay1 x cm rm (ix3 c i j) * k0_pay1 x cm rm (ix3 c i j) := by
  pointwise [k0_pay5]
  rw [ssq_apply x cm rm i j]

/-- The 76 histogram rows the last call multiplies by: 19 of each of the four kinds, one kind after another. -/
def hists (hb hs : Vec Ideal S19x1x2x2048 .f32) (n : Fin 76) (p : Fin 2048) : EReal :=
  if h0 : n.val < 19 then hb (ix4 ⟨n.val, h0⟩ 0 0 p)
  else if h1 : n.val - 19 < 19 then hb (ix4 ⟨n.val - 19, h1⟩ 0 1 p)
  else if h2 : n.val - 19 - 19 < 19 then hs (ix4 ⟨n.val - 19 - 19, h2⟩ 0 0 p)
  else hs (ix4 ⟨n.val - 19 - 19 - 19, by omega⟩ 0 1 p)

theorem contract_apply (f : Vec Ideal S1x256x2048 .f32) (hb hs : Vec Ideal S19x1x2x2048 .f32) (c : Fin 256) (n : Fin 76) :
    k3_pay1 f hb hs (ix2 c n) = ∑ p : Fin 2048, f (ix3 0 c p) * hists hb hs n p := by
  pointwise [k3_pay1]
  refine Finset.sum_congr rfl fun p _ => congrArg _ ?_
  unfold hists
  split_ifs <;> rfl

theorem contract_next_apply (f : Vec Ideal S1x256x2048 .f32) (hb hs : Vec Ideal S19x1x2x2048 .f32) (acc : Vec Ideal S256x76 .f32) (j : S256x76.Idx) :
    k3_pay3 f hb hs acc j = acc j + k3_pay1 f hb hs j := by
  pointwise [k3_pay3]

theorem contract_last_apply (acc : Vec Ideal S256x76 .f32) (j : S1x1.Idx) :
    k3_pay4 acc j = Ideal.div (Ideal.div (∑ c : Fin 256, ∑ k : Fin 19,
        (acc (ix2 c ⟨57 + k.val, by omega⟩) - acc (ix2 c ⟨38 + k.val, by omega⟩))
          * (acc (ix2 c ⟨k.val, by omega⟩) - acc (ix2 c ⟨19 + k.val, by omega⟩)))
        (Ideal.ofBits .f32 0x494D1400#32)) (Ideal.ofBits .f32 0x41980000#32) := by
  pointwise [k3_pay4]

end Cert.KernelIdeal.Value

end
-- ==== Proof.Value.Interp.lean ====
/- The interpolation call: what it leaves in its two output arrays, at an index. -/
module

public import proofs.«01_k».proof.Proof.Run.Interp
public import proofs.«01_k».proof.Proof.Value.Payloads
public import Idealize.ShloMosaic.Lib.Pipeline.ValueKit

@[expose] public section

noncomputable section

namespace Cert.KernelIdeal.Value

open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem outs0_3 (c : Dev nD) (t : Fin cfg0.N) :
    (outsAt0 V c t.val t.isLt).1 = k0_pay2 (iblk0 V c 0 t) (iblk0 V c 2 t) (iblk0 V c 1 t) := by
  by_cases h : t.val % 8 = 0
  · rw [outsAt0_A V c t h (by omega)]
    frame_out
  · rw [outsAt0_B V c t h (by omega)]
    frame_out

theorem outs0_4_first (c : Dev nD) (t : Fin cfg0.N) (h : t.val % 8 = 0) :
    (outsAt0 V c t.val t.isLt).2 = k0_pay4 (iblk0 V c 0 t) (iblk0 V c 2 t) (iblk0 V c 1 t) := by
  rw [outsAt0_A V c t h (by omega)]
  frame_out

theorem outs0_4_next (c : Dev nD) (t : Fin cfg0.N) (h : ¬t.val % 8 = 0) :
    (outsAt0 V c t.val t.isLt).2 = k0_pay5 (iblk0 V c 0 t) (iblk0 V c 2 t) (iblk0 V c 1 t)
      (outsAt0 V c (t.val - 1) (Nat.lt_of_le_of_lt (Nat.sub_le _ _) t.isLt)).2 := by
  rw [outsAt0_B V c t h (by omega)]
  frame_out

theorem idx0_0 : ∀ t : Fin cfg0.N, win0_0.index t = ![t.val / 8, t.val % 8, 0, 0] :=
  (by decide +kernel : ∀ t : Fin grid0.N, _)
theorem idx0_1 : ∀ t : Fin cfg0.N, win0_1.index t = ![0, 0] :=
  (by decide +kernel : ∀ t : Fin grid0.N, _)
theorem idx0_2 : ∀ t : Fin cfg0.N, win0_2.index t = ![0, 0] :=
  (by decide +kernel : ∀ t : Fin grid0.N, _)
theorem idx0_3 : ∀ t : Fin cfg0.N, win0_3.index t = ![t.val / 8, t.val % 8, 0, 0] :=
  (by decide +kernel : ∀ t : Fin grid0.N, _)
theorem idx0_4 : ∀ t : Fin cfg0.N, win0_4.index t = ![t.val / 8, 0, 0] :=
  (by decide +kernel : ∀ t : Fin grid0.N, _)

/-- The interpolated feature at a pixel: rows of `R` weigh the 64 input rows and columns. -/
def xi (X : S4x256x64x64.Idx → EReal) (R : S128x64.Idx → EReal) (b : Fin 4) (c : Fin 256) (i j : Fin 128) : EReal :=
  ∑ h : Fin 64, R (ix2 i h) * ∑ w : Fin 64, X (ix4 b c h w) * R (ix2 j w)

/-- The sum of its squares over the channels. -/
def ssq (X : S4x256x64x64.Idx → EReal) (R : S128x64.Idx → EReal) (b : Fin 4) (i j : Fin 128) : EReal :=
  ∑ c : Fin 256, xi X R b c i j * xi X R b c i j

def xiArr (X : S4x256x64x64.Idx → EReal) (R : S128x64.Idx → EReal) (q : S4x256x128x128.Idx) : EReal :=
  xi X R (q 0 : Fin 4) (q 1 : Fin 256) (q 2 : Fin 128) (q 3 : Fin 128)

def ssqArr (X : S4x256x64x64.Idx → EReal) (R : S128x64.Idx → EReal) (q : S4x128x128.Idx) : EReal :=
  ssq X R (q 0 : Fin 4) (q 1 : Fin 128) (q 2 : Fin 128)

theorem N0 : cfg0.N = 32 := by decide +kernel

/-- Point `t` handles batch entry `t / 8`, -/
def pb (t : Fin cfg0.N) : Fin 4 := ⟨t.val / 8, by have := lt_of_lt_of_eq t.isLt N0; omega⟩
/-- and of its channels block `t % 8`. -/
def pc (t : Fin cfg0.N) (c : Fin 32) : Fin 256 := ⟨t.val % 8 * 32 + c.val, by omega⟩

theorem block_x (c : Dev nD) (t : Fin cfg0.N) (k : Fin 32) (h w : Fin 64) :
    (iblk0 V c 0 t : S1x32x64x64.Idx → EReal) (ix4 (0 : Fin 1) k h w) = (V c main_arg0 : S4x256x64x64.Idx → EReal) (ix4 (pb t) (pc t k) h w) := by
  refine congrArg (V c main_arg0) (?_ : ((win0_0.blk t).view.emb (ix4 (0 : Fin 1) k h w : S1x32x64x64.Idx) : S4x256x64x64.Idx) = _)
  unfold pb pc
  blk_ext [idx0_0]

theorem block_r (c : Dev nD) (t : Fin cfg0.N) (i : Fin 128) (h : Fin 64) :
    (iblk0 V c 1 t : S128x64.Idx → EReal) (ix2 i h) = (V c main_v37 : S128x64.Idx → EReal) (ix2 i h) := by
  refine congrArg (V c main_v37) (?_ : ((win0_1.blk t).view.emb (ix2 i h : S128x64.Idx) : S128x64.Idx) = _)
  blk_ext [idx0_1]

theorem block_c (c : Dev nD) (t : Fin cfg0.N) (i : Fin 128) (h : Fin 64) :
    (iblk0 V c 2 t : S128x64.Idx → EReal) (ix2 i h) = (V c main_v37 : S128x64.Idx → EReal) (ix2 i h) := by
  refine congrArg (V c main_v37) (?_ : ((win0_2.blk t).view.emb (ix2 i h : S128x64.Idx) : S128x64.Idx) = _)
  blk_ext [idx0_2]

theorem pay1_point (c : Dev nD) (t : Fin cfg0.N) (k : Fin 32) (i j : Fin 128) :
    k0_pay1 (iblk0 V c 0 t) (iblk0 V c 2 t) (iblk0 V c 1 t) (ix3 k i j)
      = xi (V c main_arg0) (V c main_v37) (pb t) (pc t k) i j := by
  refine (interp_apply _ _ _ k i j).trans ?_
  unfold xi
  refine Finset.sum_congr rfl fun h _ => congrArg₂ (· * ·) (block_r V c t i h) (Finset.sum_congr rfl fun w _ => ?_)
  exact congrArg₂ (· * ·) (block_x V c t k h w) (block_c V c t j w)

theorem xi_point (c : Dev nD) (t : Fin cfg0.N) (y : S1x32x128x128.Idx) (q : S4x256x128x128.Idx)
    (h0 : (q 0 : Fin 4).val = t.val / 8) (h1 : (q 1 : Fin 256).val = t.val % 8 * 32 + (y 1 : Fin 32).val)
    (h2 : (q 2 : Fin 128).val = (y 2 : Fin 128).val) (h3 : (q 3 : Fin 128).val = (y 3 : Fin 128).val) :
    k0_pay2 (iblk0 V c 0 t) (iblk0 V c 2 t) (iblk0 V c 1 t) y = xiArr (V c main_arg0) (V c main_v37) q := by
  obtain ⟨y0, y1, y2, y3, rfl⟩ : ∃ (y0 : Fin 1) (y1 : Fin 32) (y2 y3 : Fin 128), y = ix4 y0 y1 y2 y3 := ⟨y 0, y 1, y 2, y 3, eq_ix4 y⟩
  obtain ⟨q0, q1, q2, q3, rfl⟩ : ∃ (q0 : Fin 4) (q1 : Fin 256) (q2 q3 : Fin 128), q = ix4 q0 q1 q2 q3 := ⟨q 0, q 1, q 2, q 3, eq_ix4 q⟩
  obtain rfl : y0 = 0 := Subsingleton.elim _ _
  obtain rfl : q0 = pb t := Fin.ext h0
  obtain rfl : q1 = pc t y1 := Fin.ext h1
  obtain rfl : q2 = y2 := Fin.ext h2
  obtain rfl : q3 = y3 := Fin.ext h3
  exact ((interp_out_apply _ _ _ _ _ _).trans (interp_apply _ _ _ _ _ _).symm).trans (pay1_point V c t _ _ _)

/-- The interpolated array after the call. -/
theorem xi_final (c : Dev nD) : (dat0 V c).arrAt 3 cfg0.N = xiArr (V c main_arg0) (V c main_v37) := by
  refine (dat0 V c).arrAt_eq_of_covers 3 _ (by decide +kernel) fun t hf y => ?_
  have hq0 : ((win0_3.blk t).view.emb y (0 : Fin 4) : Nat) = t.val / 8 := by blk_simp [idx0_3]; try (idx_bounds y; omega)
  have hq1 : ((win0_3.blk t).view.emb y (1 : Fin 4) : Nat) = t.val % 8 * 32 + (y (1 : Fin 4)).val := by blk_simp [idx0_3]; try omega
  have hq2 : ((win0_3.blk t).view.emb y (2 : Fin 4) : Nat) = (y (2 : Fin 4)).val := by blk_simp [idx0_3]; try omega
  have hq3 : ((win0_3.blk t).view.emb y (3 : Fin 4) : Nat) = (y (3 : Fin 4)).val := by blk_simp [idx0_3]; try omega
  blk_simp
  rw [after0_3, outs0_3]
  exact xi_point V c t y _ hq0 hq1 hq2 hq3

/-- What the sum of squares' buffer holds when a batch entry's last block of channels is done. -/
theorem ssq_point (c : Dev nD) (t : Fin cfg0.N) (ht : t.val % 8 = 7) (i j : Fin 128) :
    (outsAt0 V c t.val t.isLt).2 (ix3 (0 : Fin 1) i j) = ssq (V c main_arg0) (V c main_v37) (pb t) i j := by
  have key := Pipeline.eq_sum_fin_of_reset_step_of_flush
    (fun n (h : n < cfg0.N) => (outsAt0 V c n h).2 (ix3 (0 : Fin 1) i j)) 8 (0 : EReal)
    (fun t => ∑ k : Fin 32, xi (V c main_arg0) (V c main_v37) (pb t) (pc t k) i j * xi (V c main_arg0) (V c main_v37) (pb t) (pc t k) i j)
    (fun t h => by
      beta_reduce
      rw [outs0_4_first V c t h, zero_add]
      exact (ssq_first_apply _ _ _ i j).trans (Finset.sum_congr rfl fun k _ => by rw [pay1_point]))
    (fun t h => by
      beta_reduce
      rw [outs0_4_next V c t h]
      exact (ssq_next_apply _ _ _ _ i j).trans (congrArg _ (Finset.sum_congr rfl fun k _ => by rw [pay1_point]))) t ht
  refine key.trans ((zero_add _).trans ?_)
  unfold ssq
  refine Fin.sum_mul_add_congr (S := 8) (n := 32) fun s k hl => ?_
  have e0 : pb ⟨8 * (t.val / 8) + s.val, Pipeline.run_point_lt_of_flush t ht s⟩ = pb t := by
    apply Fin.ext; show (8 * (t.val / 8) + s.val) / 8 = t.val / 8; omega
  have e1 : pc ⟨8 * (t.val / 8) + s.val, Pipeline.run_point_lt_of_flush t ht s⟩ k = ⟨s.val * 32 + k.val, hl⟩ := by
    apply Fin.ext; show (8 * (t.val / 8) + s.val) % 8 * 32 + k.val = s.val * 32 + k.val; omega
  rw [e0, e1]

theorem ssq_point' (c : Dev nD) (t : Fin cfg0.N) (ht : t.val % 8 = 7) (y : S1x128x128.Idx) (q : S4x128x128.Idx)
    (h0 : (q 0 : Fin 4).val = t.val / 8) (h1 : (q 1 : Fin 128).val = (y 1 : Fin 128).val)
    (h2 : (q 2 : Fin 128).val = (y 2 : Fin 128).val) :
    (outsAt0 V c t.val t.isLt).2 y = ssqArr (V c main_arg0) (V c main_v37) q := by
  obtain ⟨y0, y1, y2, rfl⟩ : ∃ (y0 : Fin 1) (y1 y2 : Fin 128), y = ix3 y0 y1 y2 := ⟨y 0, y 1, y 2, eq_ix3 y⟩
  obtain ⟨q0, q1, q2, rfl⟩ : ∃ (q0 : Fin 4) (q1 q2 : Fin 128), q = ix3 q0 q1 q2 := ⟨q 0, q 1, q 2, eq_ix3 q⟩
  obtain rfl : y0 = 0 := Subsingleton.elim _ _
  obtain rfl : q0 = pb t := Fin.ext h0
  obtain rfl : q1 = y1 := Fin.ext h1
  obtain rfl : q2 = y2 := Fin.ext h2
  exact ssq_point V c t ht q1 q2

theorem flush0_4 : ∀ t : Fin cfg0.N, (cfg0.win 4).flush t = true → t.val % 8 = 7 :=
  (by decide +kernel : ∀ t : Fin grid0.N, _)

/-- The array of the sums of squares after the call. -/
theorem ssq_final (c : Dev nD) : (dat0 V c).arrAt 4 cfg0.N = ssqArr (V c main_arg0) (V c main_v37) := by
  refine (dat0 V c).arrAt_eq_of_covers 4 _ (by decide +kernel) fun t hf y => ?_
  have hq0 : ((win0_4.blk t).view.emb y (0 : Fin 3) : Nat) = t.val / 8 := by blk_simp [idx0_4]; try (idx_bounds y; omega)
  have hq1 : ((win0_4.blk t).view.emb y (1 : Fin 3) : Nat) = (y (1 : Fin 3)).val := by blk_simp [idx0_4]; try omega
  have hq2 : ((win0_4.blk t).view.emb y (2 : Fin 3) : Nat) = (y (2 : Fin 3)).val := by blk_simp [idx0_4]; try omega
  blk_simp
  rw [after0_4]
  exact ssq_point' V c t (flush0_4 t hf) y _ hq0 hq1 hq2

end Cert.KernelIdeal.Value

end
-- ==== Proof.Value.Host.lean ====
/- What the host operations before the first call leave: the matrix of interpolation weights. -/
module

public import proofs.«01_k».proof.Proof.Run.Launch
public import Idealize.ShloMosaic.Lib.StableHlo.Run
public import Idealize.ShloMosaic.Lib.Pointwise
public import proofs.«01_k».proof.Proof.Value.Grid
public import proofs.«01_k».proof.Proof.Value.Interp

@[expose] public section

noncomputable section

namespace Cert.KernelIdeal.Value

open Idealize.ShloMosaic Idealize.ShloMosaic.TcCoe Idealize.ShloMosaic.StableHlo Cert.KernelIdeal Cert.KernelIdeal.Gen Cert.KernelIdeal.Run

variable (m : (ℓ : Loc nD τ sig) → Buf (Elt Ideal) ℓ) (ρ : Dev nD → PrngReg)

/-- The 128 sample positions, as the host computes them. -/
def pos : FVec Ideal S128 .f32 :=
  concatenate S128 0 [⟨S127, addf (mulf (broadcastInDim S127 ![0] bcast_S1_S127_0 (shapeCast S1 (constant (F := Ideal) S_ .f32 0x00000000#32) shapeCasts_S_S1))
      (subf (broadcastInDim S127 ![] bcast_S_S127 (constant (F := Ideal) S_ .f32 0x3F800000#32)) (Host.divf (sitofp (F := Ideal) .f32 (iotaInDim S127 32 0)) (broadcastInDim S127 ![] bcast_S_S127 (constant (F := Ideal) S_ .f32 0x42FE0000#32)))))
      (mulf (broadcastInDim S127 ![0] bcast_S1_S127_0 (shapeCast S1 (constant (F := Ideal) S_ .f32 0x427C0000#32) shapeCasts_S_S1))
        (Host.divf (sitofp (F := Ideal) .f32 (iotaInDim S127 32 0)) (broadcastInDim S127 ![] bcast_S_S127 (constant (F := Ideal) S_ .f32 0x42FE0000#32))))⟩,
    ⟨S1, broadcastInDim S1 ![] bcast_S_S1 (constant (F := Ideal) S_ .f32 0x427C0000#32)⟩] concatenates_S127_S1_S128_d0

def lo : IVec S128 32 := fptosi 32 (Host.floor pos)
def hi : Vec Ideal S128 .i32 :=
  minsi (addi lo (broadcastInDim S128 ![] bcast_S_S128 (constantI S_ 32 1#32))) (broadcastInDim S128 ![] bcast_S_S128 (constantI S_ 32 63#32))
def frac : FVec Ideal S128 .f32 := subf pos (sitofp (F := Ideal) .f32 lo)
def eye : FVec Ideal S64x64 .f32 :=
  uitofp (F := Ideal) .f32 (cmpi .eq (addi (iotaInDim S64x64 32 0) (broadcastInDim S64x64 ![] bcast_S_S64x64 (constantI S_ 32 0#32))) (iotaInDim S64x64 32 1))
def wrap (i : Vec Ideal S128 .i32) : Vec Ideal S128x1 .i32 :=
  broadcastInDim S128x1 ![0] bcast_S128_S128x1_0 (select (cmpi .slt i (broadcastInDim S128 ![] bcast_S_S128 (constantI S_ 32 0#32)))
    (addi i (broadcastInDim S128 ![] bcast_S_S128 (constantI S_ 32 64#32))) i)
def pick (i : Vec Ideal S128 .i32) : FVec Ideal S128x64 .f32 :=
  Host.gather gather_S64x64_S128x1_S128x64_1_0_n_n_0_1_164 eye (wrap i)
/-- The matrix of weights: row `i` mixes two rows of the identity. -/
def weights : FVec Ideal S128x64 .f32 :=
  addf (mulf (pick lo) (broadcastInDim S128x64 ![0, 1] bcast_S128x1_S128x64_0_1 (broadcastInDim S128x1 ![0] bcast_S128_S128x1_0
      (subf (broadcastInDim S128 ![] bcast_S_S128 (constant (F := Ideal) S_ .f32 0x3F800000#32)) frac))))
    (mulf (pick hi) (broadcastInDim S128x64 ![0, 1] bcast_S128x1_S128x64_0_1 (broadcastInDim S128x1 ![0] bcast_S128_S128x1_0 frac)))

set_option maxRecDepth 8192 in
theorem W2_pos (c : Dev nD) : W2 m ρ c (Proc.devRef .tc main_v0) = pos := by
  unfold W2 W1
  simp only [hostOps0_1, hostOps0, TRef.binary, TRef.nullary, TRef.reshape, TRef.unary, TRef.toBuf, TRef.ofBuf, cast_eq]
  after_results_simp
  all_goals rfl

set_option maxRecDepth 8192 in
set_option maxHeartbeats 1000000 in
theorem W3_weights (c : Dev nD) : W3 m ρ c (Proc.devRef .tc main_v37) = weights := by
  have h := W2_pos m ρ c
  unfold W3
  generalize W2 m ρ c = V at h ⊢
  simp only [hostOps0_2]
  after_results_simp
  rw [h]
  rfl

theorem pos_apply (i : Fin 128) : pos (ix1 i) = ((63 * (i.val : ℝ) / 127 : ℝ) : EReal) := by
  refine Eq.trans ?_ (Grid.place i)
  pointwise [pos]

theorem lo_apply (i : Fin 128) : lo (ix1 i) = BitVec.ofNat 32 (Grid.low i).val := by
  refine Eq.trans ?_ (Grid.whole i)
  rw [← pos_apply]
  rfl

theorem hi_apply (i : Fin 128) : hi (ix1 i) = BitVec.ofNat 32 (Grid.high i).val := by
  refine Eq.trans ?_ (Grid.next (Grid.low i))
  rw [← lo_apply]
  pointwise [hi]

theorem frac_apply (i : Fin 128) : frac (ix1 i) = ((Grid.past i : ℝ) : EReal) := by
  have h : frac (ix1 i) = pos (ix1 i) - ((((lo (ix1 i)).toInt : ℝ)) : EReal) := rfl
  rw [h, pos_apply, lo_apply, Grid.toInt_small _ (by omega), ← EReal.coe_sub]
  rfl

theorem wrap_apply (x : IVec S128 32) (i : Fin 128) (n : Fin 64) (h : x (ix1 i) = BitVec.ofNat 32 n.val) : wrap x (ix2 i 0) = BitVec.ofNat 32 n.val := by
  refine Eq.trans ?_ (Grid.wrapped n)
  rw [← h]
  pointwise [wrap]

theorem eye_apply (i j : Fin 64) : eye (ix2 i j) = ((if i = j then 1 else 0 : ℝ) : EReal) := by
  refine Eq.trans ?_ (Grid.unit i j)
  pointwise [eye]

theorem pick_apply (x : IVec S128 32) (i : Fin 128) (k : Fin 64) (n : Fin 64) (h : x (ix1 i) = BitVec.ofNat 32 n.val) :
    pick x (ix2 i k) = ((if n = k then 1 else 0 : ℝ) : EReal) := by
  unfold pick
  rw [Gathers.rows_apply, wrap_apply x i n h, Grid.at_row, eye_apply]

theorem weights_apply (i : Fin 128) (k : Fin 64) : weights (ix2 i k) = Grid.share i k := by
  have h : weights (ix2 i k) = pick lo (ix2 i k) * (1 - frac (ix1 i)) + pick hi (ix2 i k) * frac (ix1 i) := by
    pointwise [weights]
  rw [h, pick_apply lo i k _ (lo_apply i), pick_apply hi i k _ (hi_apply i), frac_apply]
  rfl

/-- The resampled feature of the kernel. -/
theorem xi_weights (X : S4x256x64x64.Idx → EReal) (b : Fin 4) (c : Fin 256) (i j : Fin 128) :
    xi X weights b c i j = Grid.bil (fun h w => X (ix4 b c h w)) i j := by
  unfold xi
  simp only [weights_apply]
  exact Grid.sum_bil (fun h w => X (ix4 b c h w)) i j

end Cert.KernelIdeal.Value

end
-- ==== Proof.Value.Hist.lean ====
/- The two histogram calls: what each leaves in its output array, at an index. -/
module

public import proofs.«01_k».proof.Proof.Run.Hist
public import Idealize.ShloMosaic.Lib.Pointwise
public import Idealize.ShloMosaic.Lib.Pipeline.ValueKit
public import Idealize.ShloMosaic.Lib.StableHlo.Predicate

@[expose] public section

set_option maxRecDepth 16384

noncomputable section

namespace Cert.KernelIdeal.Value

open Idealize.ShloMosaic Idealize.ShloMosaic.TcCoe Cert.KernelIdeal Cert.KernelIdeal.Gen Cert.KernelIdeal.Run

/-- How many of the indices are the word `p`, times the reciprocal of a small constant plus the root of `s`. -/
def hist {n : Nat} (idx : Fin n → BitVec 32) (s : EReal) (p : BitVec 32) : EReal :=
  (∑ x, if idx x = p then (1 : EReal) else 0) * Ideal.div 1 (Ideal.ofBits .f32 0x358637BD#32 + Ideal.sqrt s)

theorem hist_congr {n : Nat} {idx idx' : Fin n → BitVec 32} {s s' : EReal} (p : BitVec 32) (h : ∀ x, idx x = idx' x) (hs : s = s') :
    hist idx s p = hist idx' s' p := by
  rw [hs, funext h]

theorem select_eq (a b : BitVec 32) (x y : EReal) : Scalar.select (IntOp.cmpi .eq a b) x y = if a = b then x else y := by
  unfold Scalar.select
  exact if_congr StableHlo.Predicate.cmpi_eq_iff rfl rfl

/-- One of the eight stores, as `pointwise` leaves it, is the formula at the index the store's offset puts it at. -/
theorem piece {n : Nat} (idx : Fin n → BitVec 32) (s : Fin 16384 → EReal) (o : Nat) (k : Fin 2048) (e e' : Fin 16384)
    (he : e.val = o + k.val) (he' : e' = e) :
    (∑ x, Scalar.select (IntOp.cmpi .eq (idx x) (IntOp.addi (BitVec.ofNat 32 k.val) (BitVec.ofNat 32 o))) (1 : EReal) 0)
        * Ideal.div 1 (Ideal.ofBits .f32 0x358637BD#32 + Ideal.sqrt (s e'))
      = hist idx (s e) (BitVec.ofNat 32 e.val) := by
  subst he'
  have h : IntOp.addi (BitVec.ofNat 32 k.val) (BitVec.ofNat 32 o) = BitVec.ofNat 32 e'.val := by
    rw [he, Nat.add_comm, BitVec.ofNat_add]; rfl
  simp only [h, select_eq]
  rfl

/-- The position a store of 2048 lanes at offset `o` puts its lane at. -/
theorem emb_lane (o : Nat) (inb) (x : S1x1x2048.Idx) :
    (((Rect.unit (s := S1x1x16384) ![0, 0, o] S1x1x2048.size inb).emb x 2 : Fin 16384) : Nat) = o + (x 2 : Fin 2048).val :=
  ValueKit.rect_emb_unit_val _ _ inb x 2

/-- The big-sample body at an index: eight stores of one formula, each at its own offset. -/
theorem out1_apply (x0 : Vec Ideal S1x175x1 .i32) (x1 : Vec Ideal S1x1x16384 .f32) (y : S1x1x16384.Idx) :
    out1_2 x0 x1 y = hist (fun n => x0 (ix3 0 n 0)) (x1 (ix3 0 0 (y 2))) (BitVec.ofNat 32 (y 2).val) := by
  unfold out1_2
  refine View.canon_apply_of_pieces (Val := Elt Ideal) (e := .f32)
    (fun y : S1x1x16384.Idx => (hist (fun n => x0 (ix3 0 n 0)) (x1 (ix3 0 0 (y 2))) (BitVec.ofNat 32 (y 2).val) : EReal)) _ ?_ y
    (cover1_2 _ _ _ _ _ _ _ _ y)
  simp only [List.forall_mem_cons]
  refine ⟨?_, ?_, ?_, ?_, ?_, ?_, ?_, ?_, fun _ h => absurd h List.not_mem_nil⟩ <;> intro x <;>
  · pointwise [k1_pay1, k1_pay2, k1_pay3, k1_pay4, k1_pay5, k1_pay6, k1_pay7, k1_pay8, k1_pay9, k1_pay10, k1_pay11, k1_pay12,
      k1_pay13, k1_pay14, k1_pay15]
    exact piece (fun n => x0 (ix3 0 n 0)) (fun e => x1 (ix3 0 0 e)) _ (x 2) _ _ (emb_lane _ _ x)
      (Fin.ext (by first | exact (emb_lane _ _ x).symm | exact (Nat.zero_add _).symm.trans (emb_lane _ _ x).symm))

/-- The small-sample body at an index. -/
theorem out2_apply (x0 : Vec Ideal S1x75x1 .i32) (x1 : Vec Ideal S1x1x16384 .f32) (y : S1x1x16384.Idx) :
    out2_2 x0 x1 y = hist (fun n => x0 (ix3 0 n 0)) (x1 (ix3 0 0 (y 2))) (BitVec.ofNat 32 (y 2).val) := by
  unfold out2_2
  refine View.canon_apply_of_pieces (Val := Elt Ideal) (e := .f32)
    (fun y : S1x1x16384.Idx => (hist (fun n => x0 (ix3 0 n 0)) (x1 (ix3 0 0 (y 2))) (BitVec.ofNat 32 (y 2).val) : EReal)) _ ?_ y
    (cover2_2 _ _ _ _ _ _ _ _ y)
  simp only [List.forall_mem_cons]
  refine ⟨?_, ?_, ?_, ?_, ?_, ?_, ?_, ?_, fun _ h => absurd h List.not_mem_nil⟩ <;> intro x <;>
  · pointwise [k2_pay1, k2_pay2, k2_pay3, k2_pay4, k2_pay5, k2_pay6, k2_pay7, k2_pay8, k2_pay9, k2_pay10, k2_pay11, k2_pay12,
      k2_pay13, k2_pay14, k2_pay15]
    exact piece (fun n => x0 (ix3 0 n 0)) (fun e => x1 (ix3 0 0 e)) _ (x 2) _ _ (emb_lane _ _ x)
      (Fin.ext (by first | exact (emb_lane _ _ x).symm | exact (Nat.zero_add _).symm.trans (emb_lane _ _ x).symm))

variable (V : (c : Dev nD) → (b : Ref sig .tc) → Buf (Elt Ideal) ((c : Thread nD τ).loc b))

theorem idx1_0 : ∀ t : Fin cfg1.N, win1_0.index t = ![t.val, 0, 0] :=
  (by decide +kernel : ∀ t : Fin grid1.N, _)
theorem idx1_1 : ∀ t : Fin cfg1.N, win1_1.index t = ![t.val / 2 % 4, 0, 0] :=
  (by decide +kernel : ∀ t : Fin grid1.N, _)
theorem idx1_2 : ∀ t : Fin cfg1.N, win1_2.index t = ![t.val, 0, 0] :=
  (by decide +kernel : ∀ t : Fin grid1.N, _)

/-- The big samples' histograms: row `j` counts row `j` of the indices, scaled at batch entry `j / 2 % 4`. -/
def histArr1 (I : S152x175x1.Idx → BitVec 32) (S : S4x1x16384.Idx → EReal) (i : S152x1x16384.Idx) : EReal :=
  hist (fun n : Fin 175 => I (ix3 (i 0 : Fin 152) n (0 : Fin 1)))
    (S (ix3 (⟨(i 0 : Fin 152).val / 2 % 4, Nat.mod_lt _ (by decide)⟩ : Fin 4) (0 : Fin 1) (i 2 : Fin 16384)))
    (BitVec.ofNat 32 (i 2 : Fin 16384).val)

/-- Point `t`'s blocks under the formula are row `t` of the arrays under it. -/
theorem hist1_point (c : Dev nD) (t : Fin cfg1.N) (k : Fin 16384) (q : S152x1x16384.Idx)
    (hq0 : (q 0 : Fin 152).val = t.val) (hq2 : (q 2 : Fin 16384) = k) :
    hist (fun n : Fin 175 => (iblk1 V c 0 t : S1x175x1.Idx → BitVec 32) (ix3 (0 : Fin 1) n (0 : Fin 1)))
        ((iblk1 V c 1 t : S1x1x16384.Idx → EReal) (ix3 (0 : Fin 1) (0 : Fin 1) k)) (BitVec.ofNat 32 k.val)
      = histArr1 (V c main_arg1) (V c main_v39) q := by
  subst hq2
  have e0 : ∀ n : Fin 175, ((win1_0.blk t).view.emb (ix3 (0 : Fin 1) n (0 : Fin 1) : S1x175x1.Idx) : S152x175x1.Idx) = ix3 (q 0 : Fin 152) n (0 : Fin 1) := fun n => by
    blk_ext [idx1_0]
  have e1 : ((win1_1.blk t).view.emb (ix3 (0 : Fin 1) (0 : Fin 1) (q 2 : Fin 16384) : S1x1x16384.Idx) : S4x1x16384.Idx)
      = ix3 (⟨(q 0 : Fin 152).val / 2 % 4, Nat.mod_lt _ (by decide)⟩ : Fin 4) (0 : Fin 1) (q 2 : Fin 16384) := by
    blk_ext [idx1_1]
  exact hist_congr _ (fun n => congrArg (V c main_arg1) (e0 n)) (congrArg (V c main_v39) e1)

/-- The big samples' histogram array after its call. -/
theorem hist1_final (c : Dev nD) : (dat1 V c).arrAt 2 cfg1.N = histArr1 (V c main_arg1) (V c main_v39) := by
  refine (dat1 V c).arrAt_eq_of_covers 2 _ (by decide +kernel) fun t hf y => ?_
  have hq0 : ((win1_2.blk t).view.emb y (0 : Fin 3) : Nat) = t.val := by blk_simp [idx1_2]; try (idx_bounds y; omega)
  have hq2 : ((win1_2.blk t).view.emb y (2 : Fin 3) : Nat) = (y (2 : Fin 3)).val := by blk_simp [idx1_2]; try omega
  blk_simp
  rw [after1_2, out1_apply]
  exact hist1_point V c t _ _ hq0 (Fin.ext hq2)

theorem idx2_0 : ∀ t : Fin cfg2.N, win2_0.index t = ![t.val, 0, 0] :=
  (by decide +kernel : ∀ t : Fin grid2.N, _)
theorem idx2_1 : ∀ t : Fin cfg2.N, win2_1.index t = ![t.val / 2 % 4, 0, 0] :=
  (by decide +kernel : ∀ t : Fin grid2.N, _)
theorem idx2_2 : ∀ t : Fin cfg2.N, win2_2.index t = ![t.val, 0, 0] :=
  (by decide +kernel : ∀ t : Fin grid2.N, _)

/-- The small samples' histograms: row `j` counts row `j` of the indices, scaled at batch entry `j / 2 % 4`. -/
def histArr2 (I : S152x75x1.Idx → BitVec 32) (S : S4x1x16384.Idx → EReal) (i : S152x1x16384.Idx) : EReal :=
  hist (fun n : Fin 75 => I (ix3 (i 0 : Fin 152) n (0 : Fin 1)))
    (S (ix3 (⟨(i 0 : Fin 152).val / 2 % 4, Nat.mod_lt _ (by decide)⟩ : Fin 4) (0 : Fin 1) (i 2 : Fin 16384)))
    (BitVec.ofNat 32 (i 2 : Fin 16384).val)

/-- Point `t`'s blocks under the formula are row `t` of the arrays under it. -/
theorem hist2_point (c : Dev nD) (t : Fin cfg2.N) (k : Fin 16384) (q : S152x1x16384.Idx)
    (hq0 : (q 0 : Fin 152).val = t.val) (hq2 : (q 2 : Fin 16384) = k) :
    hist (fun n : Fin 75 => (iblk2 V c 0 t : S1x75x1.Idx → BitVec 32) (ix3 (0 : Fin 1) n (0 : Fin 1)))
        ((iblk2 V c 1 t : S1x1x16384.Idx → EReal) (ix3 (0 : Fin 1) (0 : Fin 1) k)) (BitVec.ofNat 32 k.val)
      = histArr2 (V c main_arg2) (V c main_v39) q := by
  subst hq2
  have e0 : ∀ n : Fin 75, ((win2_0.blk t).view.emb (ix3 (0 : Fin 1) n (0 : Fin 1) : S1x75x1.Idx) : S152x75x1.Idx) = ix3 (q 0 : Fin 152) n (0 : Fin 1) := fun n => by
    blk_ext [idx2_0]
  have e1 : ((win2_1.blk t).view.emb (ix3 (0 : Fin 1) (0 : Fin 1) (q 2 : Fin 16384) : S1x1x16384.Idx) : S4x1x16384.Idx)
      = ix3 (⟨(q 0 : Fin 152).val / 2 % 4, Nat.mod_lt _ (by decide)⟩ : Fin 4) (0 : Fin 1) (q 2 : Fin 16384) := by
    blk_ext [idx2_1]
  exact hist_congr _ (fun n => congrArg (V c main_arg2) (e0 n)) (congrArg (V c main_v39) e1)

/-- The small samples' histogram array after its call. -/
theorem hist2_final (c : Dev nD) : (dat2 V c).arrAt 2 cfg2.N = histArr2 (V c main_arg2) (V c main_v39) := by
  refine (dat2 V c).arrAt_eq_of_covers 2 _ (by decide +kernel) fun t hf y => ?_
  have hq0 : ((win2_2.blk t).view.emb y (0 : Fin 3) : Nat) = t.val := by blk_simp [idx2_2]; try (idx_bounds y; omega)
  have hq2 : ((win2_2.blk t).view.emb y (2 : Fin 3) : Nat) = (y (2 : Fin 3)).val := by blk_simp [idx2_2]; try omega
  blk_simp
  rw [after2_2, out2_apply]
  exact hist2_point V c t _ _ hq0 (Fin.ext hq2)

end Cert.KernelIdeal.Value

end
-- ==== Proof.Value.Contract.lean ====
/- The last call: the sum it accumulates over its grid, and the number it leaves. -/
module

public import proofs.«01_k».proof.Proof.Run.Contract
public import proofs.«01_k».proof.Proof.Value.Payloads
public import Idealize.ShloMosaic.Lib.Pipeline.ValueKit

@[expose] public section

noncomputable section

namespace Cert.KernelIdeal.Value

open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem contract_first (f : Vec Ideal S1x256x2048 .f32) (hb hs : Vec Ideal S19x1x2x2048 .f32) (j : S256x76.Idx) :
    k3_pay2 f hb hs j = k3_pay1 f hb hs j := by
  obtain ⟨a, b, rfl⟩ : ∃ (a : Fin 256) (b : Fin 76), j = ix2 a b := ⟨j 0, j 1, eq_ix2 j⟩
  pointwise [k3_pay2]

theorem scratch3_first (c : Dev nD) (t : Fin cfg3.N) (h : t.val % 32 = 0) :
    (outsAt3 V c t.val t.isLt).2 = k3_pay2 (iblk3 V c 0 t) (iblk3 V c 1 t) (iblk3 V c 2 t) := by
  have hN : t.val < 32 := lt_of_lt_of_eq t.isLt (by decide +kernel)
  rw [outsAt3_A V c t h (by omega) (by omega)]
  frame_out

theorem scratch3_next (c : Dev nD) (t : Fin cfg3.N) (h : ¬t.val % 32 = 0) :
    (outsAt3 V c t.val t.isLt).2 = k3_pay3 (iblk3 V c 0 t) (iblk3 V c 1 t) (iblk3 V c 2 t)
      (outsAt3 V c (t.val - 1) (Nat.lt_of_le_of_lt (Nat.sub_le _ _) t.isLt)).2 := by
  by_cases h2 : t.val % 32 = 31
  · rw [outsAt3_C V c t h (by omega) h2]
    frame_out
    exact congrArg _ ((Memref.isWhole_whole _).read_unread _)
  · rw [outsAt3_B V c t h (by omega) h2]
    frame_out
    exact congrArg _ ((Memref.isWhole_whole _).read_unread _)

theorem out3_last (c : Dev nD) (t : Fin cfg3.N) (h : t.val % 32 = 31) :
    (outsAt3 V c t.val t.isLt).1 = k3_pay4 (outsAt3 V c t.val t.isLt).2 := by
  rw [scratch3_next V c t (by omega), outsAt3_C V c t (by omega) (by omega) h]
  frame_out
  exact congrArg k3_pay4 (congrArg (k3_pay3 _ _ _) ((Memref.isWhole_whole _).read_unread _))

theorem idx3_0 : ∀ t : Fin cfg3.N, win3_0.index t = ![t.val / 8, 0, t.val % 8] :=
  (by decide +kernel : ∀ t : Fin grid3.N, _)
theorem idx3_1 : ∀ t : Fin cfg3.N, win3_1.index t = ![0, t.val / 8, 0, t.val % 8] :=
  (by decide +kernel : ∀ t : Fin grid3.N, _)
theorem idx3_2 : ∀ t : Fin cfg3.N, win3_2.index t = ![0, t.val / 8, 0, t.val % 8] :=
  (by decide +kernel : ∀ t : Fin grid3.N, _)
theorem idx3_3 : ∀ t : Fin cfg3.N, win3_3.index t = ![0, 0] :=
  (by decide +kernel : ∀ t : Fin grid3.N, _)

theorem N3 : cfg3.N = 32 := by decide +kernel

/-- Point `t` handles batch entry `t / 8`, -/
def qb (t : Fin cfg3.N) : Fin 4 := ⟨t.val / 8, by have := lt_of_lt_of_eq t.isLt N3; omega⟩
/-- and block `t % 8` of the pixels. -/
def qp (t : Fin cfg3.N) (p : Fin 2048) : Fin 16384 := ⟨t.val % 8 * 2048 + p.val, by omega⟩

theorem block3_0 (c : Dev nD) (t : Fin cfg3.N) (k : Fin 256) (p : Fin 2048) :
    (iblk3 V c 0 t : S1x256x2048.Idx → EReal) (ix3 (0 : Fin 1) k p) = (V c main_v44 : S4x256x16384.Idx → EReal) (ix3 (qb t) k (qp t p)) := by
  refine congrArg (V c main_v44) (?_ : ((win3_0.blk t).view.emb (ix3 (0 : Fin 1) k p : S1x256x2048.Idx) : S4x256x16384.Idx) = _)
  unfold qb qp
  blk_ext [idx3_0]

theorem block3_1 (c : Dev nD) (t : Fin cfg3.N) (k : Fin 19) (g : Fin 2) (p : Fin 2048) :
    (iblk3 V c 1 t : S19x1x2x2048.Idx → EReal) (ix4 k (0 : Fin 1) g p) = (V c main_v42 : S19x4x2x16384.Idx → EReal) (ix4 k (qb t) g (qp t p)) := by
  refine congrArg (V c main_v42) (?_ : ((win3_1.blk t).view.emb (ix4 k (0 : Fin 1) g p : S19x1x2x2048.Idx) : S19x4x2x16384.Idx) = _)
  unfold qb qp
  blk_ext [idx3_1]

theorem block3_2 (c : Dev nD) (t : Fin cfg3.N) (k : Fin 19) (g : Fin 2) (p : Fin 2048) :
    (iblk3 V c 2 t : S19x1x2x2048.Idx → EReal) (ix4 k (0 : Fin 1) g p) = (V c main_v43 : S19x4x2x16384.Idx → EReal) (ix4 k (qb t) g (qp t p)) := by
  refine congrArg (V c main_v43) (?_ : ((win3_2.blk t).view.emb (ix4 k (0 : Fin 1) g p : S19x1x2x2048.Idx) : S19x4x2x16384.Idx) = _)
  unfold qb qp
  blk_ext [idx3_2]

/-- Row `n` of the 76 histogram rows of batch entry `b`, 19 classes of each of the four kinds. -/
def row (HB HS : S19x4x2x16384.Idx → EReal) (b : Fin 4) (n : Fin 76) (p : Fin 16384) : EReal :=
  if h0 : n.val < 19 then HB (ix4 ⟨n.val, h0⟩ b 0 p)
  else if h1 : n.val - 19 < 19 then HB (ix4 ⟨n.val - 19, h1⟩ b 1 p)
  else if h2 : n.val - 19 - 19 < 19 then HS (ix4 ⟨n.val - 19 - 19, h2⟩ b 0 p)
  else HS (ix4 ⟨n.val - 19 - 19 - 19, by omega⟩ b 1 p)

/-- One product of the contraction. -/
def prod (XI : S4x256x16384.Idx → EReal) (HB HS : S19x4x2x16384.Idx → EReal) (b : Fin 4) (c : Fin 256) (n : Fin 76) (p : Fin 16384) : EReal :=
  XI (ix3 b c p) * row HB HS b n p

/-- The contraction of channel `c` with row `n`, over batch entries and pixels. -/
def score (XI : S4x256x16384.Idx → EReal) (HB HS : S19x4x2x16384.Idx → EReal) (c : Fin 256) (n : Fin 76) : EReal :=
  ∑ b : Fin 4, ∑ p : Fin 16384, prod XI HB HS b c n p

theorem hists_block (c : Dev nD) (t : Fin cfg3.N) (n : Fin 76) (p : Fin 2048) :
    hists (iblk3 V c 1 t) (iblk3 V c 2 t) n p = row (V c main_v42) (V c main_v43) (qb t) n (qp t p) := by
  unfold hists row
  split_ifs
  · exact block3_1 V c t _ _ p
  · exact block3_1 V c t _ _ p
  · exact block3_2 V c t _ _ p
  · exact block3_2 V c t _ _ p

theorem part_point (c : Dev nD) (t : Fin cfg3.N) (k : Fin 256) (n : Fin 76) :
    k3_pay1 (iblk3 V c 0 t) (iblk3 V c 1 t) (iblk3 V c 2 t) (ix2 k n)
      = ∑ p : Fin 2048, prod (V c main_v44) (V c main_v42) (V c main_v43) (qb t) k n (qp t p) :=
  (contract_apply _ _ _ k n).trans
    (Finset.sum_congr rfl fun p _ => congrArg₂ (· * ·) (block3_0 V c t k p) (hists_block V c t n p))

/-- The carried sum after the last point. -/
theorem scratch_last (c : Dev nD) (t : Fin cfg3.N) (ht : t.val % 32 = 31) (k : Fin 256) (n : Fin 76) :
    (outsAt3 V c t.val t.isLt).2 (ix2 k n) = score (V c main_v44) (V c main_v42) (V c main_v43) k n := by
  have key := Pipeline.eq_sum_fin_of_reset_step_of_flush
    (fun n' (h : n' < cfg3.N) => (outsAt3 V c n' h).2 (ix2 k n)) 32 (0 : EReal)
    (fun t => ∑ p : Fin 2048, prod (V c main_v44) (V c main_v42) (V c main_v43) (qb t) k n (qp t p))
    (fun t h => by
      beta_reduce
      rw [scratch3_first V c t h, zero_add]
      exact (contract_first _ _ _ _).trans (part_point V c t k n))
    (fun t h => by
      beta_reduce
      rw [scratch3_next V c t h]
      exact (contract_next_apply _ _ _ _ _).trans (congrArg _ (part_point V c t k n))) t ht
  refine key.trans ((zero_add _).trans ?_)
  unfold score
  have hN := lt_of_lt_of_eq t.isLt N3
  refine (Fin.sum_mul_add_congr (S := 4) (n := 8) fun b s hl => ?_ :
    (∑ b : Fin 4, ∑ s : Fin 8, ∑ p : Fin 2048, prod (V c main_v44) (V c main_v42) (V c main_v43) b k n ⟨s.val * 2048 + p.val, by omega⟩) = _).symm.trans
    (Finset.sum_congr rfl fun b _ => Fin.sum_mul_add_congr (S := 8) (n := 2048) fun s p hl => rfl)
  refine Finset.sum_congr rfl fun p _ => ?_
  have e0 : qb ⟨32 * (t.val / 32) + (b.val * 8 + s.val), Pipeline.run_point_lt_of_flush t ht ⟨b.val * 8 + s.val, hl⟩⟩ = b := by
    apply Fin.ext; show (32 * (t.val / 32) + (b.val * 8 + s.val)) / 8 = b.val; omega
  have e1 : qp ⟨32 * (t.val / 32) + (b.val * 8 + s.val), Pipeline.run_point_lt_of_flush t ht ⟨b.val * 8 + s.val, hl⟩⟩ p = ⟨s.val * 2048 + p.val, by omega⟩ := by
    apply Fin.ext; show (32 * (t.val / 32) + (b.val * 8 + s.val)) % 8 * 2048 + p.val = s.val * 2048 + p.val; omega
  rw [e0, e1]

/-- The kernel's number, of the interpolated features and the two histograms. -/
def loss (XI : S4x256x16384.Idx → EReal) (HB HS : S19x4x2x16384.Idx → EReal) : EReal :=
  Ideal.div (Ideal.div (∑ c : Fin 256, ∑ k : Fin 19,
        (score XI HB HS c ⟨57 + k.val, by omega⟩ - score XI HB HS c ⟨38 + k.val, by omega⟩)
          * (score XI HB HS c ⟨k.val, by omega⟩ - score XI HB HS c ⟨19 + k.val, by omega⟩))
        (Ideal.ofBits .f32 0x494D1400#32)) (Ideal.ofBits .f32 0x41980000#32)

theorem loss_point (c : Dev nD) (t : Fin cfg3.N) (ht : t.val % 32 = 31) (j : S1x1.Idx) :
    (outsAt3 V c t.val t.isLt).1 j = loss (V c main_v44) (V c main_v42) (V c main_v43) := by
  rw [out3_last V c t ht]
  refine (contract_last_apply _ j).trans ?_
  unfold loss
  simp only [scratch_last V c t ht]

theorem flush3_3 : ∀ t : Fin cfg3.N, (cfg3.win 3).flush t = true → t.val % 32 = 31 :=
  (by decide +kernel : ∀ t : Fin grid3.N, _)

theorem loss_final (c : Dev nD) :
    (dat3 V c).arrAt 3 cfg3.N = fun _ : S1x1.Idx => loss (V c main_v44) (V c main_v42) (V c main_v43) := by
  refine (dat3 V c).arrAt_eq_of_covers 3 _ (by decide +kernel) fun t hf y => ?_
  blk_simp
  rw [after3_3]
  exact loss_point V c t (flush3_3 t hf) _

end Cert.KernelIdeal.Value

end
-- ==== Proof.Value.Whole.lean ====
/- The kernel's result, the four calls and the host operations around them put together. -/
module

public import proofs.«01_k».proof.Proof.Value.Host
public import proofs.«01_k».proof.Proof.Value.Hist
public import proofs.«01_k».proof.Proof.Value.Contract

@[expose] public section

noncomputable section

namespace Cert.KernelIdeal.Value

open Idealize.ShloMosaic Idealize.ShloMosaic.TcCoe Idealize.ShloMosaic.StableHlo Cert.KernelIdeal Cert.KernelIdeal.Gen Cert.KernelIdeal.Run

variable (m : (ℓ : Loc nD τ sig) → Buf (Elt Ideal) ℓ) (ρ : Dev nD → PrngReg)

/-- The image argument. -/
abbrev image (c : Dev nD) : S4x256x64x64.Idx → EReal := m ((c : Thread nD τ).loc main_arg0)
/-- The indices drawn for the large samples. -/
abbrev drawnBig (c : Dev nD) : S152x175x1.Idx → BitVec 32 := m ((c : Thread nD τ).loc main_arg1)
/-- The indices drawn for the small samples. -/
abbrev drawnSmall (c : Dev nD) : S152x75x1.Idx → BitVec 32 := m ((c : Thread nD τ).loc main_arg2)

/-- The resampled image at pixel `p` of 128 by 128. -/
def feat (X : S4x256x64x64.Idx → EReal) (b : Fin 4) (c : Fin 256) (p : Fin 16384) : EReal :=
  Grid.bil (fun h w => X (ix4 b c h w)) ⟨p.val / 128, by omega⟩ ⟨p.val % 128, by omega⟩
/-- The sum over channels of its squares. -/
def featSq (X : S4x256x64x64.Idx → EReal) (b : Fin 4) (p : Fin 16384) : EReal :=
  ∑ c : Fin 256, feat X b c p * feat X b c p

theorem W4_xi (c : Dev nD) : W4 m ρ c (Proc.devRef .tc main_v38_0) = xiArr (image m c) weights := by
  refine (W4_arr m ρ c 3).trans ?_
  rw [xi_final]
  refine congrArg₂ xiArr ?_ ?_
  · exact W3_args m ρ c main_arg0 (by decide)
  · exact W3_weights m ρ c

theorem W4_ssq (c : Dev nD) : W4 m ρ c (Proc.devRef .tc main_v38_1) = ssqArr (image m c) weights := by
  refine (W4_arr m ρ c 4).trans ?_
  rw [ssq_final]
  refine congrArg₂ ssqArr ?_ ?_
  · exact W3_args m ρ c main_arg0 (by decide)
  · exact W3_weights m ρ c

theorem W5_v39 (c : Dev nD) : W5 m ρ c (Proc.devRef .tc main_v39) = shapeCast S4x1x16384 (ssqArr (image m c) weights) shapeCasts_S4x128x128_S4x1x16384 := by
  rw [← W4_ssq m ρ c]
  unfold W5
  generalize W4 m ρ c = V
  simp only [hostOps1]
  after_results_simp
  all_goals rfl

theorem v39_apply (X : S4x256x64x64.Idx → EReal) (b : Fin 4) (p : Fin 16384) :
    shapeCast S4x1x16384 (ssqArr X weights) shapeCasts_S4x128x128_S4x1x16384 (ix3 b 0 p) = featSq X b p := by
  have h : ∀ Z : S4x128x128.Idx → EReal, shapeCast S4x1x16384 Z shapeCasts_S4x128x128_S4x1x16384 (ix3 b 0 p) = Z (ix3 b ⟨p.val / 128, by omega⟩ ⟨p.val % 128, by omega⟩) := by
    intro Z
    pointwise []
  rw [h]
  show ssq X weights b ⟨p.val / 128, by omega⟩ ⟨p.val % 128, by omega⟩ = _
  unfold ssq featSq feat
  simp only [xi_weights]

/-- The images, flattened, as the last call reads them. -/
def flatXi (X : S4x256x64x64.Idx → EReal) : S4x256x16384.Idx → EReal :=
  shapeCast S4x256x16384 (xiArr X weights) shapeCasts_S4x256x128x128_S4x256x16384
/-- The sums of squares as the histogram calls read them. -/
def flatSq (X : S4x256x64x64.Idx → EReal) : S4x1x16384.Idx → EReal :=
  shapeCast S4x1x16384 (ssqArr X weights) shapeCasts_S4x128x128_S4x1x16384
/-- The histograms of the large samples as the last call reads them. -/
def flatBig (X : S4x256x64x64.Idx → EReal) (I : S152x175x1.Idx → BitVec 32) : S19x4x2x16384.Idx → EReal :=
  shapeCast S19x4x2x16384 (histArr1 I (flatSq X)) shapeCasts_S152x1x16384_S19x4x2x16384
/-- The histograms of the small samples as the last call reads them. -/
def flatSmall (X : S4x256x64x64.Idx → EReal) (I : S152x75x1.Idx → BitVec 32) : S19x4x2x16384.Idx → EReal :=
  shapeCast S19x4x2x16384 (histArr2 I (flatSq X)) shapeCasts_S152x1x16384_S19x4x2x16384

theorem flatXi_apply (X : S4x256x64x64.Idx → EReal) (b : Fin 4) (c : Fin 256) (p : Fin 16384) : flatXi X (ix3 b c p) = feat X b c p := by
  have h : ∀ Z : S4x256x128x128.Idx → EReal, shapeCast S4x256x16384 Z shapeCasts_S4x256x128x128_S4x256x16384 (ix3 b c p)
      = Z (ix4 b c ⟨p.val / 128, by omega⟩ ⟨p.val % 128, by omega⟩) := by
    intro Z
    pointwise []
  unfold flatXi
  rw [h]
  exact xi_weights X b c ⟨p.val / 128, by omega⟩ ⟨p.val % 128, by omega⟩

theorem slots_apply (Z : S152x1x16384.Idx → EReal) (k : Fin 19) (b : Fin 4) (g : Fin 2) (p : Fin 16384) :
    shapeCast S19x4x2x16384 Z shapeCasts_S152x1x16384_S19x4x2x16384 (ix4 k b g p) = Z (ix3 (Grid.slot k b g) 0 p) := by
  pointwise []
  refine congrArg (fun q : Fin 152 => Z (ix3 q 0 p)) (Fin.ext ?_)
  unfold Grid.slot; dsimp only; omega

theorem slot_batch (k : Fin 19) (b : Fin 4) (g : Fin 2) : (Grid.slot k b g).val / 2 % 4 = b.val := by
  unfold Grid.slot; dsimp only; omega

theorem flatBig_apply (X : S4x256x64x64.Idx → EReal) (I : S152x175x1.Idx → BitVec 32) (k : Fin 19) (b : Fin 4) (g : Fin 2) (p : Fin 16384) :
    flatBig X I (ix4 k b g p) = hist (fun n : Fin 175 => I (ix3 (Grid.slot k b g) n 0)) (featSq X b p) (BitVec.ofNat 32 p.val) := by
  unfold flatBig
  rw [slots_apply]
  refine hist_congr (p := BitVec.ofNat 32 p.val) (fun n => rfl) ?_
  refine Eq.trans ?_ (v39_apply X b p)
  refine congrArg (fun b' : Fin 4 => flatSq X (ix3 b' 0 p)) (Fin.ext ?_)
  exact slot_batch k b g

theorem flatSmall_apply (X : S4x256x64x64.Idx → EReal) (I : S152x75x1.Idx → BitVec 32) (k : Fin 19) (b : Fin 4) (g : Fin 2) (p : Fin 16384) :
    flatSmall X I (ix4 k b g p) = hist (fun n : Fin 75 => I (ix3 (Grid.slot k b g) n 0)) (featSq X b p) (BitVec.ofNat 32 p.val) := by
  unfold flatSmall
  rw [slots_apply]
  refine hist_congr (p := BitVec.ofNat 32 p.val) (fun n => rfl) ?_
  refine Eq.trans ?_ (v39_apply X b p)
  refine congrArg (fun b' : Fin 4 => flatSq X (ix3 b' 0 p)) (Fin.ext ?_)
  exact slot_batch k b g

theorem W5_xi (c : Dev nD) : W7 m ρ c (Proc.devRef .tc main_v38_0) = xiArr (image m c) weights := by
  rw [W7_of_ne m ρ c main_v38_0 (by decide +kernel), W6_of_ne m ρ c main_v38_0 (by decide +kernel), W5_of m ρ c main_v38_0 (by decide)]
  exact W4_xi m ρ c

theorem W7_big (c : Dev nD) : W7 m ρ c (Proc.devRef .tc main_v40) = histArr1 (drawnBig m c) (flatSq (image m c)) := by
  rw [W7_of_ne m ρ c main_v40 (by decide +kernel)]
  refine (W6_arr m ρ c 2).trans ?_
  rw [hist1_final]
  refine congrArg₂ histArr1 ?_ ?_
  · exact W5_args m ρ c main_arg1 (by decide)
  · exact W5_v39 m ρ c

theorem W7_small (c : Dev nD) : W7 m ρ c (Proc.devRef .tc main_v41) = histArr2 (drawnSmall m c) (flatSq (image m c)) := by
  refine (W7_arr m ρ c 2).trans ?_
  rw [hist2_final]
  refine congrArg₂ histArr2 ?_ ?_
  · exact W6_args m ρ c main_arg2 (by decide)
  · refine (W6_of m ρ c main_v39 (by decide +kernel)).trans ?_
    exact W5_v39 m ρ c

theorem W8_xi (c : Dev nD) : W8 m ρ c (Proc.devRef .tc main_v44) = flatXi (image m c) := by
  unfold flatXi
  rw [← W5_xi m ρ c]
  unfold W8
  generalize W7 m ρ c = V
  simp only [hostOps3]
  after_results_simp
  all_goals rfl

theorem W8_big (c : Dev nD) : W8 m ρ c (Proc.devRef .tc main_v42) = flatBig (image m c) (drawnBig m c) := by
  unfold flatBig
  rw [← W7_big m ρ c]
  unfold W8
  generalize W7 m ρ c = V
  simp only [hostOps3]
  after_results_simp
  all_goals rfl

theorem W8_small (c : Dev nD) : W8 m ρ c (Proc.devRef .tc main_v43) = flatSmall (image m c) (drawnSmall m c) := by
  unfold flatSmall
  rw [← W7_small m ρ c]
  unfold W8
  generalize W7 m ρ c = V
  simp only [hostOps3]
  after_results_simp
  all_goals rfl

theorem W9_loss (c : Dev nD) : W9 m ρ c (Proc.devRef .tc main_v45)
    = fun _ : S1x1.Idx => loss (flatXi (image m c)) (flatBig (image m c) (drawnBig m c)) (flatSmall (image m c) (drawnSmall m c)) := by
  refine (W9_arr m ρ c 3).trans ?_
  rw [loss_final]
  have h1 : V8 m ρ c main_v44 = flatXi (image m c) := W8_xi m ρ c
  have h2 : V8 m ρ c main_v42 = flatBig (image m c) (drawnBig m c) := W8_big m ρ c
  have h3 : V8 m ρ c main_v43 = flatSmall (image m c) (drawnSmall m c) := W8_small m ρ c
  rw [h1, h2, h3]

/-- The kernel's result. -/
theorem result (c : Dev nD) : W10 m ρ c (Proc.devRef .tc main_v46)
    = fun _ : S_.Idx => loss (flatXi (image m c)) (flatBig (image m c) (drawnBig m c)) (flatSmall (image m c) (drawnSmall m c)) := by
  have h := W9_loss m ρ c
  unfold W10
  generalize W9 m ρ c = V at h ⊢
  simp only [hostOps4]
  after_results_simp
  rw [h]
  rfl

end Cert.KernelIdeal.Value

end
-- ==== Proof.Value.Resampled.lean ====
/- The reference's resampled image, read at an index. -/
module

public import proofs.«01_k».proof.Proof.Value.Grid
public import proofs.«01_k».proof.Proof.Gen.ReferenceIdeal.Run

@[expose] public section

noncomputable section

namespace Cert.ReferenceIdeal.Value

open Idealize.ShloMosaic Idealize.ShloMosaic.TcCoe Idealize.ShloMosaic.StableHlo Cert.ReferenceIdeal Cert.ReferenceIdeal.Gen

variable (V0 : Valuation τ sig (Elt Ideal))

theorem v0_apply (i : Fin 128) : (res_main_v0 V0 : S128.Idx → EReal) (ix1 i) = ((63 * (i.val : ℝ) / 127 : ℝ) : EReal) := by
  refine Eq.trans ?_ (Grid.place i)
  pointwise [res_main_v0, res_main_call0_v0, res_main_call0_v1, res_main_call0_v6, id]

theorem v1_apply (i : Fin 128) : (res_main_v1 V0 : S128.Idx → EReal) (ix1 i) = ((63 * (i.val : ℝ) / 127 : ℝ) : EReal) := by
  refine Eq.trans ?_ (Grid.place i)
  pointwise [res_main_v1, res_main_call1_v0, res_main_call1_v1, res_main_call1_v6, id]

theorem v3_apply (i : Fin 128) : (res_main_v3 V0 : S128.Idx → BitVec 32) (ix1 i) = BitVec.ofNat 32 (Grid.low i).val := by
  refine Eq.trans ?_ (Grid.whole i)
  rw [← v0_apply V0]
  rfl
theorem v9_apply (i : Fin 128) : (res_main_v9 V0 : S128.Idx → BitVec 32) (ix1 i) = BitVec.ofNat 32 (Grid.low i).val := by
  refine Eq.trans ?_ (Grid.whole i)
  rw [← v1_apply V0]
  rfl
theorem v7_apply (i : Fin 128) : (res_main_v7 V0 : S128.Idx → BitVec 32) (ix1 i) = BitVec.ofNat 32 (Grid.high i).val := by
  refine Eq.trans ?_ (Grid.next (Grid.low i))
  rw [← v3_apply V0]
  pointwise [res_main_v7]
theorem v13_apply (i : Fin 128) : (res_main_v13 V0 : S128.Idx → BitVec 32) (ix1 i) = BitVec.ofNat 32 (Grid.high i).val := by
  refine Eq.trans ?_ (Grid.next (Grid.low i))
  rw [← v9_apply V0]
  pointwise [res_main_v13]

theorem past_eq (x : FVec Ideal S128 .f32) (y : IVec S128 32) (i : Fin 128) (hx : x (ix1 i) = ((63 * (i.val : ℝ) / 127 : ℝ) : EReal))
    (hy : y (ix1 i) = BitVec.ofNat 32 (Grid.low i).val) : subf x (sitofp (F := Ideal) .f32 y) (ix1 i) = ((Grid.past i : ℝ) : EReal) := by
  have h : subf x (sitofp (F := Ideal) .f32 y) (ix1 i) = x (ix1 i) - ((((y (ix1 i)).toInt : ℝ)) : EReal) := rfl
  rw [h, hx, hy, Grid.toInt_small _ (by omega), ← EReal.coe_sub]
  rfl

/-- An index wrapped for a gather. -/
def wrap (x : IVec S128 32) : IVec S128x1 32 :=
  broadcastInDim S128x1 ![0] bcast_S128_S128x1_0 (select (cmpi .slt x (broadcastInDim S128 ![] bcast_S_S128 (constantI S_ 32 0#32)))
    (addi x (broadcastInDim S128 ![] bcast_S_S128 (constantI S_ 32 64#32))) x)
/-- Which of the wrapped indices lie on the axis. -/
def inside (x : IVec S128x1 32) : IVec S128 1 :=
  Host.reduce IntOp.andi (andi (cmpi .sge x (broadcastInDim S128x1 ![] bcast_S_S128x1 (constantI S_ 32 0#32)))
    (cmpi .sle x (broadcastInDim S128x1 ![0, 1] bcast_S1x1_S128x1_0_1 (broadcastInDim S1x1 ![1] bcast_S1_S1x1_1 (constantI S1 32 63#32)))))
    (constantI S_ 1 1#1) reducesTo_S128x1_S128_d1 h_S_

theorem wrap_apply (x : IVec S128 32) (i : Fin 128) (n : Fin 64) (h : x (ix1 i) = BitVec.ofNat 32 n.val) : wrap x (ix2 i 0) = BitVec.ofNat 32 n.val := by
  refine Eq.trans ?_ (Grid.wrapped n)
  rw [← h]
  pointwise [wrap]

theorem inside_apply (x : IVec S128x1 32) (i : Fin 128) (n : Fin 64) (h : x (ix2 i 0) = BitVec.ofNat 32 n.val) : inside x (ix1 i) = 1#1 := by
  pointwise [inside]
  rw [Finset.univ_unique, Finset.fold_singleton]
  have h' : x (ix2 i (default : Fin 1)) = BitVec.ofNat 32 n.val := h
  rw [h']
  exact Grid.within n

/-- Rows taken at an index. -/
def takeRows (X : FVec Ideal S4x256x64x64 .f32) (x : IVec S128x1 32) : FVec Ideal S4x256x128x64 .f32 :=
  select (broadcastInDim S4x256x128x64 ![2] bcast_S128_S4x256x128x64_2 (inside x))
    (Host.gather gather_S4x256x64x64_S128x1_S4x256x128x64_013_2_n_n_2_1_4256164 X x)
    (broadcastInDim S4x256x128x64 ![] bcast_S_S4x256x128x64 (constant S_ .f32 0x7FC00000#32))
/-- Columns taken at an index. -/
def takeCols (X : FVec Ideal S4x256x128x64 .f32) (x : IVec S128x1 32) : FVec Ideal S4x256x128x128 .f32 :=
  select (broadcastInDim S4x256x128x128 ![3] bcast_S128_S4x256x128x128_3 (inside x))
    (Host.gather gather_S4x256x128x64_S128x1_S4x256x128x128_012_3_n_n_3_1_42561281 X x)
    (broadcastInDim S4x256x128x128 ![] bcast_S_S4x256x128x128 (constant S_ .f32 0x7FC00000#32))

theorem takeRows_apply (X : FVec Ideal S4x256x64x64 .f32) (x : IVec S128 32) (b : Fin 4) (c : Fin 256) (i : Fin 128) (w : Fin 64) (n : Fin 64)
    (h : x (ix1 i) = BitVec.ofNat 32 n.val) : takeRows X (wrap x) (ix4 b c i w) = X (ix4 b c n w) := by
  have hw := wrap_apply x i n h
  pointwise [takeRows]
  rw [inside_apply _ i n hw, Gathers.take2_apply, hw, Grid.at_row]
  rfl

theorem takeCols_apply (X : FVec Ideal S4x256x128x64 .f32) (x : IVec S128 32) (b : Fin 4) (c : Fin 256) (i j : Fin 128) (n : Fin 64)
    (h : x (ix1 j) = BitVec.ofNat 32 n.val) : takeCols X (wrap x) (ix4 b c i j) = X (ix4 b c i n) := by
  have hw := wrap_apply x j n h
  pointwise [takeCols]
  rw [inside_apply _ j n hw, Gathers.take3_apply, hw, Grid.at_row]
  rfl

theorem v20_eq : res_main_v20 V0 = takeRows (V0 (Proc.devRef .tc main_arg0)) (wrap (res_main_v3 V0)) := rfl
theorem v21_eq : res_main_v21 V0 = takeRows (V0 (Proc.devRef .tc main_arg0)) (wrap (res_main_v7 V0)) := rfl

theorem v47_eq : res_main_v47 V0 = shapeCast S4x256x16384 (addf (mulf (addf (mulf (takeCols (res_main_v20 V0) (wrap (res_main_v9 V0))) (broadcastInDim S4x256x128x128 ![0, 1, 2, 3] bcast_S1x1x1x128_S4x256x128x128_0_1_2_3 (subf (broadcastInDim S1x1x1x128 ![] bcast_S_S1x1x1x128 (constant (F := Ideal) S_ .f32 0x3F800000#32)) (res_main_v19 V0)))) (mulf (takeCols (res_main_v20 V0) (wrap (res_main_v13 V0))) (broadcastInDim S4x256x128x128 ![0, 1, 2, 3] bcast_S1x1x1x128_S4x256x128x128_0_1_2_3 (res_main_v19 V0)))) (broadcastInDim S4x256x128x128 ![0, 1, 2, 3] bcast_S1x1x128x1_S4x256x128x128_0_1_2_3 (subf (broadcastInDim S1x1x128x1 ![] bcast_S_S1x1x128x1 (constant (F := Ideal) S_ .f32 0x3F800000#32)) (res_main_v16 V0)))) (mulf (addf (mulf (takeCols (res_main_v21 V0) (wrap (res_main_v9 V0))) (broadcastInDim S4x256x128x128 ![0, 1, 2, 3] bcast_S1x1x1x128_S4x256x128x128_0_1_2_3 (subf (broadcastInDim S1x1x1x128 ![] bcast_S_S1x1x1x128 (constant (F := Ideal) S_ .f32 0x3F800000#32)) (res_main_v19 V0)))) (mulf (takeCols (res_main_v21 V0) (wrap (res_main_v13 V0))) (broadcastInDim S4x256x128x128 ![0, 1, 2, 3] bcast_S1x1x1x128_S4x256x128x128_0_1_2_3 (res_main_v19 V0)))) (broadcastInDim S4x256x128x128 ![0, 1, 2, 3] bcast_S1x1x128x1_S4x256x128x128_0_1_2_3 (res_main_v16 V0)))) shapeCasts_S4x256x128x128_S4x256x16384 := rfl

theorem v47_apply (b : Fin 4) (c : Fin 256) (p : Fin 16384) :
    (res_main_v47 V0 : S4x256x16384.Idx → EReal) (ix3 b c p)
      = Grid.bil (fun h w => (V0 (Proc.devRef .tc main_arg0) : S4x256x64x64.Idx → EReal) (ix4 b c h w)) ⟨p.val / 128, by omega⟩ ⟨p.val % 128, by omega⟩ := by
  have h19 : (res_main_v19 V0 : S1x1x1x128.Idx → EReal) (ix4 0 0 0 ⟨p.val % 128, by omega⟩) = ((Grid.past ⟨p.val % 128, by omega⟩ : ℝ) : EReal) := by
    refine Eq.trans ?_ (past_eq _ _ ⟨p.val % 128, by omega⟩ (v1_apply V0 _) (v9_apply V0 _))
    pointwise [res_main_v19]
  have h16 : (res_main_v16 V0 : S1x1x128x1.Idx → EReal) (ix4 0 0 ⟨p.val / 128, by omega⟩ 0) = ((Grid.past ⟨p.val / 128, by omega⟩ : ℝ) : EReal) := by
    refine Eq.trans ?_ (past_eq _ _ ⟨p.val / 128, by omega⟩ (v0_apply V0 _) (v3_apply V0 _))
    pointwise [res_main_v16]
  rw [v47_eq]
  pointwise []
  rw [h19, h16, takeCols_apply _ _ _ _ _ _ _ (v9_apply V0 _), takeCols_apply _ _ _ _ _ _ _ (v13_apply V0 _),
    takeCols_apply _ _ _ _ _ _ _ (v9_apply V0 _), takeCols_apply _ _ _ _ _ _ _ (v13_apply V0 _), v20_eq, v21_eq,
    takeRows_apply _ _ _ _ _ _ _ (v3_apply V0 _), takeRows_apply _ _ _ _ _ _ _ (v3_apply V0 _),
    takeRows_apply _ _ _ _ _ _ _ (v7_apply V0 _), takeRows_apply _ _ _ _ _ _ _ (v7_apply V0 _)]
  rfl

end Cert.ReferenceIdeal.Value

end
-- ==== Proof.Value.Gathered.lean ====
/- The reference's normalised features and the samples gathered from them, read at an index. -/
module

public import proofs.«01_k».proof.Proof.Value.Grid
public import proofs.«01_k».proof.Proof.Gen.ReferenceIdeal.Run

@[expose] public section

noncomputable section

namespace Cert.ReferenceIdeal.Value

open Idealize.ShloMosaic Idealize.ShloMosaic.TcCoe Idealize.ShloMosaic.StableHlo Cert.ReferenceIdeal Cert.ReferenceIdeal.Gen

variable (V0 : Valuation τ sig (Elt Ideal))

/-- Features over their norm along the channels. -/
def normed (Y : FVec Ideal S4x256x16384 .f32) : FVec Ideal S4x256x16384 .f32 :=
  Host.divf Y (broadcastInDim S4x256x16384 ![0, 1, 2] bcast_S4x1x16384_S4x256x16384_0_1_2 (addf (broadcastInDim S4x1x16384 ![] bcast_S_S4x1x16384 (constant S_ .f32 0x358637BD#32)) (Host.sqrt (broadcastInDim S4x1x16384 ![0, 2] bcast_S4x16384_S4x1x16384_0_2 (Host.reduceAdd (mulf Y Y) (constant S_ .f32 0x00000000#32) reducesTo_S4x256x16384_S4x16384_d1 h_S_)))))

theorem v52_eq : res_main_v52 V0 = normed (res_main_v47 V0) := rfl

theorem normed_apply (Y : FVec Ideal S4x256x16384 .f32) (b : Fin 4) (c : Fin 256) (p : Fin 16384) :
    normed Y (ix3 b c p) = Ideal.div (Y (ix3 b c p)) (Ideal.ofBits .f32 0x358637BD#32 + Ideal.sqrt (∑ c' : Fin 256, Y (ix3 b c' p) * Y (ix3 b c' p))) := by
  pointwise [normed]

/-- Features of one batch entry gathered at the large samples. -/
def ofBig (Y : FVec Ideal S256x16384 .f32) (x : IVec S19x175 32) : FVec Ideal S256x19x175 .f32 :=
  Host.gather gather_S256x16384_S19x175x1_S256x19x175_0_1_n_n_1_2_2561 Y (broadcastInDim S19x175x1 ![0, 1] bcast_S19x175_S19x175x1_0_1
    (select (cmpi .slt x (broadcastInDim S19x175 ![] bcast_S_S19x175 (constantI S_ 32 0#32))) (addi x (broadcastInDim S19x175 ![] bcast_S_S19x175 (constantI S_ 32 16384#32))) x))
/-- Features of one batch entry gathered at the small samples. -/
def ofSmall (Y : FVec Ideal S256x16384 .f32) (x : IVec S19x75 32) : FVec Ideal S256x19x75 .f32 :=
  Host.gather gather_S256x16384_S19x75x1_S256x19x75_0_1_n_n_1_2_2561 Y (broadcastInDim S19x75x1 ![0, 1] bcast_S19x75_S19x75x1_0_1
    (select (cmpi .slt x (broadcastInDim S19x75 ![] bcast_S_S19x75 (constantI S_ 32 0#32))) (addi x (broadcastInDim S19x75 ![] bcast_S_S19x75 (constantI S_ 32 16384#32))) x))

theorem ofBig_apply (Y : FVec Ideal S256x16384 .f32) (x : IVec S19x175 32) (c : Fin 256) (k : Fin 19) (n : Fin 175) (j : Fin 16384)
    (h : x (ix2 k n) = BitVec.ofNat 32 j.val) : ofBig Y x (ix3 c k n) = Y (ix2 c j) := by
  unfold ofBig
  rw [Gathers.big_apply]
  pointwise []
  rw [h, Grid.wrapped_pixel, Grid.at_pixel]
theorem ofSmall_apply (Y : FVec Ideal S256x16384 .f32) (x : IVec S19x75 32) (c : Fin 256) (k : Fin 19) (n : Fin 75) (j : Fin 16384)
    (h : x (ix2 k n) = BitVec.ofNat 32 j.val) : ofSmall Y x (ix3 c k n) = Y (ix2 c j) := by
  unfold ofSmall
  rw [Gathers.small_apply]
  pointwise []
  rw [h, Grid.wrapped_pixel, Grid.at_pixel]

/-- The four batch entries' large samples side by side. -/
def allBig (Y : FVec Ideal S4x256x16384 .f32) (x0 x1 x2 x3 : IVec S19x175 32) : FVec Ideal S256x19x700 .f32 :=
  (concatenate S256x19x700 2 [⟨S256x19x175, ((ofBig (shapeCast S256x16384 (extractStridedSlice S1x256x16384 ![0, 0, 0] Y slices_S4x256x16384_S1x256x16384_0_0_0) shapeCasts_S1x256x16384_S256x16384) x0) : (⟨S256x19x175, .f32⟩ : BufTy).Contents (Elt Ideal))⟩, ⟨S256x19x175, ((ofBig (shapeCast S256x16384 (extractStridedSlice S1x256x16384 ![1, 0, 0] Y slices_S4x256x16384_S1x256x16384_1_0_0) shapeCasts_S1x256x16384_S256x16384) x1) : (⟨S256x19x175, .f32⟩ : BufTy).Contents (Elt Ideal))⟩, ⟨S256x19x175, ((ofBig (shapeCast S256x16384 (extractStridedSlice S1x256x16384 ![2, 0, 0] Y slices_S4x256x16384_S1x256x16384_2_0_0) shapeCasts_S1x256x16384_S256x16384) x2) : (⟨S256x19x175, .f32⟩ : BufTy).Contents (Elt Ideal))⟩, ⟨S256x19x175, ((ofBig (shapeCast S256x16384 (extractStridedSlice S1x256x16384 ![3, 0, 0] Y slices_S4x256x16384_S1x256x16384_3_0_0) shapeCasts_S1x256x16384_S256x16384) x3) : (⟨S256x19x175, .f32⟩ : BufTy).Contents (Elt Ideal))⟩] concatenates_S256x19x175_S256x19x175_S256x19x175_S256x19x175_S256x19x700_d2 : (⟨S256x19x700, .f32⟩ : BufTy).Contents (Elt Ideal))
/-- The four batch entries' small samples side by side. -/
def allSmall (Y : FVec Ideal S4x256x16384 .f32) (x0 x1 x2 x3 : IVec S19x75 32) : FVec Ideal S256x19x300 .f32 :=
  (concatenate S256x19x300 2 [⟨S256x19x75, ((ofSmall (shapeCast S256x16384 (extractStridedSlice S1x256x16384 ![0, 0, 0] Y slices_S4x256x16384_S1x256x16384_0_0_0) shapeCasts_S1x256x16384_S256x16384) x0) : (⟨S256x19x75, .f32⟩ : BufTy).Contents (Elt Ideal))⟩, ⟨S256x19x75, ((ofSmall (shapeCast S256x16384 (extractStridedSlice S1x256x16384 ![1, 0, 0] Y slices_S4x256x16384_S1x256x16384_1_0_0) shapeCasts_S1x256x16384_S256x16384) x1) : (⟨S256x19x75, .f32⟩ : BufTy).Contents (Elt Ideal))⟩, ⟨S256x19x75, ((ofSmall (shapeCast S256x16384 (extractStridedSlice S1x256x16384 ![2, 0, 0] Y slices_S4x256x16384_S1x256x16384_2_0_0) shapeCasts_S1x256x16384_S256x16384) x2) : (⟨S256x19x75, .f32⟩ : BufTy).Contents (Elt Ideal))⟩, ⟨S256x19x75, ((ofSmall (shapeCast S256x16384 (extractStridedSlice S1x256x16384 ![3, 0, 0] Y slices_S4x256x16384_S1x256x16384_3_0_0) shapeCasts_S1x256x16384_S256x16384) x3) : (⟨S256x19x75, .f32⟩ : BufTy).Contents (Elt Ideal))⟩] concatenates_S256x19x75_S256x19x75_S256x19x75_S256x19x75_S256x19x300_d2 : (⟨S256x19x300, .f32⟩ : BufTy).Contents (Elt Ideal))

theorem v99_eq : res_main_v99 V0 = allBig (res_main_v52 V0) (res_main_v58 V0) (res_main_v69 V0) (res_main_v80 V0) (res_main_v91 V0) := rfl
theorem v144_eq : res_main_v144 V0 = allBig (res_main_v52 V0) (res_main_v103 V0) (res_main_v114 V0) (res_main_v125 V0) (res_main_v136 V0) := rfl
theorem v189_eq : res_main_v189 V0 = allSmall (res_main_v52 V0) (res_main_v148 V0) (res_main_v159 V0) (res_main_v170 V0) (res_main_v181 V0) := rfl
theorem v234_eq : res_main_v234 V0 = allSmall (res_main_v52 V0) (res_main_v193 V0) (res_main_v204 V0) (res_main_v215 V0) (res_main_v226 V0) := rfl

theorem allBig_apply (Y : FVec Ideal S4x256x16384 .f32) (x : Fin 4 → IVec S19x175 32) (J : Fin 19 → Fin 4 → Fin 175 → Fin 16384)
    (h : ∀ k b n, x b (ix2 k n) = BitVec.ofNat 32 (J k b n).val) (c : Fin 256) (k : Fin 19) (b : Fin 4) (n : Fin 175) :
    allBig Y (x 0) (x 1) (x 2) (x 3) (ix3 c k ⟨b.val * 175 + n.val, by omega⟩) = Y (ix3 b c (J k b n)) := by
  pointwise [allBig]
  have at_ (b' : Fin 4) (j : Nat) (hj : j < 175) (e : b.val * 175 + n.val = b'.val * 175 + j) : b = b' ∧ n = ⟨j, hj⟩ :=
    ⟨Fin.ext (by omega), Fin.ext (by show n.val = j; omega)⟩
  split
  · obtain ⟨rfl, hn⟩ := at_ 0 _ (by assumption) (by show _ = 0 * 175 + _; omega)
    rw [← hn, ofBig_apply _ _ c k n _ (h k 0 n)]
    pointwise []
  · split
    · obtain ⟨rfl, hn⟩ := at_ 1 _ (by assumption) (by show _ = 1 * 175 + _; omega)
      rw [← hn, ofBig_apply _ _ c k n _ (h k 1 n)]
      pointwise []
    · split
      · obtain ⟨rfl, hn⟩ := at_ 2 _ (by assumption) (by show _ = 2 * 175 + _; omega)
        rw [← hn, ofBig_apply _ _ c k n _ (h k 2 n)]
        pointwise []
      · obtain ⟨rfl, hn⟩ := at_ 3 (b.val * 175 + n.val - 175 - 175 - 175) (by omega) (by show _ = 3 * 175 + _; omega)
        rw [← hn, ofBig_apply _ _ c k n _ (h k 3 n)]
        pointwise []

theorem allSmall_apply (Y : FVec Ideal S4x256x16384 .f32) (x : Fin 4 → IVec S19x75 32) (J : Fin 19 → Fin 4 → Fin 75 → Fin 16384)
    (h : ∀ k b n, x b (ix2 k n) = BitVec.ofNat 32 (J k b n).val) (c : Fin 256) (k : Fin 19) (b : Fin 4) (n : Fin 75) :
    allSmall Y (x 0) (x 1) (x 2) (x 3) (ix3 c k ⟨b.val * 75 + n.val, by omega⟩) = Y (ix3 b c (J k b n)) := by
  pointwise [allSmall]
  have at_ (b' : Fin 4) (j : Nat) (hj : j < 75) (e : b.val * 75 + n.val = b'.val * 75 + j) : b = b' ∧ n = ⟨j, hj⟩ :=
    ⟨Fin.ext (by omega), Fin.ext (by show n.val = j; omega)⟩
  split
  · obtain ⟨rfl, hn⟩ := at_ 0 _ (by assumption) (by show _ = 0 * 75 + _; omega)
    rw [← hn, ofSmall_apply _ _ c k n _ (h k 0 n)]
    pointwise []
  · split
    · obtain ⟨rfl, hn⟩ := at_ 1 _ (by assumption) (by show _ = 1 * 75 + _; omega)
      rw [← hn, ofSmall_apply _ _ c k n _ (h k 1 n)]
      pointwise []
    · split
      · obtain ⟨rfl, hn⟩ := at_ 2 _ (by assumption) (by show _ = 2 * 75 + _; omega)
        rw [← hn, ofSmall_apply _ _ c k n _ (h k 2 n)]
        pointwise []
      · obtain ⟨rfl, hn⟩ := at_ 3 (b.val * 75 + n.val - 75 - 75 - 75) (by omega) (by show _ = 3 * 75 + _; omega)
        rw [← hn, ofSmall_apply _ _ c k n _ (h k 3 n)]
        pointwise []

theorem piece_big (I : IVec S152x175x1 32) (b : Fin 4) (g : Fin 2) (h : S19x4x2x175.Slices ![0, b.val, g.val, 0] S19x1x1x175) (k : Fin 19) (n : Fin 175) :
    shapeCast S19x175 (extractStridedSlice S19x1x1x175 ![0, b.val, g.val, 0] (shapeCast S19x4x2x175 I shapeCasts_S152x175x1_S19x4x2x175) h) shapeCasts_S19x1x1x175_S19x175 (ix2 k n)
      = I (ix3 (Grid.slot k b g) n 0) := by
  pointwise []
  refine congrArg (fun q : Fin 152 => I (ix3 q n 0)) (Fin.ext ?_)
  unfold Grid.slot; dsimp only; omega

theorem piece_small (I : IVec S152x75x1 32) (b : Fin 4) (g : Fin 2) (h : S19x4x2x75.Slices ![0, b.val, g.val, 0] S19x1x1x75) (k : Fin 19) (n : Fin 75) :
    shapeCast S19x75 (extractStridedSlice S19x1x1x75 ![0, b.val, g.val, 0] (shapeCast S19x4x2x75 I shapeCasts_S152x75x1_S19x4x2x75) h) shapeCasts_S19x1x1x75_S19x75 (ix2 k n)
      = I (ix3 (Grid.slot k b g) n 0) := by
  pointwise []
  refine congrArg (fun q : Fin 152 => I (ix3 q n 0)) (Fin.ext ?_)
  unfold Grid.slot; dsimp only; omega

/-- The indices drawn for batch entry `b` of group `g`, large samples. -/
def idxBig (I : IVec S152x175x1 32) (g : Fin 2) (b : Fin 4) : IVec S19x175 32 :=
  shapeCast S19x175 (extractStridedSlice S19x1x1x175 ![0, b.val, g.val, 0] (shapeCast S19x4x2x175 I shapeCasts_S152x175x1_S19x4x2x175) (by revert b g; decide)) shapeCasts_S19x1x1x175_S19x175
/-- The same for the small samples. -/
def idxSmall (I : IVec S152x75x1 32) (g : Fin 2) (b : Fin 4) : IVec S19x75 32 :=
  shapeCast S19x75 (extractStridedSlice S19x1x1x75 ![0, b.val, g.val, 0] (shapeCast S19x4x2x75 I shapeCasts_S152x75x1_S19x4x2x75) (by revert b g; decide)) shapeCasts_S19x1x1x75_S19x75

/-- The normalised features at the large samples of group `g`. -/
def sampleBig (Y : FVec Ideal S4x256x16384 .f32) (I : IVec S152x175x1 32) (g : Fin 2) : FVec Ideal S256x19x700 .f32 :=
  allBig (normed Y) (idxBig I g 0) (idxBig I g 1) (idxBig I g 2) (idxBig I g 3)
/-- The normalised features at the small samples of group `g`. -/
def sampleSmall (Y : FVec Ideal S4x256x16384 .f32) (I : IVec S152x75x1 32) (g : Fin 2) : FVec Ideal S256x19x300 .f32 :=
  allSmall (normed Y) (idxSmall I g 0) (idxSmall I g 1) (idxSmall I g 2) (idxSmall I g 3)

theorem sampleBig_apply (Y : FVec Ideal S4x256x16384 .f32) (I : IVec S152x175x1 32) (J : Fin 19 → Fin 4 → Fin 2 → Fin 175 → Fin 16384)
    (h : ∀ k b g n, I (ix3 (Grid.slot k b g) n 0) = BitVec.ofNat 32 (J k b g n).val) (g : Fin 2) (c : Fin 256) (k : Fin 19) (b : Fin 4) (n : Fin 175) :
    sampleBig Y I g (ix3 c k ⟨b.val * 175 + n.val, by omega⟩) = normed Y (ix3 b c (J k b g n)) :=
  allBig_apply (normed Y) (idxBig I g) (fun k b n => J k b g n) (fun k b n => (piece_big I b g _ k n).trans (h k b g n)) c k b n
theorem sampleSmall_apply (Y : FVec Ideal S4x256x16384 .f32) (I : IVec S152x75x1 32) (J : Fin 19 → Fin 4 → Fin 2 → Fin 75 → Fin 16384)
    (h : ∀ k b g n, I (ix3 (Grid.slot k b g) n 0) = BitVec.ofNat 32 (J k b g n).val) (g : Fin 2) (c : Fin 256) (k : Fin 19) (b : Fin 4) (n : Fin 75) :
    sampleSmall Y I g (ix3 c k ⟨b.val * 75 + n.val, by omega⟩) = normed Y (ix3 b c (J k b g n)) :=
  allSmall_apply (normed Y) (idxSmall I g) (fun k b n => J k b g n) (fun k b n => (piece_small I b g _ k n).trans (h k b g n)) c k b n

theorem v99_sample : res_main_v99 V0 = sampleBig (res_main_v47 V0) (V0 (Proc.devRef .tc main_arg1)) 0 := rfl
theorem v144_sample : res_main_v144 V0 = sampleBig (res_main_v47 V0) (V0 (Proc.devRef .tc main_arg1)) 1 := rfl
theorem v189_sample : res_main_v189 V0 = sampleSmall (res_main_v47 V0) (V0 (Proc.devRef .tc main_arg2)) 0 := rfl
theorem v234_sample : res_main_v234 V0 = sampleSmall (res_main_v47 V0) (V0 (Proc.devRef .tc main_arg2)) 1 := rfl

end Cert.ReferenceIdeal.Value

end
-- ==== Proof.Value.Sums.lean ====
/- Sums of extended reals that are real, and the two facts the equality of the losses rests on: a normalised feature
   is always a real, and a contraction with a histogram is the sum of the features at the counted indices. -/
module

public import proofs.«01_k».proof.Proof.Value.Hist
public import proofs.«01_k».proof.Proof.Value.Grid

@[expose] public section

noncomputable section

namespace Cert.Sums

open Idealize.ShloMosaic

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- A sum over `m` runs of `n`. -/
theorem sum_runs {M : Type} [AddCommMonoid M] (m n : ℕ) (f : Fin (m * n) → M) :
    ∑ d, f d = ∑ b : Fin m, ∑ r : Fin n, f ⟨b.val * n + r.val, by
      have h1 : (b.val + 1) * n ≤ m * n := Nat.mul_le_mul_right n b.isLt
      have h2 := r.isLt
      rw [Nat.add_mul, Nat.one_mul] at h1
      omega⟩ := by
  rw [← Fintype.sum_prod_type', ← finProdFinEquiv.sum_comp]
  refine Fintype.sum_congr _ _ fun q => congrArg f (Fin.ext ?_)
  show q.2.val + n * q.1.val = q.1.val * n + q.2.val
  rw [Nat.mul_comm, Nat.add_comm]

theorem ofBits_eps : ∃ e : ℝ, 0 < e ∧ Ideal.ofBits .f32 0x358637BD#32 = (e : EReal) := by
  refine ⟨8796093 * (2 ^ 43)⁻¹, by norm_num, ?_⟩
  simp [Ideal.ofBits, Ideal.ieee]
theorem ofBits_neg_one : Ideal.ofBits .f32 0xBF800000#32 = ((-1 : ℝ) : EReal) := by
  simp [Ideal.ofBits, Ideal.ieee]; rw [← EReal.coe_mul]; norm_num
theorem ofBits_840000 : Ideal.ofBits .f32 0x494D1400#32 = ((840000 : ℝ) : EReal) := by
  simp [Ideal.ofBits, Ideal.ieee]; rw [← EReal.coe_mul]; norm_num
theorem ofBits_19 : Ideal.ofBits .f32 0x41980000#32 = ((19 : ℝ) : EReal) := by
  simp [Ideal.ofBits, Ideal.ieee]; rw [← EReal.coe_mul]; norm_num

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A value whose square is finite is a real. -/
theorem real_of_square (x : EReal) (h : x * x ≠ ⊤) : ∃ r : ℝ, x = (r : EReal) := by
  induction x with
  | bot => exact absurd EReal.bot_mul_bot h
  | top => exact absurd EReal.top_mul_top h
  | coe r => exact ⟨r, rfl⟩

/-- The features of one pixel over their norm are reals, whatever the features: if the norm is infinite they are zero.
    Weighting by a count and by the inverse norm gives the count times the same real. -/
theorem normalised {n : ℕ} (y : Fin n → EReal) : ∃ f : Fin n → ℝ,
    (∀ c, Ideal.div (y c) (Ideal.ofBits .f32 0x358637BD#32 + Ideal.sqrt (∑ c', y c' * y c')) = (f c : EReal))
    ∧ ∀ c (k : ℝ), y c * ((k : EReal) * Ideal.div 1 (Ideal.ofBits .f32 0x358637BD#32 + Ideal.sqrt (∑ c', y c' * y c'))) = ((k * f c : ℝ) : EReal) := by
  obtain ⟨e, he, heq⟩ := ofBits_eps
  rw [heq]
  by_cases hS : ∑ c', y c' * y c' = ⊤
  · rw [hS, Ideal.sqrt_top, EReal.coe_add_top]
    have hd : ∀ x : EReal, Ideal.div x ⊤ = 0 := fun x => by
      rw [Ideal.div, if_neg (by simp), EReal.inv_top, mul_zero]
    refine ⟨fun _ => 0, fun c => ?_, fun c k => ?_⟩
    · rw [hd]; rfl
    · rw [hd, mul_zero, mul_zero, mul_zero]; rfl
  · have hr : ∀ c, ∃ r : ℝ, y c = (r : EReal) := fun c => by
      refine real_of_square (y c) fun h => hS (top_le_iff.mp ?_)
      rw [← h]
      exact Finset.single_le_sum (f := fun c' => y c' * y c') (fun c' _ => square_nonneg (y c')) (Finset.mem_univ c)
    choose r hr using hr
    have hsum : ∑ c', y c' * y c' = ((∑ c', r c' * r c' : ℝ) : EReal) := by
      rw [coe_sum]
      exact Finset.sum_congr rfl fun c _ => by rw [hr c, EReal.coe_mul]
    have hnn : 0 ≤ ∑ c', r c' * r c' := Finset.sum_nonneg fun c _ => mul_self_nonneg (r c)
    rw [hsum, Ideal.sqrt_coe, if_neg (not_lt.mpr hnn), ← EReal.coe_add]
    have hD : e + Real.sqrt (∑ c', r c' * r c') ≠ 0 := by have := Real.sqrt_nonneg (∑ c', r c' * r c'); linarith
    generalize e + Real.sqrt (∑ c', r c' * r c') = D at hD ⊢
    refine ⟨fun c => r c * (1 / D), fun c => ?_, fun c k => ?_⟩
    · rw [Ideal.div_coe hD, hr c, EReal.coe_mul]
    · rw [Ideal.div_coe hD, hr c, one_mul, ← EReal.coe_mul, ← EReal.coe_mul]
      congr 1; ring

/-- Contracting with a histogram of drawn pixels sums the features at those pixels. -/
theorem contract_hist {n : ℕ} (idx : Fin n → BitVec 32) (j : Fin n → Fin 16384) (hj : ∀ x, idx x = BitVec.ofNat 32 (j x).val)
    (y s : Fin 16384 → EReal) (f : Fin 16384 → ℝ)
    (hf : ∀ p (k : ℝ), y p * ((k : EReal) * Ideal.div 1 (Ideal.ofBits .f32 0x358637BD#32 + Ideal.sqrt (s p))) = ((k * f p : ℝ) : EReal)) :
    ∑ p : Fin 16384, y p * Cert.KernelIdeal.Value.hist idx (s p) (BitVec.ofNat 32 p.val) = ((∑ x, f (j x) : ℝ) : EReal) := by
  have hc (p : Fin 16384) : (∑ x, if idx x = BitVec.ofNat 32 p.val then (1 : EReal) else 0) = ((∑ x, if j x = p then 1 else 0 : ℝ) : EReal) := by
    rw [coe_sum]
    refine Finset.sum_congr rfl fun x _ => ?_
    have he : idx x = BitVec.ofNat 32 p.val ↔ j x = p := by
      rw [hj x]
      constructor
      · intro h
        have h' := congrArg BitVec.toNat h
        rw [BitVec.toNat_ofNat, BitVec.toNat_ofNat] at h'
        refine Fin.ext ?_
        omega
      · intro h; rw [h]
    by_cases h : j x = p
    · rw [if_pos (he.mpr h), if_pos h]; rfl
    · rw [if_neg (fun h' => h (he.mp h')), if_neg h]; rfl
  have hp (p : Fin 16384) : y p * Cert.KernelIdeal.Value.hist idx (s p) (BitVec.ofNat 32 p.val) = (((∑ x, if j x = p then 1 else 0) * f p : ℝ) : EReal) := by
    unfold Cert.KernelIdeal.Value.hist
    rw [hc p, hf p]
  rw [Finset.sum_congr rfl fun p _ => hp p, ← coe_sum]
  refine congrArg (fun r : ℝ => (r : EReal)) ?_
  simp only [Finset.sum_mul, ite_mul, one_mul, zero_mul]
  rw [Finset.sum_comm]
  refine Finset.sum_congr rfl fun x _ => ?_
  rw [Finset.sum_ite_eq, if_pos (Finset.mem_univ _)]

/-- Summing the products of two families over all pairs multiplies their sums. -/
theorem pairs {m n l : ℕ} (u : Fin m → Fin n → ℝ) (v : Fin m → Fin l → ℝ) :
    ∑ r : Fin n, ∑ d : Fin l, ∑ c : Fin m, u c r * v c d = ∑ c : Fin m, (∑ r, u c r) * ∑ d, v c d := by
  simp only [Finset.sum_mul_sum]
  rw [Finset.sum_congr rfl fun r _ => Finset.sum_comm, Finset.sum_comm]

end Cert.Sums

end
-- ==== Proof.Value.Tail.lean ====
/- The reference's loss, read from its four sample sets. -/
module

public import Idealize.ShloMosaic.Lib.Pointwise
public import proofs.«01_k».proof.Proof.Value.Sums
public import proofs.«01_k».proof.Proof.Gen.ReferenceIdeal

@[expose] public section

noncomputable section

namespace Cert.ReferenceIdeal.Value

open Idealize.ShloMosaic Cert.ReferenceIdeal Cert.ReferenceIdeal.Gen

/-- The signed score blocks, one above the other. -/
def blocks (A D : FVec Ideal S256x19x300 .f32) (P Q : FVec Ideal S256x19x700 .f32) : FVec Ideal S19x1200x700 .f32 :=
  ((concatenate S19x1200x700 1 [⟨S19x300x700, ((mulf (broadcastInDim S19x300x700 ![] bcast_S_S19x300x700 (constant (F := Ideal) S_ .f32 0xBF800000#32)) (Host.dotGeneral dot_S256x19x300_S256x19x700_S19x300x700_0_0_2_2_1_1 none A P)) : (⟨S19x300x700, .f32⟩ : BufTy).Contents (Elt Ideal))⟩, ⟨S19x300x700, ((Host.dotGeneral dot_S256x19x300_S256x19x700_S19x300x700_0_0_2_2_1_1 none A Q) : (⟨S19x300x700, .f32⟩ : BufTy).Contents (Elt Ideal))⟩, ⟨S19x300x700, ((Host.dotGeneral dot_S256x19x300_S256x19x700_S19x300x700_0_0_2_2_1_1 none D P) : (⟨S19x300x700, .f32⟩ : BufTy).Contents (Elt Ideal))⟩, ⟨S19x300x700, ((mulf (broadcastInDim S19x300x700 ![] bcast_S_S19x300x700 (constant (F := Ideal) S_ .f32 0xBF800000#32)) (Host.dotGeneral dot_S256x19x300_S256x19x700_S19x300x700_0_0_2_2_1_1 none D Q)) : (⟨S19x300x700, .f32⟩ : BufTy).Contents (Elt Ideal))⟩] concatenates_S19x300x700_S19x300x700_S19x300x700_S19x300x700_S19x1200x700_d1 : (⟨S19x1200x700, .f32⟩ : BufTy).Contents (Elt Ideal)))
/-- The loss from them. -/
def tail (Z : FVec Ideal S19x1200x700 .f32) : FVec Ideal S_ .f32 :=
  Host.divf (Host.reduceAdd (Host.divf (Host.reduceAdd Z (constant (F := Ideal) S_ .f32 0x00000000#32) reducesTo_S19x1200x700_S19_d1_2 h_S_) (broadcastInDim S19 ![] bcast_S_S19 (constant (F := Ideal) S_ .f32 0x494D1400#32))) (constant (F := Ideal) S_ .f32 0x00000000#32) reducesTo_S19_S_d0 h_S_) (constant (F := Ideal) S_ .f32 0x41980000#32)

/-- Which block a row of scores lies in. -/
theorem blocks_apply (A D : FVec Ideal S256x19x300 .f32) (P Q : FVec Ideal S256x19x700 .f32) (k : Fin 19) (a : Fin 1200) (d : Fin 700) :
    blocks A D P Q (ix3 k a d) =
      if h : a.val < 300 then Ideal.ofBits .f32 0xBF800000#32 * ∑ c : Fin 256, A (ix3 c k ⟨a.val, h⟩) * P (ix3 c k d)
      else if h : a.val - 300 < 300 then ∑ c : Fin 256, A (ix3 c k ⟨a.val - 300, h⟩) * Q (ix3 c k d)
      else if h : a.val - 300 - 300 < 300 then ∑ c : Fin 256, D (ix3 c k ⟨a.val - 300 - 300, h⟩) * P (ix3 c k d)
      else Ideal.ofBits .f32 0xBF800000#32 * ∑ c : Fin 256, D (ix3 c k ⟨a.val - 300 - 300 - 300, by omega⟩) * Q (ix3 c k d) := by
  pointwise [blocks]

theorem tail_apply (Z : FVec Ideal S19x1200x700 .f32) :
    tail Z ix0 = Ideal.div (∑ k : Fin 19, Ideal.div (∑ a : Fin 1200, ∑ d : Fin 700, Z (ix3 k a d)) (Ideal.ofBits .f32 0x494D1400#32)) (Ideal.ofBits .f32 0x41980000#32) := by
  pointwise [tail]

theorem dot_real (A : FVec Ideal S256x19x300 .f32) (P : FVec Ideal S256x19x700 .f32) (a : Fin 256 → Fin 19 → Fin 300 → ℝ) (p : Fin 256 → Fin 19 → Fin 700 → ℝ)
    (hA : ∀ c k r, A (ix3 c k r) = (a c k r : EReal)) (hP : ∀ c k d, P (ix3 c k d) = (p c k d : EReal)) (k : Fin 19) (r : Fin 300) (d : Fin 700) :
    ∑ c : Fin 256, A (ix3 c k r) * P (ix3 c k d) = ((∑ c, a c k r * p c k d : ℝ) : EReal) := by
  rw [Sums.coe_sum]
  exact Finset.sum_congr rfl fun c _ => by rw [hA, hP, EReal.coe_mul]

/-- The sum of one class's signed blocks factors by channel. -/
theorem class_sum (A D : FVec Ideal S256x19x300 .f32) (P Q : FVec Ideal S256x19x700 .f32)
    (a b : Fin 256 → Fin 19 → Fin 300 → ℝ) (p q : Fin 256 → Fin 19 → Fin 700 → ℝ)
    (hA : ∀ c k r, A (ix3 c k r) = (a c k r : EReal)) (hD : ∀ c k r, D (ix3 c k r) = (b c k r : EReal))
    (hP : ∀ c k d, P (ix3 c k d) = (p c k d : EReal)) (hQ : ∀ c k d, Q (ix3 c k d) = (q c k d : EReal)) (k : Fin 19) :
    ∑ r : Fin 1200, ∑ d : Fin 700, blocks A D P Q (ix3 k r d)
      = ((∑ c : Fin 256, (∑ r, b c k r - ∑ r, a c k r) * (∑ d, p c k d - ∑ d, q c k d) : ℝ) : EReal) := by
  have e0 : ∀ (r : Fin 300) (d : Fin 700), blocks A D P Q (ix3 k ⟨(0 : Fin 4).val * 300 + r.val, by show 0 * 300 + _ < _; omega⟩ d) = ((-1 * ∑ c, a c k r * p c k d : ℝ) : EReal) := fun r d => by
    rw [blocks_apply, dif_pos (by show 0 * 300 + r.val < 300; omega), Sums.ofBits_neg_one, EReal.coe_mul, ← dot_real A P a p hA hP]
    simp
  have e1 : ∀ (r : Fin 300) (d : Fin 700), blocks A D P Q (ix3 k ⟨(1 : Fin 4).val * 300 + r.val, by show 1 * 300 + _ < _; omega⟩ d) = ((∑ c, a c k r * q c k d : ℝ) : EReal) := fun r d => by
    rw [blocks_apply, dif_neg (by show ¬ 1 * 300 + r.val < 300; omega), dif_pos (by show 1 * 300 + r.val - 300 < 300; omega), ← dot_real A Q a q hA hQ]
    simp
  have e2 : ∀ (r : Fin 300) (d : Fin 700), blocks A D P Q (ix3 k ⟨(2 : Fin 4).val * 300 + r.val, by show 2 * 300 + _ < _; omega⟩ d) = ((∑ c, b c k r * p c k d : ℝ) : EReal) := fun r d => by
    rw [blocks_apply, dif_neg (by show ¬ 2 * 300 + r.val < 300; omega), dif_neg (by show ¬ 2 * 300 + r.val - 300 < 300; omega),
      dif_pos (by show 2 * 300 + r.val - 300 - 300 < 300; omega), ← dot_real D P b p hD hP]
    simp
    exact Finset.sum_congr rfl fun c _ => congrArg (fun z : Fin 300 => D (ix3 c k z) * P (ix3 c k d)) (Fin.ext (by show 600 + r.val - 300 - 300 = r.val; omega))
  have e3 : ∀ (r : Fin 300) (d : Fin 700), blocks A D P Q (ix3 k ⟨(3 : Fin 4).val * 300 + r.val, by show 3 * 300 + _ < _; omega⟩ d) = ((-1 * ∑ c, b c k r * q c k d : ℝ) : EReal) := fun r d => by
    rw [blocks_apply, dif_neg (by show ¬ 3 * 300 + r.val < 300; omega), dif_neg (by show ¬ 3 * 300 + r.val - 300 < 300; omega),
      dif_neg (by show ¬ 3 * 300 + r.val - 300 - 300 < 300; omega), Sums.ofBits_neg_one, EReal.coe_mul, ← dot_real D Q b q hD hQ]
    simp
    exact Finset.sum_congr rfl fun c _ => congrArg (fun z : Fin 300 => D (ix3 c k z) * Q (ix3 c k d)) (Fin.ext (by show 900 + r.val - 300 - 300 - 300 = r.val; omega))
  refine (Sums.sum_runs 4 300 _).trans ?_
  rw [Fin.sum_univ_four]
  simp only [e0, e1, e2, e3, ← Sums.coe_sum, ← EReal.coe_add]
  refine congrArg (fun x : ℝ => (x : EReal)) ?_
  simp only [← Finset.mul_sum]
  rw [Sums.pairs (fun c r => a c k r) (fun c d => p c k d), Sums.pairs (fun c r => a c k r) (fun c d => q c k d),
    Sums.pairs (fun c r => b c k r) (fun c d => p c k d), Sums.pairs (fun c r => b c k r) (fun c d => q c k d),
    Finset.mul_sum, Finset.mul_sum, ← Finset.sum_add_distrib, ← Finset.sum_add_distrib, ← Finset.sum_add_distrib]
  refine Finset.sum_congr rfl fun c _ => ?_
  ring

theorem tail_value (A D : FVec Ideal S256x19x300 .f32) (P Q : FVec Ideal S256x19x700 .f32)
    (a b : Fin 256 → Fin 19 → Fin 300 → ℝ) (p q : Fin 256 → Fin 19 → Fin 700 → ℝ)
    (hA : ∀ c k r, A (ix3 c k r) = (a c k r : EReal)) (hD : ∀ c k r, D (ix3 c k r) = (b c k r : EReal))
    (hP : ∀ c k d, P (ix3 c k d) = (p c k d : EReal)) (hQ : ∀ c k d, Q (ix3 c k d) = (q c k d : EReal)) :
    tail (blocks A D P Q) ix0
      = (((∑ c : Fin 256, ∑ k : Fin 19, (∑ r, b c k r - ∑ r, a c k r) * (∑ d, p c k d - ∑ d, q c k d)) * (1 / 840000) * (1 / 19) : ℝ) : EReal) := by
  rw [tail_apply, Sums.ofBits_840000, Sums.ofBits_19, Ideal.div_coe (by norm_num)]
  simp only [class_sum A D P Q a b p q hA hD hP hQ, Ideal.div_coe (show (840000 : ℝ) ≠ 0 by norm_num), ← EReal.coe_mul, ← Sums.coe_sum]
  refine congrArg (fun x : ℝ => (x : EReal)) ?_
  rw [← Finset.sum_mul, Finset.sum_comm]

end Cert.ReferenceIdeal.Value

end
-- ==== Proof.Value.Equal.lean ====
/- The two losses are one real number. -/
module

public import proofs.«01_k».proof.Proof.Value.Whole
public import proofs.«01_k».proof.Proof.Value.Resampled
public import proofs.«01_k».proof.Proof.Value.Gathered
public import proofs.«01_k».proof.Proof.Value.Tail

@[expose] public section

noncomputable section

namespace Cert.Equal

open Idealize.ShloMosaic Cert.KernelIdeal.Value

/-- The row of histograms each of the four ranges of 76 reads. -/
theorem row0 (HB HS : Cert.KernelIdeal.S19x4x2x16384.Idx → EReal) (b : Fin 4) (k : Fin 19) (p : Fin 16384) :
    row HB HS b ⟨k.val, by omega⟩ p = HB (ix4 k b 0 p) := by
  unfold row
  rw [dif_pos (show k.val < 19 from k.isLt)]
theorem row1 (HB HS : Cert.KernelIdeal.S19x4x2x16384.Idx → EReal) (b : Fin 4) (k : Fin 19) (p : Fin 16384) :
    row HB HS b ⟨19 + k.val, by omega⟩ p = HB (ix4 k b 1 p) := by
  unfold row
  rw [dif_neg (show ¬ 19 + k.val < 19 by omega), dif_pos (show 19 + k.val - 19 < 19 by omega)]
  exact congrArg (fun z : Fin 19 => HB (ix4 z b 1 p)) (Fin.ext (by show 19 + k.val - 19 = k.val; omega))
theorem row2 (HB HS : Cert.KernelIdeal.S19x4x2x16384.Idx → EReal) (b : Fin 4) (k : Fin 19) (p : Fin 16384) :
    row HB HS b ⟨38 + k.val, by omega⟩ p = HS (ix4 k b 0 p) := by
  unfold row
  rw [dif_neg (show ¬ 38 + k.val < 19 by omega), dif_neg (show ¬ 38 + k.val - 19 < 19 by omega), dif_pos (show 38 + k.val - 19 - 19 < 19 by omega)]
  exact congrArg (fun z : Fin 19 => HS (ix4 z b 0 p)) (Fin.ext (by show 38 + k.val - 19 - 19 = k.val; omega))
theorem row3 (HB HS : Cert.KernelIdeal.S19x4x2x16384.Idx → EReal) (b : Fin 4) (k : Fin 19) (p : Fin 16384) :
    row HB HS b ⟨57 + k.val, by omega⟩ p = HS (ix4 k b 1 p) := by
  unfold row
  rw [dif_neg (show ¬ 57 + k.val < 19 by omega), dif_neg (show ¬ 57 + k.val - 19 < 19 by omega), dif_neg (show ¬ 57 + k.val - 19 - 19 < 19 by omega)]
  exact congrArg (fun z : Fin 19 => HS (ix4 z b 1 p)) (Fin.ext (by show 57 + k.val - 19 - 19 - 19 = k.val; omega))

/-- The normalised features, as reals. -/
theorem features (X : Cert.KernelIdeal.S4x256x64x64.Idx → EReal) : ∃ f : Fin 4 → Fin 16384 → Fin 256 → ℝ,
    (∀ b p c, Ideal.div (feat X b c p) (Ideal.ofBits .f32 0x358637BD#32 + Ideal.sqrt (featSq X b p)) = (f b p c : EReal))
    ∧ ∀ b p c (k : ℝ), feat X b c p * ((k : EReal) * Ideal.div 1 (Ideal.ofBits .f32 0x358637BD#32 + Ideal.sqrt (featSq X b p))) = ((k * f b p c : ℝ) : EReal) := by
  have h := fun b p => Sums.normalised (fun c => feat X b c p)
  choose f h using h
  exact ⟨f, fun b p => (h b p).1, fun b p => (h b p).2⟩

/-- The features summed over one class's samples of one group. -/
def total {n : ℕ} (f : Fin 4 → Fin 16384 → Fin 256 → ℝ) (J : Fin 19 → Fin 4 → Fin 2 → Fin n → Fin 16384) (g : Fin 2) (c : Fin 256) (k : Fin 19) : ℝ :=
  ∑ b : Fin 4, ∑ x : Fin n, f b (J k b g x) c

variable (X : Cert.KernelIdeal.S4x256x64x64.Idx → EReal) (f : Fin 4 → Fin 16384 → Fin 256 → ℝ)
  (I : Cert.KernelIdeal.S152x175x1.Idx → BitVec 32) (I' : Cert.KernelIdeal.S152x75x1.Idx → BitVec 32)
  (J : Fin 19 → Fin 4 → Fin 2 → Fin 175 → Fin 16384) (J' : Fin 19 → Fin 4 → Fin 2 → Fin 75 → Fin 16384)

/-- A score of the kernel whose row of histograms counts `idx`. -/
theorem score_total {n : ℕ} (hf : ∀ b p c (k : ℝ), feat X b c p * ((k : EReal) * Ideal.div 1 (Ideal.ofBits .f32 0x358637BD#32 + Ideal.sqrt (featSq X b p))) = ((k * f b p c : ℝ) : EReal))
    (HB HS : Cert.KernelIdeal.S19x4x2x16384.Idx → EReal) (idx : Fin 4 → Fin n → BitVec 32) (K : Fin 19 → Fin 4 → Fin 2 → Fin n → Fin 16384)
    (c : Fin 256) (r : Fin 76) (k : Fin 19) (g : Fin 2) (hK : ∀ b x, idx b x = BitVec.ofNat 32 (K k b g x).val)
    (hr : ∀ b p, row HB HS b r p = hist (idx b) (featSq X b p) (BitVec.ofNat 32 p.val)) :
    score (flatXi X) HB HS c r = (total f K g c k : EReal) := by
  unfold score total
  rw [Sums.coe_sum]
  refine Finset.sum_congr rfl fun b _ => ?_
  refine Eq.trans ?_ (Sums.contract_hist (idx b) (K k b g) (hK b) (fun p => feat X b c p) (featSq X b) (fun p => f b p c) (fun p => hf b p c))
  refine Finset.sum_congr rfl fun p _ => ?_
  unfold prod
  rw [flatXi_apply, hr b p]

/-- The kernel's loss as a real. -/
theorem loss_total (hf : ∀ b p c (k : ℝ), feat X b c p * ((k : EReal) * Ideal.div 1 (Ideal.ofBits .f32 0x358637BD#32 + Ideal.sqrt (featSq X b p))) = ((k * f b p c : ℝ) : EReal))
    (hJ : ∀ k b g n, I (ix3 (Grid.slot k b g) n 0) = BitVec.ofNat 32 (J k b g n).val)
    (hJ' : ∀ k b g n, I' (ix3 (Grid.slot k b g) n 0) = BitVec.ofNat 32 (J' k b g n).val) :
    loss (flatXi X) (flatBig X I) (flatSmall X I')
      = (((∑ c : Fin 256, ∑ k : Fin 19, (total f J' 1 c k - total f J' 0 c k) * (total f J 0 c k - total f J 1 c k)) * (1 / 840000) * (1 / 19) : ℝ) : EReal) := by
  have h0 (c : Fin 256) (k : Fin 19) : score (flatXi X) (flatBig X I) (flatSmall X I') c ⟨k.val, by omega⟩ = (total f J 0 c k : EReal) :=
    score_total X f hf _ _ (fun b n => I (ix3 (Grid.slot k b 0) n 0)) J c _ k 0 (fun b n => hJ k b 0 n) fun b p => (row0 _ _ b k p).trans (flatBig_apply X I k b 0 p)
  have h1 (c : Fin 256) (k : Fin 19) : score (flatXi X) (flatBig X I) (flatSmall X I') c ⟨19 + k.val, by omega⟩ = (total f J 1 c k : EReal) :=
    score_total X f hf _ _ (fun b n => I (ix3 (Grid.slot k b 1) n 0)) J c _ k 1 (fun b n => hJ k b 1 n) fun b p => (row1 _ _ b k p).trans (flatBig_apply X I k b 1 p)
  have h2 (c : Fin 256) (k : Fin 19) : score (flatXi X) (flatBig X I) (flatSmall X I') c ⟨38 + k.val, by omega⟩ = (total f J' 0 c k : EReal) :=
    score_total X f hf _ _ (fun b n => I' (ix3 (Grid.slot k b 0) n 0)) J' c _ k 0 (fun b n => hJ' k b 0 n) fun b p => (row2 _ _ b k p).trans (flatSmall_apply X I' k b 0 p)
  have h3 (c : Fin 256) (k : Fin 19) : score (flatXi X) (flatBig X I) (flatSmall X I') c ⟨57 + k.val, by omega⟩ = (total f J' 1 c k : EReal) :=
    score_total X f hf _ _ (fun b n => I' (ix3 (Grid.slot k b 1) n 0)) J' c _ k 1 (fun b n => hJ' k b 1 n) fun b p => (row3 _ _ b k p).trans (flatSmall_apply X I' k b 1 p)
  unfold loss
  simp only [h0, h1, h2, h3]
  rw [Sums.ofBits_840000, Sums.ofBits_19, Ideal.div_coe (by norm_num), Ideal.div_coe (by norm_num)]
  simp only [← EReal.coe_sub, ← EReal.coe_mul, ← Sums.coe_sum]

/-- Sample `d` of a row of `4 n`, as its batch entry and place. -/
def spread {n m : ℕ} (hm : m = 4 * n) (hn : 0 < n) (f : Fin 4 → Fin 16384 → Fin 256 → ℝ) (K : Fin 19 → Fin 4 → Fin 2 → Fin n → Fin 16384) (g : Fin 2)
    (c : Fin 256) (k : Fin 19) (d : Fin m) : ℝ :=
  f ⟨d.val / n, Nat.div_lt_of_lt_mul (by rw [Nat.mul_comm, ← hm]; exact d.isLt)⟩
    (K k ⟨d.val / n, Nat.div_lt_of_lt_mul (by rw [Nat.mul_comm, ← hm]; exact d.isLt)⟩ g ⟨d.val % n, Nat.mod_lt _ hn⟩) c

theorem spread_at {n m : ℕ} (hm : m = 4 * n) (hn : 0 < n) (K : Fin 19 → Fin 4 → Fin 2 → Fin n → Fin 16384) (g : Fin 2)
    (c : Fin 256) (k : Fin 19) (b : Fin 4) (x : Fin n) (h : b.val * n + x.val < m) : spread hm hn f K g c k ⟨b.val * n + x.val, h⟩ = f b (K k b g x) c := by
  have hb : (b.val * n + x.val) / n = b.val := by
    rw [Nat.add_comm, Nat.add_mul_div_right _ _ hn, Nat.div_eq_of_lt x.isLt, Nat.zero_add]
  have hx : (b.val * n + x.val) % n = x.val := by
    rw [Nat.add_comm, Nat.add_mul_mod_self_right, Nat.mod_eq_of_lt x.isLt]
  unfold spread
  simp only [hb, hx]

theorem spread_sum {n m : ℕ} (hm : m = 4 * n) (hn : 0 < n) (K : Fin 19 → Fin 4 → Fin 2 → Fin n → Fin 16384) (g : Fin 2)
    (c : Fin 256) (k : Fin 19) : ∑ d, spread hm hn f K g c k d = total f K g c k := by
  subst hm
  rw [Sums.sum_runs 4 n]
  unfold total
  exact Finset.sum_congr rfl fun b _ => Finset.sum_congr rfl fun x _ => spread_at f rfl hn K g c k b x _

open Cert.ReferenceIdeal.Value in
/-- The reference's loss as the same real. -/
theorem tail_total (hf : ∀ b p c, Ideal.div (feat X b c p) (Ideal.ofBits .f32 0x358637BD#32 + Ideal.sqrt (featSq X b p)) = (f b p c : EReal))
    (hJ : ∀ k b g n, I (ix3 (Grid.slot k b g) n 0) = BitVec.ofNat 32 (J k b g n).val)
    (hJ' : ∀ k b g n, I' (ix3 (Grid.slot k b g) n 0) = BitVec.ofNat 32 (J' k b g n).val)
    (Y : FVec Ideal Cert.ReferenceIdeal.S4x256x16384 .f32) (hY : ∀ b c p, Y (ix3 b c p) = feat X b c p) :
    tail (blocks (sampleSmall Y I' 0) (sampleSmall Y I' 1) (sampleBig Y I 0) (sampleBig Y I 1)) ix0
      = (((∑ c : Fin 256, ∑ k : Fin 19, (total f J' 1 c k - total f J' 0 c k) * (total f J 0 c k - total f J 1 c k)) * (1 / 840000) * (1 / 19) : ℝ) : EReal) := by
  have hN (b : Fin 4) (c : Fin 256) (p : Fin 16384) : normed Y (ix3 b c p) = (f b p c : EReal) := by
    rw [normed_apply]
    simp only [hY]
    exact hf b p c
  have runs {n : ℕ} (hn : 0 < n) (d : Fin (4 * n)) : ∃ (b : Fin 4) (x : Fin n), d.val = b.val * n + x.val :=
    ⟨⟨d.val / n, Nat.div_lt_of_lt_mul (lt_of_lt_of_eq d.isLt (Nat.mul_comm 4 n))⟩, ⟨d.val % n, Nat.mod_lt _ hn⟩, (Nat.div_add_mod' _ _).symm⟩
  have hB (g : Fin 2) (c : Fin 256) (k : Fin 19) (d : Fin 700) : sampleBig Y I g (ix3 c k d) = (spread (n := 175) rfl (by decide) f J g c k d : EReal) := by
    obtain ⟨b, x, hd⟩ := runs (n := 175) (by decide) d
    obtain ⟨e, he⟩ := d
    obtain rfl : e = _ := hd
    rw [spread_at, sampleBig_apply Y I J hJ, hN]
  have hS (g : Fin 2) (c : Fin 256) (k : Fin 19) (d : Fin 300) : sampleSmall Y I' g (ix3 c k d) = (spread (n := 75) rfl (by decide) f J' g c k d : EReal) := by
    obtain ⟨b, x, hd⟩ := runs (n := 75) (by decide) d
    obtain ⟨e, he⟩ := d
    obtain rfl : e = _ := hd
    rw [spread_at, sampleSmall_apply Y I' J' hJ', hN]
  rw [tail_value _ _ _ _ _ _ _ _ (hS 0) (hS 1) (hB 0) (hB 1)]
  simp only [spread_sum]

open Cert.ReferenceIdeal.Value in
/-- The two losses agree whenever every drawn index is a pixel. -/
theorem loss_eq (hI : ∀ i, (I i).toNat < 16384) (hI' : ∀ i, (I' i).toNat < 16384)
    (Y : FVec Ideal Cert.ReferenceIdeal.S4x256x16384 .f32) (hY : ∀ b c p, Y (ix3 b c p) = feat X b c p) :
    tail (blocks (sampleSmall Y I' 0) (sampleSmall Y I' 1) (sampleBig Y I 0) (sampleBig Y I 1)) ix0 = loss (flatXi X) (flatBig X I) (flatSmall X I') := by
  obtain ⟨f, h1, h2⟩ := features X
  have word (x : BitVec 32) : x = BitVec.ofNat 32 x.toNat := BitVec.eq_of_toNat_eq (by rw [BitVec.toNat_ofNat, Nat.mod_eq_of_lt x.isLt])
  rw [tail_total X f I I' (fun k b g n => ⟨(I (ix3 (Grid.slot k b g) n 0)).toNat, hI _⟩) (fun k b g n => ⟨(I' (ix3 (Grid.slot k b g) n 0)).toNat, hI' _⟩) h1
      (fun k b g n => word _) (fun k b g n => word _) Y hY,
    loss_total X f I I' (fun k b g n => ⟨(I (ix3 (Grid.slot k b g) n 0)).toNat, hI _⟩) (fun k b g n => ⟨(I' (ix3 (Grid.slot k b g) n 0)).toNat, hI' _⟩) h2
      (fun k b g n => word _) (fun k b g n => word _)]

end Cert.Equal

end
-- ==== Proof.Value.Drawn.lean ====
/- What the precondition says of the drawn indices. -/
module

public import Idealize.ShloMosaic.Lib.Pointwise
public import Idealize.ShloMosaic.Lib.ReduceAll
public import Idealize.ShloMosaic.Lib.WordCmp
public import proofs.«01_k».proof.Proof.Gen.Pre_drawn

@[expose] public section

noncomputable section

namespace Cert.Drawn

open Idealize.ShloMosaic Cert.Pre_drawn

theorem both (a b : BitVec 1) (h : IntOp.andi a b = 1#1) : a = 1#1 ∧ b = 1#1 := by
  revert a b; decide

theorem below (x : BitVec 32) (h : IntOp.andi (IntOp.cmpi .sge x 0#32) (IntOp.cmpi .slt x 16384#32) = 1#1) : x.toNat < 16384 := by
  by_contra hn
  rw [WordCmp.andi_sge_zero_slt_ofNat (k := 16384) (by decide), decide_eq_false hn] at h
  exact absurd h (by decide)

/-- Every drawn index is a pixel. -/
theorem pixels (X : FVec Ideal S4x256x64x64 .f32) (I : IVec S152x175x1 32) (I' : IVec S152x75x1 32)
    (h : Cert.Pre_drawn.fn (F := Ideal) X I I' = fun _ => 1#1) : (∀ i, (I i).toNat < 16384) ∧ ∀ i, (I' i).toNat < 16384 := by
  have h0 := congrFun h ix0
  unfold Cert.Pre_drawn.fn at h0
  obtain ⟨ha, hb⟩ := both _ _ h0
  have : Subsingleton S_.Idx := ⟨fun i j => funext fun a => a.elim0⟩
  exact ⟨fun i => below _ (Host.reduce_andi_all _ _ _ _ _ ha i), fun i => below _ (Host.reduce_andi_all _ _ _ _ _ hb i)⟩

end Cert.Drawn

end
-- ==== Proof.Value.Algebraic.lean ====
/- The value claim: kernel and reference end at the same loss. -/
module

public import proofs.«01_k».proof.Defs
public import proofs.«01_k».proof.Proof.Value.Equal
public import proofs.«01_k».proof.Proof.Value.Drawn
public import proofs.«01_k».proof.Proof.Gen.Kernel

@[expose] public section

noncomputable section

namespace Cert.Proof

open Idealize.ShloMosaic Idealize.ShloMosaic.TcCoe Idealize.SL.Sem

/-- The reference's result from its arguments. -/
theorem reference_result (m : (ℓ : Loc Cert.ReferenceIdeal.nD Cert.ReferenceIdeal.τ Cert.ReferenceIdeal.sig) → Buf (Elt Ideal) ℓ) (c : Dev Cert.ReferenceIdeal.nD)
    (X : Cert.KernelIdeal.S4x256x64x64.Idx → EReal) (I : Cert.KernelIdeal.S152x175x1.Idx → BitVec 32) (I' : Cert.KernelIdeal.S152x75x1.Idx → BitVec 32)
    (hX : m ((c.tc : Thread Cert.ReferenceIdeal.nD Cert.ReferenceIdeal.τ).loc Cert.ReferenceIdeal.main_arg0) = X)
    (hI : m ((c.tc : Thread Cert.ReferenceIdeal.nD Cert.ReferenceIdeal.τ).loc Cert.ReferenceIdeal.main_arg1) = I)
    (hI' : m ((c.tc : Thread Cert.ReferenceIdeal.nD Cert.ReferenceIdeal.τ).loc Cert.ReferenceIdeal.main_arg2) = I')
    (h : (∀ i, (I i).toNat < 16384) ∧ ∀ i, (I' i).toNat < 16384) :
    Cert.ReferenceIdeal.Value.tail (Cert.ReferenceIdeal.Value.blocks
        (Cert.ReferenceIdeal.Value.res_main_v189 (StableHlo.launchContents m c)) (Cert.ReferenceIdeal.Value.res_main_v234 (StableHlo.launchContents m c))
        (Cert.ReferenceIdeal.Value.res_main_v99 (StableHlo.launchContents m c)) (Cert.ReferenceIdeal.Value.res_main_v144 (StableHlo.launchContents m c)))
      = fun _ : Cert.KernelIdeal.S_.Idx => Cert.KernelIdeal.Value.loss (Cert.KernelIdeal.Value.flatXi X) (Cert.KernelIdeal.Value.flatBig X I) (Cert.KernelIdeal.Value.flatSmall X I') := by
  funext i
  obtain rfl : i = ix0 := funext fun a => a.elim0
  rw [Cert.ReferenceIdeal.Value.v99_sample, Cert.ReferenceIdeal.Value.v144_sample, Cert.ReferenceIdeal.Value.v189_sample, Cert.ReferenceIdeal.Value.v234_sample]
  have eI : StableHlo.launchContents m c (Proc.devRef .tc Cert.ReferenceIdeal.main_arg1) = I := hI
  have eI' : StableHlo.launchContents m c (Proc.devRef .tc Cert.ReferenceIdeal.main_arg2) = I' := hI'
  rw [eI, eI']
  refine Cert.Equal.loss_eq X I I' h.1 h.2 (Cert.ReferenceIdeal.Value.res_main_v47 (StableHlo.launchContents m c)) fun b k p => ?_
  refine (Cert.ReferenceIdeal.Value.v47_apply (StableHlo.launchContents m c) b k p).trans ?_
  have eX : StableHlo.launchContents m c (Proc.devRef .tc Cert.ReferenceIdeal.main_arg0) = X := hX
  rw [eX]
  rfl

theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := fun m g m' g' hpre hargs => by
  refine ⟨fun c _ => Cert.KernelIdeal.Value.loss (Cert.KernelIdeal.Value.flatXi (Cert.KernelIdeal.Value.image m c))
    (Cert.KernelIdeal.Value.flatBig (Cert.KernelIdeal.Value.image m c) (Cert.KernelIdeal.Value.drawnBig m c))
    (Cert.KernelIdeal.Value.flatSmall (Cert.KernelIdeal.Value.image m c) (Cert.KernelIdeal.Value.drawnSmall m c)), ?_, ?_⟩
  · refine (θ_run _ _ _).mono (fun r h c => ?_) (Cert.KernelIdeal.Run.frame m g)
    exact ⟨((h.1 c).1).trans (Cert.KernelIdeal.Value.result m g c), (h.1 c).2⟩
  · refine (θ_run _ _ _).mono (fun r h c => ?_) (Cert.ReferenceIdeal.Value.run m' g')
    obtain ⟨h0, h1, h2⟩ := hargs c
    exact ⟨((h c).1).trans (reference_result m' c _ _ _ h0 h1 h2 (Cert.Drawn.pixels _ _ _ (hpre c))), (h c).2⟩

end Cert.Proof

end
-- ==== Proof.Sampler.Maximum.lean ====
/- The signed maximum of a family of words, by what it is below. -/
module

public import Idealize.ShloMosaic.Lib.Pointwise
public import Idealize.ShloMosaic.Lib.SortNet.Extract

@[expose] public section

noncomputable section

namespace Cert.Sampler

open Idealize.ShloMosaic

/-- `w` is the greatest, read signed, of the words `f p` with `S p`. -/
def IsMax {ι : Type} (w : BitVec 32) (S : ι → Prop) (f : ι → BitVec 32) : Prop :=
  ∀ z : ℤ, w.toInt ≤ z ↔ ∀ p, S p → (f p).toInt ≤ z

theorem IsMax.unique {ι : Type} {w w' : BitVec 32} {S S' : ι → Prop} {f f' : ι → BitVec 32} (h : IsMax w S f) (h' : IsMax w' S' f')
    (hS : ∀ p, S p ↔ S' p) (hf : ∀ p, f p = f' p) : w = w' := by
  obtain rfl : f = f' := funext hf
  obtain rfl : S = S' := funext fun p => propext (hS p)
  exact BitVec.eq_of_toInt_eq (le_antisymm ((h _).2 ((h' _).1 le_rfl)) ((h' _).2 ((h _).1 le_rfl)))

theorem IsMax.congr {ι : Type} {w : BitVec 32} {S S' : ι → Prop} {f : ι → BitVec 32} (h : IsMax w S f) (hS : ∀ p, S' p ↔ S p) : IsMax w S' f := by
  obtain rfl : S' = S := funext fun p => propext (hS p)
  exact h

theorem IsMax.union {ι : Type} {w w' : BitVec 32} {S S' T : ι → Prop} {f : ι → BitVec 32} (h : IsMax w S f) (h' : IsMax w' S' f)
    (hT : ∀ p, T p ↔ S p ∨ S' p) : IsMax (IntOp.maxsi w w') T f := fun z => by
  rw [SortNet.toInt_maxsi, max_le_iff, h z, h' z]
  constructor
  · rintro ⟨a, b⟩ p hp
    exact ((hT p).1 hp).elim (a p) (b p)
  · exact fun a => ⟨fun p hp => a p ((hT p).2 (.inl hp)), fun p hp => a p ((hT p).2 (.inr hp))⟩

theorem toInt_fold_le {ι : Type} [DecidableEq ι] (s : Finset ι) (init : BitVec 32) (f : ι → BitVec 32) (z : ℤ) :
    (s.fold IntOp.maxsi init f).toInt ≤ z ↔ init.toInt ≤ z ∧ ∀ i ∈ s, (f i).toInt ≤ z := by
  induction s using Finset.induction_on with
  | empty => simp
  | insert a s ha ih =>
    rw [Finset.fold_insert ha, SortNet.toInt_maxsi, max_le_iff, ih]
    simp only [Finset.mem_insert, forall_eq_or_imp]
    tauto

theorem least_le (w : BitVec 32) : (2147483648#32 : BitVec 32).toInt ≤ w.toInt := by
  have h : (2147483648#32 : BitVec 32).toInt = -2147483648 := by decide
  have := BitVec.le_toInt w
  omega

/-- A maximum over an axis. -/
theorem isMax_fold {n : Nat} (hn : 0 < n) (f : Fin n → BitVec 32) :
    IsMax (Finset.univ.fold IntOp.maxsi 2147483648#32 f) (fun _ => True) f := fun z =>
  (toInt_fold_le _ _ _ _).trans
    ⟨fun h p _ => h.2 p (Finset.mem_univ _), fun h => ⟨(least_le _).trans (h ⟨0, hn⟩ trivial), fun i _ => h i trivial⟩⟩

/-- A maximum over one of eight chunks of the pixels. -/
theorem IsMax.chunk {w : BitVec 32} {s : Nat} (hs : s < 8) {f : Fin 16384 → BitVec 32} {g : Fin 2048 → BitVec 32}
    (h : IsMax w (fun _ => True) g) (hg : ∀ q : Fin 2048, g q = f ⟨s * 2048 + q.val, by omega⟩) :
    IsMax w (fun p => s * 2048 ≤ p.val ∧ p.val < s * 2048 + 2048) f := fun z => (h z).trans <| by
  constructor
  · rintro a p ⟨h1, h2⟩
    have := a ⟨p.val - s * 2048, by omega⟩ trivial
    rw [hg] at this
    have e : (⟨s * 2048 + (p.val - s * 2048), by omega⟩ : Fin 16384) = p := Fin.ext (by show s * 2048 + (p.val - s * 2048) = p.val; omega)
    rwa [e] at this
  · intro a q _
    rw [hg]
    exact a _ ⟨by show s * 2048 ≤ s * 2048 + q.val; omega, by show s * 2048 + q.val < s * 2048 + 2048; omega⟩

end Cert.Sampler
-- ==== Proof.Sampler.Groups.lean ====
/- The 152 groups of pixels the draws are made from: 19 classes, 4 images, two kinds of pixel; and the words the sampler's calls compute for them. -/
module

public import Idealize.ShloMosaic.Lib.Pointwise

@[expose] public section

noncomputable section

namespace Cert.Sampler

open Idealize.ShloMosaic

/-- The class of group `j`, as the kernel divides. -/
def classWord (a : BitVec 32) : BitVec 32 :=
  Scalar.select
    (Scalar.andi
      (Scalar.cmpi CmpIPredicate.ne
        (Scalar.subi (Scalar.extui (Scalar.cmpi CmpIPredicate.sgt a 0#32)) (Scalar.extui (Scalar.cmpi CmpIPredicate.slt a 0#32)))
        (Scalar.subi (Scalar.extui (Scalar.cmpi CmpIPredicate.sgt 8#32 0#32)) (Scalar.extui (Scalar.cmpi CmpIPredicate.slt 8#32 0#32))))
      (Scalar.cmpi CmpIPredicate.ne (Scalar.remsi a 8#32) 0#32))
    (Scalar.subi (Scalar.divsi a 8#32) 1#32) (Scalar.divsi a 8#32)

/-- The kind of group `j`, as the kernel takes the remainder. -/
def kindWord (a : BitVec 32) : BitVec 32 :=
  Scalar.select
    (Scalar.andi
      (Scalar.xori (Scalar.cmpi CmpIPredicate.slt (Scalar.remsi a 2#32) 0#32) 0#1)
      (Scalar.cmpi CmpIPredicate.ne (Scalar.remsi a 2#32) 0#32))
    (Scalar.addi (Scalar.remsi a 2#32) 2#32)
    (Scalar.remsi a 2#32)

theorem classWord_eq : ∀ j : Fin 152, classWord (BitVec.ofNat 32 j.val) = BitVec.ofNat 32 (j.val / 8) := by decide +kernel

theorem kindWord_eq : ∀ j : Fin 152, Scalar.cmpi CmpIPredicate.eq (kindWord (BitVec.ofNat 32 j.val)) 0#32 = if j.val % 2 = 0 then 1#1 else 0#1 := by
  decide +kernel

theorem bit_pos : ∀ b : BitVec 1, IntOp.cmpi CmpIPredicate.sgt (BitVec.setWidth 32 b) 0#32 = b := by decide

/-- The kernel's choice between the two masks of its kind. -/
theorem mask_eq (j : Fin 152) (a b : BitVec 1) :
    IntOp.cmpi CmpIPredicate.sgt
        (Scalar.select (Scalar.cmpi CmpIPredicate.eq (kindWord (BitVec.ofNat 32 j.val)) 0#32) (BitVec.setWidth 32 a) (BitVec.setWidth 32 b)) 0#32
      = if j.val % 2 = 0 then a else b := by
  rw [kindWord_eq]
  split_ifs
  · exact bit_pos a
  · exact bit_pos b

/-- Whether a pixel predicted `P` and labelled `L` is of class `k`. -/
def same (k : Nat) (P : BitVec 32) : BitVec 1 := IntOp.cmpi CmpIPredicate.eq P (BitVec.ofNat 32 k)

/-- True positives and true negatives of a class, -/
def bigRow (j : Nat) (P L : BitVec 32) : BitVec 1 :=
  if j % 2 = 0 then IntOp.andi (same (j / 8) P) (same (j / 8) L)
  else IntOp.andi (IntOp.xori (same (j / 8) P) 1#1) (IntOp.xori (same (j / 8) L) 1#1)

/-- and false positives and false negatives. -/
def smallRow (j : Nat) (P L : BitVec 32) : BitVec 1 :=
  if j % 2 = 0 then IntOp.andi (same (j / 8) P) (IntOp.xori (same (j / 8) L) 1#1)
  else IntOp.andi (IntOp.xori (same (j / 8) P) 1#1) (same (j / 8) L)

/-- The key a draw ranks a pixel by. -/
def key (x : BitVec 32) : BitVec 32 := IntOp.shrui ArithUnit.vector x 9#32

/-- The image of group `j`. -/
def image (j : Fin 152) : Fin 4 := ⟨j.val / 2 % 4, by omega⟩

/-- Draw `r` of group `j` at pixel `p`: whether the pixel is in the group, -/
def within (row : Nat → BitVec 32 → BitVec 32 → BitVec 1) (P L : (⟨3, ![4, 1, 16384]⟩ : Shape).Idx → BitVec 32) (j : Fin 152) (p : Fin 16384) : BitVec 1 :=
  row j.val (P (ix3 (image j) 0 p)) (L (ix3 (image j) 0 p))

/-- and its key there, less than every key off the group. -/
def inKey {n : Nat} (row : Nat → BitVec 32 → BitVec 32 → BitVec 1) (X : (⟨3, ![152, n, 16384]⟩ : Shape).Idx → BitVec 32)
    (P L : (⟨3, ![4, 1, 16384]⟩ : Shape).Idx → BitVec 32) (j : Fin 152) (r : Fin n) (p : Fin 16384) : BitVec 32 :=
  Scalar.select (within row P L j p) (key (X (ix3 j r p))) 4294967295#32

def anyKey {n : Nat} (X : (⟨3, ![152, n, 16384]⟩ : Shape).Idx → BitVec 32) (j : Fin 152) (r : Fin n) (p : Fin 16384) : BitVec 32 :=
  key (X (ix3 j r p))

/-- Whether pixel `x` may be drawn: in the group, or any pixel of a group marked empty by `E`; and its key no less than the threshold `K`. -/
def mayDraw {n : Nat} (row : Nat → BitVec 32 → BitVec 32 → BitVec 1) (X : (⟨3, ![152, n, 16384]⟩ : Shape).Idx → BitVec 32)
    (P L : (⟨3, ![4, 1, 16384]⟩ : Shape).Idx → BitVec 32) (K E : (⟨3, ![152, n, 1]⟩ : Shape).Idx → BitVec 32) (j : Fin 152) (r : Fin n) (p : Fin 16384) : BitVec 1 :=
  IntOp.andi (IntOp.ori (within row P L j p) (IntOp.cmpi CmpIPredicate.sgt (E (ix3 j r 0)) 0#32))
    (IntOp.cmpi CmpIPredicate.sge (anyKey X j r p) (K (ix3 j r 0)))

def drawable {n : Nat} (row : Nat → BitVec 32 → BitVec 32 → BitVec 1) (X : (⟨3, ![152, n, 16384]⟩ : Shape).Idx → BitVec 32)
    (P L : (⟨3, ![4, 1, 16384]⟩ : Shape).Idx → BitVec 32) (K E : (⟨3, ![152, n, 1]⟩ : Shape).Idx → BitVec 32) (j : Fin 152) (r : Fin n) (x : Nat) : Bool :=
  if h : x < 16384 then mayDraw row X P L K E j r ⟨x, h⟩ == 1#1 else false

end Cert.Sampler
-- ==== Proof.Sampler.MaximaBig.lean ====
/- The maxima call at count 175: what it accumulates over its grid, and what it leaves. -/
module

public import proofs.«01_k».proof.Proof.Gen.MaximaBig.Value
public import proofs.«01_k».proof.Proof.Sampler.Maximum
public import proofs.«01_k».proof.Proof.Sampler.Groups
public import Idealize.ShloMosaic.Lib.Pipeline.ValueKit

@[expose] public section

noncomputable section

namespace Cert.MaximaBig.Value

open Idealize.ShloMosaic Idealize.ShloMosaic.TcCoe Cert.MaximaBig Cert.MaximaBig.Gen Cert.Sampler

variable (m : (ℓ : Loc nD τ sig) → Buf (Elt Bits) ℓ)

theorem N0 : cfg0.N = 1216 := by decide +kernel

/-- Point `t` handles group `t / 8`, -/
def grp (t : Fin cfg0.N) : Fin 152 := ⟨t.val / 8, by have := lt_of_lt_of_eq t.isLt N0; omega⟩
/-- and chunk `t % 8` of the pixels. -/
def px (t : Fin cfg0.N) (p : Fin 2048) : Fin 16384 := ⟨t.val % 8 * 2048 + p.val, by omega⟩

theorem coords0 : ∀ t : Fin cfg0.N, (grid0.coords t 0).val = t.val / 8 :=
  (by decide +kernel : ∀ t : Fin grid0.N, _)
theorem off0 : ∀ t : Fin cfg0.N, k0_off1 (grid0.coords t) = ![0, 0, t.val % 8 * 2048] :=
  (by decide +kernel : ∀ t : Fin grid0.N, _)
theorem idx0_0 : ∀ t : Fin cfg0.N, win0_0.index t = ![t.val / 8, 0, t.val % 8] :=
  (by decide +kernel : ∀ t : Fin grid0.N, _)
theorem idx0_1 : ∀ t : Fin cfg0.N, win0_1.index t = ![t.val / 8 / 2 % 4, 0, 0] :=
  (by decide +kernel : ∀ t : Fin grid0.N, _)
theorem idx0_2 : ∀ t : Fin cfg0.N, win0_2.index t = ![t.val / 8 / 2 % 4, 0, 0] :=
  (by decide +kernel : ∀ t : Fin grid0.N, _)

theorem block0 (c : Dev nD) (t : Fin cfg0.N) (r : Fin 175) (p : Fin 2048) :
    (iblk m c 0 t : S1x175x2048.Idx → BitVec 32) (ix3 0 r p) = (V m c main_arg0 : S152x175x16384.Idx → BitVec 32) (ix3 (grp t) r (px t p)) := by
  refine congrArg (V m c main_arg0) (?_ : ((win0_0.blk t).view.emb (ix3 (0 : Fin 1) r p : S1x175x2048.Idx) : S152x175x16384.Idx) = _)
  unfold grp px
  blk_ext [idx0_0]

theorem block1 (c : Dev nD) (t : Fin cfg0.N) (p : Fin 16384) :
    (iblk m c 1 t : S1x1x16384.Idx → BitVec 32) (ix3 0 0 p) = (V m c main_arg1 : S4x1x16384.Idx → BitVec 32) (ix3 (image (grp t)) 0 p) := by
  refine congrArg (V m c main_arg1) (?_ : ((win0_1.blk t).view.emb (ix3 (0 : Fin 1) (0 : Fin 1) p : S1x1x16384.Idx) : S4x1x16384.Idx) = _)
  unfold image grp
  blk_ext [idx0_1]

theorem block2 (c : Dev nD) (t : Fin cfg0.N) (p : Fin 16384) :
    (iblk m c 2 t : S1x1x16384.Idx → BitVec 32) (ix3 0 0 p) = (V m c main_arg2 : S4x1x16384.Idx → BitVec 32) (ix3 (image (grp t)) 0 p) := by
  refine congrArg (V m c main_arg2) (?_ : ((win0_2.blk t).view.emb (ix3 (0 : Fin 1) (0 : Fin 1) p : S1x1x16384.Idx) : S4x1x16384.Idx) = _)
  unfold image grp
  blk_ext [idx0_2]

/-- The 2048 pixels a point reads of a whole image. -/
def cut (t : Fin cfg0.N) (x : S1x1x16384.Idx → BitVec 32) : S1x1x2048.Idx → BitVec 32 :=
  View.ld (Val := Elt Bits) (S := S1x1x16384) (e' := .i32) x (Rect.unit (k0_off1 (grid0.coords t)) ![1, 1, 2048] (k0_off1_inb (grid0.coords t)))

theorem cut_apply (t : Fin cfg0.N) (x : S1x1x16384.Idx → BitVec 32) (p : Fin 2048) : cut t x (ix3 0 0 p) = x (ix3 0 0 (px t p)) := by
  pointwise [cut]
  refine congrArg x (funext fun a => ?_)
  match a with
  | ⟨0, _⟩ => exact Fin.ext (congrFun (off0 t) 0)
  | ⟨1, _⟩ => exact Fin.ext (congrFun (off0 t) 1)
  | ⟨2, _⟩ => exact Fin.ext (congrArg (· + p.val) (congrFun (off0 t) 2))

/-- What one point adds to the two carried maxima. -/
def part0 (c : Dev nD) (t : Fin cfg0.N) : IVec S175x1 32 :=
  k0_pay2 (F := Bits) (kindWord (BitVec.ofNat 32 (grid0.coords t 0).val))
    (k0_pay10 (F := Bits) (grid0.coords t) (cut t (iblk m c 1 t))) (k0_pay11 (F := Bits) (grid0.coords t) (cut t (iblk m c 2 t)))
    (k0_pay12 (F := Bits) (grid0.coords t) (cut t (iblk m c 1 t)) (cut t (iblk m c 2 t))) (constantI S1x2048 1 1#1) (iblk m c 0 t)

def part1 (c : Dev nD) (t : Fin cfg0.N) : IVec S175x1 32 := k0_pay3 (F := Bits) (iblk m c 0 t)

theorem same_shape (x : IVec S175x1 32) : shapeCast S175x1 x shapeCasts_S175x1_S175x1 = x := by
  funext i
  obtain ⟨a, b, rfl⟩ : ∃ (a : Fin 175) (b : Fin 1), i = ix2 a b := ⟨i 0, i 1, eq_ix2 i⟩
  pointwise

theorem carried0_first (c : Dev nD) (t : Fin cfg0.N) (h : t.val % 8 = 0) : (outsAt0 m c t.val t.isLt).2.2.1 = part0 m c t := by
  rw [outsAt0_A m c t h (by omega) (by omega)]
  frame_out
  exact same_shape _

theorem carried1_first (c : Dev nD) (t : Fin cfg0.N) (h : t.val % 8 = 0) : (outsAt0 m c t.val t.isLt).2.2.2 = part1 m c t := by
  rw [outsAt0_A m c t h (by omega) (by omega)]
  frame_out
  exact same_shape _

theorem carried0_next (c : Dev nD) (t : Fin cfg0.N) (h : ¬t.val % 8 = 0) : (outsAt0 m c t.val t.isLt).2.2.1
    = maxsi (outsAt0 m c (t.val - 1) (Nat.lt_of_le_of_lt (Nat.sub_le _ _) t.isLt)).2.2.1 (part0 m c t) := by
  by_cases h2 : t.val % 8 = 7
  · rw [outsAt0_C m c t h (by omega) h2]
    frame_out
    refine (same_shape _).trans ?_
    exact congrArg (fun x => maxsi x (part0 m c t)) ((Memref.isWhole_whole _).read_unread _)
  · rw [outsAt0_B m c t h (by omega) h2]
    frame_out
    refine (same_shape _).trans ?_
    exact congrArg (fun x => maxsi x (part0 m c t)) ((Memref.isWhole_whole _).read_unread _)

theorem carried1_next (c : Dev nD) (t : Fin cfg0.N) (h : ¬t.val % 8 = 0) : (outsAt0 m c t.val t.isLt).2.2.2
    = maxsi (outsAt0 m c (t.val - 1) (Nat.lt_of_le_of_lt (Nat.sub_le _ _) t.isLt)).2.2.2 (part1 m c t) := by
  by_cases h2 : t.val % 8 = 7
  · rw [outsAt0_C m c t h (by omega) h2]
    frame_out
    refine (same_shape _).trans ?_
    exact congrArg (fun x => maxsi x (part1 m c t)) ((Memref.isWhole_whole _).read_unread _)
  · rw [outsAt0_B m c t h (by omega) h2]
    frame_out
    refine (same_shape _).trans ?_
    exact congrArg (fun x => maxsi x (part1 m c t)) ((Memref.isWhole_whole _).read_unread _)

theorem out0_last (c : Dev nD) (t : Fin cfg0.N) (h : t.val % 8 = 7) : (outsAt0 m c t.val t.isLt).1 = k0_pay8 (F := Bits) (outsAt0 m c t.val t.isLt).2.2.1 := by
  rw [carried0_next m c t (by omega), outsAt0_C m c t (by omega) (by omega) h]
  frame_out
  refine congrArg (k0_pay8 (F := Bits)) ((same_shape _).trans ?_)
  exact congrArg (fun x => maxsi x (part0 m c t)) ((Memref.isWhole_whole _).read_unread _)

theorem out1_last (c : Dev nD) (t : Fin cfg0.N) (h : t.val % 8 = 7) : (outsAt0 m c t.val t.isLt).2.1 = k0_pay9 (F := Bits) (outsAt0 m c t.val t.isLt).2.2.2 := by
  rw [carried1_next m c t (by omega), outsAt0_C m c t (by omega) (by omega) h]
  frame_out
  refine congrArg (k0_pay9 (F := Bits)) ((same_shape _).trans ?_)
  exact congrArg (fun x => maxsi x (part1 m c t)) ((Memref.isWhole_whole _).read_unread _)

theorem pe_apply (t : Fin cfg0.N) (P : S1x1x16384.Idx → BitVec 32) (p : Fin 2048) :
    k0_pay10 (F := Bits) (grid0.coords t) (cut t P) (ix2 0 p) = same ((grp t).val / 8) (P (ix3 0 0 (px t p))) := by
  pointwise [k0_pay10]
  rw [cut_apply, coords0]
  exact congrArg (IntOp.cmpi CmpIPredicate.eq _) (classWord_eq (grp t))

theorem le_apply (t : Fin cfg0.N) (L : S1x1x16384.Idx → BitVec 32) (p : Fin 2048) :
    k0_pay11 (F := Bits) (grid0.coords t) (cut t L) (ix2 0 p) = same ((grp t).val / 8) (L (ix3 0 0 (px t p))) := by
  pointwise [k0_pay11]
  rw [cut_apply, coords0]
  exact congrArg (IntOp.cmpi CmpIPredicate.eq _) (classWord_eq (grp t))

theorem first_apply (t : Fin cfg0.N) (P L : S1x1x16384.Idx → BitVec 32) (p : Fin 2048) :
    k0_pay12 (F := Bits) (grid0.coords t) (cut t P) (cut t L) (ix2 0 p)
      = IntOp.andi (same ((grp t).val / 8) (P (ix3 0 0 (px t p)))) (same ((grp t).val / 8) (L (ix3 0 0 (px t p)))) := by
  pointwise [k0_pay12]
  rw [pe_apply, le_apply]

theorem pay1_apply (x : S1x175x2048.Idx → BitVec 32) (r : Fin 175) (p : Fin 2048) : k0_pay1 (F := Bits) x (ix2 r p) = key (x (ix3 0 r p)) := by
  pointwise [k0_pay1, key]

theorem part0_isMax (c : Dev nD) (t : Fin cfg0.N) (r : Fin 175) :
    IsMax (part0 m c t (ix2 r 0)) (fun p : Fin 16384 => t.val % 8 * 2048 ≤ p.val ∧ p.val < t.val % 8 * 2048 + 2048)
      (inKey bigRow (V m c main_arg0) (V m c main_arg1) (V m c main_arg2) (grp t) r) := by
  unfold part0
  pointwise [k0_pay2]
  refine (isMax_fold (by decide) _).chunk (Nat.mod_lt _ (by decide)) fun q => ?_
  rw [pe_apply, le_apply, first_apply, pay1_apply, coords0]
  unfold inKey within bigRow
  refine congr (congr (congrArg Scalar.select ((mask_eq (grp t) _ _).trans ?_)) (congrArg key (block0 m c t r q))) rfl
  rw [block1, block2]
  rfl

theorem part1_isMax (c : Dev nD) (t : Fin cfg0.N) (r : Fin 175) :
    IsMax (part1 m c t (ix2 r 0)) (fun p : Fin 16384 => t.val % 8 * 2048 ≤ p.val ∧ p.val < t.val % 8 * 2048 + 2048)
      (anyKey (V m c main_arg0) (grp t) r) := by
  unfold part1
  pointwise [k0_pay3]
  refine (isMax_fold (by decide) _).chunk (Nat.mod_lt _ (by decide)) fun q => ?_
  rw [pay1_apply]
  exact congrArg key (block0 m c t r q)

/-- A maximum carried over the eight chunks of a group. -/
theorem carried_isMax (s part : Fin cfg0.N → IVec S175x1 32) (f : Fin 152 → Fin 175 → Fin 16384 → BitVec 32)
    (hp : ∀ t r, IsMax (part t (ix2 r 0)) (fun p : Fin 16384 => t.val % 8 * 2048 ≤ p.val ∧ p.val < t.val % 8 * 2048 + 2048) (f (grp t) r))
    (h0 : ∀ t, t.val % 8 = 0 → s t = part t)
    (h1 : ∀ t, ¬t.val % 8 = 0 → s t = maxsi (s ⟨t.val - 1, Nat.lt_of_le_of_lt (Nat.sub_le _ _) t.isLt⟩) (part t)) (r : Fin 175) :
    ∀ (n : Nat) (hn : n < cfg0.N), IsMax (s ⟨n, hn⟩ (ix2 r 0)) (fun p : Fin 16384 => p.val < n % 8 * 2048 + 2048) (f (grp ⟨n, hn⟩) r) := by
  intro n
  induction n using Nat.strong_induction_on with
  | _ n ih =>
    intro hn
    by_cases h : n % 8 = 0
    · rw [h0 ⟨n, hn⟩ h]
      refine (hp ⟨n, hn⟩ r).congr fun p => ?_
      show p.val < n % 8 * 2048 + 2048 ↔ n % 8 * 2048 ≤ p.val ∧ p.val < n % 8 * 2048 + 2048
      omega
    · rw [h1 ⟨n, hn⟩ h]
      have hprev := ih (n - 1) (by omega) (by omega)
      have e : grp ⟨n - 1, by omega⟩ = grp ⟨n, hn⟩ := Fin.ext (by show (n - 1) / 8 = n / 8; omega)
      rw [e] at hprev
      refine hprev.union (hp ⟨n, hn⟩ r) fun p => ?_
      show p.val < n % 8 * 2048 + 2048 ↔ p.val < (n - 1) % 8 * 2048 + 2048 ∨ (n % 8 * 2048 ≤ p.val ∧ p.val < n % 8 * 2048 + 2048)
      omega

theorem pt_lt (j : Fin 152) : 8 * j.val + 7 < cfg0.N := by rw [N0]; omega

theorem last0_isMax (c : Dev nD) (j : Fin 152) (r : Fin 175) :
    IsMax ((outsAt0 m c (8 * j.val + 7) (pt_lt j)).1 (ix3 0 r 0)) (fun _ : Fin 16384 => True)
      (inKey bigRow (V m c main_arg0) (V m c main_arg1) (V m c main_arg2) j r) := by
  have h := carried_isMax (fun t => (outsAt0 m c t.val t.isLt).2.2.1) (part0 m c) _ (part0_isMax m c) (carried0_first m c) (carried0_next m c) r
    (8 * j.val + 7) (pt_lt j)
  have e : grp ⟨8 * j.val + 7, pt_lt j⟩ = j := Fin.ext (by show (8 * j.val + 7) / 8 = j.val; omega)
  rw [e] at h
  rw [out0_last m c ⟨8 * j.val + 7, pt_lt j⟩ (by show (8 * j.val + 7) % 8 = 7; omega)]
  pointwise [k0_pay8]
  exact h.congr fun p => ⟨fun _ => by show p.val < (8 * j.val + 7) % 8 * 2048 + 2048; omega, fun _ => trivial⟩

theorem last1_isMax (c : Dev nD) (j : Fin 152) (r : Fin 175) :
    IsMax ((outsAt0 m c (8 * j.val + 7) (pt_lt j)).2.1 (ix3 0 r 0)) (fun _ : Fin 16384 => True) (anyKey (V m c main_arg0) j r) := by
  have h := carried_isMax (fun t => (outsAt0 m c t.val t.isLt).2.2.2) (part1 m c) _ (part1_isMax m c) (carried1_first m c) (carried1_next m c) r
    (8 * j.val + 7) (pt_lt j)
  have e : grp ⟨8 * j.val + 7, pt_lt j⟩ = j := Fin.ext (by show (8 * j.val + 7) / 8 = j.val; omega)
  rw [e] at h
  rw [out1_last m c ⟨8 * j.val + 7, pt_lt j⟩ (by show (8 * j.val + 7) % 8 = 7; omega)]
  pointwise [k0_pay9]
  exact h.congr fun p => ⟨fun _ => by show p.val < (8 * j.val + 7) % 8 * 2048 + 2048; omega, fun _ => trivial⟩

theorem final0_isMax (c : Dev nD) (j : Fin 152) (r : Fin 175) :
    IsMax ((G3 m c : S152x175x1.Idx → BitVec 32) (ix3 j r 0)) (fun _ : Fin 16384 => True)
      (inKey bigRow (V m c main_arg0) (V m c main_arg1) (V m c main_arg2) j r) := by
  have e : pt3Of (ix3 j r 0) = 8 * j.val + 7 := by
    show 8 * (1 * (j.val / 1 - 0) + 1 * (r.val / 175 - 0) + 1 * (0 / 1 - 0)) + 7 = 8 * j.val + 7
    omega
  unfold G3
  rw [dif_pos (by rw [e]; exact pt_lt j), fold0_congr m c _ _ (8 * j.val + 7) (by have := pt_lt j; omega) e, ← outsAt0_sweep]
  have e' : loc3Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e']
  exact last0_isMax m c j r

theorem final1_isMax (c : Dev nD) (j : Fin 152) (r : Fin 175) :
    IsMax ((G4 m c : S152x175x1.Idx → BitVec 32) (ix3 j r 0)) (fun _ : Fin 16384 => True) (anyKey (V m c main_arg0) j r) := by
  have e : pt4Of (ix3 j r 0) = 8 * j.val + 7 := by
    show 8 * (1 * (j.val / 1 - 0) + 1 * (r.val / 175 - 0) + 1 * (0 / 1 - 0)) + 7 = 8 * j.val + 7
    omega
  unfold G4
  rw [dif_pos (by rw [e]; exact pt_lt j), fold0_congr m c _ _ (8 * j.val + 7) (by have := pt_lt j; omega) e, ← outsAt0_sweep]
  have e' : loc4Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e']
  exact last1_isMax m c j r

end Cert.MaximaBig.Value
-- ==== Proof.Sampler.MaximaBigRef.lean ====
/- The reference of the maxima call at count 175: the same maxima. -/
module

public import proofs.«01_k».proof.Proof.Gen.MaximaBigRef.Run
public import proofs.«01_k».proof.Proof.Sampler.Maximum
public import proofs.«01_k».proof.Proof.Sampler.Groups

@[expose] public section

noncomputable section

namespace Cert.MaximaBigRef.Value

open Idealize.ShloMosaic Idealize.ShloMosaic.TcCoe Cert.MaximaBigRef Cert.MaximaBigRef.Gen Cert.Sampler

/-- Whether each pixel is of each class, -/
def isClass (P : S4x1x16384.Idx → BitVec 32) : IVec S19x4x16384 1 :=
  cmpi .eq (broadcastInDim S19x4x16384 ![0, 1, 2] bcast_S1x4x16384_S19x4x16384_0_1_2 (broadcastInDim S1x4x16384 ![1, 2] bcast_S4x16384_S1x4x16384_1_2 (shapeCast _ P shapeCasts_S4x1x16384_S4x16384))) (broadcastInDim S19x4x16384 ![0, 1, 2] bcast_S19x1x1_S19x4x16384_0_1_2 (broadcastInDim S19x1x1 ![0] bcast_S19_S19x1x1_0 (iotaInDim S19 32 0)))

/-- and the rows of the groups. -/
def rows (P L : S4x1x16384.Idx → BitVec 32) : IVec S152x1x16384 1 :=
  shapeCast S152x1x16384 (concatenate S19x4x2x16384 2 [⟨S19x4x1x16384, (broadcastInDim S19x4x1x16384 ![0, 1, 3] bcast_S19x4x16384_S19x4x1x16384_0_1_3 (andi (isClass P) (isClass L)))⟩, ⟨S19x4x1x16384, (broadcastInDim S19x4x1x16384 ![0, 1, 3] bcast_S19x4x16384_S19x4x1x16384_0_1_3 (andi (noti (isClass P)) (noti (isClass L))))⟩] concatenates_S19x4x1x16384_S19x4x1x16384_S19x4x2x16384_d2) shapeCasts_S19x4x2x16384_S152x1x16384

theorem isClass_apply (P : S4x1x16384.Idx → BitVec 32) (k : Fin 19) (b : Fin 4) (p : Fin 16384) : isClass P (ix3 k b p) = same k.val (P (ix3 b 0 p)) := by
  pointwise [isClass, same]

theorem not_eq : ∀ b : BitVec 1, ~~~b = IntOp.xori b 1#1 := by decide

theorem rows_apply (P L : S4x1x16384.Idx → BitVec 32) (j : Fin 152) (p : Fin 16384) : rows P L (ix3 j 0 p) = within bigRow P L j p := by
  pointwise [rows]
  unfold within bigRow image
  by_cases h : j.val % 2 = 0
  · rw [dif_pos (by omega), if_pos h, isClass_apply, isClass_apply]
  · rw [dif_neg (by omega), if_neg h, isClass_apply, isClass_apply, not_eq, not_eq]

/-- The keys, -/
def keys (X : S152x175x16384.Idx → BitVec 32) : IVec S152x175x16384 32 :=
  id (Host.shrui X (broadcastInDim S152x175x16384 ![] bcast_S_S152x175x16384 (constantI S_ 32 9#32)))

theorem keys_apply (X : S152x175x16384.Idx → BitVec 32) (j : Fin 152) (r : Fin 175) (p : Fin 16384) : keys X (ix3 j r p) = anyKey X j r p := by
  pointwise [keys, anyKey, key, id]
  unfold IntOp.shrui
  rw [if_pos (by decide), if_pos (by decide)]

/-- and the two maxima. -/
def best (X : S152x175x16384.Idx → BitVec 32) (P L : S4x1x16384.Idx → BitVec 32) : IVec S152x175x1 32 :=
  broadcastInDim S152x175x1 ![0, 1] bcast_S152x175_S152x175x1_0_1 (Host.reduce IntOp.maxsi (select (broadcastInDim S152x175x16384 ![0, 1, 2] bcast_S152x1x16384_S152x175x16384_0_1_2 (rows P L)) (keys X) (broadcastInDim S152x175x16384 ![] bcast_S_S152x175x16384 (id (constantI S_ 32 4294967295#32)))) (constantI S_ 32 2147483648#32) reducesTo_S152x175x16384_S152x175_d2 h_S_)

def bestAny (X : S152x175x16384.Idx → BitVec 32) : IVec S152x175x1 32 :=
  broadcastInDim S152x175x1 ![0, 1] bcast_S152x175_S152x175x1_0_1 (Host.reduce IntOp.maxsi (keys X) (constantI S_ 32 2147483648#32) reducesTo_S152x175x16384_S152x175_d2 h_S_)

theorem best_isMax (X : S152x175x16384.Idx → BitVec 32) (P L : S4x1x16384.Idx → BitVec 32) (j : Fin 152) (r : Fin 175) :
    IsMax (best X P L (ix3 j r 0)) (fun _ : Fin 16384 => True) (inKey bigRow X P L j r) := by
  pointwise [best]
  refine cast (congrArg (IsMax _ _) (funext fun p => ?_)) (isMax_fold (by decide) _)
  beta_reduce
  rw [rows_apply, keys_apply]
  rfl

theorem bestAny_isMax (X : S152x175x16384.Idx → BitVec 32) (j : Fin 152) (r : Fin 175) :
    IsMax (bestAny X (ix3 j r 0)) (fun _ : Fin 16384 => True) (anyKey X j r) := by
  pointwise [bestAny]
  refine cast (congrArg (IsMax _ _) (funext fun p => ?_)) (isMax_fold (by decide) _)
  exact keys_apply X j r p

end Cert.MaximaBigRef.Value
-- ==== Proof.Sampler.MaximaSmall.lean ====
/- The maxima call at count 75: what it accumulates over its grid, and what it leaves. -/
module

public import proofs.«01_k».proof.Proof.Gen.MaximaSmall.Value
public import proofs.«01_k».proof.Proof.Sampler.Maximum
public import proofs.«01_k».proof.Proof.Sampler.Groups
public import Idealize.ShloMosaic.Lib.Pipeline.ValueKit

@[expose] public section

noncomputable section

namespace Cert.MaximaSmall.Value

open Idealize.ShloMosaic Idealize.ShloMosaic.TcCoe Cert.MaximaSmall Cert.MaximaSmall.Gen Cert.Sampler

variable (m : (ℓ : Loc nD τ sig) → Buf (Elt Bits) ℓ)

theorem N0 : cfg0.N = 1216 := by decide +kernel

/-- Point `t` handles group `t / 8`, -/
def grp (t : Fin cfg0.N) : Fin 152 := ⟨t.val / 8, by have := lt_of_lt_of_eq t.isLt N0; omega⟩
/-- and chunk `t % 8` of the pixels. -/
def px (t : Fin cfg0.N) (p : Fin 2048) : Fin 16384 := ⟨t.val % 8 * 2048 + p.val, by omega⟩

theorem coords0 : ∀ t : Fin cfg0.N, (grid0.coords t 0).val = t.val / 8 :=
  (by decide +kernel : ∀ t : Fin grid0.N, _)
theorem off0 : ∀ t : Fin cfg0.N, k0_off1 (grid0.coords t) = ![0, 0, t.val % 8 * 2048] :=
  (by decide +kernel : ∀ t : Fin grid0.N, _)
theorem idx0_0 : ∀ t : Fin cfg0.N, win0_0.index t = ![t.val / 8, 0, t.val % 8] :=
  (by decide +kernel : ∀ t : Fin grid0.N, _)
theorem idx0_1 : ∀ t : Fin cfg0.N, win0_1.index t = ![t.val / 8 / 2 % 4, 0, 0] :=
  (by decide +kernel : ∀ t : Fin grid0.N, _)
theorem idx0_2 : ∀ t : Fin cfg0.N, win0_2.index t = ![t.val / 8 / 2 % 4, 0, 0] :=
  (by decide +kernel : ∀ t : Fin grid0.N, _)

theorem block0 (c : Dev nD) (t : Fin cfg0.N) (r : Fin 75) (p : Fin 2048) :
    (iblk m c 0 t : S1x75x2048.Idx → BitVec 32) (ix3 0 r p) = (V m c main_arg0 : S152x75x16384.Idx → BitVec 32) (ix3 (grp t) r (px t p)) := by
  refine congrArg (V m c main_arg0) (?_ : ((win0_0.blk t).view.emb (ix3 (0 : Fin 1) r p : S1x75x2048.Idx) : S152x75x16384.Idx) = _)
  unfold grp px
  blk_ext [idx0_0]

theorem block1 (c : Dev nD) (t : Fin cfg0.N) (p : Fin 16384) :
    (iblk m c 1 t : S1x1x16384.Idx → BitVec 32) (ix3 0 0 p) = (V m c main_arg1 : S4x1x16384.Idx → BitVec 32) (ix3 (image (grp t)) 0 p) := by
  refine congrArg (V m c main_arg1) (?_ : ((win0_1.blk t).view.emb (ix3 (0 : Fin 1) (0 : Fin 1) p : S1x1x16384.Idx) : S4x1x16384.Idx) = _)
  unfold image grp
  blk_ext [idx0_1]

theorem block2 (c : Dev nD) (t : Fin cfg0.N) (p : Fin 16384) :
    (iblk m c 2 t : S1x1x16384.Idx → BitVec 32) (ix3 0 0 p) = (V m c main_arg2 : S4x1x16384.Idx → BitVec 32) (ix3 (image (grp t)) 0 p) := by
  refine congrArg (V m c main_arg2) (?_ : ((win0_2.blk t).view.emb (ix3 (0 : Fin 1) (0 : Fin 1) p : S1x1x16384.Idx) : S4x1x16384.Idx) = _)
  unfold image grp
  blk_ext [idx0_2]

/-- The 2048 pixels a point reads of a whole image. -/
def cut (t : Fin cfg0.N) (x : S1x1x16384.Idx → BitVec 32) : S1x1x2048.Idx → BitVec 32 :=
  View.ld (Val := Elt Bits) (S := S1x1x16384) (e' := .i32) x (Rect.unit (k0_off1 (grid0.coords t)) ![1, 1, 2048] (k0_off1_inb (grid0.coords t)))

theorem cut_apply (t : Fin cfg0.N) (x : S1x1x16384.Idx → BitVec 32) (p : Fin 2048) : cut t x (ix3 0 0 p) = x (ix3 0 0 (px t p)) := by
  pointwise [cut]
  refine congrArg x (funext fun a => ?_)
  match a with
  | ⟨0, _⟩ => exact Fin.ext (congrFun (off0 t) 0)
  | ⟨1, _⟩ => exact Fin.ext (congrFun (off0 t) 1)
  | ⟨2, _⟩ => exact Fin.ext (congrArg (· + p.val) (congrFun (off0 t) 2))

/-- What one point adds to the two carried maxima. -/
def part0 (c : Dev nD) (t : Fin cfg0.N) : IVec S75x1 32 :=
  k0_pay2 (F := Bits) (kindWord (BitVec.ofNat 32 (grid0.coords t 0).val))
    (k0_pay10 (F := Bits) (grid0.coords t) (cut t (iblk m c 1 t))) (k0_pay11 (F := Bits) (grid0.coords t) (cut t (iblk m c 2 t)))
    (k0_pay12 (F := Bits) (grid0.coords t) (cut t (iblk m c 2 t))) (iblk m c 0 t)

def part1 (c : Dev nD) (t : Fin cfg0.N) : IVec S75x1 32 := k0_pay3 (F := Bits) (iblk m c 0 t)

theorem same_shape (x : IVec S75x1 32) : shapeCast S75x1 x shapeCasts_S75x1_S75x1 = x := by
  funext i
  obtain ⟨a, b, rfl⟩ : ∃ (a : Fin 75) (b : Fin 1), i = ix2 a b := ⟨i 0, i 1, eq_ix2 i⟩
  pointwise

theorem carried0_first (c : Dev nD) (t : Fin cfg0.N) (h : t.val % 8 = 0) : (outsAt0 m c t.val t.isLt).2.2.1 = part0 m c t := by
  rw [outsAt0_A m c t h (by omega) (by omega)]
  frame_out
  exact same_shape _

theorem carried1_first (c : Dev nD) (t : Fin cfg0.N) (h : t.val % 8 = 0) : (outsAt0 m c t.val t.isLt).2.2.2 = part1 m c t := by
  rw [outsAt0_A m c t h (by omega) (by omega)]
  frame_out
  exact same_shape _

theorem carried0_next (c : Dev nD) (t : Fin cfg0.N) (h : ¬t.val % 8 = 0) : (outsAt0 m c t.val t.isLt).2.2.1
    = maxsi (outsAt0 m c (t.val - 1) (Nat.lt_of_le_of_lt (Nat.sub_le _ _) t.isLt)).2.2.1 (part0 m c t) := by
  by_cases h2 : t.val % 8 = 7
  · rw [outsAt0_C m c t h (by omega) h2]
    frame_out
    refine (same_shape _).trans ?_
    exact congrArg (fun x => maxsi x (part0 m c t)) ((Memref.isWhole_whole _).read_unread _)
  · rw [outsAt0_B m c t h (by omega) h2]
    frame_out
    refine (same_shape _).trans ?_
    exact congrArg (fun x => maxsi x (part0 m c t)) ((Memref.isWhole_whole _).read_unread _)

theorem carried1_next (c : Dev nD) (t : Fin cfg0.N) (h : ¬t.val % 8 = 0) : (outsAt0 m c t.val t.isLt).2.2.2
    = maxsi (outsAt0 m c (t.val - 1) (Nat.lt_of_le_of_lt (Nat.sub_le _ _) t.isLt)).2.2.2 (part1 m c t) := by
  by_cases h2 : t.val % 8 = 7
  · rw [outsAt0_C m c t h (by omega) h2]
    frame_out
    refine (same_shape _).trans ?_
    exact congrArg (fun x => maxsi x (part1 m c t)) ((Memref.isWhole_whole _).read_unread _)
  · rw [outsAt0_B m c t h (by omega) h2]
    frame_out
    refine (same_shape _).trans ?_
    exact congrArg (fun x => maxsi x (part1 m c t)) ((Memref.isWhole_whole _).read_unread _)

theorem out0_last (c : Dev nD) (t : Fin cfg0.N) (h : t.val % 8 = 7) : (outsAt0 m c t.val t.isLt).1 = k0_pay8 (F := Bits) (outsAt0 m c t.val t.isLt).2.2.1 := by
  rw [carried0_next m c t (by omega), outsAt0_C m c t (by omega) (by omega) h]
  frame_out
  refine congrArg (k0_pay8 (F := Bits)) ((same_shape _).trans ?_)
  exact congrArg (fun x => maxsi x (part0 m c t)) ((Memref.isWhole_whole _).read_unread _)

theorem out1_last (c : Dev nD) (t : Fin cfg0.N) (h : t.val % 8 = 7) : (outsAt0 m c t.val t.isLt).2.1 = k0_pay9 (F := Bits) (outsAt0 m c t.val t.isLt).2.2.2 := by
  rw [carried1_next m c t (by omega), outsAt0_C m c t (by omega) (by omega) h]
  frame_out
  refine congrArg (k0_pay9 (F := Bits)) ((same_shape _).trans ?_)
  exact congrArg (fun x => maxsi x (part1 m c t)) ((Memref.isWhole_whole _).read_unread _)

theorem pe_apply (t : Fin cfg0.N) (P : S1x1x16384.Idx → BitVec 32) (p : Fin 2048) :
    k0_pay10 (F := Bits) (grid0.coords t) (cut t P) (ix2 0 p) = same ((grp t).val / 8) (P (ix3 0 0 (px t p))) := by
  pointwise [k0_pay10]
  rw [cut_apply, coords0]
  exact congrArg (IntOp.cmpi CmpIPredicate.eq _) (classWord_eq (grp t))

theorem le_apply (t : Fin cfg0.N) (L : S1x1x16384.Idx → BitVec 32) (p : Fin 2048) :
    k0_pay11 (F := Bits) (grid0.coords t) (cut t L) (ix2 0 p) = same ((grp t).val / 8) (L (ix3 0 0 (px t p))) := by
  pointwise [k0_pay11]
  rw [cut_apply, coords0]
  exact congrArg (IntOp.cmpi CmpIPredicate.eq _) (classWord_eq (grp t))

theorem not_apply (t : Fin cfg0.N) (L : S1x1x16384.Idx → BitVec 32) (p : Fin 2048) :
    k0_pay12 (F := Bits) (grid0.coords t) (cut t L) (ix2 0 p) = IntOp.xori (same ((grp t).val / 8) (L (ix3 0 0 (px t p)))) 1#1 := by
  pointwise [k0_pay12]
  rw [le_apply]

theorem pay1_apply (x : S1x75x2048.Idx → BitVec 32) (r : Fin 75) (p : Fin 2048) : k0_pay1 (F := Bits) x (ix2 r p) = key (x (ix3 0 r p)) := by
  pointwise [k0_pay1, key]

theorem part0_isMax (c : Dev nD) (t : Fin cfg0.N) (r : Fin 75) :
    IsMax (part0 m c t (ix2 r 0)) (fun p : Fin 16384 => t.val % 8 * 2048 ≤ p.val ∧ p.val < t.val % 8 * 2048 + 2048)
      (inKey smallRow (V m c main_arg0) (V m c main_arg1) (V m c main_arg2) (grp t) r) := by
  unfold part0
  pointwise [k0_pay2]
  refine (isMax_fold (by decide) _).chunk (Nat.mod_lt _ (by decide)) fun q => ?_
  rw [pe_apply, le_apply, not_apply, pay1_apply, coords0]
  unfold inKey within smallRow
  refine congr (congr (congrArg Scalar.select ((mask_eq (grp t) _ _).trans ?_)) (congrArg key (block0 m c t r q))) rfl
  rw [block1, block2]
  rfl

theorem part1_isMax (c : Dev nD) (t : Fin cfg0.N) (r : Fin 75) :
    IsMax (part1 m c t (ix2 r 0)) (fun p : Fin 16384 => t.val % 8 * 2048 ≤ p.val ∧ p.val < t.val % 8 * 2048 + 2048)
      (anyKey (V m c main_arg0) (grp t) r) := by
  unfold part1
  pointwise [k0_pay3]
  refine (isMax_fold (by decide) _).chunk (Nat.mod_lt _ (by decide)) fun q => ?_
  rw [pay1_apply]
  exact congrArg key (block0 m c t r q)

/-- A maximum carried over the eight chunks of a group. -/
theorem carried_isMax (s part : Fin cfg0.N → IVec S75x1 32) (f : Fin 152 → Fin 75 → Fin 16384 → BitVec 32)
    (hp : ∀ t r, IsMax (part t (ix2 r 0)) (fun p : Fin 16384 => t.val % 8 * 2048 ≤ p.val ∧ p.val < t.val % 8 * 2048 + 2048) (f (grp t) r))
    (h0 : ∀ t, t.val % 8 = 0 → s t = part t)
    (h1 : ∀ t, ¬t.val % 8 = 0 → s t = maxsi (s ⟨t.val - 1, Nat.lt_of_le_of_lt (Nat.sub_le _ _) t.isLt⟩) (part t)) (r : Fin 75) :
    ∀ (n : Nat) (hn : n < cfg0.N), IsMax (s ⟨n, hn⟩ (ix2 r 0)) (fun p : Fin 16384 => p.val < n % 8 * 2048 + 2048) (f (grp ⟨n, hn⟩) r) := by
  intro n
  induction n using Nat.strong_induction_on with
  | _ n ih =>
    intro hn
    by_cases h : n % 8 = 0
    · rw [h0 ⟨n, hn⟩ h]
      refine (hp ⟨n, hn⟩ r).congr fun p => ?_
      show p.val < n % 8 * 2048 + 2048 ↔ n % 8 * 2048 ≤ p.val ∧ p.val < n % 8 * 2048 + 2048
      omega
    · rw [h1 ⟨n, hn⟩ h]
      have hprev := ih (n - 1) (by omega) (by omega)
      have e : grp ⟨n - 1, by omega⟩ = grp ⟨n, hn⟩ := Fin.ext (by show (n - 1) / 8 = n / 8; omega)
      rw [e] at hprev
      refine hprev.union (hp ⟨n, hn⟩ r) fun p => ?_
      show p.val < n % 8 * 2048 + 2048 ↔ p.val < (n - 1) % 8 * 2048 + 2048 ∨ (n % 8 * 2048 ≤ p.val ∧ p.val < n % 8 * 2048 + 2048)
      omega

theorem pt_lt (j : Fin 152) : 8 * j.val + 7 < cfg0.N := by rw [N0]; omega

theorem last0_isMax (c : Dev nD) (j : Fin 152) (r : Fin 75) :
    IsMax ((outsAt0 m c (8 * j.val + 7) (pt_lt j)).1 (ix3 0 r 0)) (fun _ : Fin 16384 => True)
      (inKey smallRow (V m c main_arg0) (V m c main_arg1) (V m c main_arg2) j r) := by
  have h := carried_isMax (fun t => (outsAt0 m c t.val t.isLt).2.2.1) (part0 m c) _ (part0_isMax m c) (carried0_first m c) (carried0_next m c) r
    (8 * j.val + 7) (pt_lt j)
  have e : grp ⟨8 * j.val + 7, pt_lt j⟩ = j := Fin.ext (by show (8 * j.val + 7) / 8 = j.val; omega)
  rw [e] at h
  rw [out0_last m c ⟨8 * j.val + 7, pt_lt j⟩ (by show (8 * j.val + 7) % 8 = 7; omega)]
  pointwise [k0_pay8]
  exact h.congr fun p => ⟨fun _ => by show p.val < (8 * j.val + 7) % 8 * 2048 + 2048; omega, fun _ => trivial⟩

theorem last1_isMax (c : Dev nD) (j : Fin 152) (r : Fin 75) :
    IsMax ((outsAt0 m c (8 * j.val + 7) (pt_lt j)).2.1 (ix3 0 r 0)) (fun _ : Fin 16384 => True) (anyKey (V m c main_arg0) j r) := by
  have h := carried_isMax (fun t => (outsAt0 m c t.val t.isLt).2.2.2) (part1 m c) _ (part1_isMax m c) (carried1_first m c) (carried1_next m c) r
    (8 * j.val + 7) (pt_lt j)
  have e : grp ⟨8 * j.val + 7, pt_lt j⟩ = j := Fin.ext (by show (8 * j.val + 7) / 8 = j.val; omega)
  rw [e] at h
  rw [out1_last m c ⟨8 * j.val + 7, pt_lt j⟩ (by show (8 * j.val + 7) % 8 = 7; omega)]
  pointwise [k0_pay9]
  exact h.congr fun p => ⟨fun _ => by show p.val < (8 * j.val + 7) % 8 * 2048 + 2048; omega, fun _ => trivial⟩

theorem final0_isMax (c : Dev nD) (j : Fin 152) (r : Fin 75) :
    IsMax ((G3 m c : S152x75x1.Idx → BitVec 32) (ix3 j r 0)) (fun _ : Fin 16384 => True)
      (inKey smallRow (V m c main_arg0) (V m c main_arg1) (V m c main_arg2) j r) := by
  have e : pt3Of (ix3 j r 0) = 8 * j.val + 7 := by
    show 8 * (1 * (j.val / 1 - 0) + 1 * (r.val / 75 - 0) + 1 * (0 / 1 - 0)) + 7 = 8 * j.val + 7
    omega
  unfold G3
  rw [dif_pos (by rw [e]; exact pt_lt j), fold0_congr m c _ _ (8 * j.val + 7) (by have := pt_lt j; omega) e, ← outsAt0_sweep]
  have e' : loc3Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e']
  exact last0_isMax m c j r

theorem final1_isMax (c : Dev nD) (j : Fin 152) (r : Fin 75) :
    IsMax ((G4 m c : S152x75x1.Idx → BitVec 32) (ix3 j r 0)) (fun _ : Fin 16384 => True) (anyKey (V m c main_arg0) j r) := by
  have e : pt4Of (ix3 j r 0) = 8 * j.val + 7 := by
    show 8 * (1 * (j.val / 1 - 0) + 1 * (r.val / 75 - 0) + 1 * (0 / 1 - 0)) + 7 = 8 * j.val + 7
    omega
  unfold G4
  rw [dif_pos (by rw [e]; exact pt_lt j), fold0_congr m c _ _ (8 * j.val + 7) (by have := pt_lt j; omega) e, ← outsAt0_sweep]
  have e' : loc4Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e']
  exact last1_isMax m c j r

end Cert.MaximaSmall.Value
-- ==== Proof.Sampler.MaximaSmallRef.lean ====
/- The reference of the maxima call at count 75: the same maxima. -/
module

public import proofs.«01_k».proof.Proof.Gen.MaximaSmallRef.Run
public import proofs.«01_k».proof.Proof.Sampler.Maximum
public import proofs.«01_k».proof.Proof.Sampler.Groups

@[expose] public section

noncomputable section

namespace Cert.MaximaSmallRef.Value

open Idealize.ShloMosaic Idealize.ShloMosaic.TcCoe Cert.MaximaSmallRef Cert.MaximaSmallRef.Gen Cert.Sampler

/-- Whether each pixel is of each class, -/
def isClass (P : S4x1x16384.Idx → BitVec 32) : IVec S19x4x16384 1 :=
  cmpi .eq (broadcastInDim S19x4x16384 ![0, 1, 2] bcast_S1x4x16384_S19x4x16384_0_1_2 (broadcastInDim S1x4x16384 ![1, 2] bcast_S4x16384_S1x4x16384_1_2 (shapeCast _ P shapeCasts_S4x1x16384_S4x16384))) (broadcastInDim S19x4x16384 ![0, 1, 2] bcast_S19x1x1_S19x4x16384_0_1_2 (broadcastInDim S19x1x1 ![0] bcast_S19_S19x1x1_0 (iotaInDim S19 32 0)))

/-- and the rows of the groups. -/
def rows (P L : S4x1x16384.Idx → BitVec 32) : IVec S152x1x16384 1 :=
  shapeCast S152x1x16384 (concatenate S19x4x2x16384 2 [⟨S19x4x1x16384, (broadcastInDim S19x4x1x16384 ![0, 1, 3] bcast_S19x4x16384_S19x4x1x16384_0_1_3 (andi (isClass P) (noti (isClass L))))⟩, ⟨S19x4x1x16384, (broadcastInDim S19x4x1x16384 ![0, 1, 3] bcast_S19x4x16384_S19x4x1x16384_0_1_3 (andi (noti (isClass P)) (isClass L)))⟩] concatenates_S19x4x1x16384_S19x4x1x16384_S19x4x2x16384_d2) shapeCasts_S19x4x2x16384_S152x1x16384

theorem isClass_apply (P : S4x1x16384.Idx → BitVec 32) (k : Fin 19) (b : Fin 4) (p : Fin 16384) : isClass P (ix3 k b p) = same k.val (P (ix3 b 0 p)) := by
  pointwise [isClass, same]

theorem not_eq : ∀ b : BitVec 1, ~~~b = IntOp.xori b 1#1 := by decide

theorem rows_apply (P L : S4x1x16384.Idx → BitVec 32) (j : Fin 152) (p : Fin 16384) : rows P L (ix3 j 0 p) = within smallRow P L j p := by
  pointwise [rows]
  unfold within smallRow image
  by_cases h : j.val % 2 = 0
  · rw [dif_pos (by omega), if_pos h, isClass_apply, isClass_apply, not_eq]
  · rw [dif_neg (by omega), if_neg h, isClass_apply, isClass_apply, not_eq]

/-- The keys, -/
def keys (X : S152x75x16384.Idx → BitVec 32) : IVec S152x75x16384 32 :=
  id (Host.shrui X (broadcastInDim S152x75x16384 ![] bcast_S_S152x75x16384 (constantI S_ 32 9#32)))

theorem keys_apply (X : S152x75x16384.Idx → BitVec 32) (j : Fin 152) (r : Fin 75) (p : Fin 16384) : keys X (ix3 j r p) = anyKey X j r p := by
  pointwise [keys, anyKey, key, id]
  unfold IntOp.shrui
  rw [if_pos (by decide), if_pos (by decide)]

/-- and the two maxima. -/
def best (X : S152x75x16384.Idx → BitVec 32) (P L : S4x1x16384.Idx → BitVec 32) : IVec S152x75x1 32 :=
  broadcastInDim S152x75x1 ![0, 1] bcast_S152x75_S152x75x1_0_1 (Host.reduce IntOp.maxsi (select (broadcastInDim S152x75x16384 ![0, 1, 2] bcast_S152x1x16384_S152x75x16384_0_1_2 (rows P L)) (keys X) (broadcastInDim S152x75x16384 ![] bcast_S_S152x75x16384 (id (constantI S_ 32 4294967295#32)))) (constantI S_ 32 2147483648#32) reducesTo_S152x75x16384_S152x75_d2 h_S_)

def bestAny (X : S152x75x16384.Idx → BitVec 32) : IVec S152x75x1 32 :=
  broadcastInDim S152x75x1 ![0, 1] bcast_S152x75_S152x75x1_0_1 (Host.reduce IntOp.maxsi (keys X) (constantI S_ 32 2147483648#32) reducesTo_S152x75x16384_S152x75_d2 h_S_)

theorem best_isMax (X : S152x75x16384.Idx → BitVec 32) (P L : S4x1x16384.Idx → BitVec 32) (j : Fin 152) (r : Fin 75) :
    IsMax (best X P L (ix3 j r 0)) (fun _ : Fin 16384 => True) (inKey smallRow X P L j r) := by
  pointwise [best]
  refine cast (congrArg (IsMax _ _) (funext fun p => ?_)) (isMax_fold (by decide) _)
  beta_reduce
  rw [rows_apply, keys_apply]
  rfl

theorem bestAny_isMax (X : S152x75x16384.Idx → BitVec 32) (j : Fin 152) (r : Fin 75) :
    IsMax (bestAny X (ix3 j r 0)) (fun _ : Fin 16384 => True) (anyKey X j r) := by
  pointwise [bestAny]
  refine cast (congrArg (IsMax _ _) (funext fun p => ?_)) (isMax_fold (by decide) _)
  exact keys_apply X j r p

end Cert.MaximaSmallRef.Value
-- ==== Proof.Sampler.Maxima.lean ====
/- The maxima calls against their references: equal results, word for word; and the four frames. -/
module

public import proofs.«01_k».proof.Defs
public import proofs.«01_k».proof.Proof.Gen.Pre_drawn
public import proofs.«01_k».proof.Proof.Sampler.MaximaBig
public import proofs.«01_k».proof.Proof.Sampler.MaximaBigRef
public import proofs.«01_k».proof.Proof.Sampler.MaximaSmall
public import proofs.«01_k».proof.Proof.Sampler.MaximaSmallRef
public import Idealize.ShloMosaic.Lib.Quiescent

@[expose] public section

noncomputable section

namespace Cert.Proof

open Idealize.ShloMosaic Idealize.ShloMosaic.TcCoe Idealize.SL.Sem Cert.Sampler

theorem frame_MaximaBig : Cert.quiescent_MaximaBig (hMaximaBig := Cert.MaximaBig.Gen.facts) := fun m g _ => Cert.MaximaBig.Gen.frame m g

theorem frame_MaximaBigRef : Cert.quiescent_MaximaBigRef (hMaximaBigRef := Cert.MaximaBigRef.Gen.facts) := fun m g _ =>
  (θ_run _ _ _).mono (fun _ h => ⟨fun c => (h c).2.2, sem_eq_zero_of_no_sems (by decide) _⟩) (Cert.MaximaBigRef.Value.run m g)

theorem results0_MaximaBig (m : (ℓ : Loc Cert.MaximaBig.nD Cert.MaximaBig.τ Cert.MaximaBig.sig) → Buf (Elt Bits) ℓ) (c : Dev Cert.MaximaBig.nD) :
    (Cert.MaximaBig.Value.G3 m c : Cert.MaximaBig.S152x175x1.Idx → BitVec 32)
      = Cert.MaximaBigRef.Value.best (m ((c : Thread Cert.MaximaBig.nD Cert.MaximaBig.τ).loc Cert.MaximaBig.main_arg0))
          (m ((c : Thread Cert.MaximaBig.nD Cert.MaximaBig.τ).loc Cert.MaximaBig.main_arg1)) (m ((c : Thread Cert.MaximaBig.nD Cert.MaximaBig.τ).loc Cert.MaximaBig.main_arg2)) := by
  funext i
  obtain ⟨j, r, z, rfl⟩ : ∃ (j : Fin 152) (r : Fin 175) (z : Fin 1), i = ix3 j r z := ⟨i 0, i 1, i 2, eq_ix3 i⟩
  obtain rfl : z = 0 := Subsingleton.elim _ _
  exact (Cert.MaximaBig.Value.final0_isMax m c j r).unique (Cert.MaximaBigRef.Value.best_isMax _ _ _ j r) (fun _ => Iff.rfl) (fun _ => rfl)

theorem results1_MaximaBig (m : (ℓ : Loc Cert.MaximaBig.nD Cert.MaximaBig.τ Cert.MaximaBig.sig) → Buf (Elt Bits) ℓ) (c : Dev Cert.MaximaBig.nD) :
    (Cert.MaximaBig.Value.G4 m c : Cert.MaximaBig.S152x175x1.Idx → BitVec 32)
      = Cert.MaximaBigRef.Value.bestAny (m ((c : Thread Cert.MaximaBig.nD Cert.MaximaBig.τ).loc Cert.MaximaBig.main_arg0)) := by
  funext i
  obtain ⟨j, r, z, rfl⟩ : ∃ (j : Fin 152) (r : Fin 175) (z : Fin 1), i = ix3 j r z := ⟨i 0, i 1, i 2, eq_ix3 i⟩
  obtain rfl : z = 0 := Subsingleton.elim _ _
  exact (Cert.MaximaBig.Value.final1_isMax m c j r).unique (Cert.MaximaBigRef.Value.bestAny_isMax _ j r) (fun _ => Iff.rfl) (fun _ => rfl)

theorem bitexact_MaximaBig : Cert.bitexact_MaximaBig_MaximaBigRef (hMaximaBig := Cert.MaximaBig.Gen.facts) (hMaximaBigRef := Cert.MaximaBigRef.Gen.facts) := by
  intro m g m' g' _ hargs
  refine ⟨fun c => Cert.MaximaBig.Value.G3 m c, fun c => Cert.MaximaBig.Value.G4 m c, Cert.MaximaBig.Value.run m g,
    (θ_run _ _ _).mono (fun r h c => ?_) (Cert.MaximaBigRef.Value.run m' g')⟩
  obtain ⟨h0, h1, h2⟩ := h c
  obtain ⟨a0, a1, a2⟩ := hargs c
  refine ⟨h0.trans ?_, h1.trans ?_, h2⟩
  · rw [a0, a1, a2]
    exact (results0_MaximaBig m c).symm
  · rw [a0]
    exact (results1_MaximaBig m c).symm

theorem frame_MaximaSmall : Cert.quiescent_MaximaSmall (hMaximaSmall := Cert.MaximaSmall.Gen.facts) := fun m g _ => Cert.MaximaSmall.Gen.frame m g

theorem frame_MaximaSmallRef : Cert.quiescent_MaximaSmallRef (hMaximaSmallRef := Cert.MaximaSmallRef.Gen.facts) := fun m g _ =>
  (θ_run _ _ _).mono (fun _ h => ⟨fun c => (h c).2.2, sem_eq_zero_of_no_sems (by decide) _⟩) (Cert.MaximaSmallRef.Value.run m g)

theorem results0_MaximaSmall (m : (ℓ : Loc Cert.MaximaSmall.nD Cert.MaximaSmall.τ Cert.MaximaSmall.sig) → Buf (Elt Bits) ℓ) (c : Dev Cert.MaximaSmall.nD) :
    (Cert.MaximaSmall.Value.G3 m c : Cert.MaximaSmall.S152x75x1.Idx → BitVec 32)
      = Cert.MaximaSmallRef.Value.best (m ((c : Thread Cert.MaximaSmall.nD Cert.MaximaSmall.τ).loc Cert.MaximaSmall.main_arg0))
          (m ((c : Thread Cert.MaximaSmall.nD Cert.MaximaSmall.τ).loc Cert.MaximaSmall.main_arg1)) (m ((c : Thread Cert.MaximaSmall.nD Cert.MaximaSmall.τ).loc Cert.MaximaSmall.main_arg2)) := by
  funext i
  obtain ⟨j, r, z, rfl⟩ : ∃ (j : Fin 152) (r : Fin 75) (z : Fin 1), i = ix3 j r z := ⟨i 0, i 1, i 2, eq_ix3 i⟩
  obtain rfl : z = 0 := Subsingleton.elim _ _
  exact (Cert.MaximaSmall.Value.final0_isMax m c j r).unique (Cert.MaximaSmallRef.Value.best_isMax _ _ _ j r) (fun _ => Iff.rfl) (fun _ => rfl)

theorem results1_MaximaSmall (m : (ℓ : Loc Cert.MaximaSmall.nD Cert.MaximaSmall.τ Cert.MaximaSmall.sig) → Buf (Elt Bits) ℓ) (c : Dev Cert.MaximaSmall.nD) :
    (Cert.MaximaSmall.Value.G4 m c : Cert.MaximaSmall.S152x75x1.Idx → BitVec 32)
      = Cert.MaximaSmallRef.Value.bestAny (m ((c : Thread Cert.MaximaSmall.nD Cert.MaximaSmall.τ).loc Cert.MaximaSmall.main_arg0)) := by
  funext i
  obtain ⟨j, r, z, rfl⟩ : ∃ (j : Fin 152) (r : Fin 75) (z : Fin 1), i = ix3 j r z := ⟨i 0, i 1, i 2, eq_ix3 i⟩
  obtain rfl : z = 0 := Subsingleton.elim _ _
  exact (Cert.MaximaSmall.Value.final1_isMax m c j r).unique (Cert.MaximaSmallRef.Value.bestAny_isMax _ j r) (fun _ => Iff.rfl) (fun _ => rfl)

theorem bitexact_MaximaSmall : Cert.bitexact_MaximaSmall_MaximaSmallRef (hMaximaSmall := Cert.MaximaSmall.Gen.facts) (hMaximaSmallRef := Cert.MaximaSmallRef.Gen.facts) := by
  intro m g m' g' _ hargs
  refine ⟨fun c => Cert.MaximaSmall.Value.G3 m c, fun c => Cert.MaximaSmall.Value.G4 m c, Cert.MaximaSmall.Value.run m g,
    (θ_run _ _ _).mono (fun r h c => ?_) (Cert.MaximaSmallRef.Value.run m' g')⟩
  obtain ⟨h0, h1, h2⟩ := h c
  obtain ⟨a0, a1, a2⟩ := hargs c
  refine ⟨h0.trans ?_, h1.trans ?_, h2⟩
  · rw [a0, a1, a2]
    exact (results0_MaximaSmall m c).symm
  · rw [a0]
    exact (results1_MaximaSmall m c).symm

end Cert.Proof
-- ==== Proof.Sampler.Least.lean ====
/- The least pixels that qualify, as entries of the list of them; the three ways they are reached: successive minima of a
   chunk, the lists of two runs of pixels joined, and a sort. -/
module

public import Idealize.ShloMosaic.Lib.Pointwise
public import Idealize.ShloMosaic.Lib.SortFacts
public import Idealize.ShloMosaic.Lib.SortNet.Extract

@[expose] public section

noncomputable section

namespace Cert.Sampler

open Idealize.ShloMosaic

/-- The qualifying pixels among `n` from `a`, in order, -/
def picks (ok : Nat → Bool) (a n : Nat) : List Nat := (List.range' a n).filter ok

/-- and entry `k` of a list of pixels as a word, one past the last pixel where there is none. -/
def nth (L : List Nat) (k : Nat) : BitVec 32 := BitVec.ofNat 32 (L.getD k 16384)

theorem getD_in (L : List Nat) (k : Nat) (h : k < L.length) : L.getD k 16384 = L[k] := by
  rw [List.getD, List.getElem?_eq_getElem h]; rfl

theorem getD_out (L : List Nat) (k : Nat) (h : L.length ≤ k) : L.getD k 16384 = 16384 := by
  rw [List.getD, List.getElem?_eq_none h]; rfl

theorem toInt_small {n : Nat} (h : n ≤ 16384) : (BitVec.ofNat 32 n).toInt = n := by
  rw [BitVec.toInt_eq_toNat_of_lt (by rw [BitVec.toNat_ofNat]; omega), BitVec.toNat_ofNat, Nat.mod_eq_of_lt (by omega)]

theorem slt_small {a b : Nat} (ha : a ≤ 16384) (hb : b ≤ 16384) :
    IntOp.cmpi CmpIPredicate.slt (BitVec.ofNat 32 a) (BitVec.ofNat 32 b) = if a < b then 1#1 else 0#1 := by
  show BitVec.ofBool (BitVec.slt (BitVec.ofNat 32 a) (BitVec.ofNat 32 b)) = _
  rw [BitVec.slt_eq_decide, toInt_small ha, toInt_small hb]
  by_cases h : a < b
  · rw [if_pos h, decide_eq_true (by omega)]; rfl
  · rw [if_neg h, decide_eq_false (by omega)]; rfl

theorem eq_small {a b : Nat} (ha : a ≤ 16384) (hb : b ≤ 16384) :
    IntOp.cmpi CmpIPredicate.eq (BitVec.ofNat 32 a) (BitVec.ofNat 32 b) = if a = b then 1#1 else 0#1 := by
  show BitVec.ofBool (BitVec.ofNat 32 a == BitVec.ofNat 32 b) = _
  by_cases h : a = b
  · rw [if_pos h, h, beq_self_eq_true]; rfl
  · have : BitVec.ofNat 32 a ≠ BitVec.ofNat 32 b := fun e => h (by
      have := congrArg BitVec.toInt e
      rw [toInt_small ha, toInt_small hb] at this
      omega)
    rw [if_neg h, beq_eq_false_iff_ne.2 this]; rfl

theorem le_toInt_fold {ι : Type} [DecidableEq ι] (s : Finset ι) (init : BitVec 32) (f : ι → BitVec 32) (z : ℤ) :
    z ≤ (s.fold IntOp.minsi init f).toInt ↔ z ≤ init.toInt ∧ ∀ i ∈ s, z ≤ (f i).toInt := by
  induction s using Finset.induction_on with
  | empty => simp
  | insert a s ha ih =>
    rw [Finset.fold_insert ha, SortNet.toInt_minsi, le_min_iff, ih]
    simp only [Finset.mem_insert, forall_eq_or_imp]
    tauto

/-- A minimum is the value that is attained and below every other. -/
theorem fold_eq {n : Nat} (f : Fin n → BitVec 32) (w : BitVec 32) (p : Fin n) (hp : f p = w) (hle : ∀ q, w.toInt ≤ (f q).toInt) :
    Finset.univ.fold IntOp.minsi 2147483647#32 f = w := by
  refine BitVec.eq_of_toInt_eq (le_antisymm ?_ ((le_toInt_fold _ _ _ _).2 ⟨?_, fun q _ => hle q⟩))
  · rw [← hp]
    exact ((le_toInt_fold _ _ _ _).1 le_rfl).2 p (Finset.mem_univ _)
  · have h : (2147483647#32 : BitVec 32).toInt = 2147483647 := by decide
    have := BitVec.toInt_lt (x := w)
    omega

/-- A pixel if it qualifies, one past the last pixel otherwise. -/
theorem select_word (b : BitVec 1) (n : Nat) : Scalar.select b (BitVec.ofNat 32 n) 16384#32 = BitVec.ofNat 32 (if b == 1#1 then n else 16384) := by
  have h : ∀ b : BitVec 1, b = 0#1 ∨ b = 1#1 := by decide
  rcases h b with rfl | rfl <;> rfl

/-- `f` holds, at the 2048 places from `a`, the pixels of the list `L` and one past the last pixel elsewhere. -/
structure Shows (f : Fin 2048 → BitVec 32) (a : Nat) (L : List Nat) : Prop where
  sorted : L.Pairwise (· < ·)
  bound : ∀ x ∈ L, a ≤ x ∧ x < a + 2048
  top : a + 2048 ≤ 16384
  val : ∀ p : Fin 2048, f p = BitVec.ofNat 32 (if a + p.val ∈ L then a + p.val else 16384)

theorem shows_picks {ok : Nat → Bool} {a : Nat} (ha : a + 2048 ≤ 16384) {f : Fin 2048 → BitVec 32}
    (hf : ∀ p : Fin 2048, f p = BitVec.ofNat 32 (if ok (a + p.val) then a + p.val else 16384)) : Shows f a (picks ok a 2048) where
  sorted := (List.pairwise_lt_range' (s := a) (n := 2048)).filter _
  bound := fun x hx => by
    have := (List.mem_range'_1.1 (List.mem_filter.1 hx).1)
    exact this
  top := ha
  val := fun p => by
    rw [hf]
    have e : (a + p.val ∈ picks ok a 2048) ↔ ok (a + p.val) = true := by
      unfold picks
      rw [List.mem_filter, List.mem_range'_1]
      exact ⟨fun h => h.2, fun h => ⟨⟨by omega, by omega⟩, h⟩⟩
    simp only [e]

/-- The minimum is the list's first pixel, -/
theorem Shows.min {f : Fin 2048 → BitVec 32} {a : Nat} {L : List Nat} (h : Shows f a L) :
    Finset.univ.fold IntOp.minsi 2147483647#32 f = nth L 0 := by
  have ht := h.top
  match L, h with
  | [], h =>
    refine fold_eq f _ 0 ?_ fun q => ?_
    · rw [h.val]; rfl
    · rw [h.val]; exact le_rfl
  | b :: l, h =>
    have hb := h.bound b (List.mem_cons_self ..)
    have hs := (List.pairwise_cons.1 h.sorted).1
    refine fold_eq f _ ⟨b - a, by omega⟩ ?_ fun q => ?_
    · rw [h.val]
      have e : a + (b - a) = b := by omega
      show BitVec.ofNat 32 (if a + (b - a) ∈ b :: l then a + (b - a) else 16384) = BitVec.ofNat 32 b
      rw [e, if_pos (List.mem_cons_self ..)]
    · rw [h.val]
      show (BitVec.ofNat 32 b).toInt ≤ _
      have hq := q.isLt
      split_ifs with hm
      · rw [toInt_small (by omega), toInt_small (by omega)]
        rcases List.mem_cons.1 hm with e | e
        · omega
        · have := hs _ e
          omega
      · rw [toInt_small (by omega), toInt_small (by omega)]
        omega

/-- and with the minimum taken out the rest of the list is held. -/
theorem Shows.next {f g : Fin 2048 → BitVec 32} {a : Nat} {L : List Nat} (h : Shows f a L)
    (hg : ∀ p, g p = Scalar.select (IntOp.cmpi CmpIPredicate.eq (f p) (nth L 0)) 16384#32 (f p)) : Shows g a L.tail := by
  have ht := h.top
  match L, h with
  | [], h =>
    refine ⟨.nil, fun x hx => absurd hx (List.not_mem_nil), ht, fun p => ?_⟩
    rw [hg, h.val]
    show Scalar.select (IntOp.cmpi CmpIPredicate.eq (BitVec.ofNat 32 16384) (BitVec.ofNat 32 16384)) 16384#32 (BitVec.ofNat 32 16384) = BitVec.ofNat 32 16384
    rw [eq_small le_rfl le_rfl]
    rfl
  | b :: l, h =>
    have hb := h.bound b (List.mem_cons_self ..)
    obtain ⟨hs, hl⟩ := List.pairwise_cons.1 h.sorted
    refine ⟨hl, fun x hx => h.bound x (List.mem_cons_of_mem _ hx), ht, fun p => ?_⟩
    have hp := p.isLt
    rw [hg, h.val]
    show Scalar.select (IntOp.cmpi CmpIPredicate.eq (BitVec.ofNat 32 (if a + p.val ∈ b :: l then a + p.val else 16384)) (BitVec.ofNat 32 b)) 16384#32 _
      = BitVec.ofNat 32 (if a + p.val ∈ l then a + p.val else 16384)
    by_cases e : a + p.val = b
    · have hn : ¬a + p.val ∈ l := fun hm => by have := hs _ hm; omega
      rw [if_pos (e ▸ List.mem_cons_self ..), if_neg hn, eq_small (by omega) (by omega), if_pos e]
      rfl
    · by_cases hm : a + p.val ∈ l
      · rw [if_pos (List.mem_cons_of_mem _ hm), if_pos hm, eq_small (by omega) (by omega), if_neg e]
        rfl
      · have hn : ¬a + p.val ∈ b :: l := fun hc => (List.mem_cons.1 hc).elim e hm
        rw [if_neg hn, if_neg hm, eq_small le_rfl (by omega), if_neg (by omega)]
        rfl

theorem nth_tail (L : List Nat) (k : Nat) : nth L.tail k = nth L (k + 1) := by
  unfold nth
  match L with
  | [] => rfl
  | _ :: _ => rfl

theorem picks_append (ok : Nat → Bool) (n : Nat) : picks ok 0 n ++ picks ok n 2048 = picks ok 0 (n + 2048) := by
  unfold picks
  have e : List.range' 0 n ++ List.range' n 2048 = List.range' 0 (n + 2048) := by
    have := List.range'_append_1 (s := 0) (m := n) (n := 2048)
    rwa [Nat.zero_add] at this
  rw [← List.filter_append, e]

theorem picks_lt (ok : Nat → Bool) (n : Nat) (hn : n ≤ 16384) : ∀ x ∈ picks ok 0 n, x < 16384 := fun x hx => by
  have := List.mem_range'_1.1 (List.mem_filter.1 hx).1
  omega

/-- Whether a list has an entry `k`. -/
def has (P : List Nat) (k : Nat) : BitVec 1 := IntOp.cmpi CmpIPredicate.slt (nth P k) 16384#32

theorem has_eq (P : List Nat) (hP : ∀ x ∈ P, x < 16384) (k : Nat) : has P k = if k < P.length then 1#1 else 0#1 := by
  unfold has nth
  by_cases h : k < P.length
  · have hx := hP _ (List.getElem_mem h)
    rw [getD_in _ _ h]
    exact (slt_small (by omega) le_rfl).trans (by rw [if_pos hx, if_pos h])
  · rw [getD_out _ _ (by omega)]
    exact (slt_small le_rfl le_rfl).trans (by rw [if_neg (by omega), if_neg h])

theorem join0 (P M : List Nat) (hP : ∀ x ∈ P, x < 16384) : Scalar.select (has P 0) (nth P 0) (nth M 0) = nth (P ++ M) 0 := by
  rw [has_eq P hP]
  rcases P with _ | ⟨a, P⟩ <;> rfl

theorem join1 (P M : List Nat) (hP : ∀ x ∈ P, x < 16384) :
    Scalar.select (has P 1) (nth P 1) (Scalar.select (has P 0) (nth M 0) (nth M 1)) = nth (P ++ M) 1 := by
  rw [has_eq P hP, has_eq P hP]
  rcases P with _ | ⟨a, _ | ⟨b, P⟩⟩
  · rfl
  · rfl
  · rw [if_pos (by simp)]; rfl

theorem join2 (P M : List Nat) (hP : ∀ x ∈ P, x < 16384) :
    Scalar.select (has P 2) (nth P 2) (Scalar.select (has P 1) (nth M 0) (Scalar.select (has P 0) (nth M 1) (nth M 2))) = nth (P ++ M) 2 := by
  rw [has_eq P hP, has_eq P hP, has_eq P hP]
  rcases P with _ | ⟨a, _ | ⟨b, _ | ⟨c, P⟩⟩⟩
  · rfl
  · rfl
  · rfl
  · rw [if_pos (by simp)]; rfl

theorem join3 (P M : List Nat) (hP : ∀ x ∈ P, x < 16384) :
    Scalar.select (has P 3) (nth P 3) (Scalar.select (has P 2) (nth M 0) (Scalar.select (has P 1) (nth M 1) (Scalar.select (has P 0) (nth M 2) (nth M 3))))
      = nth (P ++ M) 3 := by
  rw [has_eq P hP, has_eq P hP, has_eq P hP, has_eq P hP]
  rcases P with _ | ⟨a, _ | ⟨b, _ | ⟨c, _ | ⟨d, P⟩⟩⟩⟩
  · rfl
  · rfl
  · rfl
  · rfl
  · rw [if_pos (by simp)]; rfl

/-- A sort of the pixels, those that do not qualify replaced by one past the last, has the list's entries in front. -/
theorem sorted_nth (ok : Nat → Bool) (f : Fin 16384 → BitVec 32) (hf : ∀ p, f p = BitVec.ofNat 32 (if ok p.val then p.val else 16384)) (k : Fin 16384) :
    f (sortedFrom (fun a b => IntOp.cmpi CmpIPredicate.slt (f a) (f b) == 1#1) k) = nth (picks ok 0 16384) k.val := by
  have hlt : ∀ a b, (IntOp.cmpi CmpIPredicate.slt (f a) (f b) == 1#1) = decide ((f a).toInt < (f b).toInt) := fun a b => by
    show (BitVec.ofBool (BitVec.slt (f a) (f b)) == 1#1) = _
    rw [BitVec.slt_eq_decide]
    by_cases h : (f a).toInt < (f b).toInt
    · rw [decide_eq_true h]; rfl
    · rw [decide_eq_false h]; rfl
  generalize hB : (fun a b => IntOp.cmpi CmpIPredicate.slt (f a) (f b) == 1#1) = B
  have hB' : ∀ a b, B a b = decide ((f a).toInt < (f b).toInt) := fun a b => by rw [← hB]; exact hlt a b
  let g : Nat → BitVec 32 := fun x => BitVec.ofNat 32 (if ok x then x else 16384)
  let T : List (BitVec 32) := (picks ok 0 16384).map (BitVec.ofNat 32) ++ ((List.range' 0 16384).filter fun x => !ok x).map fun _ => 16384#32
  have hT : T = ((List.range' 0 16384).filter ok ++ (List.range' 0 16384).filter fun x => !ok x).map g := by
    rw [List.map_append]
    refine congrArg₂ (· ++ ·) (List.map_congr_left fun x hx => ?_) (List.map_congr_left fun x hx => ?_)
    · have := (List.mem_filter.1 hx).2
      show _ = BitVec.ofNat 32 _
      rw [if_pos this]
    · have := (List.mem_filter.1 hx).2
      show _ = BitVec.ofNat 32 _
      rw [if_neg (by simpa using this)]
  have hperm : ((sortPositions 16384 B).map f).Perm T := by
    refine ((perm_sortPositions 16384 B).map f).trans ?_
    rw [hT]
    refine List.Perm.trans (List.Perm.of_eq ?_) ((List.filter_append_perm ok (List.range' 0 16384)).map g).symm
    rw [← List.range_eq_range', ← List.map_coe_finRange_eq_range, List.map_map]
    exact List.map_congr_left fun p _ => hf p
  have hs1 : ((sortPositions 16384 B).map f).Pairwise (fun x y => x.toInt ≤ y.toInt) := by
    rw [List.pairwise_map]
    refine (pairwise_stableSort B B (fun a b h => ?_) (fun a b h => h) (fun a b c h1 h2 => ?_) (List.finRange 16384)).imp fun {a b} h => ?_
    · rw [hB'] at h ⊢
      have := of_decide_eq_true h
      exact decide_eq_false (by omega)
    · rw [hB'] at h1 h2 ⊢
      have := of_decide_eq_false h1
      have := of_decide_eq_false h2
      exact decide_eq_false (by omega)
    · rw [hB'] at h
      have := of_decide_eq_false h
      omega
  have hs2 : T.Pairwise (fun x y => x.toInt ≤ y.toInt) := by
    refine List.pairwise_append.2 ⟨?_, ?_, ?_⟩
    · rw [List.pairwise_map]
      have hp : (picks ok 0 16384).Pairwise (· < ·) := (List.pairwise_lt_range' (s := 0) (n := 16384)).filter _
      refine hp.imp_of_mem fun {a b} ha hb h => ?_
      have := picks_lt ok 16384 le_rfl a ha
      have := picks_lt ok 16384 le_rfl b hb
      rw [toInt_small (by omega), toInt_small (by omega)]
      omega
    · rw [List.pairwise_map]
      exact List.pairwise_of_forall fun _ _ => le_rfl
    · intro x hx y hy
      obtain ⟨a, ha, rfl⟩ := List.mem_map.1 hx
      obtain ⟨_, _, rfl⟩ := List.mem_map.1 hy
      have := picks_lt ok 16384 le_rfl a ha
      have e : (16384#32 : BitVec 32).toInt = 16384 := by decide
      rw [toInt_small (by omega), e]
      omega
  have heq : (sortPositions 16384 B).map f = T :=
    hperm.eq_of_pairwise (fun a b _ _ h1 h2 => BitVec.eq_of_toInt_eq (le_antisymm h1 h2)) hs1 hs2
  have hlen : T.length = 16384 := by rw [← heq, List.length_map, length_sortPositions]
  have hk : f (sortedFrom B k) = T[k.val]'(by rw [hlen]; exact k.isLt) := by
    unfold sortedFrom
    simp only [← heq, List.getElem_map]
    rfl
  rw [hk]
  unfold nth
  by_cases h : k.val < (picks ok 0 16384).length
  · rw [List.getElem_append_left (by rw [List.length_map]; exact h), List.getElem_map, getD_in _ _ h]
  · rw [List.getElem_append_right (by rw [List.length_map]; omega), List.getElem_map, getD_out _ _ (by omega)]

/-- A sort along the last of three axes. -/
theorem sort_last {a b n : Nat} (cmp : BitVec 32 → BitVec 32 → BitVec 1) (x : (⟨3, ![a, b, n]⟩ : Shape).Idx → BitVec 32) (j : Fin a) (r : Fin b) (q : Fin n) :
    Host.sort ⟨3, ![a, b, n]⟩ 2 cmp x (ix3 j r q) = x (ix3 j r (sortedFrom (fun k k' => cmp (x (ix3 j r k)) (x (ix3 j r k')) == 1#1) q)) := by
  have e : ∀ k : Fin n, Shape.Idx.along (s := ⟨3, ![a, b, n]⟩) (ix3 j r q) 2 k = ix3 j r k := fun k => by
    funext d
    match d with
    | ⟨0, _⟩ => rfl
    | ⟨1, _⟩ => rfl
    | ⟨2, _⟩ => rfl
  have hc : (fun k k' : Fin n => cmp (x (Shape.Idx.along (s := ⟨3, ![a, b, n]⟩) (ix3 j r q) 2 k)) (x (Shape.Idx.along (s := ⟨3, ![a, b, n]⟩) (ix3 j r q) 2 k')) == 1#1)
      = fun k k' => cmp (x (ix3 j r k)) (x (ix3 j r k')) == 1#1 := by
    funext k k'
    rw [e, e]
  exact (congrArg x (e _)).trans (congrArg (fun B : Fin n → Fin n → Bool => x (ix3 j r (sortedFrom B q))) hc)

end Cert.Sampler
-- ==== Proof.Sampler.SelectBig.lean ====
/- The candidate call at count 175: what it accumulates over its grid, and what it leaves. -/
module

public import proofs.«01_k».proof.Proof.Gen.SelectBig.Value
public import proofs.«01_k».proof.Proof.Sampler.Least
public import proofs.«01_k».proof.Proof.Sampler.Groups
public import Idealize.ShloMosaic.Lib.Pipeline.ValueKit

@[expose] public section

noncomputable section

namespace Cert.SelectBig.Value

open Idealize.ShloMosaic Idealize.ShloMosaic.TcCoe Cert.SelectBig Cert.SelectBig.Gen Cert.Sampler

variable (m : (ℓ : Loc nD τ sig) → Buf (Elt Bits) ℓ)

theorem N0 : cfg0.N = 1216 := by decide +kernel

/-- Point `t` handles group `t / 8`, -/
def grp (t : Fin cfg0.N) : Fin 152 := ⟨t.val / 8, by have := lt_of_lt_of_eq t.isLt N0; omega⟩
/-- and chunk `t % 8` of the pixels. -/
def px (t : Fin cfg0.N) (p : Fin 2048) : Fin 16384 := ⟨t.val % 8 * 2048 + p.val, by omega⟩

theorem coords0 : ∀ t : Fin cfg0.N, (grid0.coords t 0).val = t.val / 8 :=
  (by decide +kernel : ∀ t : Fin grid0.N, _)
theorem word0 : ∀ t : Fin cfg0.N, Scalar.muli (BitVec.ofNat 32 (grid0.coords t 1).val) 2048#32 = BitVec.ofNat 32 (t.val % 8 * 2048) :=
  (by decide +kernel : ∀ t : Fin grid0.N, _)
theorem off0 : ∀ t : Fin cfg0.N, k0_off1 (grid0.coords t) = ![0, 0, t.val % 8 * 2048] :=
  (by decide +kernel : ∀ t : Fin grid0.N, _)
theorem idx0_0 : ∀ t : Fin cfg0.N, win0_0.index t = ![t.val / 8, 0, t.val % 8] :=
  (by decide +kernel : ∀ t : Fin grid0.N, _)
theorem idx0_1 : ∀ t : Fin cfg0.N, win0_1.index t = ![t.val / 8 / 2 % 4, 0, 0] :=
  (by decide +kernel : ∀ t : Fin grid0.N, _)
theorem idx0_2 : ∀ t : Fin cfg0.N, win0_2.index t = ![t.val / 8 / 2 % 4, 0, 0] :=
  (by decide +kernel : ∀ t : Fin grid0.N, _)

theorem idx0_3 : ∀ t : Fin cfg0.N, win0_3.index t = ![t.val / 8, 0, 0] :=
  (by decide +kernel : ∀ t : Fin grid0.N, _)
theorem idx0_4 : ∀ t : Fin cfg0.N, win0_4.index t = ![t.val / 8, 0, 0] :=
  (by decide +kernel : ∀ t : Fin grid0.N, _)

theorem block0 (c : Dev nD) (t : Fin cfg0.N) (r : Fin 175) (p : Fin 2048) :
    (iblk m c 0 t : S1x175x2048.Idx → BitVec 32) (ix3 0 r p) = (V m c main_arg0 : S152x175x16384.Idx → BitVec 32) (ix3 (grp t) r (px t p)) := by
  refine congrArg (V m c main_arg0) (?_ : ((win0_0.blk t).view.emb (ix3 (0 : Fin 1) r p : S1x175x2048.Idx) : S152x175x16384.Idx) = _)
  unfold grp px
  blk_ext [idx0_0]

theorem block1 (c : Dev nD) (t : Fin cfg0.N) (p : Fin 16384) :
    (iblk m c 1 t : S1x1x16384.Idx → BitVec 32) (ix3 0 0 p) = (V m c main_arg1 : S4x1x16384.Idx → BitVec 32) (ix3 (image (grp t)) 0 p) := by
  refine congrArg (V m c main_arg1) (?_ : ((win0_1.blk t).view.emb (ix3 (0 : Fin 1) (0 : Fin 1) p : S1x1x16384.Idx) : S4x1x16384.Idx) = _)
  unfold image grp
  blk_ext [idx0_1]

theorem block2 (c : Dev nD) (t : Fin cfg0.N) (p : Fin 16384) :
    (iblk m c 2 t : S1x1x16384.Idx → BitVec 32) (ix3 0 0 p) = (V m c main_arg2 : S4x1x16384.Idx → BitVec 32) (ix3 (image (grp t)) 0 p) := by
  refine congrArg (V m c main_arg2) (?_ : ((win0_2.blk t).view.emb (ix3 (0 : Fin 1) (0 : Fin 1) p : S1x1x16384.Idx) : S4x1x16384.Idx) = _)
  unfold image grp
  blk_ext [idx0_2]

theorem block3 (c : Dev nD) (t : Fin cfg0.N) (r : Fin 175) :
    (iblk m c 3 t : S1x175x1.Idx → BitVec 32) (ix3 0 r 0) = (V m c main_arg3 : S152x175x1.Idx → BitVec 32) (ix3 (grp t) r 0) := by
  refine congrArg (V m c main_arg3) (?_ : ((win0_3.blk t).view.emb (ix3 (0 : Fin 1) r (0 : Fin 1) : S1x175x1.Idx) : S152x175x1.Idx) = _)
  unfold grp
  blk_ext [idx0_3]

theorem block4 (c : Dev nD) (t : Fin cfg0.N) (r : Fin 175) :
    (iblk m c 4 t : S1x175x1.Idx → BitVec 32) (ix3 0 r 0) = (V m c main_arg4 : S152x175x1.Idx → BitVec 32) (ix3 (grp t) r 0) := by
  refine congrArg (V m c main_arg4) (?_ : ((win0_4.blk t).view.emb (ix3 (0 : Fin 1) r (0 : Fin 1) : S1x175x1.Idx) : S152x175x1.Idx) = _)
  unfold grp
  blk_ext [idx0_4]

/-- The 2048 pixels a point reads of a whole image. -/
def cut (t : Fin cfg0.N) (x : S1x1x16384.Idx → BitVec 32) : S1x1x2048.Idx → BitVec 32 :=
  View.ld (Val := Elt Bits) (S := S1x1x16384) (e' := .i32) x (Rect.unit (k0_off1 (grid0.coords t)) ![1, 1, 2048] (k0_off1_inb (grid0.coords t)))

theorem cut_apply (t : Fin cfg0.N) (x : S1x1x16384.Idx → BitVec 32) (p : Fin 2048) : cut t x (ix3 0 0 p) = x (ix3 0 0 (px t p)) := by
  pointwise [cut]
  refine congrArg x (funext fun a => ?_)
  match a with
  | ⟨0, _⟩ => exact Fin.ext (congrFun (off0 t) 0)
  | ⟨1, _⟩ => exact Fin.ext (congrFun (off0 t) 1)
  | ⟨2, _⟩ => exact Fin.ext (congrArg (· + p.val) (congrFun (off0 t) 2))

/-- The pixels a point finds that may be drawn, -/
def idx (c : Dev nD) (t : Fin cfg0.N) : IVec S175x2048 32 :=
  k0_pay22 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 1 t)) (cut t (iblk m c 2 t))) (constantI S1x2048 1 1#1) (iblk m c 0 t) (iblk m c 4 t) (iblk m c 3 t)

/-- and its four least. -/
def m0 (c : Dev nD) (t : Fin cfg0.N) : IVec S175x1 32 :=
  k0_pay23 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 1 t)) (cut t (iblk m c 2 t))) (constantI S1x2048 1 1#1) (iblk m c 0 t) (iblk m c 4 t) (iblk m c 3 t)

def idx1 (c : Dev nD) (t : Fin cfg0.N) : IVec S175x2048 32 :=
  k0_pay24 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 1 t)) (cut t (iblk m c 2 t))) (constantI S1x2048 1 1#1) (iblk m c 0 t) (iblk m c 4 t) (iblk m c 3 t)

def m1 (c : Dev nD) (t : Fin cfg0.N) : IVec S175x1 32 :=
  k0_pay25 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 1 t)) (cut t (iblk m c 2 t))) (constantI S1x2048 1 1#1) (iblk m c 0 t) (iblk m c 4 t) (iblk m c 3 t)

def eq1 (c : Dev nD) (t : Fin cfg0.N) : IVec S175x2048 1 :=
  k0_pay26 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 1 t)) (cut t (iblk m c 2 t))) (constantI S1x2048 1 1#1) (iblk m c 0 t) (iblk m c 4 t) (iblk m c 3 t)

def m2 (c : Dev nD) (t : Fin cfg0.N) : IVec S175x1 32 := k0_pay2 (idx1 m c t) (eq1 m c t) k0_pay27

def m3 (c : Dev nD) (t : Fin cfg0.N) : IVec S175x1 32 := k0_pay3 (idx1 m c t) (eq1 m c t) k0_pay27

/-- The four least pixels carried after a point. -/
def s0 (c : Dev nD) (t : Fin cfg0.N) : IVec S175x1 32 := (outsAt0 m c t.val t.isLt).2.2.2.2.1
def s1 (c : Dev nD) (t : Fin cfg0.N) : IVec S175x1 32 := (outsAt0 m c t.val t.isLt).2.2.2.2.2.1
def s2 (c : Dev nD) (t : Fin cfg0.N) : IVec S175x1 32 := (outsAt0 m c t.val t.isLt).2.2.2.2.2.2.1
def s3 (c : Dev nD) (t : Fin cfg0.N) : IVec S175x1 32 := (outsAt0 m c t.val t.isLt).2.2.2.2.2.2.2

def prev (t : Fin cfg0.N) : Fin cfg0.N := ⟨t.val - 1, Nat.lt_of_le_of_lt (Nat.sub_le _ _) t.isLt⟩

theorem same_shape (x : IVec S175x1 32) : shapeCast S175x1 x shapeCasts_S175x1_S175x1 = x := by
  funext i
  obtain ⟨a, b, rfl⟩ : ∃ (a : Fin 175) (b : Fin 1), i = ix2 a b := ⟨i 0, i 1, eq_ix2 i⟩
  pointwise

theorem carried0_first (c : Dev nD) (t : Fin cfg0.N) (h : t.val % 8 = 0) : s0 m c t = m0 m c t := by
  unfold s0
  rw [outsAt0_A m c t h (by omega) (by omega)]
  frame_out
  exact same_shape _

theorem carried1_first (c : Dev nD) (t : Fin cfg0.N) (h : t.val % 8 = 0) : s1 m c t = m1 m c t := by
  unfold s1
  rw [outsAt0_A m c t h (by omega) (by omega)]
  frame_out
  exact same_shape _

theorem carried2_first (c : Dev nD) (t : Fin cfg0.N) (h : t.val % 8 = 0) : s2 m c t = m2 m c t := by
  unfold s2
  rw [outsAt0_A m c t h (by omega) (by omega)]
  frame_out
  exact same_shape _

theorem carried3_first (c : Dev nD) (t : Fin cfg0.N) (h : t.val % 8 = 0) : s3 m c t = m3 m c t := by
  unfold s3
  rw [outsAt0_A m c t h (by omega) (by omega)]
  frame_out
  exact same_shape _

theorem carried0_next (c : Dev nD) (t : Fin cfg0.N) (h : ¬t.val % 8 = 0) : s0 m c t = k0_pay14 (F := Bits) (m0 m c t) (s0 m c (prev t)) := by
  unfold s0
  by_cases h2 : t.val % 8 = 7
  · rw [outsAt0_C m c t h (by omega) h2]
    frame_out
    exact congrArg (fun a => k0_pay14 (F := Bits) (m0 m c t) a) ((Memref.isWhole_whole _).read_unread _)
  · rw [outsAt0_B m c t h (by omega) h2]
    frame_out
    exact congrArg (fun a => k0_pay14 (F := Bits) (m0 m c t) a) ((Memref.isWhole_whole _).read_unread _)

theorem carried1_next (c : Dev nD) (t : Fin cfg0.N) (h : ¬t.val % 8 = 0) : s1 m c t = k0_pay11 (F := Bits) (m0 m c t) (m1 m c t) (s0 m c (prev t)) (s1 m c (prev t)) := by
  unfold s1
  by_cases h2 : t.val % 8 = 7
  · rw [outsAt0_C m c t h (by omega) h2]
    frame_out
    exact congr (congrArg (fun a b => k0_pay11 (F := Bits) (m0 m c t) (m1 m c t) a b) ((Memref.isWhole_whole _).read_unread _)) ((Memref.isWhole_whole _).read_unread _)
  · rw [outsAt0_B m c t h (by omega) h2]
    frame_out
    exact congr (congrArg (fun a b => k0_pay11 (F := Bits) (m0 m c t) (m1 m c t) a b) ((Memref.isWhole_whole _).read_unread _)) ((Memref.isWhole_whole _).read_unread _)

theorem carried2_next (c : Dev nD) (t : Fin cfg0.N) (h : ¬t.val % 8 = 0) : s2 m c t = k0_pay12 (F := Bits) (m0 m c t) (idx1 m c t) (m1 m c t) (eq1 m c t) k0_pay27 (s0 m c (prev t)) (s1 m c (prev t)) (s2 m c (prev t)) := by
  unfold s2
  by_cases h2 : t.val % 8 = 7
  · rw [outsAt0_C m c t h (by omega) h2]
    frame_out
    exact congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _)
  · rw [outsAt0_B m c t h (by omega) h2]
    frame_out
    exact congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _)

theorem carried3_next (c : Dev nD) (t : Fin cfg0.N) (h : ¬t.val % 8 = 0) : s3 m c t = k0_pay13 (F := Bits) (m0 m c t) (idx1 m c t) (m1 m c t) (eq1 m c t) k0_pay27 (s0 m c (prev t)) (s1 m c (prev t)) (s2 m c (prev t)) (s3 m c (prev t)) := by
  unfold s3
  by_cases h2 : t.val % 8 = 7
  · rw [outsAt0_C m c t h (by omega) h2]
    frame_out
    exact congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _)
  · rw [outsAt0_B m c t h (by omega) h2]
    frame_out
    exact congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _)

theorem out0_last (c : Dev nD) (t : Fin cfg0.N) (h : t.val % 8 = 7) : (outsAt0 m c t.val t.isLt).1 = k0_pay15 (F := Bits) (s0 m c t) := by
  rw [carried0_next m c t (by omega), outsAt0_C m c t (by omega) (by omega) h]
  frame_out
  exact congrArg (k0_pay15 (F := Bits)) (congrArg (fun a => k0_pay14 (F := Bits) (m0 m c t) a) ((Memref.isWhole_whole _).read_unread _))

theorem out1_last (c : Dev nD) (t : Fin cfg0.N) (h : t.val % 8 = 7) : (outsAt0 m c t.val t.isLt).2.1 = k0_pay16 (F := Bits) (s1 m c t) := by
  rw [carried1_next m c t (by omega), outsAt0_C m c t (by omega) (by omega) h]
  frame_out
  exact congrArg (k0_pay16 (F := Bits)) (congr (congrArg (fun a b => k0_pay11 (F := Bits) (m0 m c t) (m1 m c t) a b) ((Memref.isWhole_whole _).read_unread _)) ((Memref.isWhole_whole _).read_unread _))

theorem out2_last (c : Dev nD) (t : Fin cfg0.N) (h : t.val % 8 = 7) : (outsAt0 m c t.val t.isLt).2.2.1 = k0_pay17 (F := Bits) (s2 m c t) := by
  rw [carried2_next m c t (by omega), outsAt0_C m c t (by omega) (by omega) h]
  frame_out
  exact congrArg (k0_pay17 (F := Bits)) (congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _))

theorem out3_last (c : Dev nD) (t : Fin cfg0.N) (h : t.val % 8 = 7) : (outsAt0 m c t.val t.isLt).2.2.2.1 = k0_pay18 (F := Bits) (s3 m c t) := by
  rw [carried3_next m c t (by omega), outsAt0_C m c t (by omega) (by omega) h]
  frame_out
  exact congrArg (k0_pay18 (F := Bits)) (congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _))

theorem pe_apply (t : Fin cfg0.N) (P : S1x1x16384.Idx → BitVec 32) (p : Fin 2048) :
    k0_pay19 (F := Bits) (grid0.coords t) (cut t P) (ix2 0 p) = same ((grp t).val / 8) (P (ix3 0 0 (px t p))) := by
  pointwise [k0_pay19]
  rw [cut_apply, coords0]
  exact congrArg (IntOp.cmpi CmpIPredicate.eq _) (classWord_eq (grp t))

theorem le_apply (t : Fin cfg0.N) (L : S1x1x16384.Idx → BitVec 32) (p : Fin 2048) :
    k0_pay20 (F := Bits) (grid0.coords t) (cut t L) (ix2 0 p) = same ((grp t).val / 8) (L (ix3 0 0 (px t p))) := by
  pointwise [k0_pay20]
  rw [cut_apply, coords0]
  exact congrArg (IntOp.cmpi CmpIPredicate.eq _) (classWord_eq (grp t))

theorem first_apply (t : Fin cfg0.N) (P L : S1x1x16384.Idx → BitVec 32) (p : Fin 2048) :
    k0_pay21 (F := Bits) (grid0.coords t) (cut t P) (cut t L) (ix2 0 p)
      = IntOp.andi (same ((grp t).val / 8) (P (ix3 0 0 (px t p)))) (same ((grp t).val / 8) (L (ix3 0 0 (px t p)))) := by
  pointwise [k0_pay21]
  rw [pe_apply, le_apply]

theorem idx_apply (c : Dev nD) (t : Fin cfg0.N) (r : Fin 175) (q : Fin 2048) :
    idx m c t (ix2 r q) = BitVec.ofNat 32 (if drawable bigRow (V m c main_arg0) (V m c main_arg1) (V m c main_arg2) (V m c main_arg3) (V m c main_arg4) (grp t) r (t.val % 8 * 2048 + q.val)
      then t.val % 8 * 2048 + q.val else 16384) := by
  unfold drawable
  rw [dif_pos (show t.val % 8 * 2048 + q.val < 16384 from (px t q).isLt), ← select_word]
  unfold idx
  pointwise [k0_pay22]
  rw [pe_apply, le_apply, first_apply, word0, coords0]
  have w : IntOp.addi (BitVec.ofNat 32 q.val) (BitVec.ofNat 32 (t.val % 8 * 2048)) = BitVec.ofNat 32 (t.val % 8 * 2048 + q.val) := by
    rw [Nat.add_comm, BitVec.ofNat_add]; rfl
  have hm := mask_eq (grp t) (IntOp.andi (same ((grp t).val / 8) (iblk m c 1 t (ix3 0 0 (px t q)))) (same ((grp t).val / 8) (iblk m c 2 t (ix3 0 0 (px t q)))))
    (IntOp.andi (IntOp.xori (same ((grp t).val / 8) (iblk m c 1 t (ix3 0 0 (px t q)))) 1#1) (IntOp.xori (same ((grp t).val / 8) (iblk m c 2 t (ix3 0 0 (px t q)))) 1#1))
  rw [w]
  refine congrArg (fun b => Scalar.select b _ _) ?_
  unfold mayDraw anyKey key
  refine congr (congrArg IntOp.andi (congr (congrArg IntOp.ori (hm.trans ?_)) ?_)) ?_
  · unfold within bigRow
    rw [block1, block2]
    rfl
  · rw [block4]
  · rw [block0, block3]
    rfl

/-- What may be drawn, of the group point `t` handles. -/
def may (c : Dev nD) (t : Fin cfg0.N) (r : Fin 175) : Nat → Bool :=
  drawable bigRow (V m c main_arg0) (V m c main_arg1) (V m c main_arg2) (V m c main_arg3) (V m c main_arg4) (grp t) r

def chunk (c : Dev nD) (t : Fin cfg0.N) (r : Fin 175) : List Nat := picks (may m c t r) (t.val % 8 * 2048) 2048

theorem idx_shows (c : Dev nD) (t : Fin cfg0.N) (r : Fin 175) : Shows (fun q => idx m c t (ix2 r q)) (t.val % 8 * 2048) (chunk m c t r) :=
  shows_picks (by omega) (idx_apply m c t r)

theorem m0_eq (c : Dev nD) (t : Fin cfg0.N) (r : Fin 175) : m0 m c t (ix2 r 0) = nth (chunk m c t r) 0 := by
  unfold m0
  pointwise [k0_pay23]
  exact (idx_shows m c t r).min

theorem idx1_shows (c : Dev nD) (t : Fin cfg0.N) (r : Fin 175) : Shows (fun q => idx1 m c t (ix2 r q)) (t.val % 8 * 2048) (chunk m c t r).tail :=
  (idx_shows m c t r).next fun q => by
    rw [← m0_eq]
    unfold idx1
    pointwise [k0_pay24]
    rfl

theorem m1_eq (c : Dev nD) (t : Fin cfg0.N) (r : Fin 175) : m1 m c t (ix2 r 0) = nth (chunk m c t r) 1 := by
  rw [← nth_tail, ← (idx1_shows m c t r).min]
  unfold m1
  pointwise [k0_pay25]
  rfl

theorem idx2_shows (c : Dev nD) (t : Fin cfg0.N) (r : Fin 175) :
    Shows (fun q => k0_pay1 (idx1 m c t) (eq1 m c t) k0_pay27 (ix2 r q)) (t.val % 8 * 2048) (chunk m c t r).tail.tail :=
  (idx1_shows m c t r).next fun q => by
    rw [nth_tail, ← m1_eq]
    unfold eq1
    pointwise [k0_pay1, k0_pay26, k0_pay27]
    rfl

theorem m2_eq (c : Dev nD) (t : Fin cfg0.N) (r : Fin 175) : m2 m c t (ix2 r 0) = nth (chunk m c t r) 2 := by
  rw [← nth_tail, ← nth_tail, ← (idx2_shows m c t r).min]
  unfold m2
  pointwise [k0_pay2]

theorem m3_eq (c : Dev nD) (t : Fin cfg0.N) (r : Fin 175) : m3 m c t (ix2 r 0) = nth (chunk m c t r) 3 := by
  have h : Shows (fun q => Scalar.select (IntOp.cmpi CmpIPredicate.eq (k0_pay1 (idx1 m c t) (eq1 m c t) k0_pay27 (ix2 r q)) (m2 m c t (ix2 r 0))) 16384#32
      (k0_pay1 (idx1 m c t) (eq1 m c t) k0_pay27 (ix2 r q))) (t.val % 8 * 2048) (chunk m c t r).tail.tail.tail :=
    (idx2_shows m c t r).next fun q => by rw [nth_tail, nth_tail, ← m2_eq]
  rw [← nth_tail, ← nth_tail, ← nth_tail, ← h.min]
  unfold m3 m2
  pointwise [k0_pay3]

/-- The pixels up to the end of point `t`'s chunk. -/
def upTo (c : Dev nD) (t : Fin cfg0.N) (r : Fin 175) : List Nat := picks (may m c t r) 0 (t.val % 8 * 2048 + 2048)

theorem upTo_first (c : Dev nD) (t : Fin cfg0.N) (r : Fin 175) (h : t.val % 8 = 0) : upTo m c t r = chunk m c t r := by
  unfold upTo chunk
  rw [h]

theorem upTo_next (c : Dev nD) (t : Fin cfg0.N) (r : Fin 175) (h : ¬t.val % 8 = 0) : upTo m c t r = upTo m c (prev t) r ++ chunk m c t r := by
  have e : grp (prev t) = grp t := Fin.ext (by show (t.val - 1) / 8 = t.val / 8; omega)
  have e' : may m c (prev t) r = may m c t r := by unfold may; rw [e]
  have n : (prev t).val % 8 * 2048 + 2048 = t.val % 8 * 2048 := by show (t.val - 1) % 8 * 2048 + 2048 = _; omega
  unfold upTo chunk
  rw [e', n]
  exact (picks_append _ _).symm

theorem upTo_lt (c : Dev nD) (t : Fin cfg0.N) (r : Fin 175) : ∀ x ∈ upTo m c t r, x < 16384 := picks_lt _ _ (by omega)

/-- The carried pixels are the least so far. -/
theorem carried_nth (c : Dev nD) (r : Fin 175) : ∀ (n : Nat) (hn : n < cfg0.N),
    s0 m c ⟨n, hn⟩ (ix2 r 0) = nth (upTo m c ⟨n, hn⟩ r) 0 ∧ s1 m c ⟨n, hn⟩ (ix2 r 0) = nth (upTo m c ⟨n, hn⟩ r) 1
      ∧ s2 m c ⟨n, hn⟩ (ix2 r 0) = nth (upTo m c ⟨n, hn⟩ r) 2 ∧ s3 m c ⟨n, hn⟩ (ix2 r 0) = nth (upTo m c ⟨n, hn⟩ r) 3 := by
  intro n
  induction n with
  | zero =>
    intro hn
    rw [carried0_first m c _ rfl, carried1_first m c _ rfl, carried2_first m c _ rfl, carried3_first m c _ rfl, upTo_first m c _ r rfl]
    exact ⟨m0_eq m c _ r, m1_eq m c _ r, m2_eq m c _ r, m3_eq m c _ r⟩
  | succ n ih =>
    intro hn
    generalize ht : (⟨n + 1, hn⟩ : Fin cfg0.N) = t
    have hv : t.val = n + 1 := by rw [← ht]
    by_cases h : t.val % 8 = 0
    · rw [carried0_first m c _ h, carried1_first m c _ h, carried2_first m c _ h, carried3_first m c _ h, upTo_first m c _ r h]
      exact ⟨m0_eq m c _ r, m1_eq m c _ r, m2_eq m c _ r, m3_eq m c _ r⟩
    · have hp : (⟨n, by omega⟩ : Fin cfg0.N) = prev t := Fin.ext (by show n = t.val - 1; omega)
      obtain ⟨h0, h1, h2, h3⟩ := ih (by omega)
      rw [hp] at h0 h1 h2 h3
      have hl := upTo_lt m c (prev t) r
      rw [carried0_next m c _ h, carried1_next m c _ h, carried2_next m c _ h, carried3_next m c _ h, upTo_next m c _ r h,
        ← join0 _ _ hl, ← join1 _ _ hl, ← join2 _ _ hl, ← join3 _ _ hl, has, has, has, has, ← h0, ← h1, ← h2, ← h3,
        ← m0_eq, ← m1_eq, ← m2_eq, ← m3_eq]
      refine ⟨?_, ?_, ?_, ?_⟩
      · pointwise [k0_pay14, k0_pay8]
      · pointwise [k0_pay11, k0_pay8, k0_pay9]
      · pointwise [k0_pay12, k0_pay8, k0_pay9, k0_pay10]
        rfl
      · pointwise [k0_pay13, k0_pay8, k0_pay9, k0_pay10]
        rfl

theorem pt_lt (j : Fin 152) : 8 * j.val + 7 < cfg0.N := by rw [N0]; omega

/-- All the pixels of a group that may be drawn. -/
def all (c : Dev nD) (j : Fin 152) (r : Fin 175) : List Nat :=
  picks (drawable bigRow (V m c main_arg0) (V m c main_arg1) (V m c main_arg2) (V m c main_arg3) (V m c main_arg4) j r) 0 16384

theorem upTo_last (c : Dev nD) (j : Fin 152) (r : Fin 175) : upTo m c ⟨8 * j.val + 7, pt_lt j⟩ r = all m c j r := by
  have e : grp ⟨8 * j.val + 7, pt_lt j⟩ = j := Fin.ext (by show (8 * j.val + 7) / 8 = j.val; omega)
  have n : (8 * j.val + 7) % 8 * 2048 + 2048 = 16384 := by omega
  unfold upTo all may
  rw [e]
  show picks _ 0 ((8 * j.val + 7) % 8 * 2048 + 2048) = _
  rw [n]

theorem final0 (c : Dev nD) (j : Fin 152) (r : Fin 175) : (G5 m c : S152x175x1.Idx → BitVec 32) (ix3 j r 0) = nth (all m c j r) 0 := by
  have e : pt5Of (ix3 j r 0) = 8 * j.val + 7 := by
    show 8 * (1 * (j.val / 1 - 0) + 1 * (r.val / 175 - 0) + 1 * (0 / 1 - 0)) + 7 = 8 * j.val + 7
    omega
  unfold G5
  rw [dif_pos (by rw [e]; exact pt_lt j), fold0_congr m c _ _ (8 * j.val + 7) (by have := pt_lt j; omega) e, ← outsAt0_sweep]
  have e' : loc5Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).1]
  refine (congrFun (out0_last m c ⟨8 * j.val + 7, pt_lt j⟩ (by show (8 * j.val + 7) % 8 = 7; omega)) (ix3 0 r 0)).trans ?_
  pointwise [k0_pay15]

theorem final1 (c : Dev nD) (j : Fin 152) (r : Fin 175) : (G6 m c : S152x175x1.Idx → BitVec 32) (ix3 j r 0) = nth (all m c j r) 1 := by
  have e : pt6Of (ix3 j r 0) = 8 * j.val + 7 := by
    show 8 * (1 * (j.val / 1 - 0) + 1 * (r.val / 175 - 0) + 1 * (0 / 1 - 0)) + 7 = 8 * j.val + 7
    omega
  unfold G6
  rw [dif_pos (by rw [e]; exact pt_lt j), fold0_congr m c _ _ (8 * j.val + 7) (by have := pt_lt j; omega) e, ← outsAt0_sweep]
  have e' : loc6Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.1]
  refine (congrFun (out1_last m c ⟨8 * j.val + 7, pt_lt j⟩ (by show (8 * j.val + 7) % 8 = 7; omega)) (ix3 0 r 0)).trans ?_
  pointwise [k0_pay16]

theorem final2 (c : Dev nD) (j : Fin 152) (r : Fin 175) : (G7 m c : S152x175x1.Idx → BitVec 32) (ix3 j r 0) = nth (all m c j r) 2 := by
  have e : pt7Of (ix3 j r 0) = 8 * j.val + 7 := by
    show 8 * (1 * (j.val / 1 - 0) + 1 * (r.val / 175 - 0) + 1 * (0 / 1 - 0)) + 7 = 8 * j.val + 7
    omega
  unfold G7
  rw [dif_pos (by rw [e]; exact pt_lt j), fold0_congr m c _ _ (8 * j.val + 7) (by have := pt_lt j; omega) e, ← outsAt0_sweep]
  have e' : loc7Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.2.1]
  refine (congrFun (out2_last m c ⟨8 * j.val + 7, pt_lt j⟩ (by show (8 * j.val + 7) % 8 = 7; omega)) (ix3 0 r 0)).trans ?_
  pointwise [k0_pay17]

theorem final3 (c : Dev nD) (j : Fin 152) (r : Fin 175) : (G8 m c : S152x175x1.Idx → BitVec 32) (ix3 j r 0) = nth (all m c j r) 3 := by
  have e : pt8Of (ix3 j r 0) = 8 * j.val + 7 := by
    show 8 * (1 * (j.val / 1 - 0) + 1 * (r.val / 175 - 0) + 1 * (0 / 1 - 0)) + 7 = 8 * j.val + 7
    omega
  unfold G8
  rw [dif_pos (by rw [e]; exact pt_lt j), fold0_congr m c _ _ (8 * j.val + 7) (by have := pt_lt j; omega) e, ← outsAt0_sweep]
  have e' : loc8Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.2.2]
  refine (congrFun (out3_last m c ⟨8 * j.val + 7, pt_lt j⟩ (by show (8 * j.val + 7) % 8 = 7; omega)) (ix3 0 r 0)).trans ?_
  pointwise [k0_pay18]

end Cert.SelectBig.Value
-- ==== Proof.Sampler.SelectBigRef.lean ====
/- The reference of the candidate call at count 175: the first four entries of the sorted pixels. -/
module

public import proofs.«01_k».proof.Proof.Gen.SelectBigRef.Run
public import proofs.«01_k».proof.Proof.Sampler.MaximaBigRef
public import proofs.«01_k».proof.Proof.Sampler.Least

@[expose] public section

noncomputable section

namespace Cert.SelectBigRef.Value

open Idealize.ShloMosaic Idealize.ShloMosaic.TcCoe Cert.SelectBigRef Cert.SelectBigRef.Gen Cert.Sampler
open Cert.MaximaBigRef.Value (rows keys rows_apply keys_apply)

/-- Each pixel if it may be drawn, one past the last otherwise; -/
def marked (X : S152x175x16384.Idx → BitVec 32) (P L : S4x1x16384.Idx → BitVec 32) (K E : S152x175x1.Idx → BitVec 32) : IVec S152x175x16384 32 :=
  select (andi (ori (broadcastInDim S152x175x16384 ![0, 1, 2] bcast_S152x1x16384_S152x175x16384_0_1_2 (rows P L)) (broadcastInDim S152x175x16384 ![0, 1, 2] bcast_S152x175x1_S152x175x16384_0_1_2 (cmpi .sgt E (broadcastInDim S152x175x1 ![] bcast_S_S152x175x1 (constantI S_ 32 0#32))))) (cmpi .sge (keys X) (broadcastInDim S152x175x16384 ![0, 1, 2] bcast_S152x175x1_S152x175x16384_0_1_2 K))) (broadcastInDim S152x175x16384 ![2] bcast_S16384_S152x175x16384_2 (iotaInDim S16384 32 0)) (broadcastInDim S152x175x16384 ![] bcast_S_S152x175x16384 (id (constantI S_ 32 16384#32)))

/-- and those sorted. -/
def ranked (X : S152x175x16384.Idx → BitVec 32) (P L : S4x1x16384.Idx → BitVec 32) (K E : S152x175x1.Idx → BitVec 32) : IVec S152x175x16384 32 :=
  Host.sort S152x175x16384 2 comparator_i32_d2 (marked X P L K E)

theorem marked_apply (X : S152x175x16384.Idx → BitVec 32) (P L : S4x1x16384.Idx → BitVec 32) (K E : S152x175x1.Idx → BitVec 32)
    (j : Fin 152) (r : Fin 175) (p : Fin 16384) :
    marked X P L K E (ix3 j r p) = BitVec.ofNat 32 (if drawable bigRow X P L K E j r p.val then p.val else 16384) := by
  unfold drawable
  rw [dif_pos p.isLt, ← select_word]
  pointwise [marked]
  rw [rows_apply, keys_apply]
  rfl

theorem ranked_apply (X : S152x175x16384.Idx → BitVec 32) (P L : S4x1x16384.Idx → BitVec 32) (K E : S152x175x1.Idx → BitVec 32)
    (j : Fin 152) (r : Fin 175) (q : Fin 16384) :
    ranked X P L K E (ix3 j r q) = nth (picks (drawable bigRow X P L K E j r) 0 16384) q.val := by
  refine Eq.trans ?_ (sorted_nth _ (fun p => marked X P L K E (ix3 j r p)) (marked_apply X P L K E j r) q)
  exact sort_last comparator_i32_d2 (marked X P L K E) j r q

/-- Column `q` of them. -/
def column (X : S152x175x16384.Idx → BitVec 32) (P L : S4x1x16384.Idx → BitVec 32) (K E : S152x175x1.Idx → BitVec 32) : Fin 4 → IVec S152x175x1 32
  | 0 => extractStridedSlice S152x175x1 ![0, 0, 0] (ranked X P L K E) slices_S152x175x16384_S152x175x1_0_0_0
  | 1 => extractStridedSlice S152x175x1 ![0, 0, 1] (ranked X P L K E) slices_S152x175x16384_S152x175x1_0_0_1
  | 2 => extractStridedSlice S152x175x1 ![0, 0, 2] (ranked X P L K E) slices_S152x175x16384_S152x175x1_0_0_2
  | 3 => extractStridedSlice S152x175x1 ![0, 0, 3] (ranked X P L K E) slices_S152x175x16384_S152x175x1_0_0_3

theorem column_apply (X : S152x175x16384.Idx → BitVec 32) (P L : S4x1x16384.Idx → BitVec 32) (K E : S152x175x1.Idx → BitVec 32)
    (j : Fin 152) (r : Fin 175) (q : Fin 4) :
    column X P L K E q (ix3 j r 0) = nth (picks (drawable bigRow X P L K E j r) 0 16384) q.val := by
  refine Eq.trans ?_ (ranked_apply X P L K E j r ⟨q.val, by omega⟩)
  match q with
  | 0 => pointwise [column]
  | 1 => pointwise [column]
  | 2 => pointwise [column]
  | 3 => pointwise [column]

end Cert.SelectBigRef.Value
-- ==== Proof.Sampler.SelectSmall.lean ====
/- The candidate call at count 75: what it accumulates over its grid, and what it leaves. -/
module

public import proofs.«01_k».proof.Proof.Gen.SelectSmall.Value
public import proofs.«01_k».proof.Proof.Sampler.Least
public import proofs.«01_k».proof.Proof.Sampler.Groups
public import Idealize.ShloMosaic.Lib.Pipeline.ValueKit

@[expose] public section

noncomputable section

namespace Cert.SelectSmall.Value

open Idealize.ShloMosaic Idealize.ShloMosaic.TcCoe Cert.SelectSmall Cert.SelectSmall.Gen Cert.Sampler

variable (m : (ℓ : Loc nD τ sig) → Buf (Elt Bits) ℓ)

theorem N0 : cfg0.N = 1216 := by decide +kernel

/-- Point `t` handles group `t / 8`, -/
def grp (t : Fin cfg0.N) : Fin 152 := ⟨t.val / 8, by have := lt_of_lt_of_eq t.isLt N0; omega⟩
/-- and chunk `t % 8` of the pixels. -/
def px (t : Fin cfg0.N) (p : Fin 2048) : Fin 16384 := ⟨t.val % 8 * 2048 + p.val, by omega⟩

theorem coords0 : ∀ t : Fin cfg0.N, (grid0.coords t 0).val = t.val / 8 :=
  (by decide +kernel : ∀ t : Fin grid0.N, _)
theorem word0 : ∀ t : Fin cfg0.N, Scalar.muli (BitVec.ofNat 32 (grid0.coords t 1).val) 2048#32 = BitVec.ofNat 32 (t.val % 8 * 2048) :=
  (by decide +kernel : ∀ t : Fin grid0.N, _)
theorem off0 : ∀ t : Fin cfg0.N, k0_off1 (grid0.coords t) = ![0, 0, t.val % 8 * 2048] :=
  (by decide +kernel : ∀ t : Fin grid0.N, _)
theorem idx0_0 : ∀ t : Fin cfg0.N, win0_0.index t = ![t.val / 8, 0, t.val % 8] :=
  (by decide +kernel : ∀ t : Fin grid0.N, _)
theorem idx0_1 : ∀ t : Fin cfg0.N, win0_1.index t = ![t.val / 8 / 2 % 4, 0, 0] :=
  (by decide +kernel : ∀ t : Fin grid0.N, _)
theorem idx0_2 : ∀ t : Fin cfg0.N, win0_2.index t = ![t.val / 8 / 2 % 4, 0, 0] :=
  (by decide +kernel : ∀ t : Fin grid0.N, _)

theorem idx0_3 : ∀ t : Fin cfg0.N, win0_3.index t = ![t.val / 8, 0, 0] :=
  (by decide +kernel : ∀ t : Fin grid0.N, _)
theorem idx0_4 : ∀ t : Fin cfg0.N, win0_4.index t = ![t.val / 8, 0, 0] :=
  (by decide +kernel : ∀ t : Fin grid0.N, _)

theorem block0 (c : Dev nD) (t : Fin cfg0.N) (r : Fin 75) (p : Fin 2048) :
    (iblk m c 0 t : S1x75x2048.Idx → BitVec 32) (ix3 0 r p) = (V m c main_arg0 : S152x75x16384.Idx → BitVec 32) (ix3 (grp t) r (px t p)) := by
  refine congrArg (V m c main_arg0) (?_ : ((win0_0.blk t).view.emb (ix3 (0 : Fin 1) r p : S1x75x2048.Idx) : S152x75x16384.Idx) = _)
  unfold grp px
  blk_ext [idx0_0]

theorem block1 (c : Dev nD) (t : Fin cfg0.N) (p : Fin 16384) :
    (iblk m c 1 t : S1x1x16384.Idx → BitVec 32) (ix3 0 0 p) = (V m c main_arg1 : S4x1x16384.Idx → BitVec 32) (ix3 (image (grp t)) 0 p) := by
  refine congrArg (V m c main_arg1) (?_ : ((win0_1.blk t).view.emb (ix3 (0 : Fin 1) (0 : Fin 1) p : S1x1x16384.Idx) : S4x1x16384.Idx) = _)
  unfold image grp
  blk_ext [idx0_1]

theorem block2 (c : Dev nD) (t : Fin cfg0.N) (p : Fin 16384) :
    (iblk m c 2 t : S1x1x16384.Idx → BitVec 32) (ix3 0 0 p) = (V m c main_arg2 : S4x1x16384.Idx → BitVec 32) (ix3 (image (grp t)) 0 p) := by
  refine congrArg (V m c main_arg2) (?_ : ((win0_2.blk t).view.emb (ix3 (0 : Fin 1) (0 : Fin 1) p : S1x1x16384.Idx) : S4x1x16384.Idx) = _)
  unfold image grp
  blk_ext [idx0_2]

theorem block3 (c : Dev nD) (t : Fin cfg0.N) (r : Fin 75) :
    (iblk m c 3 t : S1x75x1.Idx → BitVec 32) (ix3 0 r 0) = (V m c main_arg3 : S152x75x1.Idx → BitVec 32) (ix3 (grp t) r 0) := by
  refine congrArg (V m c main_arg3) (?_ : ((win0_3.blk t).view.emb (ix3 (0 : Fin 1) r (0 : Fin 1) : S1x75x1.Idx) : S152x75x1.Idx) = _)
  unfold grp
  blk_ext [idx0_3]

theorem block4 (c : Dev nD) (t : Fin cfg0.N) (r : Fin 75) :
    (iblk m c 4 t : S1x75x1.Idx → BitVec 32) (ix3 0 r 0) = (V m c main_arg4 : S152x75x1.Idx → BitVec 32) (ix3 (grp t) r 0) := by
  refine congrArg (V m c main_arg4) (?_ : ((win0_4.blk t).view.emb (ix3 (0 : Fin 1) r (0 : Fin 1) : S1x75x1.Idx) : S152x75x1.Idx) = _)
  unfold grp
  blk_ext [idx0_4]

/-- The 2048 pixels a point reads of a whole image. -/
def cut (t : Fin cfg0.N) (x : S1x1x16384.Idx → BitVec 32) : S1x1x2048.Idx → BitVec 32 :=
  View.ld (Val := Elt Bits) (S := S1x1x16384) (e' := .i32) x (Rect.unit (k0_off1 (grid0.coords t)) ![1, 1, 2048] (k0_off1_inb (grid0.coords t)))

theorem cut_apply (t : Fin cfg0.N) (x : S1x1x16384.Idx → BitVec 32) (p : Fin 2048) : cut t x (ix3 0 0 p) = x (ix3 0 0 (px t p)) := by
  pointwise [cut]
  refine congrArg x (funext fun a => ?_)
  match a with
  | ⟨0, _⟩ => exact Fin.ext (congrFun (off0 t) 0)
  | ⟨1, _⟩ => exact Fin.ext (congrFun (off0 t) 1)
  | ⟨2, _⟩ => exact Fin.ext (congrArg (· + p.val) (congrFun (off0 t) 2))

/-- The pixels a point finds that may be drawn, -/
def idx (c : Dev nD) (t : Fin cfg0.N) : IVec S75x2048 32 :=
  k0_pay22 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 2 t))) (iblk m c 0 t) (iblk m c 4 t) (iblk m c 3 t)

/-- and its four least. -/
def m0 (c : Dev nD) (t : Fin cfg0.N) : IVec S75x1 32 :=
  k0_pay23 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 2 t))) (iblk m c 0 t) (iblk m c 4 t) (iblk m c 3 t)

def idx1 (c : Dev nD) (t : Fin cfg0.N) : IVec S75x2048 32 :=
  k0_pay24 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 2 t))) (iblk m c 0 t) (iblk m c 4 t) (iblk m c 3 t)

def m1 (c : Dev nD) (t : Fin cfg0.N) : IVec S75x1 32 :=
  k0_pay25 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 2 t))) (iblk m c 0 t) (iblk m c 4 t) (iblk m c 3 t)

def eq1 (c : Dev nD) (t : Fin cfg0.N) : IVec S75x2048 1 :=
  k0_pay26 (F := Bits) (Scalar.muli (BitVec.ofNat 32 (grid0.coords t 1).val) 2048#32) (kindWord (BitVec.ofNat 32 (grid0.coords t 0).val))
    (k0_pay19 (F := Bits) (grid0.coords t) (cut t (iblk m c 1 t))) (k0_pay20 (F := Bits) (grid0.coords t) (cut t (iblk m c 2 t)))
    (k0_pay21 (F := Bits) (grid0.coords t) (cut t (iblk m c 2 t))) (iblk m c 0 t) (iblk m c 4 t) (iblk m c 3 t)

def m2 (c : Dev nD) (t : Fin cfg0.N) : IVec S75x1 32 := k0_pay2 (idx1 m c t) (eq1 m c t) k0_pay27

def m3 (c : Dev nD) (t : Fin cfg0.N) : IVec S75x1 32 := k0_pay3 (idx1 m c t) (eq1 m c t) k0_pay27

/-- The four least pixels carried after a point. -/
def s0 (c : Dev nD) (t : Fin cfg0.N) : IVec S75x1 32 := (outsAt0 m c t.val t.isLt).2.2.2.2.1
def s1 (c : Dev nD) (t : Fin cfg0.N) : IVec S75x1 32 := (outsAt0 m c t.val t.isLt).2.2.2.2.2.1
def s2 (c : Dev nD) (t : Fin cfg0.N) : IVec S75x1 32 := (outsAt0 m c t.val t.isLt).2.2.2.2.2.2.1
def s3 (c : Dev nD) (t : Fin cfg0.N) : IVec S75x1 32 := (outsAt0 m c t.val t.isLt).2.2.2.2.2.2.2

def prev (t : Fin cfg0.N) : Fin cfg0.N := ⟨t.val - 1, Nat.lt_of_le_of_lt (Nat.sub_le _ _) t.isLt⟩

theorem same_shape (x : IVec S75x1 32) : shapeCast S75x1 x shapeCasts_S75x1_S75x1 = x := by
  funext i
  obtain ⟨a, b, rfl⟩ : ∃ (a : Fin 75) (b : Fin 1), i = ix2 a b := ⟨i 0, i 1, eq_ix2 i⟩
  pointwise

theorem carried0_first (c : Dev nD) (t : Fin cfg0.N) (h : t.val % 8 = 0) : s0 m c t = m0 m c t := by
  unfold s0
  rw [outsAt0_A m c t h (by omega) (by omega)]
  frame_out
  exact same_shape _

theorem carried1_first (c : Dev nD) (t : Fin cfg0.N) (h : t.val % 8 = 0) : s1 m c t = m1 m c t := by
  unfold s1
  rw [outsAt0_A m c t h (by omega) (by omega)]
  frame_out
  exact same_shape _

theorem carried2_first (c : Dev nD) (t : Fin cfg0.N) (h : t.val % 8 = 0) : s2 m c t = m2 m c t := by
  unfold s2
  rw [outsAt0_A m c t h (by omega) (by omega)]
  frame_out
  exact same_shape _

theorem carried3_first (c : Dev nD) (t : Fin cfg0.N) (h : t.val % 8 = 0) : s3 m c t = m3 m c t := by
  unfold s3
  rw [outsAt0_A m c t h (by omega) (by omega)]
  frame_out
  exact same_shape _

theorem carried0_next (c : Dev nD) (t : Fin cfg0.N) (h : ¬t.val % 8 = 0) : s0 m c t = k0_pay14 (F := Bits) (m0 m c t) (s0 m c (prev t)) := by
  unfold s0
  by_cases h2 : t.val % 8 = 7
  · rw [outsAt0_C m c t h (by omega) h2]
    frame_out
    exact congrArg (fun a => k0_pay14 (F := Bits) (m0 m c t) a) ((Memref.isWhole_whole _).read_unread _)
  · rw [outsAt0_B m c t h (by omega) h2]
    frame_out
    exact congrArg (fun a => k0_pay14 (F := Bits) (m0 m c t) a) ((Memref.isWhole_whole _).read_unread _)

theorem carried1_next (c : Dev nD) (t : Fin cfg0.N) (h : ¬t.val % 8 = 0) : s1 m c t = k0_pay11 (F := Bits) (m0 m c t) (m1 m c t) (s0 m c (prev t)) (s1 m c (prev t)) := by
  unfold s1
  by_cases h2 : t.val % 8 = 7
  · rw [outsAt0_C m c t h (by omega) h2]
    frame_out
    exact congr (congrArg (fun a b => k0_pay11 (F := Bits) (m0 m c t) (m1 m c t) a b) ((Memref.isWhole_whole _).read_unread _)) ((Memref.isWhole_whole _).read_unread _)
  · rw [outsAt0_B m c t h (by omega) h2]
    frame_out
    exact congr (congrArg (fun a b => k0_pay11 (F := Bits) (m0 m c t) (m1 m c t) a b) ((Memref.isWhole_whole _).read_unread _)) ((Memref.isWhole_whole _).read_unread _)

theorem carried2_next (c : Dev nD) (t : Fin cfg0.N) (h : ¬t.val % 8 = 0) : s2 m c t = k0_pay12 (F := Bits) (m0 m c t) (idx1 m c t) (m1 m c t) (eq1 m c t) k0_pay27 (s0 m c (prev t)) (s1 m c (prev t)) (s2 m c (prev t)) := by
  unfold s2
  by_cases h2 : t.val % 8 = 7
  · rw [outsAt0_C m c t h (by omega) h2]
    frame_out
    exact congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _)
  · rw [outsAt0_B m c t h (by omega) h2]
    frame_out
    exact congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _)

theorem carried3_next (c : Dev nD) (t : Fin cfg0.N) (h : ¬t.val % 8 = 0) : s3 m c t = k0_pay13 (F := Bits) (m0 m c t) (idx1 m c t) (m1 m c t) (eq1 m c t) k0_pay27 (s0 m c (prev t)) (s1 m c (prev t)) (s2 m c (prev t)) (s3 m c (prev t)) := by
  unfold s3
  by_cases h2 : t.val % 8 = 7
  · rw [outsAt0_C m c t h (by omega) h2]
    frame_out
    exact congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _)
  · rw [outsAt0_B m c t h (by omega) h2]
    frame_out
    exact congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _)

theorem out0_last (c : Dev nD) (t : Fin cfg0.N) (h : t.val % 8 = 7) : (outsAt0 m c t.val t.isLt).1 = k0_pay15 (F := Bits) (s0 m c t) := by
  rw [carried0_next m c t (by omega), outsAt0_C m c t (by omega) (by omega) h]
  frame_out
  exact congrArg (k0_pay15 (F := Bits)) (congrArg (fun a => k0_pay14 (F := Bits) (m0 m c t) a) ((Memref.isWhole_whole _).read_unread _))

theorem out1_last (c : Dev nD) (t : Fin cfg0.N) (h : t.val % 8 = 7) : (outsAt0 m c t.val t.isLt).2.1 = k0_pay16 (F := Bits) (s1 m c t) := by
  rw [carried1_next m c t (by omega), outsAt0_C m c t (by omega) (by omega) h]
  frame_out
  exact congrArg (k0_pay16 (F := Bits)) (congr (congrArg (fun a b => k0_pay11 (F := Bits) (m0 m c t) (m1 m c t) a b) ((Memref.isWhole_whole _).read_unread _)) ((Memref.isWhole_whole _).read_unread _))

theorem out2_last (c : Dev nD) (t : Fin cfg0.N) (h : t.val % 8 = 7) : (outsAt0 m c t.val t.isLt).2.2.1 = k0_pay17 (F := Bits) (s2 m c t) := by
  rw [carried2_next m c t (by omega), outsAt0_C m c t (by omega) (by omega) h]
  frame_out
  exact congrArg (k0_pay17 (F := Bits)) (congr (congr (congrArg (fun a b d => k0_pay12 (F := Bits) (m0 m c t) (idx1 m c t) (m1 m c t) (eq1 m c t) k0_pay27 a b d) ((Memref.isWhole_whole _).read_unread _)) ((Memref.isWhole_whole _).read_unread _)) ((Memref.isWhole_whole _).read_unread _))

theorem out3_last (c : Dev nD) (t : Fin cfg0.N) (h : t.val % 8 = 7) : (outsAt0 m c t.val t.isLt).2.2.2.1 = k0_pay18 (F := Bits) (s3 m c t) := by
  rw [carried3_next m c t (by omega), outsAt0_C m c t (by omega) (by omega) h]
  frame_out
  exact congrArg (k0_pay18 (F := Bits)) (congr (congr (congr (congrArg (fun a b d e => k0_pay13 (F := Bits) (m0 m c t) (idx1 m c t) (m1 m c t) (eq1 m c t) k0_pay27 a b d e) ((Memref.isWhole_whole _).read_unread _)) ((Memref.isWhole_whole _).read_unread _)) ((Memref.isWhole_whole _).read_unread _)) ((Memref.isWhole_whole _).read_unread _))

theorem pe_apply (t : Fin cfg0.N) (P : S1x1x16384.Idx → BitVec 32) (p : Fin 2048) :
    k0_pay19 (F := Bits) (grid0.coords t) (cut t P) (ix2 0 p) = same ((grp t).val / 8) (P (ix3 0 0 (px t p))) := by
  pointwise [k0_pay19]
  rw [cut_apply, coords0]
  exact congrArg (IntOp.cmpi CmpIPredicate.eq _) (classWord_eq (grp t))

theorem le_apply (t : Fin cfg0.N) (L : S1x1x16384.Idx → BitVec 32) (p : Fin 2048) :
    k0_pay20 (F := Bits) (grid0.coords t) (cut t L) (ix2 0 p) = same ((grp t).val / 8) (L (ix3 0 0 (px t p))) := by
  pointwise [k0_pay20]
  rw [cut_apply, coords0]
  exact congrArg (IntOp.cmpi CmpIPredicate.eq _) (classWord_eq (grp t))

theorem not_apply (t : Fin cfg0.N) (L : S1x1x16384.Idx → BitVec 32) (p : Fin 2048) :
    k0_pay21 (F := Bits) (grid0.coords t) (cut t L) (ix2 0 p) = IntOp.xori (same ((grp t).val / 8) (L (ix3 0 0 (px t p)))) 1#1 := by
  pointwise [k0_pay21]
  rw [le_apply]

theorem idx_apply (c : Dev nD) (t : Fin cfg0.N) (r : Fin 75) (q : Fin 2048) :
    idx m c t (ix2 r q) = BitVec.ofNat 32 (if drawable smallRow (V m c main_arg0) (V m c main_arg1) (V m c main_arg2) (V m c main_arg3) (V m c main_arg4) (grp t) r (t.val % 8 * 2048 + q.val)
      then t.val % 8 * 2048 + q.val else 16384) := by
  unfold drawable
  rw [dif_pos (show t.val % 8 * 2048 + q.val < 16384 from (px t q).isLt), ← select_word]
  unfold idx
  pointwise [k0_pay22]
  rw [pe_apply, le_apply, not_apply, word0, coords0]
  have w : IntOp.addi (BitVec.ofNat 32 q.val) (BitVec.ofNat 32 (t.val % 8 * 2048)) = BitVec.ofNat 32 (t.val % 8 * 2048 + q.val) := by
    rw [Nat.add_comm, BitVec.ofNat_add]; rfl
  have hm := mask_eq (grp t) (IntOp.andi (same ((grp t).val / 8) (iblk m c 1 t (ix3 0 0 (px t q)))) (IntOp.xori (same ((grp t).val / 8) (iblk m c 2 t (ix3 0 0 (px t q)))) 1#1))
    (IntOp.andi (IntOp.xori (same ((grp t).val / 8) (iblk m c 1 t (ix3 0 0 (px t q)))) 1#1) (same ((grp t).val / 8) (iblk m c 2 t (ix3 0 0 (px t q)))))
  rw [w]
  refine congrArg (fun b => Scalar.select b _ _) ?_
  unfold mayDraw anyKey key
  refine congr (congrArg IntOp.andi (congr (congrArg IntOp.ori (hm.trans ?_)) ?_)) ?_
  · unfold within smallRow
    rw [block1, block2]
    rfl
  · rw [block4]
  · rw [block0, block3]
    rfl

/-- What may be drawn, of the group point `t` handles. -/
def may (c : Dev nD) (t : Fin cfg0.N) (r : Fin 75) : Nat → Bool :=
  drawable smallRow (V m c main_arg0) (V m c main_arg1) (V m c main_arg2) (V m c main_arg3) (V m c main_arg4) (grp t) r

def chunk (c : Dev nD) (t : Fin cfg0.N) (r : Fin 75) : List Nat := picks (may m c t r) (t.val % 8 * 2048) 2048

theorem idx_shows (c : Dev nD) (t : Fin cfg0.N) (r : Fin 75) : Shows (fun q => idx m c t (ix2 r q)) (t.val % 8 * 2048) (chunk m c t r) :=
  shows_picks (by omega) (idx_apply m c t r)

theorem m0_eq (c : Dev nD) (t : Fin cfg0.N) (r : Fin 75) : m0 m c t (ix2 r 0) = nth (chunk m c t r) 0 := by
  unfold m0
  pointwise [k0_pay23]
  exact (idx_shows m c t r).min

theorem idx1_shows (c : Dev nD) (t : Fin cfg0.N) (r : Fin 75) : Shows (fun q => idx1 m c t (ix2 r q)) (t.val % 8 * 2048) (chunk m c t r).tail :=
  (idx_shows m c t r).next fun q => by
    rw [← m0_eq]
    unfold idx1
    pointwise [k0_pay24]
    rfl

theorem m1_eq (c : Dev nD) (t : Fin cfg0.N) (r : Fin 75) : m1 m c t (ix2 r 0) = nth (chunk m c t r) 1 := by
  rw [← nth_tail, ← (idx1_shows m c t r).min]
  unfold m1
  pointwise [k0_pay25]
  rfl

theorem idx2_shows (c : Dev nD) (t : Fin cfg0.N) (r : Fin 75) :
    Shows (fun q => k0_pay1 (idx1 m c t) (eq1 m c t) k0_pay27 (ix2 r q)) (t.val % 8 * 2048) (chunk m c t r).tail.tail :=
  (idx1_shows m c t r).next fun q => by
    rw [nth_tail, ← m1_eq]
    unfold eq1
    pointwise [k0_pay1, k0_pay26, k0_pay27]
    rfl

theorem m2_eq (c : Dev nD) (t : Fin cfg0.N) (r : Fin 75) : m2 m c t (ix2 r 0) = nth (chunk m c t r) 2 := by
  rw [← nth_tail, ← nth_tail, ← (idx2_shows m c t r).min]
  unfold m2
  pointwise [k0_pay2]

theorem m3_eq (c : Dev nD) (t : Fin cfg0.N) (r : Fin 75) : m3 m c t (ix2 r 0) = nth (chunk m c t r) 3 := by
  have h : Shows (fun q => Scalar.select (IntOp.cmpi CmpIPredicate.eq (k0_pay1 (idx1 m c t) (eq1 m c t) k0_pay27 (ix2 r q)) (m2 m c t (ix2 r 0))) 16384#32
      (k0_pay1 (idx1 m c t) (eq1 m c t) k0_pay27 (ix2 r q))) (t.val % 8 * 2048) (chunk m c t r).tail.tail.tail :=
    (idx2_shows m c t r).next fun q => by rw [nth_tail, nth_tail, ← m2_eq]
  rw [← nth_tail, ← nth_tail, ← nth_tail, ← h.min]
  unfold m3 m2
  pointwise [k0_pay3]

/-- The pixels up to the end of point `t`'s chunk. -/
def upTo (c : Dev nD) (t : Fin cfg0.N) (r : Fin 75) : List Nat := picks (may m c t r) 0 (t.val % 8 * 2048 + 2048)

theorem upTo_first (c : Dev nD) (t : Fin cfg0.N) (r : Fin 75) (h : t.val % 8 = 0) : upTo m c t r = chunk m c t r := by
  unfold upTo chunk
  rw [h]

theorem upTo_next (c : Dev nD) (t : Fin cfg0.N) (r : Fin 75) (h : ¬t.val % 8 = 0) : upTo m c t r = upTo m c (prev t) r ++ chunk m c t r := by
  have e : grp (prev t) = grp t := Fin.ext (by show (t.val - 1) / 8 = t.val / 8; omega)
  have e' : may m c (prev t) r = may m c t r := by unfold may; rw [e]
  have n : (prev t).val % 8 * 2048 + 2048 = t.val % 8 * 2048 := by show (t.val - 1) % 8 * 2048 + 2048 = _; omega
  unfold upTo chunk
  rw [e', n]
  exact (picks_append _ _).symm

theorem upTo_lt (c : Dev nD) (t : Fin cfg0.N) (r : Fin 75) : ∀ x ∈ upTo m c t r, x < 16384 := picks_lt _ _ (by omega)

/-- The carried pixels are the least so far. -/
theorem carried_nth (c : Dev nD) (r : Fin 75) : ∀ (n : Nat) (hn : n < cfg0.N),
    s0 m c ⟨n, hn⟩ (ix2 r 0) = nth (upTo m c ⟨n, hn⟩ r) 0 ∧ s1 m c ⟨n, hn⟩ (ix2 r 0) = nth (upTo m c ⟨n, hn⟩ r) 1
      ∧ s2 m c ⟨n, hn⟩ (ix2 r 0) = nth (upTo m c ⟨n, hn⟩ r) 2 ∧ s3 m c ⟨n, hn⟩ (ix2 r 0) = nth (upTo m c ⟨n, hn⟩ r) 3 := by
  intro n
  induction n with
  | zero =>
    intro hn
    rw [carried0_first m c _ rfl, carried1_first m c _ rfl, carried2_first m c _ rfl, carried3_first m c _ rfl, upTo_first m c _ r rfl]
    exact ⟨m0_eq m c _ r, m1_eq m c _ r, m2_eq m c _ r, m3_eq m c _ r⟩
  | succ n ih =>
    intro hn
    generalize ht : (⟨n + 1, hn⟩ : Fin cfg0.N) = t
    have hv : t.val = n + 1 := by rw [← ht]
    by_cases h : t.val % 8 = 0
    · rw [carried0_first m c _ h, carried1_first m c _ h, carried2_first m c _ h, carried3_first m c _ h, upTo_first m c _ r h]
      exact ⟨m0_eq m c _ r, m1_eq m c _ r, m2_eq m c _ r, m3_eq m c _ r⟩
    · have hp : (⟨n, by omega⟩ : Fin cfg0.N) = prev t := Fin.ext (by show n = t.val - 1; omega)
      obtain ⟨h0, h1, h2, h3⟩ := ih (by omega)
      rw [hp] at h0 h1 h2 h3
      have hl := upTo_lt m c (prev t) r
      rw [carried0_next m c _ h, carried1_next m c _ h, carried2_next m c _ h, carried3_next m c _ h, upTo_next m c _ r h,
        ← join0 _ _ hl, ← join1 _ _ hl, ← join2 _ _ hl, ← join3 _ _ hl, has, has, has, has, ← h0, ← h1, ← h2, ← h3,
        ← m0_eq, ← m1_eq, ← m2_eq, ← m3_eq]
      refine ⟨?_, ?_, ?_, ?_⟩
      · pointwise [k0_pay14, k0_pay8]
      · pointwise [k0_pay11, k0_pay8, k0_pay9]
      · pointwise [k0_pay12, k0_pay8, k0_pay9, k0_pay10]
        rfl
      · pointwise [k0_pay13, k0_pay8, k0_pay9, k0_pay10]
        rfl

theorem pt_lt (j : Fin 152) : 8 * j.val + 7 < cfg0.N := by rw [N0]; omega

/-- All the pixels of a group that may be drawn. -/
def all (c : Dev nD) (j : Fin 152) (r : Fin 75) : List Nat :=
  picks (drawable smallRow (V m c main_arg0) (V m c main_arg1) (V m c main_arg2) (V m c main_arg3) (V m c main_arg4) j r) 0 16384

theorem upTo_last (c : Dev nD) (j : Fin 152) (r : Fin 75) : upTo m c ⟨8 * j.val + 7, pt_lt j⟩ r = all m c j r := by
  have e : grp ⟨8 * j.val + 7, pt_lt j⟩ = j := Fin.ext (by show (8 * j.val + 7) / 8 = j.val; omega)
  have n : (8 * j.val + 7) % 8 * 2048 + 2048 = 16384 := by omega
  unfold upTo all may
  rw [e]
  show picks _ 0 ((8 * j.val + 7) % 8 * 2048 + 2048) = _
  rw [n]

theorem final0 (c : Dev nD) (j : Fin 152) (r : Fin 75) : (G5 m c : S152x75x1.Idx → BitVec 32) (ix3 j r 0) = nth (all m c j r) 0 := by
  have e : pt5Of (ix3 j r 0) = 8 * j.val + 7 := by
    show 8 * (1 * (j.val / 1 - 0) + 1 * (r.val / 75 - 0) + 1 * (0 / 1 - 0)) + 7 = 8 * j.val + 7
    omega
  unfold G5
  rw [dif_pos (by rw [e]; exact pt_lt j), fold0_congr m c _ _ (8 * j.val + 7) (by have := pt_lt j; omega) e, ← outsAt0_sweep]
  have e' : loc5Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).1]
  refine (congrFun (out0_last m c ⟨8 * j.val + 7, pt_lt j⟩ (by show (8 * j.val + 7) % 8 = 7; omega)) (ix3 0 r 0)).trans ?_
  pointwise [k0_pay15]

theorem final1 (c : Dev nD) (j : Fin 152) (r : Fin 75) : (G6 m c : S152x75x1.Idx → BitVec 32) (ix3 j r 0) = nth (all m c j r) 1 := by
  have e : pt6Of (ix3 j r 0) = 8 * j.val + 7 := by
    show 8 * (1 * (j.val / 1 - 0) + 1 * (r.val / 75 - 0) + 1 * (0 / 1 - 0)) + 7 = 8 * j.val + 7
    omega
  unfold G6
  rw [dif_pos (by rw [e]; exact pt_lt j), fold0_congr m c _ _ (8 * j.val + 7) (by have := pt_lt j; omega) e, ← outsAt0_sweep]
  have e' : loc6Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.1]
  refine (congrFun (out1_last m c ⟨8 * j.val + 7, pt_lt j⟩ (by show (8 * j.val + 7) % 8 = 7; omega)) (ix3 0 r 0)).trans ?_
  pointwise [k0_pay16]

theorem final2 (c : Dev nD) (j : Fin 152) (r : Fin 75) : (G7 m c : S152x75x1.Idx → BitVec 32) (ix3 j r 0) = nth (all m c j r) 2 := by
  have e : pt7Of (ix3 j r 0) = 8 * j.val + 7 := by
    show 8 * (1 * (j.val / 1 - 0) + 1 * (r.val / 75 - 0) + 1 * (0 / 1 - 0)) + 7 = 8 * j.val + 7
    omega
  unfold G7
  rw [dif_pos (by rw [e]; exact pt_lt j), fold0_congr m c _ _ (8 * j.val + 7) (by have := pt_lt j; omega) e, ← outsAt0_sweep]
  have e' : loc7Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.2.1]
  refine (congrFun (out2_last m c ⟨8 * j.val + 7, pt_lt j⟩ (by show (8 * j.val + 7) % 8 = 7; omega)) (ix3 0 r 0)).trans ?_
  pointwise [k0_pay17]

theorem final3 (c : Dev nD) (j : Fin 152) (r : Fin 75) : (G8 m c : S152x75x1.Idx → BitVec 32) (ix3 j r 0) = nth (all m c j r) 3 := by
  have e : pt8Of (ix3 j r 0) = 8 * j.val + 7 := by
    show 8 * (1 * (j.val / 1 - 0) + 1 * (r.val / 75 - 0) + 1 * (0 / 1 - 0)) + 7 = 8 * j.val + 7
    omega
  unfold G8
  rw [dif_pos (by rw [e]; exact pt_lt j), fold0_congr m c _ _ (8 * j.val + 7) (by have := pt_lt j; omega) e, ← outsAt0_sweep]
  have e' : loc8Of (ix3 j r 0) = ix3 0 r 0 := by
    funext a
    match a with
    | ⟨0, _⟩ => exact Fin.ext (Nat.mod_one _)
    | ⟨1, _⟩ => exact Fin.ext (Nat.mod_eq_of_lt r.isLt)
    | ⟨2, _⟩ => rfl
  rw [e', ← upTo_last, ← (carried_nth m c r (8 * j.val + 7) (pt_lt j)).2.2.2]
  refine (congrFun (out3_last m c ⟨8 * j.val + 7, pt_lt j⟩ (by show (8 * j.val + 7) % 8 = 7; omega)) (ix3 0 r 0)).trans ?_
  pointwise [k0_pay18]

end Cert.SelectSmall.Value
-- ==== Proof.Sampler.SelectSmallRef.lean ====
/- The reference of the candidate call at count 75: the first four entries of the sorted pixels. -/
module

public import proofs.«01_k».proof.Proof.Gen.SelectSmallRef.Run
public import proofs.«01_k».proof.Proof.Sampler.MaximaSmallRef
public import proofs.«01_k».proof.Proof.Sampler.Least

@[expose] public section

noncomputable section

namespace Cert.SelectSmallRef.Value

open Idealize.ShloMosaic Idealize.ShloMosaic.TcCoe Cert.SelectSmallRef Cert.SelectSmallRef.Gen Cert.Sampler
open Cert.MaximaSmallRef.Value (rows keys rows_apply keys_apply)

/-- Each pixel if it may be drawn, one past the last otherwise; -/
def marked (X : S152x75x16384.Idx → BitVec 32) (P L : S4x1x16384.Idx → BitVec 32) (K E : S152x75x1.Idx → BitVec 32) : IVec S152x75x16384 32 :=
  select (andi (ori (broadcastInDim S152x75x16384 ![0, 1, 2] bcast_S152x1x16384_S152x75x16384_0_1_2 (rows P L)) (broadcastInDim S152x75x16384 ![0, 1, 2] bcast_S152x75x1_S152x75x16384_0_1_2 (cmpi .sgt E (broadcastInDim S152x75x1 ![] bcast_S_S152x75x1 (constantI S_ 32 0#32))))) (cmpi .sge (keys X) (broadcastInDim S152x75x16384 ![0, 1, 2] bcast_S152x75x1_S152x75x16384_0_1_2 K))) (broadcastInDim S152x75x16384 ![2] bcast_S16384_S152x75x16384_2 (iotaInDim S16384 32 0)) (broadcastInDim S152x75x16384 ![] bcast_S_S152x75x16384 (id (constantI S_ 32 16384#32)))

/-- and those sorted. -/
def ranked (X : S152x75x16384.Idx → BitVec 32) (P L : S4x1x16384.Idx → BitVec 32) (K E : S152x75x1.Idx → BitVec 32) : IVec S152x75x16384 32 :=
  Host.sort S152x75x16384 2 comparator_i32_d2 (marked X P L K E)

theorem marked_apply (X : S152x75x16384.Idx → BitVec 32) (P L : S4x1x16384.Idx → BitVec 32) (K E : S152x75x1.Idx → BitVec 32)
    (j : Fin 152) (r : Fin 75) (p : Fin 16384) :
    marked X P L K E (ix3 j r p) = BitVec.ofNat 32 (if drawable smallRow X P L K E j r p.val then p.val else 16384) := by
  unfold drawable
  rw [dif_pos p.isLt, ← select_word]
  pointwise [marked]
  rw [rows_apply, keys_apply]
  rfl

theorem ranked_apply (X : S152x75x16384.Idx → BitVec 32) (P L : S4x1x16384.Idx → BitVec 32) (K E : S152x75x1.Idx → BitVec 32)
    (j : Fin 152) (r : Fin 75) (q : Fin 16384) :
    ranked X P L K E (ix3 j r q) = nth (picks (drawable smallRow X P L K E j r) 0 16384) q.val := by
  refine Eq.trans ?_ (sorted_nth _ (fun p => marked X P L K E (ix3 j r p)) (marked_apply X P L K E j r) q)
  exact sort_last comparator_i32_d2 (marked X P L K E) j r q

/-- Column `q` of them. -/
def column (X : S152x75x16384.Idx → BitVec 32) (P L : S4x1x16384.Idx → BitVec 32) (K E : S152x75x1.Idx → BitVec 32) : Fin 4 → IVec S152x75x1 32
  | 0 => extractStridedSlice S152x75x1 ![0, 0, 0] (ranked X P L K E) slices_S152x75x16384_S152x75x1_0_0_0
  | 1 => extractStridedSlice S152x75x1 ![0, 0, 1] (ranked X P L K E) slices_S152x75x16384_S152x75x1_0_0_1
  | 2 => extractStridedSlice S152x75x1 ![0, 0, 2] (ranked X P L K E) slices_S152x75x16384_S152x75x1_0_0_2
  | 3 => extractStridedSlice S152x75x1 ![0, 0, 3] (ranked X P L K E) slices_S152x75x16384_S152x75x1_0_0_3

theorem column_apply (X : S152x75x16384.Idx → BitVec 32) (P L : S4x1x16384.Idx → BitVec 32) (K E : S152x75x1.Idx → BitVec 32)
    (j : Fin 152) (r : Fin 75) (q : Fin 4) :
    column X P L K E q (ix3 j r 0) = nth (picks (drawable smallRow X P L K E j r) 0 16384) q.val := by
  refine Eq.trans ?_ (ranked_apply X P L K E j r ⟨q.val, by omega⟩)
  match q with
  | 0 => pointwise [column]
  | 1 => pointwise [column]
  | 2 => pointwise [column]
  | 3 => pointwise [column]

end Cert.SelectSmallRef.Value
-- ==== Proof.Sampler.Select.lean ====
/- The candidate calls against their references: equal results, word for word; and the four frames. -/
module

public import proofs.«01_k».proof.Defs
public import proofs.«01_k».proof.Proof.Gen.Pre_drawn
public import proofs.«01_k».proof.Proof.Sampler.SelectBig
public import proofs.«01_k».proof.Proof.Sampler.SelectBigRef
public import proofs.«01_k».proof.Proof.Sampler.SelectSmall
public import proofs.«01_k».proof.Proof.Sampler.SelectSmallRef
public import Idealize.ShloMosaic.Lib.Quiescent

@[expose] public section

noncomputable section

namespace Cert.Proof

open Idealize.ShloMosaic Idealize.ShloMosaic.TcCoe Idealize.SL.Sem Cert.Sampler

theorem frame_SelectBig : Cert.quiescent_SelectBig (hSelectBig := Cert.SelectBig.Gen.facts) := fun m g _ => Cert.SelectBig.Gen.frame m g

theorem frame_SelectBigRef : Cert.quiescent_SelectBigRef (hSelectBigRef := Cert.SelectBigRef.Gen.facts) := fun m g _ =>
  (θ_run _ _ _).mono (fun _ h => ⟨fun c => (h c).2.2.2.2, sem_eq_zero_of_no_sems (by decide) _⟩) (Cert.SelectBigRef.Value.run m g)

/-- Column `q` of the reference, -/
def columnsBig (m : (ℓ : Loc Cert.SelectBig.nD Cert.SelectBig.τ Cert.SelectBig.sig) → Buf (Elt Bits) ℓ) (c : Dev Cert.SelectBig.nD) (q : Fin 4) : Cert.SelectBig.S152x175x1.Idx → BitVec 32 :=
  Cert.SelectBigRef.Value.column (m ((c : Thread Cert.SelectBig.nD Cert.SelectBig.τ).loc Cert.SelectBig.main_arg0)) (m ((c : Thread Cert.SelectBig.nD Cert.SelectBig.τ).loc Cert.SelectBig.main_arg1)) (m ((c : Thread Cert.SelectBig.nD Cert.SelectBig.τ).loc Cert.SelectBig.main_arg2)) (m ((c : Thread Cert.SelectBig.nD Cert.SelectBig.τ).loc Cert.SelectBig.main_arg3)) (m ((c : Thread Cert.SelectBig.nD Cert.SelectBig.τ).loc Cert.SelectBig.main_arg4)) q

/-- and a result of the call that has its entries. -/
theorem result_SelectBig (m : (ℓ : Loc Cert.SelectBig.nD Cert.SelectBig.τ Cert.SelectBig.sig) → Buf (Elt Bits) ℓ) (c : Dev Cert.SelectBig.nD) (q : Fin 4) (y : Cert.SelectBig.S152x175x1.Idx → BitVec 32)
    (h : ∀ j r, y (ix3 j r 0) = nth (Cert.SelectBig.Value.all m c j r) q.val) : y = columnsBig m c q := by
  funext i
  obtain ⟨j, r, z, rfl⟩ : ∃ (j : Fin 152) (r : Fin 175) (z : Fin 1), i = ix3 j r z := ⟨i 0, i 1, i 2, eq_ix3 i⟩
  obtain rfl : z = 0 := Subsingleton.elim _ _
  exact (h j r).trans (Cert.SelectBigRef.Value.column_apply _ _ _ _ _ j r q).symm

theorem bitexact_SelectBig : Cert.bitexact_SelectBig_SelectBigRef (hSelectBig := Cert.SelectBig.Gen.facts) (hSelectBigRef := Cert.SelectBigRef.Gen.facts) := by
  intro m g m' g' _ hargs
  refine ⟨fun c => Cert.SelectBig.Value.G5 m c, fun c => Cert.SelectBig.Value.G6 m c, fun c => Cert.SelectBig.Value.G7 m c, fun c => Cert.SelectBig.Value.G8 m c,
    Cert.SelectBig.Value.run m g, (θ_run _ _ _).mono (fun r h c => ?_) (Cert.SelectBigRef.Value.run m' g')⟩
  obtain ⟨h0, h1, h2, h3, hk⟩ := h c
  obtain ⟨a0, a1, a2, a3, a4⟩ := hargs c
  refine ⟨h0.trans ?_, h1.trans ?_, h2.trans ?_, h3.trans ?_, hk⟩
  · rw [a0, a1, a2, a3, a4]
    exact (result_SelectBig m c 0 _ (Cert.SelectBig.Value.final0 m c)).symm
  · rw [a0, a1, a2, a3, a4]
    exact (result_SelectBig m c 1 _ (Cert.SelectBig.Value.final1 m c)).symm
  · rw [a0, a1, a2, a3, a4]
    exact (result_SelectBig m c 2 _ (Cert.SelectBig.Value.final2 m c)).symm
  · rw [a0, a1, a2, a3, a4]
    exact (result_SelectBig m c 3 _ (Cert.SelectBig.Value.final3 m c)).symm

theorem frame_SelectSmall : Cert.quiescent_SelectSmall (hSelectSmall := Cert.SelectSmall.Gen.facts) := fun m g _ => Cert.SelectSmall.Gen.frame m g

theorem frame_SelectSmallRef : Cert.quiescent_SelectSmallRef (hSelectSmallRef := Cert.SelectSmallRef.Gen.facts) := fun m g _ =>
  (θ_run _ _ _).mono (fun _ h => ⟨fun c => (h c).2.2.2.2, sem_eq_zero_of_no_sems (by decide) _⟩) (Cert.SelectSmallRef.Value.run m g)

/-- Column `q` of the reference, -/
def columnsSmall (m : (ℓ : Loc Cert.SelectSmall.nD Cert.SelectSmall.τ Cert.SelectSmall.sig) → Buf (Elt Bits) ℓ) (c : Dev Cert.SelectSmall.nD) (q : Fin 4) : Cert.SelectSmall.S152x75x1.Idx → BitVec 32 :=
  Cert.SelectSmallRef.Value.column (m ((c : Thread Cert.SelectSmall.nD Cert.SelectSmall.τ).loc Cert.SelectSmall.main_arg0)) (m ((c : Thread Cert.SelectSmall.nD Cert.SelectSmall.τ).loc Cert.SelectSmall.main_arg1)) (m ((c : Thread Cert.SelectSmall.nD Cert.SelectSmall.τ).loc Cert.SelectSmall.main_arg2)) (m ((c : Thread Cert.SelectSmall.nD Cert.SelectSmall.τ).loc Cert.SelectSmall.main_arg3)) (m ((c : Thread Cert.SelectSmall.nD Cert.SelectSmall.τ).loc Cert.SelectSmall.main_arg4)) q

/-- and a result of the call that has its entries. -/
theorem result_SelectSmall (m : (ℓ : Loc Cert.SelectSmall.nD Cert.SelectSmall.τ Cert.SelectSmall.sig) → Buf (Elt Bits) ℓ) (c : Dev Cert.SelectSmall.nD) (q : Fin 4) (y : Cert.SelectSmall.S152x75x1.Idx → BitVec 32)
    (h : ∀ j r, y (ix3 j r 0) = nth (Cert.SelectSmall.Value.all m c j r) q.val) : y = columnsSmall m c q := by
  funext i
  obtain ⟨j, r, z, rfl⟩ : ∃ (j : Fin 152) (r : Fin 75) (z : Fin 1), i = ix3 j r z := ⟨i 0, i 1, i 2, eq_ix3 i⟩
  obtain rfl : z = 0 := Subsingleton.elim _ _
  exact (h j r).trans (Cert.SelectSmallRef.Value.column_apply _ _ _ _ _ j r q).symm

theorem bitexact_SelectSmall : Cert.bitexact_SelectSmall_SelectSmallRef (hSelectSmall := Cert.SelectSmall.Gen.facts) (hSelectSmallRef := Cert.SelectSmallRef.Gen.facts) := by
  intro m g m' g' _ hargs
  refine ⟨fun c => Cert.SelectSmall.Value.G5 m c, fun c => Cert.SelectSmall.Value.G6 m c, fun c => Cert.SelectSmall.Value.G7 m c, fun c => Cert.SelectSmall.Value.G8 m c,
    Cert.SelectSmall.Value.run m g, (θ_run _ _ _).mono (fun r h c => ?_) (Cert.SelectSmallRef.Value.run m' g')⟩
  obtain ⟨h0, h1, h2, h3, hk⟩ := h c
  obtain ⟨a0, a1, a2, a3, a4⟩ := hargs c
  refine ⟨h0.trans ?_, h1.trans ?_, h2.trans ?_, h3.trans ?_, hk⟩
  · rw [a0, a1, a2, a3, a4]
    exact (result_SelectSmall m c 0 _ (Cert.SelectSmall.Value.final0 m c)).symm
  · rw [a0, a1, a2, a3, a4]
    exact (result_SelectSmall m c 1 _ (Cert.SelectSmall.Value.final1 m c)).symm
  · rw [a0, a1, a2, a3, a4]
    exact (result_SelectSmall m c 2 _ (Cert.SelectSmall.Value.final2 m c)).symm
  · rw [a0, a1, a2, a3, a4]
    exact (result_SelectSmall m c 3 _ (Cert.SelectSmall.Value.final3 m c)).symm

end Cert.Proof
-- ==== Proof.Sampler.Draw.lean ====
/- The draw of a pixel from its key: Gumbel noise as a function of the key, and the best of the candidates against the best of all the pixels. -/
module

public import proofs.«01_k».proof.Proof.Sampler.Least
public import proofs.«01_k».proof.Proof.Sampler.Groups
public import Idealize.ShloMosaic.PureOps.Ideal
public import Idealize.ShloMosaic.PureOps.Ideal.Laws
public import Idealize.ShloMosaic.Lib.ValueIdxCore

@[expose] public section

noncomputable section

namespace Cert.Sampler

open Idealize.ShloMosaic

/-! ## Gumbel noise -/

/-- The uniform number of key `k`, in (0, 1), -/
def unif (k : ℕ) : ℝ := (k : ℝ) * (2 ^ 23)⁻¹ + (2 ^ 126)⁻¹

/-- and its Gumbel noise. -/
def noise (k : ℕ) : ℝ := -Real.log (-Real.log (unif k))

theorem unif_pos (k : ℕ) : 0 < unif k := by unfold unif; positivity

theorem unif_le {k : ℕ} (h : k < 2 ^ 23) : unif k ≤ 1 - (2 ^ 24)⁻¹ := by
  have h' : (k : ℝ) ≤ 2 ^ 23 - 1 := by
    have : k + 1 ≤ 2 ^ 23 := h
    have : ((k + 1 : ℕ) : ℝ) ≤ ((2 ^ 23 : ℕ) : ℝ) := by exact_mod_cast this
    push_cast at this
    linarith
  unfold unif
  nlinarith [h', (by norm_num : ((2 : ℝ) ^ 126)⁻¹ ≤ (2 ^ 24)⁻¹), (by norm_num : ((2 : ℝ) ^ 23)⁻¹ = 2 * (2 ^ 24)⁻¹)]

theorem unif_lt {a b : ℕ} (h : a < b) : unif a < unif b := by
  have : (a : ℝ) < b := by exact_mod_cast h
  unfold unif
  have h2 : (0 : ℝ) < (2 ^ 23)⁻¹ := by positivity
  nlinarith

/-- Minus the logarithm of a uniform number, -/
theorem neg_log_lower {k : ℕ} (h : k < 2 ^ 23) : (2 ^ 24 : ℝ)⁻¹ ≤ -Real.log (unif k) := by
  have := Real.log_le_sub_one_of_pos (unif_pos k)
  linarith [unif_le h]

theorem neg_log_upper (k : ℕ) : -Real.log (unif k) ≤ 2 ^ 126 := by
  have h1 : Real.log (2 ^ 126)⁻¹ ≤ Real.log (unif k) := Real.log_le_log (by positivity) (by
    unfold unif
    have : (0 : ℝ) ≤ (k : ℝ) * (2 ^ 23)⁻¹ := by positivity
    linarith)
  have h2 := Real.log_le_sub_one_of_pos (show (0 : ℝ) < 2 ^ 126 by positivity)
  rw [Real.log_inv] at h1
  linarith

theorem neg_log_pos {k : ℕ} (h : k < 2 ^ 23) : 0 < -Real.log (unif k) := lt_of_lt_of_le (by positivity) (neg_log_lower h)

/-- the noise grows with the key -/
theorem noise_lt {a b : ℕ} (h : a < b) (hb : b < 2 ^ 23) : noise a < noise b := by
  have := Real.log_lt_log (neg_log_pos hb) (neg_lt_neg (Real.log_lt_log (unif_pos a) (unif_lt h)))
  unfold noise
  linarith

/-- and stays within bounds that are nothing beside the mask's offset. -/
theorem noise_bounds {k : ℕ} (h : k < 2 ^ 23) : -200 < noise k ∧ noise k < 200 := by
  have l2 : Real.log 2 ≤ 1 := by linarith [Real.log_le_sub_one_of_pos (show (0 : ℝ) < 2 by norm_num)]
  have h1 := Real.log_le_log (by positivity) (neg_log_lower h)
  have h2 := Real.log_le_log (neg_log_pos h) (neg_log_upper k)
  rw [Real.log_inv, Real.log_pow] at h1
  rw [Real.log_pow] at h2
  push_cast at h1 h2
  unfold noise
  constructor <;> linarith

theorem log_real {r : ℝ} (h : 0 < r) : Ideal.log (r : EReal) = (Real.log r : EReal) := by
  show (if r ≤ 0 then (⊥ : EReal) else _) = _
  rw [if_neg (not_le.2 h)]

theorem ofBits_scale : Ideal.ofBits .f32 0x34000000#32 = (((2 ^ 23)⁻¹ : ℝ) : EReal) := by
  simp [Ideal.ofBits, Ideal.ieee]
  try rw [← EReal.coe_mul]
  norm_num
theorem ofBits_tiny : Ideal.ofBits .f32 0x00800000#32 = (((2 ^ 126)⁻¹ : ℝ) : EReal) := by
  simp [Ideal.ofBits, Ideal.ieee]
  try rw [← EReal.coe_mul]
  norm_num
theorem ofBits_one : Ideal.ofBits .f32 0x3F800000#32 = ((1 : ℝ) : EReal) := by
  simp [Ideal.ofBits, Ideal.ieee]
  try rw [← EReal.coe_mul]
  norm_num
theorem ofBits_zero : Ideal.ofBits .f32 0x00000000#32 = ((0 : ℝ) : EReal) := by
  simp [Ideal.ofBits, Ideal.ieee]
theorem ofBits_mask : Ideal.ofBits .f32 0xCE6E6B28#32 = ((-1000000000 : ℝ) : EReal) := by
  simp [Ideal.ofBits, Ideal.ieee]
  rw [← EReal.coe_pow, ← EReal.coe_mul]
  norm_num

/-- A key is a number below 2^23. -/
theorem key_lt (x : BitVec 32) : (key x).toNat < 2 ^ 23 := by
  unfold key IntOp.shrui
  rw [if_pos (by decide)]
  have := x.isLt
  simp only [BitVec.toNat_ushiftRight, BitVec.ushiftRight_eq', BitVec.toNat_ofNat, Nat.shiftRight_eq_div_pow]
  norm_num
  omega

theorem key_toInt (x : BitVec 32) : (key x).toInt = (key x).toNat := by
  have := key_lt x
  rw [BitVec.toInt_eq_toNat_cond, if_pos (by omega)]

/-- The noise as the kernel computes it, -/
def noiseOf (w : BitVec 32) : EReal :=
  -Ideal.log (-Ideal.log (max (((w.toInt : ℝ) : EReal) * Ideal.ofBits .f32 0x34000000#32 + Ideal.ofBits .f32 0x00800000#32) (Ideal.ofBits .f32 0x00800000#32)))

/-- and as the reference does. -/
def noiseOfRef (w : BitVec 32) : EReal :=
  -Ideal.log (-Ideal.log (max (Ideal.ofBits .f32 0x00800000#32)
    (((w.toInt : ℝ) : EReal) * Ideal.ofBits .f32 0x34000000#32 * Ideal.ofBits .f32 0x3F800000#32 + Ideal.ofBits .f32 0x00800000#32)))

theorem noiseOfRef_eq (w : BitVec 32) : noiseOfRef w = noiseOf w := by
  unfold noiseOfRef noiseOf
  rw [ofBits_one, EReal.coe_one, mul_one, max_comm]

theorem noiseOf_key (x : BitVec 32) : noiseOf (key x) = (noise (key x).toNat : EReal) := by
  unfold noiseOf
  have hu : ((((key x).toInt : ℝ) : EReal) * Ideal.ofBits .f32 0x34000000#32 + Ideal.ofBits .f32 0x00800000#32) = (unif (key x).toNat : EReal) := by
    rw [ofBits_scale, ofBits_tiny, ← EReal.coe_mul, ← EReal.coe_add, key_toInt]
    rfl
  rw [hu, ofBits_tiny, max_eq_left, log_real (unif_pos _), ← EReal.coe_neg, log_real (neg_log_pos (key_lt x)), ← EReal.coe_neg]
  · rfl
  · refine EReal.coe_le_coe_iff.2 ?_
    unfold unif
    have : (0 : ℝ) ≤ ((key x).toNat : ℝ) * (2 ^ 23)⁻¹ := by positivity
    linarith

/-! ## The key of a candidate -/

/-- A gather of one entry from the last axis of `[a, b, n]`, the first two kept. -/
abbrev takeLastDims (a b n : ℕ) (wf : GatherDims.WF ⟨3, ![a, b, n]⟩ ⟨4, ![a, b, 1, 1]⟩ ⟨3, ![a, b, 1]⟩ [] [2] [0, 1] [2] [0, 1] 3 ![1, 1, 1]) :
    GatherDims ⟨3, ![a, b, n]⟩ ⟨4, ![a, b, 1, 1]⟩ ⟨3, ![a, b, 1]⟩ where
  offsetDims := []
  collapsedSliceDims := [2]
  operandBatchingDims := [0, 1]
  startIndicesBatchingDims := [0, 1]
  startIndexMap := [2]
  indexVectorDim := 3
  sliceSizes := ![1, 1, 1]
  wf := wf

theorem gather_last {α : Type} {a b n w : ℕ} (hn : 0 < n)
    (wf : GatherDims.WF ⟨3, ![a, b, n]⟩ ⟨4, ![a, b, 1, 1]⟩ ⟨3, ![a, b, 1]⟩ [] [2] [0, 1] [2] [0, 1] 3 ![1, 1, 1])
    (x : (⟨3, ![a, b, n]⟩ : Shape).Idx → α) (idx : IVec ⟨4, ![a, b, 1, 1]⟩ w) (j : Fin a) (r : Fin b) :
    Host.gather (takeLastDims a b n wf) x idx (ix3 j r 0) = x (ix3 j r ⟨min (idx (ix4 j r 0 0)).toInt.toNat (n - 1), by omega⟩) := by
  unfold Host.gather
  congr 1
  funext e
  refine Fin.ext ?_
  show (takeLastDims a b n wf).start (ix3 j r 0) idx e + (takeLastDims a b n wf).batchCoord (ix3 j r 0) e
      + (takeLastDims a b n wf).offCoord (ix3 j r 0) e = _
  have h012 : e = 0 ∨ e = 1 ∨ e = 2 := by
    match e with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeLastDims a b n wf).startIndexMap from List.mem_singleton.mpr rfl)]
    have hsi : (takeLastDims a b n wf).siIdx (ix3 j r 0) ⟨List.idxOf (2 : Fin 3) (takeLastDims a b n wf).startIndexMap,
        List.idxOf_lt_length_iff.2 (List.mem_singleton.mpr rfl)⟩ = ix4 j r 0 0 := by
      funext b; refine Fin.ext ?_
      match b with
      | ⟨0, _⟩ => rfl
      | ⟨1, _⟩ => rfl
      | ⟨2, _⟩ => rfl
      | ⟨3, _⟩ => rfl
    rw [hsi]
    rfl

/-- A pixel is no negative index, -/
def wrap (w : BitVec 32) : BitVec 32 := Scalar.select (IntOp.cmpi CmpIPredicate.slt w 0#32) (IntOp.addi w 16384#32) w

theorem wrap_small {x : ℕ} (h : x < 16384) : wrap (BitVec.ofNat 32 x) = BitVec.ofNat 32 x := by
  unfold wrap
  rw [show (0#32 : BitVec 32) = BitVec.ofNat 32 0 from rfl, show IntOp.cmpi CmpIPredicate.slt (BitVec.ofNat 32 x) (BitVec.ofNat 32 0) = _ from slt_small (by omega) (by omega), if_neg (by omega)]
  rfl

/-- lies within the array, -/
theorem inside_small {x : ℕ} (h : x < 16384) :
    IntOp.andi (IntOp.cmpi CmpIPredicate.sge (BitVec.ofNat 32 x) 0#32) (IntOp.cmpi CmpIPredicate.sle (BitVec.ofNat 32 x) 16383#32) = 1#1 := by
  have e1 : IntOp.cmpi CmpIPredicate.sge (BitVec.ofNat 32 x) 0#32 = 1#1 := by
    show BitVec.ofBool (BitVec.sle 0#32 (BitVec.ofNat 32 x)) = 1#1
    rw [BitVec.sle_eq_decide, decide_eq_true (by show (0:ℤ) ≤ _; rw [toInt_small (by omega)]; omega)]
    rfl
  have e2 : IntOp.cmpi CmpIPredicate.sle (BitVec.ofNat 32 x) 16383#32 = 1#1 := by
    show BitVec.ofBool (BitVec.sle (BitVec.ofNat 32 x) 16383#32) = 1#1
    rw [BitVec.sle_eq_decide, toInt_small (by omega), show (16383#32 : BitVec 32).toInt = 16383 by decide, decide_eq_true (by omega)]
    rfl
  rw [e1, e2]
  rfl

/-- and is its own remainder. -/
def remainder (w : BitVec 32) : BitVec 32 :=
  let d := Scalar.select (IntOp.cmpi CmpIPredicate.eq 16384#32 0#32) 1#32 16384#32
  let q := IntOp.remui ArithUnit.host w d
  Scalar.select
    (IntOp.andi (IntOp.cmpi CmpIPredicate.ne (IntOp.cmpi CmpIPredicate.ult q 0#32) (IntOp.cmpi CmpIPredicate.ult d 0#32)) (IntOp.cmpi CmpIPredicate.ne q 0#32))
    (IntOp.addi q d) q

theorem remainder_small {x : ℕ} (h : x < 16384) : remainder (BitVec.ofNat 32 x) = BitVec.ofNat 32 x := by
  have hd : Scalar.select (IntOp.cmpi CmpIPredicate.eq 16384#32 0#32) 1#32 16384#32 = 16384#32 := by decide
  have hq : IntOp.remui ArithUnit.host (BitVec.ofNat 32 x) 16384#32 = BitVec.ofNat 32 x := by
    unfold IntOp.remui
    rw [if_neg (by decide)]
    apply BitVec.eq_of_toNat_eq
    have e : (BitVec.ofNat 32 x).toNat = x := by rw [BitVec.toNat_ofNat, Nat.mod_eq_of_lt (by omega)]
    show ((BitVec.ofNat 32 x) % 16384#32).toNat = _
    rw [BitVec.toNat_umod, e]
    exact Nat.mod_eq_of_lt h
  have h0 : ∀ w : BitVec 32, IntOp.cmpi CmpIPredicate.ult w 0#32 = 0#1 := fun w => by
    show BitVec.ofBool (BitVec.ult w 0#32) = 0#1
    simp [BitVec.ult]
  unfold remainder
  simp only [hd, hq, h0]
  rw [show IntOp.cmpi CmpIPredicate.ne (0#1) (0#1) = 0#1 by decide, show ∀ z : BitVec 1, IntOp.andi 0#1 z = 0#1 by decide]
  rfl

/-- A candidate's value: its noise, moved down in a group marked empty. -/
def valueOf (e : BitVec 32) (w : BitVec 32) : EReal :=
  Scalar.select (IntOp.cmpi CmpIPredicate.sgt e 0#32) (noiseOf w + Ideal.ofBits .f32 0xCE6E6B28#32) (noiseOf w)

/-! ## The best of a list, one candidate at a time -/

/-- `w` is the entry of `L` with the greatest value, the first of those, and `b` its value. -/
def Best (sc : ℕ → EReal) (L : List ℕ) (w : BitVec 32) (b : EReal) : Prop :=
  ∃ x ∈ L, w = BitVec.ofNat 32 x ∧ b = sc x ∧ ∀ y ∈ L, sc y < sc x ∨ sc y = sc x ∧ x ≤ y

theorem Best.next {sc : ℕ → EReal} {L : List ℕ} (hs : L.Pairwise (· < ·)) (hL : ∀ x ∈ L, x < 16384) {k : ℕ} {w : BitVec 32} {b v : EReal}
    (h : Best sc (L.take k) w b) (hv : ∀ h : k < L.length, v = sc L[k]) :
    Best sc (L.take (k + 1))
      (Scalar.select (IntOp.andi (has L k) (Ideal.cmp .ogt v b)) (nth L k) w)
      (Scalar.select (IntOp.andi (has L k) (Ideal.cmp .ogt v b)) v b) := by
  obtain ⟨x, hx, hw, hb, hbest⟩ := h
  rw [has_eq L hL]
  by_cases hk : k < L.length
  · have hv := hv hk
    have ht : L.take (k + 1) = L.take k ++ [L[k]] := (List.take_append_getElem hk).symm
    have hlt : ∀ y ∈ L.take k, y < L[k] := fun y hy => by
      rw [← List.take_append_drop k L, List.pairwise_append] at hs
      refine hs.2.2 y hy _ ?_
      rw [List.drop_eq_getElem_cons hk]
      exact List.mem_cons_self ..
    rw [if_pos hk, ht]
    by_cases hc : b < v
    · have e : IntOp.andi (1#1) (Ideal.cmp .ogt v b) = 1#1 := by
        have : Ideal.cmp .ogt v b = 1#1 := by simp [Ideal.cmp, hc]
        rw [this]; rfl
      rw [e]
      refine ⟨L[k], List.mem_append_right _ (List.mem_singleton.2 rfl), ?_, hv, fun y hy => ?_⟩
      · show nth L k = _
        unfold nth
        rw [getD_in _ _ hk]
      · rcases List.mem_append.1 hy with hy | hy
        · refine .inl ?_
          rw [← hv]
          refine lt_of_le_of_lt ?_ hc
          rw [hb]
          exact (hbest y hy).elim le_of_lt fun h => h.1.le
        · rw [List.mem_singleton.1 hy]
          exact .inr ⟨rfl, le_rfl⟩
    · have e : IntOp.andi (1#1) (Ideal.cmp .ogt v b) = 0#1 := by
        have : Ideal.cmp .ogt v b = 0#1 := by simp [Ideal.cmp, hc]
        rw [this]; rfl
      rw [e]
      refine ⟨x, List.mem_append_left _ hx, hw, hb, fun y hy => ?_⟩
      rcases List.mem_append.1 hy with hy | hy
      · exact hbest y hy
      · rw [List.mem_singleton.1 hy, ← hv, ← hb]
        exact (lt_or_eq_of_le (not_lt.1 hc)).imp id fun h => ⟨h, (hlt x hx).le⟩
  · have e : IntOp.andi (0#1) (Ideal.cmp .ogt v b) = 0#1 := by
      generalize Ideal.cmp .ogt v b = z
      revert z; decide
    rw [if_neg hk, e, List.take_of_length_le (by omega)]
    rw [List.take_of_length_le (by omega)] at hx hbest
    exact ⟨x, hx, hw, hb, hbest⟩

theorem Best.first {sc : ℕ → EReal} {L : List ℕ} (h0 : 0 < L.length) {v : EReal} (hv : ∀ h : 0 < L.length, v = sc L[0]) :
    Best sc (L.take 1) (nth L 0) v := by
  rcases L with _ | ⟨a, L⟩
  · exact absurd h0 (by simp)
  · refine ⟨a, by simp, rfl, hv h0, fun y hy => ?_⟩
    have : y = a := by simpa using hy
    rw [this]
    exact .inr ⟨rfl, le_rfl⟩

theorem picks_sorted (ok : ℕ → Bool) (n : ℕ) : (picks ok 0 n).Pairwise (· < ·) :=
  List.Pairwise.filter _ List.pairwise_lt_range'

theorem mem_picks (ok : ℕ → Bool) (n x : ℕ) : x ∈ picks ok 0 n ↔ x < n ∧ ok x = true := by
  unfold picks
  rw [List.mem_filter, List.mem_range'_1]
  exact ⟨fun h => ⟨by omega, h.2⟩, fun h => ⟨by omega, h.2⟩⟩

/-- The lengths the first and the fifth entry show. -/
theorem length_pos_of {L : List ℕ} (h : IntOp.cmpi CmpIPredicate.slt (nth L 0) 16384#32 = 1#1) : 0 < L.length := by
  rcases L with _ | ⟨a, L⟩
  · exact absurd h (by decide)
  · simp

theorem length_le_of {L : List ℕ} (hL : ∀ x ∈ L, x < 16384) (h : IntOp.cmpi CmpIPredicate.eq (nth L 4) 16384#32 = 1#1) : L.length ≤ 4 := by
  by_contra hc
  have h4 : 4 < L.length := by omega
  have hx := hL _ (List.getElem_mem h4)
  unfold nth at h
  rw [getD_in _ _ h4] at h
  rw [show IntOp.cmpi CmpIPredicate.eq (BitVec.ofNat 32 L[4]) 16384#32 = _ from eq_small (by omega) le_rfl, if_neg (by omega)] at h
  exact absurd h (by decide)

/-! ## The best of all the pixels -/

/-- The first pixel at which `v` is greatest, as the reference finds it. -/
theorem first_best (v : Fin 16384 → EReal) (x : Fin 16384) (h : ∀ q, v q < v x ∨ v q = v x ∧ x ≤ q) :
    Finset.univ.fold IntOp.minsi 2147483647#32
        (fun q => Scalar.select (Ideal.cmp .oeq (v q) (Finset.univ.fold max ⊥ v)) (BitVec.ofNat 32 q.val) 16384#32)
      = BitVec.ofNat 32 x.val := by
  have hm : Finset.univ.fold max ⊥ v = v x := by
    refine le_antisymm ((Finset.fold_max_le _).2 ⟨bot_le, fun q _ => (h q).elim le_of_lt fun e => e.1.le⟩) ?_
    exact (Finset.le_fold_max _).2 (.inr ⟨x, Finset.mem_univ _, le_rfl⟩)
  rw [hm]
  refine fold_eq _ _ x ?_ fun q => ?_
  · simp [Ideal.cmp, Scalar.select]
  · by_cases e : v q = v x
    · have hq : x ≤ q := (h q).elim (fun h => absurd e h.ne) fun h => h.2
      have hs : Scalar.select (Ideal.cmp .oeq (v q) (v x)) (BitVec.ofNat 32 q.val) 16384#32 = BitVec.ofNat 32 q.val := by
        simp [Ideal.cmp, Scalar.select, e]
      rw [hs, toInt_small (by omega), toInt_small (by omega)]
      have : x.val ≤ q.val := hq
      omega
    · have hs : Scalar.select (Ideal.cmp .oeq (v q) (v x)) (BitVec.ofNat 32 q.val) 16384#32 = 16384#32 := by
        simp [Ideal.cmp, Scalar.select, e]
      rw [hs, toInt_small (by omega), show (16384#32 : BitVec 32).toInt = 16384 from by decide]
      omega

/-- No pixel of a group. -/
theorem fold_ori_zero {n : ℕ} (f : Fin n → BitVec 1) : Finset.univ.fold IntOp.ori 0#1 f = 0#1 ↔ ∀ p, f p = 0#1 := by
  have two : ∀ a b : BitVec 1, IntOp.ori a b = 0#1 ↔ a = 0#1 ∧ b = 0#1 := by decide
  have all : ∀ s : Finset (Fin n), s.fold IntOp.ori 0#1 f = 0#1 ↔ ∀ p ∈ s, f p = 0#1 := fun s => by
    induction s using Finset.induction_on with
    | empty => simp
    | insert a s ha ih => rw [Finset.fold_insert ha, two, ih]; simp
  simpa using all Finset.univ

theorem marks {a b : BitVec 1} (h : IntOp.cmpi CmpIPredicate.eq a (~~~b) = 1#1) : a = 1#1 ↔ b = 0#1 := by
  revert a b
  decide

theorem eq_of_cmpi {a b : BitVec 32} (h : IntOp.cmpi CmpIPredicate.eq a b = 1#1) : a = b := by
  by_contra hne
  have : IntOp.cmpi CmpIPredicate.eq a b = 0#1 := by
    show BitVec.ofBool (a == b) = 0#1
    rw [beq_false_of_ne hne]
    rfl
  rw [this] at h
  exact absurd h (by decide)

theorem andi_one {a b : BitVec 1} (h : IntOp.andi a b = 1#1) : a = 1#1 ∧ b = 1#1 := by
  revert a b
  decide

theorem ofBits_low : Ideal.ofBits .f32 0xFF800000#32 = ⊥ := by simp [Ideal.ofBits, Ideal.ieee]

/-- THE CHOICE. `L` the pixels of the group, or of every group if it is empty (`e`), at or above a threshold; the best of them by noise is
    the best of all pixels by noise and logit. -/
theorem best_of_all {row : Fin 16384 → BitVec 1} {X : Fin 16384 → BitVec 32} {t e : BitVec 32} {ok : ℕ → Bool}
    (hok : ∀ p : Fin 16384, ok p.val = (IntOp.andi (IntOp.ori (row p) (IntOp.cmpi CmpIPredicate.sgt e 0#32)) (IntOp.cmpi CmpIPredicate.sge (key (X p)) t) == 1#1))
    (he : IntOp.cmpi CmpIPredicate.sgt e 0#32 = 1#1 ↔ ∀ p, row p = 0#1)
    {sc : ℕ → EReal} (hsc : ∀ p : Fin 16384, sc p.val = valueOf e (key (X p)))
    {w : BitVec 32} {b : EReal} (h : Best sc (picks ok 0 16384) w b) :
    Finset.univ.fold IntOp.minsi 2147483647#32
        (fun q : Fin 16384 => Scalar.select (Ideal.cmp .oeq (noiseOfRef (key (X q)) + Scalar.select (row q) (Ideal.ofBits .f32 0x00000000#32) (Ideal.ofBits .f32 0xCE6E6B28#32))
          (Finset.univ.fold max ⊥ fun p : Fin 16384 => noiseOfRef (key (X p)) + Scalar.select (row p) (Ideal.ofBits .f32 0x00000000#32) (Ideal.ofBits .f32 0xCE6E6B28#32)))
          (BitVec.ofNat 32 q.val) 16384#32) = w := by
  obtain ⟨x, hx, rfl, -, hbest⟩ := h
  have bit : ∀ z : BitVec 1, z = 0#1 ∨ z = 1#1 := by decide
  have sge : ∀ p : Fin 16384, IntOp.cmpi CmpIPredicate.sge (key (X p)) t = 1#1 ↔ t.toInt ≤ (key (X p)).toNat := fun p => by
    show BitVec.ofBool (BitVec.sle t (key (X p))) = 1#1 ↔ _
    rw [BitVec.sle_eq_decide, key_toInt]
    by_cases h : t.toInt ≤ ((key (X p)).toNat : ℤ)
    · simp [h]
    · simp [h]
  have okk : ∀ p : Fin 16384, ok p.val = true ↔ (row p = 1#1 ∨ ∀ p, row p = 0#1) ∧ t.toInt ≤ (key (X p)).toNat := fun p => by
    rw [hok p, beq_iff_eq, ← sge p, ← he]
    generalize row p = r
    generalize IntOp.cmpi CmpIPredicate.sgt e 0#32 = z
    generalize IntOp.cmpi CmpIPredicate.sge (key (X p)) t = y
    revert r z y
    decide
  obtain ⟨hx1, hx2⟩ := (mem_picks _ _ _).1 hx
  let x' : Fin 16384 := ⟨x, hx1⟩
  have mem : ∀ q : Fin 16384, q.val ∈ picks ok 0 16384 ↔ (row q = 1#1 ∨ ∀ p, row p = 0#1) ∧ t.toInt ≤ (key (X q)).toNat := fun q => by
    rw [mem_picks, okk]
    exact ⟨fun h => h.2, fun h => ⟨q.isLt, h⟩⟩
  have hxk := (mem x').1 hx
  simp only [noiseOfRef_eq]
  refine first_best _ x' fun q => ?_
  have real : ∀ (p : Fin 16384) (c : ℝ), noiseOf (key (X p)) + (c : EReal) = ((noise (key (X p)).toNat + c : ℝ) : EReal) := fun p c => by
    rw [noiseOf_key, ← EReal.coe_add]
  by_cases hE : ∀ p, row p = 0#1
  · have hv : ∀ p : Fin 16384, noiseOf (key (X p)) + Scalar.select (row p) (Ideal.ofBits .f32 0x00000000#32) (Ideal.ofBits .f32 0xCE6E6B28#32) = sc p.val := fun p => by
      rw [hsc, hE p]
      unfold valueOf
      rw [he.2 hE]
      rfl
    rw [hv q, hv x']
    by_cases hq : q.val ∈ picks ok 0 16384
    · exact (hbest _ hq).imp id fun h => ⟨h.1, h.2⟩
    · refine .inl ?_
      have hlt : (key (X q)).toNat < (key (X x')).toNat := by
        by_contra hc
        exact hq ((mem q).2 ⟨.inr hE, by have := hxk.2; omega⟩)
      rw [← hv q, ← hv x', hE q, hE x', show ∀ a b : EReal, Scalar.select (0#1) a b = b from fun _ _ => rfl, ofBits_mask, real, real]
      exact EReal.coe_lt_coe_iff.2 (add_lt_add_left (noise_lt hlt (key_lt _)) _)
  · have hz : IntOp.cmpi CmpIPredicate.sgt e 0#32 = 0#1 := (bit _).resolve_right fun h => hE (he.1 h)
    have hs : ∀ p : Fin 16384, sc p.val = ((noise (key (X p)).toNat : ℝ) : EReal) := fun p => by
      rw [hsc]
      unfold valueOf
      rw [hz, ← noiseOf_key]
      rfl
    have hin : ∀ p : Fin 16384, row p = 1#1 → noiseOf (key (X p)) + Scalar.select (row p) (Ideal.ofBits .f32 0x00000000#32) (Ideal.ofBits .f32 0xCE6E6B28#32) = sc p.val := fun p hp => by
      rw [hp, hs, show ∀ a b : EReal, Scalar.select (1#1) a b = a from fun _ _ => rfl, ofBits_zero, real, add_zero]
    have hx1' : row x' = 1#1 := hxk.1.resolve_right hE
    rw [hin x' hx1']
    rcases bit (row q) with hq0 | hq1
    · refine .inl ?_
      rw [hq0, hs, show ∀ a b : EReal, Scalar.select (0#1) a b = b from fun _ _ => rfl, ofBits_mask, real]
      refine EReal.coe_lt_coe_iff.2 ?_
      linarith [(noise_bounds (key_lt (X q))).2, (noise_bounds (key_lt (X x'))).1]
    · rw [hin q hq1]
      by_cases hq : q.val ∈ picks ok 0 16384
      · exact (hbest _ hq).imp id fun h => ⟨h.1, h.2⟩
      · refine .inl ?_
        have hlt : (key (X q)).toNat < (key (X x')).toNat := by
          by_contra hc
          exact hq ((mem q).2 ⟨.inl hq1, by have := hxk.2; omega⟩)
        rw [hs, hs]
        exact EReal.coe_lt_coe_iff.2 (noise_lt hlt (key_lt _))

end Cert.Sampler
-- ==== Proof.Sampler.ChooseBig.lean ====
/- The choice of the winner at count 175: the kernel's, and the reference's over all pixels. -/
module

public import proofs.«01_k».proof.Proof.Gen.ChooseBigIdeal.Run
public import proofs.«01_k».proof.Proof.Gen.ChooseBigRefIdeal.Run
public import proofs.«01_k».proof.Proof.Gen.Pre_selected_big
public import proofs.«01_k».proof.Proof.Sampler.SelectBigRef
public import proofs.«01_k».proof.Proof.Sampler.Draw
public import Idealize.ShloMosaic.Lib.ReduceAll

@[expose] public section

noncomputable section

namespace Cert.ChooseBigIdeal.Value

open Idealize.ShloMosaic Idealize.ShloMosaic.TcCoe Cert.ChooseBigIdeal Cert.ChooseBigIdeal.Gen Cert.Sampler

/-- Where a candidate's word is taken, -/
def place (W : IVec S152x175x1 32) : IVec S152x175x1x1 32 :=
  shapeCast _ (select (cmpi .slt W (broadcastInDim S152x175x1 ![] bcast_S_S152x175x1 (constantI S_ 32 0#32))) (addi W (broadcastInDim S152x175x1 ![] bcast_S_S152x175x1 (constantI S_ 32 16384#32))) W) shapeCasts_S152x175x1_S152x175x1x1

theorem place_apply (W : IVec S152x175x1 32) (j : Fin 152) (r : Fin 175) : place W (ix4 j r 0 0) = wrap (W (ix3 j r 0)) := by
  pointwise [place]
  rfl

/-- whether that lies within, -/
def inside (U : IVec S152x175x1x1 32) : IVec S152x175x1 1 :=
  Host.reduce IntOp.andi (andi (cmpi .sge U (broadcastInDim S152x175x1x1 ![] bcast_S_S152x175x1x1 (constantI S_ 32 0#32))) (cmpi .sle U (broadcastInDim S152x175x1x1 ![0, 1, 2, 3] bcast_S1x1x1x1_S152x175x1x1_0_1_2_3 (broadcastInDim S1x1x1x1 ![3] bcast_S1_S1x1x1x1_3 (constantI S1 32 16383#32))))) (constantI S_ 1 1#1) reducesTo_S152x175x1x1_S152x175x1_d3 h_S_

theorem inside_apply (U : IVec S152x175x1x1 32) (j : Fin 152) (r : Fin 175)
    (h : IntOp.andi (IntOp.cmpi CmpIPredicate.sge (U (ix4 j r 0 0)) 0#32) (IntOp.cmpi CmpIPredicate.sle (U (ix4 j r 0 0)) 16383#32) = 1#1) :
    inside U (ix3 j r 0) = 1#1 := by
  pointwise [inside]
  rw [Finset.univ_unique, Finset.fold_singleton]
  exact (congrArg (IntOp.andi · 1#1) h).trans (by decide)

/-- and the word there. -/
def taken (X : IVec S152x175x16384 32) (U : IVec S152x175x1x1 32) : IVec S152x175x1 32 :=
  select (inside U) (Host.gather gather_S152x175x16384_S152x175x1x1_S152x175x1_n_2_01_01_2_3_111 X U) (broadcastInDim S152x175x1 ![] bcast_S_S152x175x1 (constantI S_ 32 4294967295#32))

theorem taken_apply (X : IVec S152x175x16384 32) (U : IVec S152x175x1x1 32) (j : Fin 152) (r : Fin 175) {x : ℕ} (hx : x < 16384)
    (h : U (ix4 j r 0 0) = BitVec.ofNat 32 x) : taken X U (ix3 j r 0) = X (ix3 j r ⟨x, hx⟩) := by
  have e : taken X U (ix3 j r 0) = Scalar.select (inside U (ix3 j r 0)) (Host.gather gather_S152x175x16384_S152x175x1x1_S152x175x1_n_2_01_01_2_3_111 X U (ix3 j r 0)) 4294967295#32 := rfl
  rw [e, inside_apply U j r (by rw [h]; exact inside_small hx)]
  refine (gather_last (by norm_num) gather_S152x175x16384_S152x175x1x1_S152x175x1_n_2_01_01_2_3_111_wf X U j r).trans ?_
  refine congrArg (fun q : Fin 16384 => X (ix3 j r q)) (Fin.ext ?_)
  dsimp only
  rw [h, toInt_small (by omega)]
  omega

/-- The noise of a word, -/
def noises (V : IVec S152x175x1 32) : FVec Ideal S152x175x1 .f32 :=
  Host.negf (Host.log (Host.negf (Host.log (maximumf (addf (mulf (sitofp .f32 (id (Host.shrui V (broadcastInDim S152x175x1 ![] bcast_S_S152x175x1 (constantI S_ 32 9#32))))) (broadcastInDim S152x175x1 ![] bcast_S_S152x175x1 (constant S_ .f32 0x34000000#32))) (broadcastInDim S152x175x1 ![] bcast_S_S152x175x1 (constant S_ .f32 0x00800000#32))) (broadcastInDim S152x175x1 ![] bcast_S_S152x175x1 (constant S_ .f32 0x00800000#32))))))

theorem noises_apply (V : IVec S152x175x1 32) (j : Fin 152) (r : Fin 175) : noises V (ix3 j r 0) = noiseOf (key (V (ix3 j r 0))) := by
  rfl

/-- the value of a candidate, -/
def valued (E : IVec S152x175x1 32) (N : FVec Ideal S152x175x1 .f32) : FVec Ideal S152x175x1 .f32 :=
  select (cmpi .sgt E (broadcastInDim S152x175x1 ![] bcast_S_S152x175x1 (constantI S_ 32 0#32))) (addf N (broadcastInDim S152x175x1 ![] bcast_S_S152x175x1 (constant S_ .f32 0xCE6E6B28#32))) N

theorem valued_apply (X : IVec S152x175x16384 32) (E W : IVec S152x175x1 32) (j : Fin 152) (r : Fin 175) {x : ℕ} (hx : x < 16384)
    (h : W (ix3 j r 0) = BitVec.ofNat 32 x) :
    valued E (noises (taken X (place W))) (ix3 j r 0) = valueOf (E (ix3 j r 0)) (key (X (ix3 j r ⟨x, hx⟩))) := by
  have e : valued E (noises (taken X (place W))) (ix3 j r 0) = valueOf (E (ix3 j r 0)) (key (taken X (place W) (ix3 j r 0))) := rfl
  rw [e, taken_apply X (place W) j r hx (by rw [place_apply, h, wrap_small hx])]

/-- and its remainder. -/
def reduced (W : IVec S152x175x1 32) : IVec S152x175x1 32 :=
  let d : IVec S_ 32 := select (cmpi .eq (id (constantI S_ 32 16384#32)) (constantI S_ 32 0#32)) (constantI S_ 32 1#32) (id (constantI S_ 32 16384#32))
  let q : IVec S152x175x1 32 := Host.remui (id W) (broadcastInDim S152x175x1 ![] bcast_S_S152x175x1 d)
  id (select (andi (cmpi .ne (cmpi .ult q (broadcastInDim S152x175x1 ![] bcast_S_S152x175x1 (constantI S_ 32 0#32))) (broadcastInDim S152x175x1 ![] bcast_S_S152x175x1 (cmpi .ult d (constantI S_ 32 0#32)))) (cmpi .ne q (broadcastInDim S152x175x1 ![] bcast_S_S152x175x1 (constantI S_ 32 0#32)))) (addi q (broadcastInDim S152x175x1 ![] bcast_S_S152x175x1 d)) q)

theorem reduced_apply (W : IVec S152x175x1 32) (j : Fin 152) (r : Fin 175) : reduced W (ix3 j r 0) = remainder (W (ix3 j r 0)) := rfl

/-! ## The candidates in turn -/

variable (V : Valuation τ sig (Elt Ideal))

abbrev X : IVec S152x175x16384 32 := V (Proc.devRef .tc main_arg0)
abbrev E : IVec S152x175x1 32 := V (Proc.devRef .tc main_arg4)
abbrev C0 : IVec S152x175x1 32 := V (Proc.devRef .tc main_arg5)
abbrev C1 : IVec S152x175x1 32 := V (Proc.devRef .tc main_arg6)
abbrev C2 : IVec S152x175x1 32 := V (Proc.devRef .tc main_arg7)
abbrev C3 : IVec S152x175x1 32 := V (Proc.devRef .tc main_arg8)

theorem value0 : res_main_v20 (F := Ideal) V = valued (E V) (noises (taken (X V) (place (C0 V)))) := rfl
theorem value1 : res_main_v40 (F := Ideal) V = valued (E V) (noises (taken (X V) (place (reduced (C1 V))))) := rfl
theorem value2 : res_main_v66 (F := Ideal) V = valued (E V) (noises (taken (X V) (place (reduced (C2 V))))) := rfl
theorem value3 : res_main_v92 (F := Ideal) V = valued (E V) (noises (taken (X V) (place (reduced (C3 V))))) := rfl

/-- A pixel's value in draw `(j, r)`. -/
def score (j : Fin 152) (r : Fin 175) (x : ℕ) : EReal :=
  if h : x < 16384 then valueOf (E V (ix3 j r 0)) (key (X V (ix3 j r ⟨x, h⟩))) else 0

theorem value_of (W : IVec S152x175x1 32) (j : Fin 152) (r : Fin 175) {x : ℕ} (hx : x < 16384) (h : W (ix3 j r 0) = BitVec.ofNat 32 x) :
    valued (E V) (noises (taken (X V) (place W))) (ix3 j r 0) = score V j r x :=
  (valued_apply (X V) (E V) W j r hx h).trans (by unfold score; rw [dif_pos hx])

theorem value_at (W : IVec S152x175x1 32) (j : Fin 152) (r : Fin 175) {L : List ℕ} (hL : ∀ x ∈ L, x < 16384) {k : ℕ} (hW : W (ix3 j r 0) = nth L k)
    (h : k < L.length) : valued (E V) (noises (taken (X V) (place W))) (ix3 j r 0) = score V j r L[k] := by
  refine value_of V W j r (hL _ (List.getElem_mem h)) (hW.trans ?_)
  unfold nth
  rw [getD_in L k h]

theorem reduced_value_at (W : IVec S152x175x1 32) (j : Fin 152) (r : Fin 175) {L : List ℕ} (hL : ∀ x ∈ L, x < 16384) {k : ℕ} (hW : W (ix3 j r 0) = nth L k)
    (h : k < L.length) : valued (E V) (noises (taken (X V) (place (reduced W)))) (ix3 j r 0) = score V j r L[k] := by
  refine value_of V _ j r (hL _ (List.getElem_mem h)) ?_
  rw [reduced_apply, hW]
  unfold nth
  rw [getD_in L k h, remainder_small (hL _ (List.getElem_mem h))]

/-- The kernel's winner. -/
def winner : IVec S152x175x1 32 :=
  select (res_main_v96 (F := Ideal) V) (C3 V) (select (res_main_v70 (F := Ideal) V) (C2 V) (select (res_main_v44 (F := Ideal) V) (C1 V) (C0 V)))

theorem winner_best (j : Fin 152) (r : Fin 175) {L : List ℕ} (hs : L.Pairwise (· < ·)) (hL : ∀ x ∈ L, x < 16384) (h0 : 0 < L.length) (h4 : L.length ≤ 4)
    (c0 : C0 V (ix3 j r 0) = nth L 0) (c1 : C1 V (ix3 j r 0) = nth L 1) (c2 : C2 V (ix3 j r 0) = nth L 2) (c3 : C3 V (ix3 j r 0) = nth L 3) :
    ∃ b, Best (score V j r) L (winner V (ix3 j r 0)) b := by
  have b1 : Best (score V j r) (L.take 1) (C0 V (ix3 j r 0)) (res_main_v20 (F := Ideal) V (ix3 j r 0)) := by
    rw [c0, value0]
    exact Best.first h0 fun h => value_at V (C0 V) j r hL c0 h
  have b2 := Best.next hs hL b1 (v := res_main_v40 (F := Ideal) V (ix3 j r 0)) fun h => by
    rw [value1]
    exact reduced_value_at V (C1 V) j r hL c1 h
  have b3 := Best.next hs hL b2 (v := res_main_v66 (F := Ideal) V (ix3 j r 0)) fun h => by
    rw [value2]
    exact reduced_value_at V (C2 V) j r hL c2 h
  have b4 := Best.next hs hL b3 (v := res_main_v92 (F := Ideal) V (ix3 j r 0)) fun h => by
    rw [value3]
    exact reduced_value_at V (C3 V) j r hL c3 h
  rw [List.take_of_length_le h4] at b4
  unfold has at b4
  rw [← c1, ← c2, ← c3] at b4
  exact ⟨_, b4⟩

end Cert.ChooseBigIdeal.Value

namespace Cert.ChooseBigRefIdeal.Value

open Idealize.ShloMosaic Idealize.ShloMosaic.TcCoe Cert.ChooseBigRefIdeal Cert.ChooseBigRefIdeal.Gen Cert.Sampler
open Cert.MaximaBigRef.Value (rows rows_apply)

/-- The logits, -/
def logits (P L : S4x1x16384.Idx → BitVec 32) : FVec Ideal S152x175x16384 .f32 :=
  broadcastInDim S152x175x16384 ![0, 1, 2] bcast_S152x1x16384_S152x175x16384_0_1_2 (id (select (rows P L) (broadcastInDim S152x1x16384 ![] bcast_S_S152x1x16384 (constant S_ .f32 0x00000000#32)) (broadcastInDim S152x1x16384 ![] bcast_S_S152x1x16384 (constant S_ .f32 0xCE6E6B28#32))))

theorem logits_apply (P L : S4x1x16384.Idx → BitVec 32) (j : Fin 152) (r : Fin 175) (p : Fin 16384) :
    logits P L (ix3 j r p) = Scalar.select (within bigRow P L j p) (Ideal.ofBits .f32 0x00000000#32) (Ideal.ofBits .f32 0xCE6E6B28#32) := by
  rw [← rows_apply]
  have e : ∀ Z : FVec Ideal S152x1x16384 .f32, broadcastInDim S152x175x16384 ![0, 1, 2] bcast_S152x1x16384_S152x175x16384_0_1_2 Z (ix3 j r p) = Z (ix3 j 0 p) := fun Z => by
    pointwise []
  exact e _

/-- the reference's noise and logit of every pixel, -/
def sums (X : IVec S152x175x16384 32) (P L : S4x1x16384.Idx → BitVec 32) : FVec Ideal S152x175x16384 .f32 :=
  addf (Host.negf (Host.log (Host.negf (Host.log (maximumf (broadcastInDim S152x175x16384 ![] bcast_S_S152x175x16384 (constant S_ .f32 0x00800000#32)) (addf (mulf (mulf (sitofp .f32 (id (Host.shrui X (broadcastInDim S152x175x16384 ![] bcast_S_S152x175x16384 (constantI S_ 32 9#32))))) (broadcastInDim S152x175x16384 ![] bcast_S_S152x175x16384 (constant S_ .f32 0x34000000#32))) (broadcastInDim S152x175x16384 ![] bcast_S_S152x175x16384 (constant S_ .f32 0x3F800000#32))) (broadcastInDim S152x175x16384 ![] bcast_S_S152x175x16384 (constant S_ .f32 0x00800000#32)))))))) (logits P L)

theorem sums_apply (X : IVec S152x175x16384 32) (P L : S4x1x16384.Idx → BitVec 32) (j : Fin 152) (r : Fin 175) (p : Fin 16384) :
    sums X P L (ix3 j r p) = noiseOfRef (key (X (ix3 j r p))) + Scalar.select (within bigRow P L j p) (Ideal.ofBits .f32 0x00000000#32) (Ideal.ofBits .f32 0xCE6E6B28#32) := by
  rw [← logits_apply P L j r p]
  rfl

/-- and its winner. -/
def winner (X : IVec S152x175x16384 32) (P L : S4x1x16384.Idx → BitVec 32) : IVec S152x175x1 32 :=
  broadcastInDim S152x175x1 ![0, 1] bcast_S152x175_S152x175x1_0_1 (Host.reduce IntOp.minsi (select (cmpf .oeq (sums X P L) (broadcastInDim S152x175x16384 ![0, 1, 2] bcast_S152x175x1_S152x175x16384_0_1_2 (broadcastInDim S152x175x1 ![0, 1] bcast_S152x175_S152x175x1_0_1 (Host.reduce FloatOps.maximumf (sums X P L) (constant S_ .f32 0xFF800000#32) reducesTo_S152x175x16384_S152x175_d2 h_S_)))) (broadcastInDim S152x175x16384 ![2] bcast_S16384_S152x175x16384_2 (iotaInDim S16384 32 0)) (broadcastInDim S152x175x16384 ![] bcast_S_S152x175x16384 (id (constantI S_ 32 16384#32)))) (constantI S_ 32 2147483647#32) reducesTo_S152x175x16384_S152x175_d2 h_S_)

theorem result_eq (m : (ℓ : Loc nD τ sig) → Buf (Elt Ideal) ℓ) (c : Dev nD) :
    res_main_v52 (F := Ideal) m c = winner (m ((c.tc : Thread nD τ).loc main_arg0)) (m ((c.tc : Thread nD τ).loc main_arg1)) (m ((c.tc : Thread nD τ).loc main_arg2)) := rfl

theorem winner_apply (X : IVec S152x175x16384 32) (P L : S4x1x16384.Idx → BitVec 32) (j : Fin 152) (r : Fin 175) :
    winner X P L (ix3 j r 0) = Finset.univ.fold IntOp.minsi 2147483647#32
        (fun q : Fin 16384 => Scalar.select (Ideal.cmp .oeq (sums X P L (ix3 j r q)) (Finset.univ.fold max ⊥ fun p : Fin 16384 => sums X P L (ix3 j r p)))
          (BitVec.ofNat 32 q.val) 16384#32) := by
  have top : ∀ q : Fin 16384, broadcastInDim S152x175x16384 ![0, 1, 2] bcast_S152x175x1_S152x175x16384_0_1_2 (broadcastInDim S152x175x1 ![0, 1] bcast_S152x175_S152x175x1_0_1 (Host.reduce FloatOps.maximumf (sums X P L) (constant S_ .f32 0xFF800000#32) reducesTo_S152x175x16384_S152x175_d2 h_S_)) (ix3 j r q)
      = Finset.univ.fold max ⊥ fun p : Fin 16384 => sums X P L (ix3 j r p) := fun q => by
    generalize sums X P L = G
    pointwise []
    rw [ofBits_low]
  unfold winner
  generalize broadcastInDim S152x175x16384 ![0, 1, 2] bcast_S152x175x1_S152x175x16384_0_1_2 (broadcastInDim S152x175x1 ![0, 1] bcast_S152x175_S152x175x1_0_1 (Host.reduce FloatOps.maximumf (sums X P L) (constant S_ .f32 0xFF800000#32) reducesTo_S152x175x16384_S152x175_d2 h_S_)) = T at top ⊢
  generalize sums X P L = G at top ⊢
  pointwise []
  refine congrArg (fun f => Finset.fold IntOp.minsi 2147483647#32 f Finset.univ) (funext fun q => ?_)
  rw [top]
  rfl

end Cert.ChooseBigRefIdeal.Value

namespace Cert.Pre_selected_big.Value

open Idealize.ShloMosaic Cert.Pre_selected_big Cert.Pre_selected_big.Gen Cert.Sampler
open Cert.MaximaBigRef.Value (rows rows_apply)
open Cert.SelectBigRef.Value (ranked ranked_apply)

variable (X : IVec S152x175x16384 32) (P L : IVec S4x1x16384 32) (K E c0 c1 c2 c3 : IVec S152x175x1 32)

/-- Whether a group has a pixel, -/
def some : IVec S152x175x1 1 :=
  broadcastInDim S152x175x1 ![0, 1, 2] bcast_S152x1x1_S152x175x1_0_1_2 (noti (broadcastInDim S152x1x1 ![0, 1] bcast_S152x1_S152x1x1_0_1 (Host.reduce IntOp.ori (rows P L) (constantI S_ 1 0#1) reducesTo_S152x1x16384_S152x1_d2 h_S_)))

theorem some_apply (j : Fin 152) (r : Fin 175) : some P L (ix3 j r 0) = ~~~(Finset.univ.fold IntOp.ori 0#1 fun p : Fin 16384 => within bigRow P L j p) := by
  simp only [← rows_apply]
  unfold some
  generalize rows P L = R
  pointwise []

/-- the least pixels, -/
def l0 : IVec S152x175x1 32 := extractStridedSlice S152x175x1 ![0, 0, 0] (ranked X P L K E) slices_S152x175x16384_S152x175x1_0_0_0
def l1 : IVec S152x175x1 32 := extractStridedSlice S152x175x1 ![0, 0, 1] (ranked X P L K E) slices_S152x175x16384_S152x175x1_0_0_1
def l2 : IVec S152x175x1 32 := extractStridedSlice S152x175x1 ![0, 0, 2] (ranked X P L K E) slices_S152x175x16384_S152x175x1_0_0_2
def l3 : IVec S152x175x1 32 := extractStridedSlice S152x175x1 ![0, 0, 3] (ranked X P L K E) slices_S152x175x16384_S152x175x1_0_0_3
def l4 : IVec S152x175x1 32 := extractStridedSlice S152x175x1 ![0, 0, 4] (ranked X P L K E) slices_S152x175x16384_S152x175x1_0_0_4

theorem l0_apply (j : Fin 152) (r : Fin 175) : l0 X P L K E (ix3 j r 0) = nth (picks (drawable bigRow X P L K E j r) 0 16384) 0 := by
  refine Eq.trans ?_ (ranked_apply X P L K E j r ⟨0, by norm_num⟩)
  pointwise [l0]
theorem l1_apply (j : Fin 152) (r : Fin 175) : l1 X P L K E (ix3 j r 0) = nth (picks (drawable bigRow X P L K E j r) 0 16384) 1 := by
  refine Eq.trans ?_ (ranked_apply X P L K E j r ⟨1, by norm_num⟩)
  pointwise [l1]
theorem l2_apply (j : Fin 152) (r : Fin 175) : l2 X P L K E (ix3 j r 0) = nth (picks (drawable bigRow X P L K E j r) 0 16384) 2 := by
  refine Eq.trans ?_ (ranked_apply X P L K E j r ⟨2, by norm_num⟩)
  pointwise [l2]
theorem l3_apply (j : Fin 152) (r : Fin 175) : l3 X P L K E (ix3 j r 0) = nth (picks (drawable bigRow X P L K E j r) 0 16384) 3 := by
  refine Eq.trans ?_ (ranked_apply X P L K E j r ⟨3, by norm_num⟩)
  pointwise [l3]
theorem l4_apply (j : Fin 152) (r : Fin 175) : l4 X P L K E (ix3 j r 0) = nth (picks (drawable bigRow X P L K E j r) 0 16384) 4 := by
  refine Eq.trans ?_ (ranked_apply X P L K E j r ⟨4, by norm_num⟩)
  pointwise [l4]

/-- and what the precondition asks of each draw. -/
def holds : IVec S152x175x1 1 :=
  andi (andi (andi (andi (andi (andi (cmpi .eq (cmpi .sgt E (broadcastInDim S152x175x1 ![] bcast_S_S152x175x1 (constantI S_ 32 0#32))) (some P L))
    (cmpi .slt (l0 X P L K E) (broadcastInDim S152x175x1 ![] bcast_S_S152x175x1 (constantI S_ 32 16384#32))))
    (cmpi .eq (l4 X P L K E) (broadcastInDim S152x175x1 ![] bcast_S_S152x175x1 (constantI S_ 32 16384#32))))
    (cmpi .eq c0 (l0 X P L K E))) (cmpi .eq c1 (l1 X P L K E))) (cmpi .eq c2 (l2 X P L K E))) (cmpi .eq c3 (l3 X P L K E))

theorem fn_eq : fn (F := Ideal) X P L K E c0 c1 c2 c3
    = Host.reduce IntOp.andi (holds X P L K E c0 c1 c2 c3) (constantI S_ 1 1#1) reducesTo_S152x175x1_S_d0_1_2 h_S_ := rfl

theorem of_fn (h : fn (F := Ideal) X P L K E c0 c1 c2 c3 = fun _ => 1#1) (j : Fin 152) (r : Fin 175) :
    (IntOp.cmpi CmpIPredicate.sgt (E (ix3 j r 0)) 0#32 = 1#1 ↔ ∀ p, within bigRow P L j p = 0#1)
      ∧ 0 < (picks (drawable bigRow X P L K E j r) 0 16384).length ∧ (picks (drawable bigRow X P L K E j r) 0 16384).length ≤ 4
      ∧ c0 (ix3 j r 0) = nth (picks (drawable bigRow X P L K E j r) 0 16384) 0 ∧ c1 (ix3 j r 0) = nth (picks (drawable bigRow X P L K E j r) 0 16384) 1
      ∧ c2 (ix3 j r 0) = nth (picks (drawable bigRow X P L K E j r) 0 16384) 2 ∧ c3 (ix3 j r 0) = nth (picks (drawable bigRow X P L K E j r) 0 16384) 3 := by
  have : Subsingleton S_.Idx := ⟨fun a b => funext fun d => d.elim0⟩
  have hi : holds X P L K E c0 c1 c2 c3 (ix3 j r 0) = 1#1 :=
    Host.reduce_andi_all _ _ _ _ ix0 ((congrFun (fn_eq X P L K E c0 c1 c2 c3) ix0).symm.trans (congrFun h ix0)) _
  obtain ⟨h, h3⟩ := andi_one (a := _) (b := IntOp.cmpi .eq (c3 (ix3 j r 0)) (l3 X P L K E (ix3 j r 0))) hi
  obtain ⟨h, h2⟩ := andi_one (a := _) (b := IntOp.cmpi .eq (c2 (ix3 j r 0)) (l2 X P L K E (ix3 j r 0))) h
  obtain ⟨h, h1⟩ := andi_one (a := _) (b := IntOp.cmpi .eq (c1 (ix3 j r 0)) (l1 X P L K E (ix3 j r 0))) h
  obtain ⟨h, h0⟩ := andi_one (a := _) (b := IntOp.cmpi .eq (c0 (ix3 j r 0)) (l0 X P L K E (ix3 j r 0))) h
  obtain ⟨h, hl⟩ := andi_one (a := _) (b := IntOp.cmpi .eq (l4 X P L K E (ix3 j r 0)) 16384#32) h
  obtain ⟨hm, hf⟩ := andi_one (a := IntOp.cmpi .eq (IntOp.cmpi .sgt (E (ix3 j r 0)) 0#32) (some P L (ix3 j r 0))) (b := IntOp.cmpi .slt (l0 X P L K E (ix3 j r 0)) 16384#32) h
  rw [some_apply] at hm
  rw [l0_apply] at hf h0
  rw [l1_apply] at h1
  rw [l2_apply] at h2
  rw [l3_apply] at h3
  rw [l4_apply] at hl
  exact ⟨(marks hm).trans (fold_ori_zero _), length_pos_of hf, length_le_of (picks_lt _ _ le_rfl) hl, eq_of_cmpi h0, eq_of_cmpi h1, eq_of_cmpi h2, eq_of_cmpi h3⟩

end Cert.Pre_selected_big.Value

namespace Cert.ChooseBigIdeal.Value

open Idealize.ShloMosaic Idealize.ShloMosaic.TcCoe Cert.ChooseBigIdeal Cert.ChooseBigIdeal.Gen Cert.Sampler

/-- The two winners agree. -/
theorem winner_eq (V : Valuation τ sig (Elt Ideal)) (P L : IVec S4x1x16384 32) (K : IVec S152x175x1 32)
    (h : Cert.Pre_selected_big.fn (F := Ideal) (X V) P L K (E V) (C0 V) (C1 V) (C2 V) (C3 V) = fun _ => 1#1) :
    winner V = Cert.ChooseBigRefIdeal.Value.winner (X V) P L := by
  funext i
  obtain ⟨j, r, z, rfl⟩ : ∃ (j : Fin 152) (r : Fin 175) (z : Fin 1), i = ix3 j r z := ⟨i 0, i 1, i 2, eq_ix3 i⟩
  obtain rfl : z = 0 := Subsingleton.elim _ _
  obtain ⟨he, h0, h4, e0, e1, e2, e3⟩ := Cert.Pre_selected_big.Value.of_fn _ _ _ _ _ _ _ _ _ h j r
  obtain ⟨b, hb⟩ := winner_best V j r (picks_sorted _ _) (picks_lt _ _ le_rfl) h0 h4 e0 e1 e2 e3
  rw [Cert.ChooseBigRefIdeal.Value.winner_apply]
  simp only [Cert.ChooseBigRefIdeal.Value.sums_apply]
  refine (best_of_all (row := within bigRow P L j) (X := fun p => X V (ix3 j r p)) (t := K (ix3 j r 0)) (e := E V (ix3 j r 0))
    (ok := drawable bigRow (X V) P L K (E V) j r) (sc := score V j r) (fun p => ?_) he (fun p => ?_) hb).symm
  · unfold drawable
    rw [dif_pos p.isLt]
    rfl
  · unfold score
    rw [dif_pos p.isLt]

end Cert.ChooseBigIdeal.Value
-- ==== Proof.Sampler.ChooseSmall.lean ====
/- The choice of the winner at count 75: the kernel's, and the reference's over all pixels. -/
module

public import proofs.«01_k».proof.Proof.Gen.ChooseSmallIdeal.Run
public import proofs.«01_k».proof.Proof.Gen.ChooseSmallRefIdeal.Run
public import proofs.«01_k».proof.Proof.Gen.Pre_selected_small
public import proofs.«01_k».proof.Proof.Sampler.SelectSmallRef
public import proofs.«01_k».proof.Proof.Sampler.Draw
public import Idealize.ShloMosaic.Lib.ReduceAll

@[expose] public section

noncomputable section

namespace Cert.ChooseSmallIdeal.Value

open Idealize.ShloMosaic Idealize.ShloMosaic.TcCoe Cert.ChooseSmallIdeal Cert.ChooseSmallIdeal.Gen Cert.Sampler

/-- Where a candidate's word is taken, -/
def place (W : IVec S152x75x1 32) : IVec S152x75x1x1 32 :=
  shapeCast _ (select (cmpi .slt W (broadcastInDim S152x75x1 ![] bcast_S_S152x75x1 (constantI S_ 32 0#32))) (addi W (broadcastInDim S152x75x1 ![] bcast_S_S152x75x1 (constantI S_ 32 16384#32))) W) shapeCasts_S152x75x1_S152x75x1x1

theorem place_apply (W : IVec S152x75x1 32) (j : Fin 152) (r : Fin 75) : place W (ix4 j r 0 0) = wrap (W (ix3 j r 0)) := by
  pointwise [place]
  rfl

/-- whether that lies within, -/
def inside (U : IVec S152x75x1x1 32) : IVec S152x75x1 1 :=
  Host.reduce IntOp.andi (andi (cmpi .sge U (broadcastInDim S152x75x1x1 ![] bcast_S_S152x75x1x1 (constantI S_ 32 0#32))) (cmpi .sle U (broadcastInDim S152x75x1x1 ![0, 1, 2, 3] bcast_S1x1x1x1_S152x75x1x1_0_1_2_3 (broadcastInDim S1x1x1x1 ![3] bcast_S1_S1x1x1x1_3 (constantI S1 32 16383#32))))) (constantI S_ 1 1#1) reducesTo_S152x75x1x1_S152x75x1_d3 h_S_

theorem inside_apply (U : IVec S152x75x1x1 32) (j : Fin 152) (r : Fin 75)
    (h : IntOp.andi (IntOp.cmpi CmpIPredicate.sge (U (ix4 j r 0 0)) 0#32) (IntOp.cmpi CmpIPredicate.sle (U (ix4 j r 0 0)) 16383#32) = 1#1) :
    inside U (ix3 j r 0) = 1#1 := by
  pointwise [inside]
  rw [Finset.univ_unique, Finset.fold_singleton]
  exact (congrArg (IntOp.andi · 1#1) h).trans (by decide)

/-- and the word there. -/
def taken (X : IVec S152x75x16384 32) (U : IVec S152x75x1x1 32) : IVec S152x75x1 32 :=
  select (inside U) (Host.gather gather_S152x75x16384_S152x75x1x1_S152x75x1_n_2_01_01_2_3_111 X U) (broadcastInDim S152x75x1 ![] bcast_S_S152x75x1 (constantI S_ 32 4294967295#32))

theorem taken_apply (X : IVec S152x75x16384 32) (U : IVec S152x75x1x1 32) (j : Fin 152) (r : Fin 75) {x : ℕ} (hx : x < 16384)
    (h : U (ix4 j r 0 0) = BitVec.ofNat 32 x) : taken X U (ix3 j r 0) = X (ix3 j r ⟨x, hx⟩) := by
  have e : taken X U (ix3 j r 0) = Scalar.select (inside U (ix3 j r 0)) (Host.gather gather_S152x75x16384_S152x75x1x1_S152x75x1_n_2_01_01_2_3_111 X U (ix3 j r 0)) 4294967295#32 := rfl
  rw [e, inside_apply U j r (by rw [h]; exact inside_small hx)]
  refine (gather_last (by norm_num) gather_S152x75x16384_S152x75x1x1_S152x75x1_n_2_01_01_2_3_111_wf X U j r).trans ?_
  refine congrArg (fun q : Fin 16384 => X (ix3 j r q)) (Fin.ext ?_)
  dsimp only
  rw [h, toInt_small (by omega)]
  omega

/-- The noise of a word, -/
def noises (V : IVec S152x75x1 32) : FVec Ideal S152x75x1 .f32 :=
  Host.negf (Host.log (Host.negf (Host.log (maximumf (addf (mulf (sitofp .f32 (id (Host.shrui V (broadcastInDim S152x75x1 ![] bcast_S_S152x75x1 (constantI S_ 32 9#32))))) (broadcastInDim S152x75x1 ![] bcast_S_S152x75x1 (constant S_ .f32 0x34000000#32))) (broadcastInDim S152x75x1 ![] bcast_S_S152x75x1 (constant S_ .f32 0x00800000#32))) (broadcastInDim S152x75x1 ![] bcast_S_S152x75x1 (constant S_ .f32 0x00800000#32))))))

theorem noises_apply (V : IVec S152x75x1 32) (j : Fin 152) (r : Fin 75) : noises V (ix3 j r 0) = noiseOf (key (V (ix3 j r 0))) := by
  rfl

/-- the value of a candidate, -/
def valued (E : IVec S152x75x1 32) (N : FVec Ideal S152x75x1 .f32) : FVec Ideal S152x75x1 .f32 :=
  select (cmpi .sgt E (broadcastInDim S152x75x1 ![] bcast_S_S152x75x1 (constantI S_ 32 0#32))) (addf N (broadcastInDim S152x75x1 ![] bcast_S_S152x75x1 (constant S_ .f32 0xCE6E6B28#32))) N

theorem valued_apply (X : IVec S152x75x16384 32) (E W : IVec S152x75x1 32) (j : Fin 152) (r : Fin 75) {x : ℕ} (hx : x < 16384)
    (h : W (ix3 j r 0) = BitVec.ofNat 32 x) :
    valued E (noises (taken X (place W))) (ix3 j r 0) = valueOf (E (ix3 j r 0)) (key (X (ix3 j r ⟨x, hx⟩))) := by
  have e : valued E (noises (taken X (place W))) (ix3 j r 0) = valueOf (E (ix3 j r 0)) (key (taken X (place W) (ix3 j r 0))) := rfl
  rw [e, taken_apply X (place W) j r hx (by rw [place_apply, h, wrap_small hx])]

/-- and its remainder. -/
def reduced (W : IVec S152x75x1 32) : IVec S152x75x1 32 :=
  let d : IVec S_ 32 := select (cmpi .eq (id (constantI S_ 32 16384#32)) (constantI S_ 32 0#32)) (constantI S_ 32 1#32) (id (constantI S_ 32 16384#32))
  let q : IVec S152x75x1 32 := Host.remui (id W) (broadcastInDim S152x75x1 ![] bcast_S_S152x75x1 d)
  id (select (andi (cmpi .ne (cmpi .ult q (broadcastInDim S152x75x1 ![] bcast_S_S152x75x1 (constantI S_ 32 0#32))) (broadcastInDim S152x75x1 ![] bcast_S_S152x75x1 (cmpi .ult d (constantI S_ 32 0#32)))) (cmpi .ne q (broadcastInDim S152x75x1 ![] bcast_S_S152x75x1 (constantI S_ 32 0#32)))) (addi q (broadcastInDim S152x75x1 ![] bcast_S_S152x75x1 d)) q)

theorem reduced_apply (W : IVec S152x75x1 32) (j : Fin 152) (r : Fin 75) : reduced W (ix3 j r 0) = remainder (W (ix3 j r 0)) := rfl

/-! ## The candidates in turn -/

variable (V : Valuation τ sig (Elt Ideal))

abbrev X : IVec S152x75x16384 32 := V (Proc.devRef .tc main_arg0)
abbrev E : IVec S152x75x1 32 := V (Proc.devRef .tc main_arg4)
abbrev C0 : IVec S152x75x1 32 := V (Proc.devRef .tc main_arg5)
abbrev C1 : IVec S152x75x1 32 := V (Proc.devRef .tc main_arg6)
abbrev C2 : IVec S152x75x1 32 := V (Proc.devRef .tc main_arg7)
abbrev C3 : IVec S152x75x1 32 := V (Proc.devRef .tc main_arg8)

theorem value0 : res_main_v20 (F := Ideal) V = valued (E V) (noises (taken (X V) (place (C0 V)))) := rfl
theorem value1 : res_main_v40 (F := Ideal) V = valued (E V) (noises (taken (X V) (place (reduced (C1 V))))) := rfl
theorem value2 : res_main_v66 (F := Ideal) V = valued (E V) (noises (taken (X V) (place (reduced (C2 V))))) := rfl
theorem value3 : res_main_v92 (F := Ideal) V = valued (E V) (noises (taken (X V) (place (reduced (C3 V))))) := rfl

/-- A pixel's value in draw `(j, r)`. -/
def score (j : Fin 152) (r : Fin 75) (x : ℕ) : EReal :=
  if h : x < 16384 then valueOf (E V (ix3 j r 0)) (key (X V (ix3 j r ⟨x, h⟩))) else 0

theorem value_of (W : IVec S152x75x1 32) (j : Fin 152) (r : Fin 75) {x : ℕ} (hx : x < 16384) (h : W (ix3 j r 0) = BitVec.ofNat 32 x) :
    valued (E V) (noises (taken (X V) (place W))) (ix3 j r 0) = score V j r x :=
  (valued_apply (X V) (E V) W j r hx h).trans (by unfold score; rw [dif_pos hx])

theorem value_at (W : IVec S152x75x1 32) (j : Fin 152) (r : Fin 75) {L : List ℕ} (hL : ∀ x ∈ L, x < 16384) {k : ℕ} (hW : W (ix3 j r 0) = nth L k)
    (h : k < L.length) : valued (E V) (noises (taken (X V) (place W))) (ix3 j r 0) = score V j r L[k] := by
  refine value_of V W j r (hL _ (List.getElem_mem h)) (hW.trans ?_)
  unfold nth
  rw [getD_in L k h]

theorem reduced_value_at (W : IVec S152x75x1 32) (j : Fin 152) (r : Fin 75) {L : List ℕ} (hL : ∀ x ∈ L, x < 16384) {k : ℕ} (hW : W (ix3 j r 0) = nth L k)
    (h : k < L.length) : valued (E V) (noises (taken (X V) (place (reduced W)))) (ix3 j r 0) = score V j r L[k] := by
  refine value_of V _ j r (hL _ (List.getElem_mem h)) ?_
  rw [reduced_apply, hW]
  unfold nth
  rw [getD_in L k h, remainder_small (hL _ (List.getElem_mem h))]

/-- The kernel's winner. -/
def winner : IVec S152x75x1 32 :=
  select (res_main_v96 (F := Ideal) V) (C3 V) (select (res_main_v70 (F := Ideal) V) (C2 V) (select (res_main_v44 (F := Ideal) V) (C1 V) (C0 V)))

theorem winner_best (j : Fin 152) (r : Fin 75) {L : List ℕ} (hs : L.Pairwise (· < ·)) (hL : ∀ x ∈ L, x < 16384) (h0 : 0 < L.length) (h4 : L.length ≤ 4)
    (c0 : C0 V (ix3 j r 0) = nth L 0) (c1 : C1 V (ix3 j r 0) = nth L 1) (c2 : C2 V (ix3 j r 0) = nth L 2) (c3 : C3 V (ix3 j r 0) = nth L 3) :
    ∃ b, Best (score V j r) L (winner V (ix3 j r 0)) b := by
  have b1 : Best (score V j r) (L.take 1) (C0 V (ix3 j r 0)) (res_main_v20 (F := Ideal) V (ix3 j r 0)) := by
    rw [c0, value0]
    exact Best.first h0 fun h => value_at V (C0 V) j r hL c0 h
  have b2 := Best.next hs hL b1 (v := res_main_v40 (F := Ideal) V (ix3 j r 0)) fun h => by
    rw [value1]
    exact reduced_value_at V (C1 V) j r hL c1 h
  have b3 := Best.next hs hL b2 (v := res_main_v66 (F := Ideal) V (ix3 j r 0)) fun h => by
    rw [value2]
    exact reduced_value_at V (C2 V) j r hL c2 h
  have b4 := Best.next hs hL b3 (v := res_main_v92 (F := Ideal) V (ix3 j r 0)) fun h => by
    rw [value3]
    exact reduced_value_at V (C3 V) j r hL c3 h
  rw [List.take_of_length_le h4] at b4
  unfold has at b4
  rw [← c1, ← c2, ← c3] at b4
  exact ⟨_, b4⟩

end Cert.ChooseSmallIdeal.Value

namespace Cert.ChooseSmallRefIdeal.Value

open Idealize.ShloMosaic Idealize.ShloMosaic.TcCoe Cert.ChooseSmallRefIdeal Cert.ChooseSmallRefIdeal.Gen Cert.Sampler
open Cert.MaximaSmallRef.Value (rows rows_apply)

/-- The logits, -/
def logits (P L : S4x1x16384.Idx → BitVec 32) : FVec Ideal S152x75x16384 .f32 :=
  broadcastInDim S152x75x16384 ![0, 1, 2] bcast_S152x1x16384_S152x75x16384_0_1_2 (id (select (rows P L) (broadcastInDim S152x1x16384 ![] bcast_S_S152x1x16384 (constant S_ .f32 0x00000000#32)) (broadcastInDim S152x1x16384 ![] bcast_S_S152x1x16384 (constant S_ .f32 0xCE6E6B28#32))))

theorem logits_apply (P L : S4x1x16384.Idx → BitVec 32) (j : Fin 152) (r : Fin 75) (p : Fin 16384) :
    logits P L (ix3 j r p) = Scalar.select (within smallRow P L j p) (Ideal.ofBits .f32 0x00000000#32) (Ideal.ofBits .f32 0xCE6E6B28#32) := by
  rw [← rows_apply]
  have e : ∀ Z : FVec Ideal S152x1x16384 .f32, broadcastInDim S152x75x16384 ![0, 1, 2] bcast_S152x1x16384_S152x75x16384_0_1_2 Z (ix3 j r p) = Z (ix3 j 0 p) := fun Z => by
    pointwise []
  exact e _

/-- the reference's noise and logit of every pixel, -/
def sums (X : IVec S152x75x16384 32) (P L : S4x1x16384.Idx → BitVec 32) : FVec Ideal S152x75x16384 .f32 :=
  addf (Host.negf (Host.log (Host.negf (Host.log (maximumf (broadcastInDim S152x75x16384 ![] bcast_S_S152x75x16384 (constant S_ .f32 0x00800000#32)) (addf (mulf (mulf (sitofp .f32 (id (Host.shrui X (broadcastInDim S152x75x16384 ![] bcast_S_S152x75x16384 (constantI S_ 32 9#32))))) (broadcastInDim S152x75x16384 ![] bcast_S_S152x75x16384 (constant S_ .f32 0x34000000#32))) (broadcastInDim S152x75x16384 ![] bcast_S_S152x75x16384 (constant S_ .f32 0x3F800000#32))) (broadcastInDim S152x75x16384 ![] bcast_S_S152x75x16384 (constant S_ .f32 0x00800000#32)))))))) (logits P L)

theorem sums_apply (X : IVec S152x75x16384 32) (P L : S4x1x16384.Idx → BitVec 32) (j : Fin 152) (r : Fin 75) (p : Fin 16384) :
    sums X P L (ix3 j r p) = noiseOfRef (key (X (ix3 j r p))) + Scalar.select (within smallRow P L j p) (Ideal.ofBits .f32 0x00000000#32) (Ideal.ofBits .f32 0xCE6E6B28#32) := by
  rw [← logits_apply P L j r p]
  rfl

/-- and its winner. -/
def winner (X : IVec S152x75x16384 32) (P L : S4x1x16384.Idx → BitVec 32) : IVec S152x75x1 32 :=
  broadcastInDim S152x75x1 ![0, 1] bcast_S152x75_S152x75x1_0_1 (Host.reduce IntOp.minsi (select (cmpf .oeq (sums X P L) (broadcastInDim S152x75x16384 ![0, 1, 2] bcast_S152x75x1_S152x75x16384_0_1_2 (broadcastInDim S152x75x1 ![0, 1] bcast_S152x75_S152x75x1_0_1 (Host.reduce FloatOps.maximumf (sums X P L) (constant S_ .f32 0xFF800000#32) reducesTo_S152x75x16384_S152x75_d2 h_S_)))) (broadcastInDim S152x75x16384 ![2] bcast_S16384_S152x75x16384_2 (iotaInDim S16384 32 0)) (broadcastInDim S152x75x16384 ![] bcast_S_S152x75x16384 (id (constantI S_ 32 16384#32)))) (constantI S_ 32 2147483647#32) reducesTo_S152x75x16384_S152x75_d2 h_S_)

theorem result_eq (m : (ℓ : Loc nD τ sig) → Buf (Elt Ideal) ℓ) (c : Dev nD) :
    res_main_v52 (F := Ideal) m c = winner (m ((c.tc : Thread nD τ).loc main_arg0)) (m ((c.tc : Thread nD τ).loc main_arg1)) (m ((c.tc : Thread nD τ).loc main_arg2)) := rfl

theorem winner_apply (X : IVec S152x75x16384 32) (P L : S4x1x16384.Idx → BitVec 32) (j : Fin 152) (r : Fin 75) :
    winner X P L (ix3 j r 0) = Finset.univ.fold IntOp.minsi 2147483647#32
        (fun q : Fin 16384 => Scalar.select (Ideal.cmp .oeq (sums X P L (ix3 j r q)) (Finset.univ.fold max ⊥ fun p : Fin 16384 => sums X P L (ix3 j r p)))
          (BitVec.ofNat 32 q.val) 16384#32) := by
  have top : ∀ q : Fin 16384, broadcastInDim S152x75x16384 ![0, 1, 2] bcast_S152x75x1_S152x75x16384_0_1_2 (broadcastInDim S152x75x1 ![0, 1] bcast_S152x75_S152x75x1_0_1 (Host.reduce FloatOps.maximumf (sums X P L) (constant S_ .f32 0xFF800000#32) reducesTo_S152x75x16384_S152x75_d2 h_S_)) (ix3 j r q)
      = Finset.univ.fold max ⊥ fun p : Fin 16384 => sums X P L (ix3 j r p) := fun q => by
    generalize sums X P L = G
    pointwise []
    rw [ofBits_low]
  unfold winner
  generalize broadcastInDim S152x75x16384 ![0, 1, 2] bcast_S152x75x1_S152x75x16384_0_1_2 (broadcastInDim S152x75x1 ![0, 1] bcast_S152x75_S152x75x1_0_1 (Host.reduce FloatOps.maximumf (sums X P L) (constant S_ .f32 0xFF800000#32) reducesTo_S152x75x16384_S152x75_d2 h_S_)) = T at top ⊢
  generalize sums X P L = G at top ⊢
  pointwise []
  refine congrArg (fun f => Finset.fold IntOp.minsi 2147483647#32 f Finset.univ) (funext fun q => ?_)
  rw [top]
  rfl

end Cert.ChooseSmallRefIdeal.Value

namespace Cert.Pre_selected_small.Value

open Idealize.ShloMosaic Cert.Pre_selected_small Cert.Pre_selected_small.Gen Cert.Sampler
open Cert.MaximaSmallRef.Value (rows rows_apply)
open Cert.SelectSmallRef.Value (ranked ranked_apply)

variable (X : IVec S152x75x16384 32) (P L : IVec S4x1x16384 32) (K E c0 c1 c2 c3 : IVec S152x75x1 32)

/-- Whether a group has a pixel, -/
def some : IVec S152x75x1 1 :=
  broadcastInDim S152x75x1 ![0, 1, 2] bcast_S152x1x1_S152x75x1_0_1_2 (noti (broadcastInDim S152x1x1 ![0, 1] bcast_S152x1_S152x1x1_0_1 (Host.reduce IntOp.ori (rows P L) (constantI S_ 1 0#1) reducesTo_S152x1x16384_S152x1_d2 h_S_)))

theorem some_apply (j : Fin 152) (r : Fin 75) : some P L (ix3 j r 0) = ~~~(Finset.univ.fold IntOp.ori 0#1 fun p : Fin 16384 => within smallRow P L j p) := by
  simp only [← rows_apply]
  unfold some
  generalize rows P L = R
  pointwise []

/-- the least pixels, -/
def l0 : IVec S152x75x1 32 := extractStridedSlice S152x75x1 ![0, 0, 0] (ranked X P L K E) slices_S152x75x16384_S152x75x1_0_0_0
def l1 : IVec S152x75x1 32 := extractStridedSlice S152x75x1 ![0, 0, 1] (ranked X P L K E) slices_S152x75x16384_S152x75x1_0_0_1
def l2 : IVec S152x75x1 32 := extractStridedSlice S152x75x1 ![0, 0, 2] (ranked X P L K E) slices_S152x75x16384_S152x75x1_0_0_2
def l3 : IVec S152x75x1 32 := extractStridedSlice S152x75x1 ![0, 0, 3] (ranked X P L K E) slices_S152x75x16384_S152x75x1_0_0_3
def l4 : IVec S152x75x1 32 := extractStridedSlice S152x75x1 ![0, 0, 4] (ranked X P L K E) slices_S152x75x16384_S152x75x1_0_0_4

theorem l0_apply (j : Fin 152) (r : Fin 75) : l0 X P L K E (ix3 j r 0) = nth (picks (drawable smallRow X P L K E j r) 0 16384) 0 := by
  refine Eq.trans ?_ (ranked_apply X P L K E j r ⟨0, by norm_num⟩)
  pointwise [l0]
theorem l1_apply (j : Fin 152) (r : Fin 75) : l1 X P L K E (ix3 j r 0) = nth (picks (drawable smallRow X P L K E j r) 0 16384) 1 := by
  refine Eq.trans ?_ (ranked_apply X P L K E j r ⟨1, by norm_num⟩)
  pointwise [l1]
theorem l2_apply (j : Fin 152) (r : Fin 75) : l2 X P L K E (ix3 j r 0) = nth (picks (drawable smallRow X P L K E j r) 0 16384) 2 := by
  refine Eq.trans ?_ (ranked_apply X P L K E j r ⟨2, by norm_num⟩)
  pointwise [l2]
theorem l3_apply (j : Fin 152) (r : Fin 75) : l3 X P L K E (ix3 j r 0) = nth (picks (drawable smallRow X P L K E j r) 0 16384) 3 := by
  refine Eq.trans ?_ (ranked_apply X P L K E j r ⟨3, by norm_num⟩)
  pointwise [l3]
theorem l4_apply (j : Fin 152) (r : Fin 75) : l4 X P L K E (ix3 j r 0) = nth (picks (drawable smallRow X P L K E j r) 0 16384) 4 := by
  refine Eq.trans ?_ (ranked_apply X P L K E j r ⟨4, by norm_num⟩)
  pointwise [l4]

/-- and what the precondition asks of each draw. -/
def holds : IVec S152x75x1 1 :=
  andi (andi (andi (andi (andi (andi (cmpi .eq (cmpi .sgt E (broadcastInDim S152x75x1 ![] bcast_S_S152x75x1 (constantI S_ 32 0#32))) (some P L))
    (cmpi .slt (l0 X P L K E) (broadcastInDim S152x75x1 ![] bcast_S_S152x75x1 (constantI S_ 32 16384#32))))
    (cmpi .eq (l4 X P L K E) (broadcastInDim S152x75x1 ![] bcast_S_S152x75x1 (constantI S_ 32 16384#32))))
    (cmpi .eq c0 (l0 X P L K E))) (cmpi .eq c1 (l1 X P L K E))) (cmpi .eq c2 (l2 X P L K E))) (cmpi .eq c3 (l3 X P L K E))

theorem fn_eq : fn (F := Ideal) X P L K E c0 c1 c2 c3
    = Host.reduce IntOp.andi (holds X P L K E c0 c1 c2 c3) (constantI S_ 1 1#1) reducesTo_S152x75x1_S_d0_1_2 h_S_ := rfl

theorem of_fn (h : fn (F := Ideal) X P L K E c0 c1 c2 c3 = fun _ => 1#1) (j : Fin 152) (r : Fin 75) :
    (IntOp.cmpi CmpIPredicate.sgt (E (ix3 j r 0)) 0#32 = 1#1 ↔ ∀ p, within smallRow P L j p = 0#1)
      ∧ 0 < (picks (drawable smallRow X P L K E j r) 0 16384).length ∧ (picks (drawable smallRow X P L K E j r) 0 16384).length ≤ 4
      ∧ c0 (ix3 j r 0) = nth (picks (drawable smallRow X P L K E j r) 0 16384) 0 ∧ c1 (ix3 j r 0) = nth (picks (drawable smallRow X P L K E j r) 0 16384) 1
      ∧ c2 (ix3 j r 0) = nth (picks (drawable smallRow X P L K E j r) 0 16384) 2 ∧ c3 (ix3 j r 0) = nth (picks (drawable smallRow X P L K E j r) 0 16384) 3 := by
  have : Subsingleton S_.Idx := ⟨fun a b => funext fun d => d.elim0⟩
  have hi : holds X P L K E c0 c1 c2 c3 (ix3 j r 0) = 1#1 :=
    Host.reduce_andi_all _ _ _ _ ix0 ((congrFun (fn_eq X P L K E c0 c1 c2 c3) ix0).symm.trans (congrFun h ix0)) _
  obtain ⟨h, h3⟩ := andi_one (a := _) (b := IntOp.cmpi .eq (c3 (ix3 j r 0)) (l3 X P L K E (ix3 j r 0))) hi
  obtain ⟨h, h2⟩ := andi_one (a := _) (b := IntOp.cmpi .eq (c2 (ix3 j r 0)) (l2 X P L K E (ix3 j r 0))) h
  obtain ⟨h, h1⟩ := andi_one (a := _) (b := IntOp.cmpi .eq (c1 (ix3 j r 0)) (l1 X P L K E (ix3 j r 0))) h
  obtain ⟨h, h0⟩ := andi_one (a := _) (b := IntOp.cmpi .eq (c0 (ix3 j r 0)) (l0 X P L K E (ix3 j r 0))) h
  obtain ⟨h, hl⟩ := andi_one (a := _) (b := IntOp.cmpi .eq (l4 X P L K E (ix3 j r 0)) 16384#32) h
  obtain ⟨hm, hf⟩ := andi_one (a := IntOp.cmpi .eq (IntOp.cmpi .sgt (E (ix3 j r 0)) 0#32) (some P L (ix3 j r 0))) (b := IntOp.cmpi .slt (l0 X P L K E (ix3 j r 0)) 16384#32) h
  rw [some_apply] at hm
  rw [l0_apply] at hf h0
  rw [l1_apply] at h1
  rw [l2_apply] at h2
  rw [l3_apply] at h3
  rw [l4_apply] at hl
  exact ⟨(marks hm).trans (fold_ori_zero _), length_pos_of hf, length_le_of (picks_lt _ _ le_rfl) hl, eq_of_cmpi h0, eq_of_cmpi h1, eq_of_cmpi h2, eq_of_cmpi h3⟩

end Cert.Pre_selected_small.Value

namespace Cert.ChooseSmallIdeal.Value

open Idealize.ShloMosaic Idealize.ShloMosaic.TcCoe Cert.ChooseSmallIdeal Cert.ChooseSmallIdeal.Gen Cert.Sampler

/-- The two winners agree. -/
theorem winner_eq (V : Valuation τ sig (Elt Ideal)) (P L : IVec S4x1x16384 32) (K : IVec S152x75x1 32)
    (h : Cert.Pre_selected_small.fn (F := Ideal) (X V) P L K (E V) (C0 V) (C1 V) (C2 V) (C3 V) = fun _ => 1#1) :
    winner V = Cert.ChooseSmallRefIdeal.Value.winner (X V) P L := by
  funext i
  obtain ⟨j, r, z, rfl⟩ : ∃ (j : Fin 152) (r : Fin 75) (z : Fin 1), i = ix3 j r z := ⟨i 0, i 1, i 2, eq_ix3 i⟩
  obtain rfl : z = 0 := Subsingleton.elim _ _
  obtain ⟨he, h0, h4, e0, e1, e2, e3⟩ := Cert.Pre_selected_small.Value.of_fn _ _ _ _ _ _ _ _ _ h j r
  obtain ⟨b, hb⟩ := winner_best V j r (picks_sorted _ _) (picks_lt _ _ le_rfl) h0 h4 e0 e1 e2 e3
  rw [Cert.ChooseSmallRefIdeal.Value.winner_apply]
  simp only [Cert.ChooseSmallRefIdeal.Value.sums_apply]
  refine (best_of_all (row := within smallRow P L j) (X := fun p => X V (ix3 j r p)) (t := K (ix3 j r 0)) (e := E V (ix3 j r 0))
    (ok := drawable smallRow (X V) P L K (E V) j r) (sc := score V j r) (fun p => ?_) he (fun p => ?_) hb).symm
  · unfold drawable
    rw [dif_pos p.isLt]
    rfl
  · unfold score
    rw [dif_pos p.isLt]

end Cert.ChooseSmallIdeal.Value
-- ==== Proof.Sampler.Choose.lean ====
/- The choices of the winner against the reference's draw: equal pixels; and their frames. -/
module

public import proofs.«01_k».proof.Defs
public import proofs.«01_k».proof.Proof.Gen.Pre_drawn
public import proofs.«01_k».proof.Proof.Sampler.ChooseBig
public import proofs.«01_k».proof.Proof.Sampler.ChooseSmall
public import Idealize.ShloMosaic.Lib.Quiescent

@[expose] public section

noncomputable section

namespace Cert.Proof

open Idealize.ShloMosaic Idealize.ShloMosaic.TcCoe Idealize.SL.Sem Cert.Sampler

theorem frame_ChooseBigIdeal : Cert.quiescent_ChooseBigIdeal (hChooseBigIdeal := Cert.ChooseBigIdeal.Gen.facts) := fun m g _ =>
  (θ_run _ _ _).mono (fun _ h => ⟨fun c => (h c).2, sem_eq_zero_of_no_sems (by decide) _⟩) (Cert.ChooseBigIdeal.Value.run m g)

theorem frame_ChooseBigIdeal_pre : Cert.quiescent_ChooseBigIdeal_pre_selected_big (hChooseBigIdeal := Cert.ChooseBigIdeal.Gen.facts) (hPre_selected_big := Cert.Pre_selected_big.Gen.facts) :=
  fun m g _ => frame_ChooseBigIdeal m g trivial

theorem frame_ChooseBigRefIdeal : Cert.quiescent_ChooseBigRefIdeal (hChooseBigRefIdeal := Cert.ChooseBigRefIdeal.Gen.facts) := fun m g _ =>
  (θ_run _ _ _).mono (fun _ h => ⟨fun c => (h c).2, sem_eq_zero_of_no_sems (by decide) _⟩) (Cert.ChooseBigRefIdeal.Value.run m g)

theorem frame_ChooseBigRefIdeal_pre : Cert.quiescent_ChooseBigRefIdeal_pre_selected_big (hChooseBigRefIdeal := Cert.ChooseBigRefIdeal.Gen.facts) (hPre_selected_big := Cert.Pre_selected_big.Gen.facts) :=
  fun m g _ => frame_ChooseBigRefIdeal m g trivial

theorem algebraic_ChooseBig : Cert.algebraic_ChooseBigIdeal_ChooseBigRefIdeal_pre_selected_big (hChooseBigIdeal := Cert.ChooseBigIdeal.Gen.facts)
    (hChooseBigRefIdeal := Cert.ChooseBigRefIdeal.Gen.facts) (hPre_selected_big := Cert.Pre_selected_big.Gen.facts) := by
  intro m g m' g' hpre hargs
  refine ⟨fun c => Cert.ChooseBigIdeal.Value.winner (StableHlo.launchContents m c), Cert.ChooseBigIdeal.Value.run m g,
    (θ_run _ _ _).mono (fun _ h c => ⟨(h c).1.trans ?_, (h c).2⟩) (Cert.ChooseBigRefIdeal.Value.run m' g')⟩
  obtain ⟨a0, a1, a2, -⟩ := hargs c
  refine (Cert.ChooseBigRefIdeal.Value.result_eq m' c).trans ?_
  rw [a0, a1, a2]
  exact (Cert.ChooseBigIdeal.Value.winner_eq (StableHlo.launchContents m c) _ _ _ (hpre c)).symm

theorem frame_ChooseSmallIdeal : Cert.quiescent_ChooseSmallIdeal (hChooseSmallIdeal := Cert.ChooseSmallIdeal.Gen.facts) := fun m g _ =>
  (θ_run _ _ _).mono (fun _ h => ⟨fun c => (h c).2, sem_eq_zero_of_no_sems (by decide) _⟩) (Cert.ChooseSmallIdeal.Value.run m g)

theorem frame_ChooseSmallIdeal_pre : Cert.quiescent_ChooseSmallIdeal_pre_selected_small (hChooseSmallIdeal := Cert.ChooseSmallIdeal.Gen.facts) (hPre_selected_small := Cert.Pre_selected_small.Gen.facts) :=
  fun m g _ => frame_ChooseSmallIdeal m g trivial

theorem frame_ChooseSmallRefIdeal : Cert.quiescent_ChooseSmallRefIdeal (hChooseSmallRefIdeal := Cert.ChooseSmallRefIdeal.Gen.facts) := fun m g _ =>
  (θ_run _ _ _).mono (fun _ h => ⟨fun c => (h c).2, sem_eq_zero_of_no_sems (by decide) _⟩) (Cert.ChooseSmallRefIdeal.Value.run m g)

theorem frame_ChooseSmallRefIdeal_pre : Cert.quiescent_ChooseSmallRefIdeal_pre_selected_small (hChooseSmallRefIdeal := Cert.ChooseSmallRefIdeal.Gen.facts) (hPre_selected_small := Cert.Pre_selected_small.Gen.facts) :=
  fun m g _ => frame_ChooseSmallRefIdeal m g trivial

theorem algebraic_ChooseSmall : Cert.algebraic_ChooseSmallIdeal_ChooseSmallRefIdeal_pre_selected_small (hChooseSmallIdeal := Cert.ChooseSmallIdeal.Gen.facts)
    (hChooseSmallRefIdeal := Cert.ChooseSmallRefIdeal.Gen.facts) (hPre_selected_small := Cert.Pre_selected_small.Gen.facts) := by
  intro m g m' g' hpre hargs
  refine ⟨fun c => Cert.ChooseSmallIdeal.Value.winner (StableHlo.launchContents m c), Cert.ChooseSmallIdeal.Value.run m g,
    (θ_run _ _ _).mono (fun _ h c => ⟨(h c).1.trans ?_, (h c).2⟩) (Cert.ChooseSmallRefIdeal.Value.run m' g')⟩
  obtain ⟨a0, a1, a2, -⟩ := hargs c
  refine (Cert.ChooseSmallRefIdeal.Value.result_eq m' c).trans ?_
  rw [a0, a1, a2]
  exact (Cert.ChooseSmallIdeal.Value.winner_eq (StableHlo.launchContents m c) _ _ _ (hpre c)).symm

end Cert.Proof
-- ==== Proof.lean ====
module

public import proofs.«01_k».proof.Proof.Gen.ChooseBigIdeal.Run
public import proofs.«01_k».proof.Proof.Gen.ChooseBigRefIdeal.Run
public import proofs.«01_k».proof.Proof.Gen.ChooseSmallIdeal.Run
public import proofs.«01_k».proof.Proof.Gen.ChooseSmallRefIdeal.Run
public import proofs.«01_k».proof.Proof.Gen.Pre_selected_small
public import proofs.«01_k».proof.Proof.Gen.Pre_selected_big
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.MaximaBig
public import proofs.«01_k».proof.Proof.Gen.MaximaBig.Skeleton
public import proofs.«01_k».proof.Proof.Gen.MaximaBig.Launch
public import proofs.«01_k».proof.Proof.Gen.MaximaBig.Points
public import proofs.«01_k».proof.Proof.Gen.MaximaBig.Frame
public import proofs.«01_k».proof.Proof.Gen.MaximaBig.Value
public import proofs.«01_k».proof.Proof.Gen.MaximaBigRef
public import proofs.«01_k».proof.Proof.Gen.MaximaBigRef.Run
public import proofs.«01_k».proof.Proof.Gen.MaximaSmall
public import proofs.«01_k».proof.Proof.Gen.MaximaSmall.Skeleton
public import proofs.«01_k».proof.Proof.Gen.MaximaSmall.Launch
public import proofs.«01_k».proof.Proof.Gen.MaximaSmall.Points
public import proofs.«01_k».proof.Proof.Gen.MaximaSmall.Frame
public import proofs.«01_k».proof.Proof.Gen.MaximaSmall.Value
public import proofs.«01_k».proof.Proof.Gen.MaximaSmallRef
public import proofs.«01_k».proof.Proof.Gen.MaximaSmallRef.Run
public import proofs.«01_k».proof.Proof.Gen.SelectBig
public import proofs.«01_k».proof.Proof.Gen.SelectBig.Skeleton
public import proofs.«01_k».proof.Proof.Gen.SelectBig.Launch
public import proofs.«01_k».proof.Proof.Gen.SelectBig.Points
public import proofs.«01_k».proof.Proof.Gen.SelectBig.Frame
public import proofs.«01_k».proof.Proof.Gen.SelectBig.Value
public import proofs.«01_k».proof.Proof.Gen.SelectBigRef
public import proofs.«01_k».proof.Proof.Gen.SelectBigRef.Run
public import proofs.«01_k».proof.Proof.Gen.SelectSmall
public import proofs.«01_k».proof.Proof.Gen.SelectSmall.Skeleton
public import proofs.«01_k».proof.Proof.Gen.SelectSmall.Launch
public import proofs.«01_k».proof.Proof.Gen.SelectSmall.Points
public import proofs.«01_k».proof.Proof.Gen.SelectSmall.Frame
public import proofs.«01_k».proof.Proof.Gen.SelectSmall.Value
public import proofs.«01_k».proof.Proof.Gen.SelectSmallRef
public import proofs.«01_k».proof.Proof.Gen.SelectSmallRef.Run
public import proofs.«01_k».proof.Proof.Gen.Pre_drawn
public import proofs.«01_k».proof.Proof.Gen.ReferenceIdeal.Run
public import proofs.«01_k».proof.Proof.Run.Launch
public import proofs.«01_k».proof.Proof.Frames
public import proofs.«01_k».proof.Proof.Value.Algebraic
public import proofs.«01_k».proof.Proof.Sampler.Maxima
public import proofs.«01_k».proof.Proof.Sampler.Select
public import proofs.«01_k».proof.Proof.Sampler.Choose
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MaximaBig.Gen.facts, Cert.MaximaBigRef.Gen.facts, Cert.MaximaSmall.Gen.facts, Cert.MaximaSmallRef.Gen.facts,
  Cert.SelectBig.Gen.facts, Cert.SelectBigRef.Gen.facts, Cert.SelectSmall.Gen.facts, Cert.SelectSmallRef.Gen.facts,
  Cert.ChooseSmallIdeal.Gen.facts, Cert.ChooseSmallRefIdeal.Gen.facts, Cert.ChooseBigIdeal.Gen.facts, Cert.ChooseBigRefIdeal.Gen.facts,
  Cert.Pre_drawn.Gen.facts, Cert.Pre_selected_small.Gen.facts, Cert.Pre_selected_big.Gen.facts,
  frame_Kernel, frame_KernelIdeal, frame_KernelIdeal_pre, frame_ReferenceIdeal, frame_ReferenceIdeal_pre,
  frame_MaximaBig, frame_MaximaBigRef, frame_MaximaSmall, frame_MaximaSmallRef,
  frame_SelectBig, frame_SelectBigRef, frame_SelectSmall, frame_SelectSmallRef,
  frame_ChooseSmallIdeal, frame_ChooseSmallIdeal_pre, frame_ChooseSmallRefIdeal, frame_ChooseSmallRefIdeal_pre,
  frame_ChooseBigIdeal, frame_ChooseBigIdeal_pre, frame_ChooseBigRefIdeal, frame_ChooseBigRefIdeal_pre,
  trivial, algebraic,
  bitexact_MaximaBig, bitexact_MaximaSmall, bitexact_SelectBig, bitexact_SelectSmall,
  algebraic_ChooseSmall, algebraic_ChooseBig⟩

end Cert.Proof

end
